-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_range [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dispatch [hPre_runs_apart : Cert.Pre_runs_apart.Facts] (m : (ℓ : Loc Cert.Dispatch.nD Cert.Dispatch.τ Cert.Dispatch.sig) → Buf (Elt Bits) ℓ) : Prop :=
  ∀ c : Dev Cert.Dispatch.nD,
    (Cert.Pre_runs_apart.fn (F := Bits) (m ((c.tc : Thread Cert.Dispatch.nD Cert.Dispatch.τ).loc Cert.Dispatch.main_arg0)) (m ((c.tc : Thread Cert.Dispatch.nD Cert.Dispatch.τ).loc Cert.Dispatch.main_arg1)) (m ((c.tc : Thread Cert.Dispatch.nD Cert.Dispatch.τ).loc Cert.Dispatch.main_arg2)) (m ((c.tc : Thread Cert.Dispatch.nD Cert.Dispatch.τ).loc Cert.Dispatch.main_arg3))) = (fun _ => 1#1)

def Pre_DispatchIdeal [hPre_runs_apart : Cert.Pre_runs_apart.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_runs_apart.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_runs_apart [hPre_runs_apart : Cert.Pre_runs_apart.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_runs_apart.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1)) (m ((c.tc : Thread Cert.DispatchReferenceIdeal.nD Cert.DispatchReferenceIdeal.τ).loc Cert.DispatchReferenceIdeal.main_arg2)) (m ((c.tc : Thread Cert.DispatchReferenceIdeal.nD Cert.DispatchReferenceIdeal.τ).loc Cert.DispatchReferenceIdeal.main_arg3))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))) = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_in_range [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dispatch [hDispatch : Cert.Dispatch.Facts] [hPre_runs_apart : Cert.Pre_runs_apart.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (Cert.Dispatch.threads (F := Bits)) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2)
      ∧ r.2.mem ((c.tc : Thread Cert.Dispatch.nD Cert.Dispatch.τ).loc Cert.Dispatch.main_arg3) = m ((c.tc : Thread Cert.Dispatch.nD Cert.Dispatch.τ).loc Cert.Dispatch.main_arg3))
      ∧ r.2.sem = fun _ => 0)

def quiescent_DispatchIdeal [hDispatchIdeal : Cert.DispatchIdeal.Facts] [hPre_runs_apart : Cert.Pre_runs_apart.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (Cert.DispatchIdeal.threads (F := Ideal)) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
      ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2)
      ∧ r.2.mem ((c.tc : Thread Cert.DispatchReferenceIdeal.nD Cert.DispatchReferenceIdeal.τ).loc Cert.DispatchReferenceIdeal.main_arg3) = m ((c.tc : Thread Cert.DispatchReferenceIdeal.nD Cert.DispatchReferenceIdeal.τ).loc Cert.DispatchReferenceIdeal.main_arg3))
      ∧ r.2.sem = fun _ => 0)

def quiescent_DispatchReferenceIdeal_pre_runs_apart [hDispatchReferenceIdeal : Cert.DispatchReferenceIdeal.Facts] [hPre_runs_apart : Cert.Pre_runs_apart.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_runs_apart m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2)
      ∧ r.2.mem ((c.tc : Thread Cert.DispatchReferenceIdeal.nD Cert.DispatchReferenceIdeal.τ).loc Cert.DispatchReferenceIdeal.main_arg3) = m ((c.tc : Thread Cert.DispatchReferenceIdeal.nD Cert.DispatchReferenceIdeal.τ).loc Cert.DispatchReferenceIdeal.main_arg3))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dispatch_DispatchIdeal : Prop :=
  True

def algebraic_DispatchIdeal_DispatchReferenceIdeal_on_slots_taken [hDispatchIdeal : Cert.DispatchIdeal.Facts] [hDispatchReferenceIdeal : Cert.DispatchReferenceIdeal.Facts] [hPre_runs_apart : Cert.Pre_runs_apart.Facts] [hOn_slots_taken : Cert.On_slots_taken.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)
      ∧ m' ((c.tc : Thread Cert.DispatchReferenceIdeal.nD Cert.DispatchReferenceIdeal.τ).loc Cert.DispatchReferenceIdeal.main_arg2) = m ((c.tc : Thread Cert.DispatchIdeal.nD Cert.DispatchIdeal.τ).loc Cert.DispatchIdeal.main_arg2)
      ∧ m' ((c.tc : Thread Cert.DispatchReferenceIdeal.nD Cert.DispatchReferenceIdeal.τ).loc Cert.DispatchReferenceIdeal.main_arg3) = m ((c.tc : Thread Cert.DispatchIdeal.nD Cert.DispatchIdeal.τ).loc Cert.DispatchIdeal.main_arg3)) →
    ∃ (v0 : (c : Dev Cert.DispatchIdeal.nD) → Buf (Elt Ideal) ((c.tc : Thread Cert.DispatchIdeal.nD Cert.DispatchIdeal.τ).loc Cert.DispatchIdeal.main_v0_0)) (v1 : (c : Dev Cert.DispatchIdeal.nD) → Buf (Elt Ideal) ((c.tc : Thread Cert.DispatchIdeal.nD Cert.DispatchIdeal.τ).loc Cert.DispatchIdeal.main_v0_1)) (v2 : (c : Dev Cert.DispatchIdeal.nD) → Buf (Elt Ideal) ((c.tc : Thread Cert.DispatchIdeal.nD Cert.DispatchIdeal.τ).loc Cert.DispatchIdeal.main_v0_2)),
      θ_run (Cert.DispatchIdeal.defs (F := Ideal)) (Cert.DispatchIdeal.threads (F := Ideal)) ⟨m, fun _ => 0, g⟩ (fun r => ∀ c : Dev Cert.DispatchIdeal.nD,
          (∀ i : (⟨2, ![7680, 1024]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).1 i = 1#1 → r.2.mem ((c.tc : Thread Cert.DispatchIdeal.nD Cert.DispatchIdeal.τ).loc Cert.DispatchIdeal.main_v0_0) i = v0 c i)
          ∧ (∀ i : (⟨1, ![2048]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).2.1 i = 1#1 → r.2.mem ((c.tc : Thread Cert.DispatchIdeal.nD Cert.DispatchIdeal.τ).loc Cert.DispatchIdeal.main_v0_1) i = v1 c i)
          ∧ (∀ i : (⟨1, ![2048]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).2.2 i = 1#1 → r.2.mem ((c.tc : Thread Cert.DispatchIdeal.nD Cert.DispatchIdeal.τ).loc Cert.DispatchIdeal.main_v0_2) i = v2 c i)
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
          ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          (∀ i : (⟨2, ![7680, 1024]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).1 i = 1#1 → r.2.mem ((c.tc : Thread Cert.DispatchReferenceIdeal.nD Cert.DispatchReferenceIdeal.τ).loc Cert.DispatchReferenceIdeal.main_v104) i = v0 c i)
          ∧ (∀ i : (⟨1, ![2048]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).2.1 i = 1#1 → r.2.mem ((c.tc : Thread Cert.DispatchReferenceIdeal.nD Cert.DispatchReferenceIdeal.τ).loc Cert.DispatchReferenceIdeal.main_v62) i = v1 c i)
          ∧ (∀ i : (⟨1, ![2048]⟩ : Shape).Idx, (Cert.On_slots_taken.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))).2.2 i = 1#1 → r.2.mem ((c.tc : Thread Cert.DispatchReferenceIdeal.nD Cert.DispatchReferenceIdeal.τ).loc Cert.DispatchReferenceIdeal.main_v89) i = v2 c i)
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1)
          ∧ r.2.mem ((c.tc : Thread Cert.DispatchReferenceIdeal.nD Cert.DispatchReferenceIdeal.τ).loc Cert.DispatchReferenceIdeal.main_arg2) = m' ((c.tc : Thread Cert.DispatchReferenceIdeal.nD Cert.DispatchReferenceIdeal.τ).loc Cert.DispatchReferenceIdeal.main_arg2)
          ∧ r.2.mem ((c.tc : Thread Cert.DispatchReferenceIdeal.nD Cert.DispatchReferenceIdeal.τ).loc Cert.DispatchReferenceIdeal.main_arg3) = m' ((c.tc : Thread Cert.DispatchReferenceIdeal.nD Cert.DispatchReferenceIdeal.τ).loc Cert.DispatchReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v32) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def Claim : Prop :=
  ∃ (hKernel : Cert.Kernel.Facts) (hKernelIdeal : Cert.KernelIdeal.Facts) (hReferenceIdeal : Cert.ReferenceIdeal.Facts) (hDispatch : Cert.Dispatch.Facts) (hDispatchIdeal : Cert.DispatchIdeal.Facts) (hDispatchReferenceIdeal : Cert.DispatchReferenceIdeal.Facts) (hExperts : Cert.Experts.Facts) (hExpertsIdeal : Cert.ExpertsIdeal.Facts) (hExpertsReferenceIdeal : Cert.ExpertsReferenceIdeal.Facts) (hPre_slots_in_range : Cert.Pre_slots_in_range.Facts) (hPre_runs_apart : Cert.Pre_runs_apart.Facts) (hPre_experts_named : Cert.Pre_experts_named.Facts) (hOn_slots_taken : Cert.On_slots_taken.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal)
    ∧ quiescent_ReferenceIdeal_pre_slots_in_range (hReferenceIdeal := hReferenceIdeal) (hPre_slots_in_range := hPre_slots_in_range)
    ∧ quiescent_Dispatch (hDispatch := hDispatch) (hPre_runs_apart := hPre_runs_apart)
    ∧ quiescent_DispatchIdeal (hDispatchIdeal := hDispatchIdeal) (hPre_runs_apart := hPre_runs_apart)
    ∧ quiescent_DispatchReferenceIdeal (hDispatchReferenceIdeal := hDispatchReferenceIdeal)
    ∧ quiescent_DispatchReferenceIdeal_pre_runs_apart (hDispatchReferenceIdeal := hDispatchReferenceIdeal) (hPre_runs_apart := hPre_runs_apart)
    ∧ quiescent_Experts (hExperts := hExperts) (hPre_experts_named := hPre_experts_named)
    ∧ quiescent_ExpertsIdeal (hExpertsIdeal := hExpertsIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ preserves_Kernel_KernelIdeal
    ∧ algebraic_KernelIdeal_ReferenceIdeal (hKernelIdeal := hKernelIdeal) (hReferenceIdeal := hReferenceIdeal) (hPre_slots_in_range := hPre_slots_in_range)
    ∧ preserves_Dispatch_DispatchIdeal
    ∧ algebraic_DispatchIdeal_DispatchReferenceIdeal_on_slots_taken (hDispatchIdeal := hDispatchIdeal) (hDispatchReferenceIdeal := hDispatchReferenceIdeal) (hPre_runs_apart := hPre_runs_apart) (hOn_slots_taken := hOn_slots_taken)
    ∧ preserves_Experts_ExpertsIdeal
    ∧ algebraic_ExpertsIdeal_ExpertsReferenceIdeal (hExpertsIdeal := hExpertsIdeal) (hExpertsReferenceIdeal := hExpertsReferenceIdeal) (hPre_experts_named := hPre_experts_named)
-- ==== On_slots_taken.lean ====
abbrev S2048x1024 : Shape := ⟨2, ![2048, 1024]⟩
abbrev S2048 : Shape := ⟨1, ![2048]⟩
abbrev S32x16 : Shape := ⟨2, ![32, 16]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x16 : Shape := ⟨2, ![2048, 16]⟩
abbrev S16 : Shape := ⟨1, ![16]⟩
abbrev S1x16 : Shape := ⟨2, ![1, 16]⟩
abbrev S7680 : Shape := ⟨1, ![7680]⟩
abbrev S7680x1 : Shape := ⟨2, ![7680, 1]⟩
abbrev S7680x2048 : Shape := ⟨2, ![7680, 2048]⟩
abbrev S7680x1024 : Shape := ⟨2, ![7680, 1024]⟩

class Facts : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S2048x1_S2048x16_0_1 : S2048x1.BroadcastsInDim S2048x16 (![0, 1] : Fin 2 → Fin S2048x16.rank)
  bcast_S_S2048x16 : S_.BroadcastsInDim S2048x16 (![] : Fin 0 → Fin S2048x16.rank)
  reducesTo_S2048x16_S2048_d1 : S2048x16.ReducesTo [1] S2048
  bcast_S7680_S7680x1_0 : S7680.BroadcastsInDim S7680x1 (![0] : Fin 1 → Fin S7680x1.rank)
  bcast_S1x2048_S7680x2048_0_1 : S1x2048.BroadcastsInDim S7680x2048 (![0, 1] : Fin 2 → Fin S7680x2048.rank)
  bcast_S7680x1_S7680x2048_0_1 : S7680x1.BroadcastsInDim S7680x2048 (![0, 1] : Fin 2 → Fin S7680x2048.rank)
  reducesTo_S7680x2048_S7680_d1 : S7680x2048.ReducesTo [1] S7680
  bcast_S7680x1_S7680x1024_0_1 : S7680x1.BroadcastsInDim S7680x1024 (![0, 1] : Fin 2 → Fin S7680x1024.rank)
  gather_S32x16_S2048x1_S2048x16_1_0_n_n_0_1_116_wf : GatherDims.WF S32x16 S2048x1 S2048x16 [1] [0] [] [0] [] 1 ![1, 16]

variable [Facts]

def gather_S32x16_S2048x1_S2048x16_1_0_n_n_0_1_116 : GatherDims S32x16 S2048x1 S2048x16 where
  offsetDims := [1]
  collapsedSliceDims := [0]
  operandBatchingDims := []
  startIndicesBatchingDims := []
  startIndexMap := [0]
  indexVectorDim := 1
  sliceSizes := ![1, 16]
  wf := gather_S32x16_S2048x1_S2048x16_1_0_n_n_0_1_116_wf
def fn_where {F : FTy → Type} [FloatOps F] (arg0 : IVec S2048x2048 1) (arg1 : IVec S_ 32) (arg2 : IVec S_ 32) : IVec S2048x2048 32 :=
  let v0 : IVec S2048x2048 32 := broadcastInDim S2048x2048 ![] bcast_S_S2048x2048 arg1
  let v1 : IVec S2048x2048 32 := broadcastInDim S2048x2048 ![] bcast_S_S2048x2048 arg2
  let v2 : IVec S2048x2048 32 := select arg0 v0 v1
  v2

def fn_where_0 {F : FTy → Type} [FloatOps F] (arg0 : IVec S2048x16 1) (arg1 : IVec S2048x16 32) (arg2 : IVec S_ 32) : IVec S2048x16 32 :=
  let v0 : IVec S_ 32 := id arg2
  let v1 : IVec S2048x16 32 := broadcastInDim S2048x16 ![] bcast_S_S2048x16 v0
  let v2 : IVec S2048x16 32 := select arg0 arg1 v1
  v2

def fn_part5 {F : FTy → Type} [FloatOps F] (main_v96 : IVec S7680 1) (main_v97 : IVec S1x2048 32) (main_v98 : IVec S7680x1 32) : IVec S7680x1024 1 × IVec S2048 1 × IVec S2048 1 :=
  let main_v99 : IVec S7680x2048 32 := broadcastInDim S7680x2048 ![0, 1] bcast_S1x2048_S7680x2048_0_1 main_v97
  let main_v100 : IVec S7680x2048 32 := broadcastInDim S7680x2048 ![0, 1] bcast_S7680x1_S7680x2048_0_1 main_v98
  let main_v101 : IVec S7680x2048 1 := cmpi .eq main_v99 main_v100
  let main_c_20 : IVec S_ 1 := constantI S_ 1 0#1
  let main_v102 : IVec S7680 1 := (fun x v => Host.reduce IntOp.ori x v reducesTo_S7680x2048_S7680_d1 h_S_) main_v101 main_c_20
  let main_v103 : IVec S7680 1 := ori main_v96 main_v102
  let main_c_21 : IVec S_ 1 := constantI S_ 1 1#1
  let main_v104 : IVec S2048 1 := broadcastInDim S2048 ![] bcast_S_S2048 main_c_21
  let main_v105 : IVec S7680x1 1 := broadcastInDim S7680x1 ![0] bcast_S7680_S7680x1_0 main_v103
  let main_v106 : IVec S7680x1024 1 := broadcastInDim S7680x1024 ![0, 1] bcast_S7680x1_S7680x1024_0_1 main_v105
  (main_v106, main_v104, main_v104)

def fn_part4 {F : FTy → Type} [FloatOps F] (main_arg2 : IVec S2048 32) (main_v34 : IVec S2048x16 32) (main_v35 : IVec S16 32) (main_v62 : IVec S2048 32) (main_v71 : IVec S2048 32) (main_v78 : IVec S2048x2048 32) : IVec S7680x1024 1 × IVec S2048 1 × IVec S2048 1 :=
  let main_v79 : IVec S2048x2048 32 := id main_v78
  let main_c_16 : IVec S_ 32 := constantI S_ 32 0#32
  let main_v80 : IVec S2048 32 := (fun x v => Host.reduce IntOp.addi x v reducesTo_S2048x2048_S2048_d1 h_S_) main_v79 main_c_16
  let main_v81 : IVec S1x16 32 := broadcastInDim S1x16 ![1] bcast_S16_S1x16_1 main_v35
  let main_v82 : IVec S2048x1 32 := broadcastInDim S2048x1 ![0] bcast_S2048_S2048x1_0 main_arg2
  let main_v83 : IVec S2048x16 32 := broadcastInDim S2048x16 ![0, 1] bcast_S1x16_S2048x16_0_1 main_v81
  let main_v84 : IVec S2048x16 32 := broadcastInDim S2048x16 ![0, 1] bcast_S2048x1_S2048x16_0_1 main_v82
  let main_v85 : IVec S2048x16 1 := cmpi .eq main_v83 main_v84
  let main_c_17 : IVec S_ 32 := constantI S_ 32 0#32
  let main_v86 : IVec S2048x16 32 := fn_where_0 (F := F) main_v85 main_v34 main_c_17
  let main_c_18 : IVec S_ 32 := constantI S_ 32 0#32
  let main_v87 : IVec S2048 32 := (fun x v => Host.reduce IntOp.addi x v reducesTo_S2048x16_S2048_d1 h_S_) main_v86 main_c_18
  let main_v88 : IVec S2048 32 := addi main_v87 main_v71
  let main_v89 : IVec S2048 32 := addi main_v88 main_v80
  let main_v90 : IVec S7680 32 := iotaInDim S7680 32 0
  let main_v91 : IVec S1x2048 32 := broadcastInDim S1x2048 ![1] bcast_S2048_S1x2048_1 main_v62
  let main_v92 : IVec S7680x1 32 := broadcastInDim S7680x1 ![0] bcast_S7680_S7680x1_0 main_v90
  let main_v93 : IVec S7680x2048 32 := broadcastInDim S7680x2048 ![0, 1] bcast_S1x2048_S7680x2048_0_1 main_v91
  let main_v94 : IVec S7680x2048 32 := broadcastInDim S7680x2048 ![0, 1] bcast_S7680x1_S7680x2048_0_1 main_v92
  let main_v95 : IVec S7680x2048 1 := cmpi .eq main_v93 main_v94
  let main_c_19 : IVec S_ 1 := constantI S_ 1 0#1
  let main_v96 : IVec S7680 1 := (fun x v => Host.reduce IntOp.ori x v reducesTo_S7680x2048_S7680_d1 h_S_) main_v95 main_c_19
  let main_v97 : IVec S1x2048 32 := broadcastInDim S1x2048 ![1] bcast_S2048_S1x2048_1 main_v89
  let main_v98 : IVec S7680x1 32 := broadcastInDim S7680x1 ![0] bcast_S7680_S7680x1_0 main_v90
  fn_part5 (F := F) main_v96 main_v97 main_v98

def fn_part3 {F : FTy → Type} [FloatOps F] (main_arg1 : IVec S2048 32) (main_arg2 : IVec S2048 32) (main_v15 : IVec S2048x2048 1) (main_v27 : IVec S2048x2048 1) (main_v34 : IVec S2048x16 32) (main_v35 : IVec S16 32) (main_v44 : IVec S2048 32) (main_v53 : IVec S2048 32) (main_v59 : IVec S2048x16 32) (main_c_10 : IVec S_ 32) : IVec S7680x1024 1 × IVec S2048 1 × IVec S2048 1 :=
  let main_v60 : IVec S2048 32 := (fun x v => Host.reduce IntOp.addi x v reducesTo_S2048x16_S2048_d1 h_S_) main_v59 main_c_10
  let main_v61 : IVec S2048 32 := addi main_v60 main_v44
  let main_v62 : IVec S2048 32 := addi main_v61 main_v53
  let main_v63 : IVec S1x2048 32 := broadcastInDim S1x2048 ![1] bcast_S2048_S1x2048_1 main_arg1
  let main_v64 : IVec S2048x1 32 := broadcastInDim S2048x1 ![0] bcast_S2048_S2048x1_0 main_arg2
  let main_v65 : IVec S2048x2048 32 := broadcastInDim S2048x2048 ![0, 1] bcast_S1x2048_S2048x2048_0_1 main_v63
  let main_v66 : IVec S2048x2048 32 := broadcastInDim S2048x2048 ![0, 1] bcast_S2048x1_S2048x2048_0_1 main_v64
  let main_v67 : IVec S2048x2048 1 := cmpi .eq main_v65 main_v66
  let main_v68 : IVec S2048x2048 1 := andi main_v27 main_v67
  let main_c_11 : IVec S_ 32 := constantI S_ 32 1#32
  let main_c_12 : IVec S_ 32 := constantI S_ 32 0#32
  let main_v69 : IVec S2048x2048 32 := fn_where (F := F) main_v68 main_c_11 main_c_12
  let main_v70 : IVec S2048x2048 32 := id main_v69
  let main_c_13 : IVec S_ 32 := constantI S_ 32 0#32
  let main_v71 : IVec S2048 32 := (fun x v => Host.reduce IntOp.addi x v reducesTo_S2048x2048_S2048_d1 h_S_) main_v70 main_c_13
  let main_v72 : IVec S1x2048 32 := broadcastInDim S1x2048 ![1] bcast_S2048_S1x2048_1 main_arg2
  let main_v73 : IVec S2048x1 32 := broadcastInDim S2048x1 ![0] bcast_S2048_S2048x1_0 main_arg2
  let main_v74 : IVec S2048x2048 32 := broadcastInDim S2048x2048 ![0, 1] bcast_S1x2048_S2048x2048_0_1 main_v72
  let main_v75 : IVec S2048x2048 32 := broadcastInDim S2048x2048 ![0, 1] bcast_S2048x1_S2048x2048_0_1 main_v73
  let main_v76 : IVec S2048x2048 1 := cmpi .eq main_v74 main_v75
  let main_v77 : IVec S2048x2048 1 := andi main_v15 main_v76
  let main_c_14 : IVec S_ 32 := constantI S_ 32 1#32
  let main_c_15 : IVec S_ 32 := constantI S_ 32 0#32
  let main_v78 : IVec S2048x2048 32 := fn_where (F := F) main_v77 main_c_14 main_c_15
  fn_part4 (F := F) main_arg2 main_v34 main_v35 main_v62 main_v71 main_v78

def fn_part2 {F : FTy → Type} [FloatOps F] (main_arg1 : IVec S2048 32) (main_arg2 : IVec S2048 32) (main_v15 : IVec S2048x2048 1) (main_v21 : IVec S2048x2048 1) (main_v27 : IVec S2048x2048 1) (main_v34 : IVec S2048x16 32) (main_v35 : IVec S16 32) (main_v41 : IVec S2048x2048 1) (main_c_3 : IVec S_ 32) (main_c_4 : IVec S_ 32) : IVec S7680x1024 1 × IVec S2048 1 × IVec S2048 1 :=
  let main_v42 : IVec S2048x2048 32 := fn_where (F := F) main_v41 main_c_3 main_c_4
  let main_v43 : IVec S2048x2048 32 := id main_v42
  let main_c_5 : IVec S_ 32 := constantI S_ 32 0#32
  let main_v44 : IVec S2048 32 := (fun x v => Host.reduce IntOp.addi x v reducesTo_S2048x2048_S2048_d1 h_S_) main_v43 main_c_5
  let main_v45 : IVec S1x2048 32 := broadcastInDim S1x2048 ![1] bcast_S2048_S1x2048_1 main_arg2
  let main_v46 : IVec S2048x1 32 := broadcastInDim S2048x1 ![0] bcast_S2048_S2048x1_0 main_arg1
  let main_v47 : IVec S2048x2048 32 := broadcastInDim S2048x2048 ![0, 1] bcast_S1x2048_S2048x2048_0_1 main_v45
  let main_v48 : IVec S2048x2048 32 := broadcastInDim S2048x2048 ![0, 1] bcast_S2048x1_S2048x2048_0_1 main_v46
  let main_v49 : IVec S2048x2048 1 := cmpi .eq main_v47 main_v48
  let main_v50 : IVec S2048x2048 1 := andi main_v21 main_v49
  let main_c_6 : IVec S_ 32 := constantI S_ 32 1#32
  let main_c_7 : IVec S_ 32 := constantI S_ 32 0#32
  let main_v51 : IVec S2048x2048 32 := fn_where (F := F) main_v50 main_c_6 main_c_7
  let main_v52 : IVec S2048x2048 32 := id main_v51
  let main_c_8 : IVec S_ 32 := constantI S_ 32 0#32
  let main_v53 : IVec S2048 32 := (fun x v => Host.reduce IntOp.addi x v reducesTo_S2048x2048_S2048_d1 h_S_) main_v52 main_c_8
  let main_v54 : IVec S1x16 32 := broadcastInDim S1x16 ![1] bcast_S16_S1x16_1 main_v35
  let main_v55 : IVec S2048x1 32 := broadcastInDim S2048x1 ![0] bcast_S2048_S2048x1_0 main_arg1
  let main_v56 : IVec S2048x16 32 := broadcastInDim S2048x16 ![0, 1] bcast_S1x16_S2048x16_0_1 main_v54
  let main_v57 : IVec S2048x16 32 := broadcastInDim S2048x16 ![0, 1] bcast_S2048x1_S2048x16_0_1 main_v55
  let main_v58 : IVec S2048x16 1 := cmpi .eq main_v56 main_v57
  let main_c_9 : IVec S_ 32 := constantI S_ 32 0#32
  let main_v59 : IVec S2048x16 32 := fn_where_0 (F := F) main_v58 main_v34 main_c_9
  let main_c_10 : IVec S_ 32 := constantI S_ 32 0#32
  fn_part3 (F := F) main_arg1 main_arg2 main_v15 main_v27 main_v34 main_v35 main_v44 main_v53 main_v59 main_c_10

def fn_part1 {F : FTy → Type} [FloatOps F] (main_arg1 : IVec S2048 32) (main_arg2 : IVec S2048 32) (main_arg3 : IVec S32x16 32) (main_v2 : IVec S2048 32) (main_v4 : IVec S2048 32) (main_v9 : IVec S2048x2048 1) (main_v15 : IVec S2048x2048 1) (main_v21 : IVec S2048x2048 1) : IVec S7680x1024 1 × IVec S2048 1 × IVec S2048 1 :=
  let main_v22 : IVec S1x2048 32 := broadcastInDim S1x2048 ![1] bcast_S2048_S1x2048_1 main_v4
  let main_v23 : IVec S2048x1 32 := broadcastInDim S2048x1 ![0] bcast_S2048_S2048x1_0 main_v4
  let main_v24 : IVec S2048x2048 32 := broadcastInDim S2048x2048 ![0, 1] bcast_S1x2048_S2048x2048_0_1 main_v22
  let main_v25 : IVec S2048x2048 32 := broadcastInDim S2048x2048 ![0, 1] bcast_S2048x1_S2048x2048_0_1 main_v23
  let main_v26 : IVec S2048x2048 1 := cmpi .sle main_v24 main_v25
  let main_v27 : IVec S2048x2048 1 := andi main_v9 main_v26
  let main_c_1 : IVec S_ 32 := constantI S_ 32 0#32
  let main_v28 : IVec S2048 32 := broadcastInDim S2048 ![] bcast_S_S2048 main_c_1
  let main_v29 : IVec S2048 1 := cmpi .slt main_v2 main_v28
  let main_c_2 : IVec S_ 32 := constantI S_ 32 32#32
  let main_v30 : IVec S2048 32 := broadcastInDim S2048 ![] bcast_S_S2048 main_c_2
  let main_v31 : IVec S2048 32 := addi main_v2 main_v30
  let main_v32 : IVec S2048 32 := select main_v29 main_v31 main_v2
  let main_v33 : IVec S2048x1 32 := broadcastInDim S2048x1 ![0] bcast_S2048_S2048x1_0 main_v32
  let main_v34 : IVec S2048x16 32 := (fun x i => Host.gather gather_S32x16_S2048x1_S2048x16_1_0_n_n_0_1_116 x i) main_arg3 main_v33
  let main_v35 : IVec S16 32 := iotaInDim S16 32 0
  let main_v36 : IVec S1x2048 32 := broadcastInDim S1x2048 ![1] bcast_S2048_S1x2048_1 main_arg1
  let main_v37 : IVec S2048x1 32 := broadcastInDim S2048x1 ![0] bcast_S2048_S2048x1_0 main_arg1
  let main_v38 : IVec S2048x2048 32 := broadcastInDim S2048x2048 ![0, 1] bcast_S1x2048_S2048x2048_0_1 main_v36
  let main_v39 : IVec S2048x2048 32 := broadcastInDim S2048x2048 ![0, 1] bcast_S2048x1_S2048x2048_0_1 main_v37
  let main_v40 : IVec S2048x2048 1 := cmpi .eq main_v38 main_v39
  let main_v41 : IVec S2048x2048 1 := andi main_v15 main_v40
  let main_c_3 : IVec S_ 32 := constantI S_ 32 1#32
  let main_c_4 : IVec S_ 32 := constantI S_ 32 0#32
  fn_part2 (F := F) main_arg1 main_arg2 main_v15 main_v21 main_v27 main_v34 main_v35 main_v41 main_c_3 main_c_4

def fn {F : FTy → Type} [FloatOps F] (main_arg0 : FVec F S2048x1024 .f32) (main_arg1 : IVec S2048 32) (main_arg2 : IVec S2048 32) (main_arg3 : IVec S32x16 32) : IVec S7680x1024 1 × IVec S2048 1 × IVec S2048 1 :=
  let main_v0 : IVec S2048 32 := iotaInDim S2048 32 0
  let main_c : IVec S_ 32 := constantI S_ 32 64#32
  let main_v1 : IVec S2048 32 := broadcastInDim S2048 ![] bcast_S_S2048 main_c
  let main_v2 : IVec S2048 32 := Host.divsi main_v0 main_v1
  let main_c_0 : IVec S_ 32 := constantI S_ 32 16#32
  let main_v3 : IVec S2048 32 := broadcastInDim S2048 ![] bcast_S_S2048 main_c_0
  let main_v4 : IVec S2048 32 := Host.divsi main_v0 main_v3
  let main_v5 : IVec S2048x1 32 := broadcastInDim S2048x1 ![0] bcast_S2048_S2048x1_0 main_v2
  let main_v6 : IVec S1x2048 32 := broadcastInDim S1x2048 ![1] bcast_S2048_S1x2048_1 main_v2
  let main_v7 : IVec S2048x2048 32 := broadcastInDim S2048x2048 ![0, 1] bcast_S2048x1_S2048x2048_0_1 main_v5
  let main_v8 : IVec S2048x2048 32 := broadcastInDim S2048x2048 ![0, 1] bcast_S1x2048_S2048x2048_0_1 main_v6
  let main_v9 : IVec S2048x2048 1 := cmpi .eq main_v7 main_v8
  let main_v10 : IVec S1x2048 32 := broadcastInDim S1x2048 ![1] bcast_S2048_S1x2048_1 main_v0
  let main_v11 : IVec S2048x1 32 := broadcastInDim S2048x1 ![0] bcast_S2048_S2048x1_0 main_v0
  let main_v12 : IVec S2048x2048 32 := broadcastInDim S2048x2048 ![0, 1] bcast_S1x2048_S2048x2048_0_1 main_v10
  let main_v13 : IVec S2048x2048 32 := broadcastInDim S2048x2048 ![0, 1] bcast_S2048x1_S2048x2048_0_1 main_v11
  let main_v14 : IVec S2048x2048 1 := cmpi .slt main_v12 main_v13
  let main_v15 : IVec S2048x2048 1 := andi main_v9 main_v14
  let main_v16 : IVec S1x2048 32 := broadcastInDim S1x2048 ![1] bcast_S2048_S1x2048_1 main_v4
  let main_v17 : IVec S2048x1 32 := broadcastInDim S2048x1 ![0] bcast_S2048_S2048x1_0 main_v4
  let main_v18 : IVec S2048x2048 32 := broadcastInDim S2048x2048 ![0, 1] bcast_S1x2048_S2048x2048_0_1 main_v16
  let main_v19 : IVec S2048x2048 32 := broadcastInDim S2048x2048 ![0, 1] bcast_S2048x1_S2048x2048_0_1 main_v17
  let main_v20 : IVec S2048x2048 1 := cmpi .slt main_v18 main_v19
  let main_v21 : IVec S2048x2048 1 := andi main_v9 main_v20
  fn_part1 (F := F) main_arg1 main_arg2 main_arg3 main_v2 main_v4 main_v9 main_v15 main_v21
-- ==== Pre_experts_named.lean ====
abbrev S48 : Shape := ⟨1, ![48]⟩
abbrev S7680x1024 : Shape := ⟨2, ![7680, 1024]⟩
abbrev S8x1024x1024 : Shape := ⟨3, ![8, 1024, 1024]⟩
abbrev S15 : Shape := ⟨1, ![15]⟩
abbrev S_ : Shape := ⟨0, ![]⟩

class Facts : Prop where
  slices_S48_S15_0 : S48.Slices ![0] S15
  bcast_S_S15 : S_.BroadcastsInDim S15 (![] : Fin 0 → Fin S15.rank)

variable [Facts]

def fn {F : FTy → Type} [FloatOps F] (main_arg0 : IVec S48 32) (main_arg1 : FVec F S7680x1024 .f32) (main_arg2 : FVec F S8x1024x1024 .f32) (main_arg3 : FVec F S8x1024x1024 .f32) : IVec S15 1 :=
  let main_v0 : IVec S15 32 := (extractStridedSlice S15 ![0] · slices_S48_S15_0) main_arg0
  let main_c : IVec S_ 32 := constantI S_ 32 0#32
  let main_v1 : IVec S15 32 := broadcastInDim S15 ![] bcast_S_S15 main_c
  let main_v2 : IVec S15 1 := cmpi .sge main_v0 main_v1
  let main_c_0 : IVec S_ 32 := constantI S_ 32 8#32
  let main_v3 : IVec S15 32 := broadcastInDim S15 ![] bcast_S_S15 main_c_0
  let main_v4 : IVec S15 1 := cmpi .slt main_v0 main_v3
  let main_v5 : IVec S15 1 := andi main_v2 main_v4
  main_v5
-- ==== Pre_runs_apart.lean ====
abbrev S2048x1024 : Shape := ⟨2, ![2048, 1024]⟩
abbrev S2048 : Shape := ⟨1, ![2048]⟩
abbrev S32x16 : Shape := ⟨2, ![32, 16]⟩
abbrev S_ : Shape := ⟨0, ![]⟩
abbrev S32 : Shape := ⟨1, ![32]⟩
abbrev S8 : Shape := ⟨1, ![8]⟩
abbrev S1x1x2048 : Shape := ⟨3, ![1, 1, 2048]⟩
abbrev S32x1x1 : Shape := ⟨3, ![32, 1, 1]⟩
abbrev S32x1x2048 : Shape := ⟨3, ![32, 1, 2048]⟩
abbrev S1x8x1 : Shape := ⟨3, ![1, 8, 1]⟩
abbrev S1x8x2048 : Shape := ⟨3, ![1, 8, 2048]⟩
abbrev S32x8x2048 : Shape := ⟨3, ![32, 8, 2048]⟩
abbrev S32x8 : Shape := ⟨2, ![32, 8]⟩
abbrev S32x1x1x1 : Shape := ⟨4, ![32, 1, 1, 1]⟩
abbrev S1x1x32x1 : Shape := ⟨4, ![1, 1, 32, 1]⟩
abbrev S32x1x32x1 : Shape := ⟨4, ![32, 1, 32, 1]⟩
abbrev S1x8x1x1 : Shape := ⟨4, ![1, 8, 1, 1]⟩
abbrev S1x1x1x8 : Shape := ⟨4, ![1, 1, 1, 8]⟩
abbrev S1x8x1x8 : Shape := ⟨4, ![1, 8, 1, 8]⟩
abbrev S32x8x32x8 : Shape := ⟨4, ![32, 8, 32, 8]⟩
abbrev S32x8x1x1 : Shape := ⟨4, ![32, 8, 1, 1]⟩
abbrev S1x1x32x8 : Shape := ⟨4, ![1, 1, 32, 8]⟩

class Facts : Prop where
  bcast_S_S2048 : S_.BroadcastsInDim S2048 (![] : Fin 0 → Fin S2048.rank)
  bcast_S2048_S1x1x2048_2 : S2048.BroadcastsInDim S1x1x2048 (![2] : Fin 1 → Fin S1x1x2048.rank)
  bcast_S32_S32x1x1_0 : S32.BroadcastsInDim S32x1x1 (![0] : Fin 1 → Fin S32x1x1.rank)
  bcast_S1x1x2048_S32x1x2048_0_1_2 : S1x1x2048.BroadcastsInDim S32x1x2048 (![0, 1, 2] : Fin 3 → Fin S32x1x2048.rank)
  bcast_S32x1x1_S32x1x2048_0_1_2 : S32x1x1.BroadcastsInDim S32x1x2048 (![0, 1, 2] : Fin 3 → Fin S32x1x2048.rank)
  bcast_S8_S1x8x1_1 : S8.BroadcastsInDim S1x8x1 (![1] : Fin 1 → Fin S1x8x1.rank)
  bcast_S1x1x2048_S1x8x2048_0_1_2 : S1x1x2048.BroadcastsInDim S1x8x2048 (![0, 1, 2] : Fin 3 → Fin S1x8x2048.rank)
  bcast_S1x8x1_S1x8x2048_0_1_2 : S1x8x1.BroadcastsInDim S1x8x2048 (![0, 1, 2] : Fin 3 → Fin S1x8x2048.rank)
  bcast_S32x1x2048_S32x8x2048_0_1_2 : S32x1x2048.BroadcastsInDim S32x8x2048 (![0, 1, 2] : Fin 3 → Fin S32x8x2048.rank)
  bcast_S1x8x2048_S32x8x2048_0_1_2 : S1x8x2048.BroadcastsInDim S32x8x2048 (![0, 1, 2] : Fin 3 → Fin S32x8x2048.rank)
  bcast_S_S32x8x2048 : S_.BroadcastsInDim S32x8x2048 (![] : Fin 0 → Fin S32x8x2048.rank)
  reducesTo_S32x8x2048_S32x8_d2 : S32x8x2048.ReducesTo [2] S32x8
  h_S_ : 0 < S_.numel
  slices_S32x16_S32x8_0_0 : S32x16.Slices ![0, 0] S32x8
  bcast_S32_S32x1x1x1_0 : S32.BroadcastsInDim S32x1x1x1 (![0] : Fin 1 → Fin S32x1x1x1.rank)
  bcast_S32_S1x1x32x1_2 : S32.BroadcastsInDim S1x1x32x1 (![2] : Fin 1 → Fin S1x1x32x1.rank)
  bcast_S32x1x1x1_S32x1x32x1_0_1_2_3 : S32x1x1x1.BroadcastsInDim S32x1x32x1 (![0, 1, 2, 3] : Fin 4 → Fin S32x1x32x1.rank)
  bcast_S1x1x32x1_S32x1x32x1_0_1_2_3 : S1x1x32x1.BroadcastsInDim S32x1x32x1 (![0, 1, 2, 3] : Fin 4 → Fin S32x1x32x1.rank)
  bcast_S8_S1x8x1x1_1 : S8.BroadcastsInDim S1x8x1x1 (![1] : Fin 1 → Fin S1x8x1x1.rank)
  bcast_S8_S1x1x1x8_3 : S8.BroadcastsInDim S1x1x1x8 (![3] : Fin 1 → Fin S1x1x1x8.rank)
  bcast_S1x8x1x1_S1x8x1x8_0_1_2_3 : S1x8x1x1.BroadcastsInDim S1x8x1x8 (![0, 1, 2, 3] : Fin 4 → Fin S1x8x1x8.rank)
  bcast_S1x1x1x8_S1x8x1x8_0_1_2_3 : S1x1x1x8.BroadcastsInDim S1x8x1x8 (![0, 1, 2, 3] : Fin 4 → Fin S1x8x1x8.rank)
  bcast_S32x1x32x1_S32x8x32x8_0_1_2_3 : S32x1x32x1.BroadcastsInDim S32x8x32x8 (![0, 1, 2, 3] : Fin 4 → Fin S32x8x32x8.rank)
  bcast_S1x8x1x8_S32x8x32x8_0_1_2_3 : S1x8x1x8.BroadcastsInDim S32x8x32x8 (![0, 1, 2, 3] : Fin 4 → Fin S32x8x32x8.rank)
  bcast_S32x8_S32x8x1x1_0_1 : S32x8.BroadcastsInDim S32x8x1x1 (![0, 1] : Fin 2 → Fin S32x8x1x1.rank)
  bcast_S32x8_S1x1x32x8_2_3 : S32x8.BroadcastsInDim S1x1x32x8 (![2, 3] : Fin 2 → Fin S1x1x32x8.rank)
  bcast_S32x8x1x1_S32x8x32x8_0_1_2_3 : S32x8x1x1.BroadcastsInDim S32x8x32x8 (![0, 1, 2, 3] : Fin 4 → Fin S32x8x32x8.rank)
  bcast_S1x1x32x8_S32x8x32x8_0_1_2_3 : S1x1x32x8.BroadcastsInDim S32x8x32x8 (![0, 1, 2, 3] : Fin 4 → Fin S32x8x32x8.rank)
  reducesTo_S2048_S_d0 : S2048.ReducesTo [0] S_
  bcast_S_S32x8 : S_.BroadcastsInDim S32x8 (![] : Fin 0 → Fin S32x8.rank)
  reducesTo_S32x8_S_d0_1 : S32x8.ReducesTo [0, 1] S_
  reducesTo_S32x8x32x8_S_d0_1_2_3 : S32x8x32x8.ReducesTo [0, 1, 2, 3] S_

variable [Facts]

def fn_where {F : FTy → Type} [FloatOps F] (arg0 : IVec S32x8x2048 1) (arg1 : IVec S_ 32) (arg2 : IVec S_ 32) : IVec S32x8x2048 32 :=
  let v0 : IVec S32x8x2048 32 := broadcastInDim S32x8x2048 ![] bcast_S_S32x8x2048 arg1
  let v1 : IVec S32x8x2048 32 := broadcastInDim S32x8x2048 ![] bcast_S_S32x8x2048 arg2
  let v2 : IVec S32x8x2048 32 := select arg0 v0 v1
  v2

def fn_part4 {F : FTy → Type} [FloatOps F] (main_v59 : IVec S32x8x32x8 1) (main_v72 : IVec S_ 1) (main_v77 : IVec S32x8 1) (main_v79 : IVec S32x8 1) : IVec S_ 1 :=
  let main_v80 : IVec S32x8 1 := andi main_v77 main_v79
  let main_c_15 : IVec S_ 1 := constantI S_ 1 1#1
  let main_v81 : IVec S_ 1 := (fun x v => Host.reduce IntOp.andi x v reducesTo_S32x8_S_d0_1 h_S_) main_v80 main_c_15
  let main_v82 : IVec S_ 1 := andi main_v72 main_v81
  let main_c_16 : IVec S_ 1 := constantI S_ 1 1#1
  let main_v83 : IVec S_ 1 := (fun x v => Host.reduce IntOp.andi x v reducesTo_S32x8x32x8_S_d0_1_2_3 h_S_) main_v59 main_c_16
  let main_v84 : IVec S_ 1 := andi main_v82 main_v83
  main_v84

def fn_part3 {F : FTy → Type} [FloatOps F] (main_arg1 : IVec S2048 32) (main_arg2 : IVec S2048 32) (main_v32 : IVec S32x8 32) (main_v34 : IVec S32x8 32) (main_v59 : IVec S32x8x32x8 1) (main_v61 : IVec S2048 1) (main_v62 : IVec S2048 32) : IVec S_ 1 :=
  let main_v63 : IVec S2048 1 := cmpi .slt main_arg1 main_v62
  let main_v64 : IVec S2048 1 := andi main_v61 main_v63
  let main_c_8 : IVec S_ 1 := constantI S_ 1 1#1
  let main_v65 : IVec S_ 1 := (fun x v => Host.reduce IntOp.andi x v reducesTo_S2048_S_d0 h_S_) main_v64 main_c_8
  let main_c_9 : IVec S_ 32 := constantI S_ 32 0#32
  let main_v66 : IVec S2048 32 := broadcastInDim S2048 ![] bcast_S_S2048 main_c_9
  let main_v67 : IVec S2048 1 := cmpi .sge main_arg2 main_v66
  let main_c_10 : IVec S_ 32 := constantI S_ 32 8#32
  let main_v68 : IVec S2048 32 := broadcastInDim S2048 ![] bcast_S_S2048 main_c_10
  let main_v69 : IVec S2048 1 := cmpi .slt main_arg2 main_v68
  let main_v70 : IVec S2048 1 := andi main_v67 main_v69
  let main_c_11 : IVec S_ 1 := constantI S_ 1 1#1
  let main_v71 : IVec S_ 1 := (fun x v => Host.reduce IntOp.andi x v reducesTo_S2048_S_d0 h_S_) main_v70 main_c_11
  let main_v72 : IVec S_ 1 := andi main_v65 main_v71
  let main_c_12 : IVec S_ 32 := constantI S_ 32 0#32
  let main_v73 : IVec S32x8 32 := broadcastInDim S32x8 ![] bcast_S_S32x8 main_c_12
  let main_v74 : IVec S32x8 1 := cmpi .sge main_v32 main_v73
  let main_c_13 : IVec S_ 32 := constantI S_ 32 7680#32
  let main_v75 : IVec S32x8 32 := broadcastInDim S32x8 ![] bcast_S_S32x8 main_c_13
  let main_v76 : IVec S32x8 1 := cmpi .sle main_v32 main_v75
  let main_v77 : IVec S32x8 1 := andi main_v74 main_v76
  let main_c_14 : IVec S_ 32 := constantI S_ 32 7680#32
  let main_v78 : IVec S32x8 32 := broadcastInDim S32x8 ![] bcast_S_S32x8 main_c_14
  let main_v79 : IVec S32x8 1 := cmpi .sle main_v34 main_v78
  fn_part4 (F := F) main_v59 main_v72 main_v77 main_v79

def fn_part2 {F : FTy → Type} [FloatOps F] (main_arg1 : IVec S2048 32) (main_arg2 : IVec S2048 32) (main_v4 : IVec S8 32) (main_v32 : IVec S32x8 32) (main_v34 : IVec S32x8 32) (main_v39 : IVec S32x1x32x1 1) (main_v40 : IVec S1x8x1x1 32) : IVec S_ 1 :=
  let main_v41 : IVec S1x1x1x8 32 := broadcastInDim S1x1x1x8 ![3] bcast_S8_S1x1x1x8_3 main_v4
  let main_v42 : IVec S1x8x1x8 32 := broadcastInDim S1x8x1x8 ![0, 1, 2, 3] bcast_S1x8x1x1_S1x8x1x8_0_1_2_3 main_v40
  let main_v43 : IVec S1x8x1x8 32 := broadcastInDim S1x8x1x8 ![0, 1, 2, 3] bcast_S1x1x1x8_S1x8x1x8_0_1_2_3 main_v41
  let main_v44 : IVec S1x8x1x8 1 := cmpi .eq main_v42 main_v43
  let main_v45 : IVec S32x8x32x8 1 := broadcastInDim S32x8x32x8 ![0, 1, 2, 3] bcast_S32x1x32x1_S32x8x32x8_0_1_2_3 main_v39
  let main_v46 : IVec S32x8x32x8 1 := broadcastInDim S32x8x32x8 ![0, 1, 2, 3] bcast_S1x8x1x8_S32x8x32x8_0_1_2_3 main_v44
  let main_v47 : IVec S32x8x32x8 1 := andi main_v45 main_v46
  let main_v48 : IVec S32x8x1x1 32 := broadcastInDim S32x8x1x1 ![0, 1] bcast_S32x8_S32x8x1x1_0_1 main_v34
  let main_v49 : IVec S1x1x32x8 32 := broadcastInDim S1x1x32x8 ![2, 3] bcast_S32x8_S1x1x32x8_2_3 main_v32
  let main_v50 : IVec S32x8x32x8 32 := broadcastInDim S32x8x32x8 ![0, 1, 2, 3] bcast_S32x8x1x1_S32x8x32x8_0_1_2_3 main_v48
  let main_v51 : IVec S32x8x32x8 32 := broadcastInDim S32x8x32x8 ![0, 1, 2, 3] bcast_S1x1x32x8_S32x8x32x8_0_1_2_3 main_v49
  let main_v52 : IVec S32x8x32x8 1 := cmpi .sle main_v50 main_v51
  let main_v53 : IVec S32x8x32x8 1 := ori main_v47 main_v52
  let main_v54 : IVec S1x1x32x8 32 := broadcastInDim S1x1x32x8 ![2, 3] bcast_S32x8_S1x1x32x8_2_3 main_v34
  let main_v55 : IVec S32x8x1x1 32 := broadcastInDim S32x8x1x1 ![0, 1] bcast_S32x8_S32x8x1x1_0_1 main_v32
  let main_v56 : IVec S32x8x32x8 32 := broadcastInDim S32x8x32x8 ![0, 1, 2, 3] bcast_S1x1x32x8_S32x8x32x8_0_1_2_3 main_v54
  let main_v57 : IVec S32x8x32x8 32 := broadcastInDim S32x8x32x8 ![0, 1, 2, 3] bcast_S32x8x1x1_S32x8x32x8_0_1_2_3 main_v55
  let main_v58 : IVec S32x8x32x8 1 := cmpi .sle main_v56 main_v57
  let main_v59 : IVec S32x8x32x8 1 := ori main_v53 main_v58
  let main_c_6 : IVec S_ 32 := constantI S_ 32 0#32
  let main_v60 : IVec S2048 32 := broadcastInDim S2048 ![] bcast_S_S2048 main_c_6
  let main_v61 : IVec S2048 1 := cmpi .sge main_arg1 main_v60
  let main_c_7 : IVec S_ 32 := constantI S_ 32 8#32
  let main_v62 : IVec S2048 32 := broadcastInDim S2048 ![] bcast_S_S2048 main_c_7
  fn_part3 (F := F) main_arg1 main_arg2 main_v32 main_v34 main_v59 main_v61 main_v62

def fn_part1 {F : FTy → Type} [FloatOps F] (main_arg1 : IVec S2048 32) (main_arg2 : IVec S2048 32) (main_arg3 : IVec S32x16 32) (main_v3 : IVec S32 32) (main_v4 : IVec S8 32) (main_v9 : IVec S32x1x2048 1) (main_v19 : IVec S32x8x2048 32) (main_c_2 : IVec S_ 32) : IVec S_ 1 :=
  let main_v20 : IVec S32x8 32 := (fun x v => Host.reduce IntOp.addi x v reducesTo_S32x8x2048_S32x8_d2 h_S_) main_v19 main_c_2
  let main_v21 : IVec S1x1x2048 32 := broadcastInDim S1x1x2048 ![2] bcast_S2048_S1x1x2048_2 main_arg2
  let main_v22 : IVec S1x8x1 32 := broadcastInDim S1x8x1 ![1] bcast_S8_S1x8x1_1 main_v4
  let main_v23 : IVec S1x8x2048 32 := broadcastInDim S1x8x2048 ![0, 1, 2] bcast_S1x1x2048_S1x8x2048_0_1_2 main_v21
  let main_v24 : IVec S1x8x2048 32 := broadcastInDim S1x8x2048 ![0, 1, 2] bcast_S1x8x1_S1x8x2048_0_1_2 main_v22
  let main_v25 : IVec S1x8x2048 1 := cmpi .eq main_v23 main_v24
  let main_v26 : IVec S32x8x2048 1 := broadcastInDim S32x8x2048 ![0, 1, 2] bcast_S32x1x2048_S32x8x2048_0_1_2 main_v9
  let main_v27 : IVec S32x8x2048 1 := broadcastInDim S32x8x2048 ![0, 1, 2] bcast_S1x8x2048_S32x8x2048_0_1_2 main_v25
  let main_v28 : IVec S32x8x2048 1 := andi main_v26 main_v27
  let main_c_3 : IVec S_ 32 := constantI S_ 32 1#32
  let main_c_4 : IVec S_ 32 := constantI S_ 32 0#32
  let main_v29 : IVec S32x8x2048 32 := fn_where (F := F) main_v28 main_c_3 main_c_4
  let main_v30 : IVec S32x8x2048 32 := id main_v29
  let main_c_5 : IVec S_ 32 := constantI S_ 32 0#32
  let main_v31 : IVec S32x8 32 := (fun x v => Host.reduce IntOp.addi x v reducesTo_S32x8x2048_S32x8_d2 h_S_) main_v30 main_c_5
  let main_v32 : IVec S32x8 32 := (extractStridedSlice S32x8 ![0, 0] · slices_S32x16_S32x8_0_0) main_arg3
  let main_v33 : IVec S32x8 32 := addi main_v32 main_v20
  let main_v34 : IVec S32x8 32 := addi main_v33 main_v31
  let main_v35 : IVec S32x1x1x1 32 := broadcastInDim S32x1x1x1 ![0] bcast_S32_S32x1x1x1_0 main_v3
  let main_v36 : IVec S1x1x32x1 32 := broadcastInDim S1x1x32x1 ![2] bcast_S32_S1x1x32x1_2 main_v3
  let main_v37 : IVec S32x1x32x1 32 := broadcastInDim S32x1x32x1 ![0, 1, 2, 3] bcast_S32x1x1x1_S32x1x32x1_0_1_2_3 main_v35
  let main_v38 : IVec S32x1x32x1 32 := broadcastInDim S32x1x32x1 ![0, 1, 2, 3] bcast_S1x1x32x1_S32x1x32x1_0_1_2_3 main_v36
  let main_v39 : IVec S32x1x32x1 1 := cmpi .eq main_v37 main_v38
  let main_v40 : IVec S1x8x1x1 32 := broadcastInDim S1x8x1x1 ![1] bcast_S8_S1x8x1x1_1 main_v4
  fn_part2 (F := F) main_arg1 main_arg2 main_v4 main_v32 main_v34 main_v39 main_v40

def fn {F : FTy → Type} [FloatOps F] (main_arg0 : FVec F S2048x1024 .f32) (main_arg1 : IVec S2048 32) (main_arg2 : IVec S2048 32) (main_arg3 : IVec S32x16 32) : IVec S_ 1 :=
  let main_v0 : IVec S2048 32 := iotaInDim S2048 32 0
  let main_c : IVec S_ 32 := constantI S_ 32 64#32
  let main_v1 : IVec S2048 32 := broadcastInDim S2048 ![] bcast_S_S2048 main_c
  let main_v2 : IVec S2048 32 := Host.divsi main_v0 main_v1
  let main_v3 : IVec S32 32 := iotaInDim S32 32 0
  let main_v4 : IVec S8 32 := iotaInDim S8 32 0
  let main_v5 : IVec S1x1x2048 32 := broadcastInDim S1x1x2048 ![2] bcast_S2048_S1x1x2048_2 main_v2
  let main_v6 : IVec S32x1x1 32 := broadcastInDim S32x1x1 ![0] bcast_S32_S32x1x1_0 main_v3
  let main_v7 : IVec S32x1x2048 32 := broadcastInDim S32x1x2048 ![0, 1, 2] bcast_S1x1x2048_S32x1x2048_0_1_2 main_v5
  let main_v8 : IVec S32x1x2048 32 := broadcastInDim S32x1x2048 ![0, 1, 2] bcast_S32x1x1_S32x1x2048_0_1_2 main_v6
  let main_v9 : IVec S32x1x2048 1 := cmpi .eq main_v7 main_v8
  let main_v10 : IVec S1x1x2048 32 := broadcastInDim S1x1x2048 ![2] bcast_S2048_S1x1x2048_2 main_arg1
  let main_v11 : IVec S1x8x1 32 := broadcastInDim S1x8x1 ![1] bcast_S8_S1x8x1_1 main_v4
  let main_v12 : IVec S1x8x2048 32 := broadcastInDim S1x8x2048 ![0, 1, 2] bcast_S1x1x2048_S1x8x2048_0_1_2 main_v10
  let main_v13 : IVec S1x8x2048 32 := broadcastInDim S1x8x2048 ![0, 1, 2] bcast_S1x8x1_S1x8x2048_0_1_2 main_v11
  let main_v14 : IVec S1x8x2048 1 := cmpi .eq main_v12 main_v13
  let main_v15 : IVec S32x8x2048 1 := broadcastInDim S32x8x2048 ![0, 1, 2] bcast_S32x1x2048_S32x8x2048_0_1_2 main_v9
  let main_v16 : IVec S32x8x2048 1 := broadcastInDim S32x8x2048 ![0, 1, 2] bcast_S1x8x2048_S32x8x2048_0_1_2 main_v14
  let main_v17 : IVec S32x8x2048 1 := andi main_v15 main_v16
  let main_c_0 : IVec S_ 32 := constantI S_ 32 1#32
  let main_c_1 : IVec S_ 32 := constantI S_ 32 0#32
  let main_v18 : IVec S32x8x2048 32 := fn_where (F := F) main_v17 main_c_0 main_c_1
  let main_v19 : IVec S32x8x2048 32 := id main_v18
  let main_c_2 : IVec S_ 32 := constantI S_ 32 0#32
  fn_part1 (F := F) main_arg1 main_arg2 main_arg3 main_v3 main_v4 main_v9 main_v19 main_c_2
-- ==== Pre_slots_in_range.lean ====
abbrev S7680x1024 : Shape := ⟨2, ![7680, 1024]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S7680x1024 .f32) (main_arg1 : IVec S2048 32) (main_arg2 : IVec S2048 32) (main_arg3 : FVec F S2048 .f32) (main_arg4 : FVec F S2048 .f32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 7680#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 32 := constantI S_ 32 0#32
  let main_v5 : IVec S2048 32 := broadcastInDim S2048 ![] bcast_S_S2048 main_c_1
  let main_v6 : IVec S2048 1 := cmpi .sge main_arg2 main_v5
  let main_v7 : IVec S2048 1 := andi main_v4 main_v6
  let main_c_2 : IVec S_ 32 := constantI S_ 32 7680#32
  let main_v8 : IVec S2048 32 := broadcastInDim S2048 ![] bcast_S_S2048 main_c_2
  let main_v9 : IVec S2048 1 := cmpi .slt main_arg2 main_v8
  let main_v10 : IVec S2048 1 := andi main_v7 main_v9
  main_v10
-- ==== Kernel.lean ====
abbrev S7680x1024 : Shape := ⟨2, ![7680, 1024]⟩
abbrev S2048 : Shape := ⟨1, ![2048]⟩
abbrev S2048x1024 : Shape := ⟨2, ![2048, 1024]⟩
abbrev S64 : Shape := ⟨1, ![64]⟩
abbrev S2x16x1024 : Shape := ⟨3, ![2, 16, 1024]⟩
abbrev S_ : Shape := ⟨0, ![]⟩
abbrev S8 : Shape := ⟨1, ![8]⟩
abbrev S1x16x128 : Shape := ⟨3, ![1, 16, 128]⟩
abbrev S16x128 : Shape := ⟨2, ![16, 128]⟩
abbrev S16 : Shape := ⟨1, ![16]⟩
abbrev S7680x128 : Shape := ⟨2, ![7680, 128]⟩
abbrev S1 : Shape := ⟨1, ![1]⟩
abbrev S1x1x16 : Shape := ⟨3, ![1, 1, 16]⟩
abbrev S1x16x1024 : Shape := ⟨3, ![1, 16, 1024]⟩
abbrev S16x1024 : Shape := ⟨2, ![16, 1024]⟩

abbrev nBuf : Table → Nat
  | .hbm => 6
  | .local .scVector .vmem => 7
  | _ => 0

abbrev bufTy : (tb : Table) → Fin (nBuf tb) → BufTy
  | .hbm, ⟨0, _⟩ => ⟨S7680x1024, .f32⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S2048x1024, .f32⟩
  | .local .scVector .vmem, ⟨0, _⟩ => ⟨S64, .i32⟩
  | .local .scVector .vmem, ⟨1, _⟩ => ⟨S64, .i32⟩
  | .local .scVector .vmem, ⟨2, _⟩ => ⟨S64, .f32⟩
  | .local .scVector .vmem, ⟨3, _⟩ => ⟨S64, .f32⟩
  | .local .scVector .vmem, ⟨4, _⟩ => ⟨S2x16x1024, .f32⟩
  | .local .scVector .vmem, ⟨5, _⟩ => ⟨S2x16x1024, .f32⟩
  | .local .scVector .vmem, ⟨6, _⟩ => ⟨S2x16x1024, .f32⟩
  | _, _ => ⟨S7680x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k0_t1_loop : Scf.Loop 32 :=
  let c0_i32_322 : BitVec 32 := 0#32
  let c16_i32_323 : BitVec 32 := 16#32
  let v307 : BitVec 32 := Scalar.addi c0_i32_322 c16_i32_323
  let c1_i32_324 : BitVec 32 := 1#32
  ⟨c0_i32_322, v307, c1_i32_324⟩

def k0_chk1 (v848 : IVec S16 32) : Prop :=
  (∀ a x, ((![v848] : Fin 1 → IVec S16 32) a x).toNat < S64.size a)
theorem k0_idx1_inb : ∀ (v848 : IVec S16 32) (k0_hw1 : k0_chk1 v848), ∀ a x, ((![v848] : Fin 1 → IVec S16 32) a x).toNat < S64.size a := fun v848 k0_hw1 => k0_hw1

def k0_chk2 (v851 : IVec S16 32) : Prop :=
  (∀ a x, ((![v851] : Fin 1 → IVec S16 32) a x).toNat < S64.size a)
theorem k0_idx2_inb : ∀ (v851 : IVec S16 32) (k0_hw2 : k0_chk2 v851), ∀ a x, ((![v851] : Fin 1 → IVec S16 32) a x).toNat < S64.size a := fun v851 k0_hw2 => k0_hw2
def k0_off2 (k0_t1 : Fin k0_t1_loop.trips) : Fin 3 → Nat :=
  let c0_i32_961 : BitVec 32 := 0#32
  let v853 : Index := Scalar.indexCast c0_i32_961
  let c0_i32_322 : BitVec 32 := 0#32
  let c1_i32_324 : BitVec 32 := 1#32
  let arg19 : BitVec 32 := Scf.iv c0_i32_322 c1_i32_324 k0_t1
  let v854 : Index := Scalar.indexCast arg19
  let c0 : Index := 0#32
  ![0, v854.toNat, 0]
def k0_off3 (k0_t1 : Fin k0_t1_loop.trips) : Fin 3 → Nat :=
  let c0_i32_966 : BitVec 32 := 0#32
  let v865 : Index := Scalar.indexCast c0_i32_966
  let c0_i32_322 : BitVec 32 := 0#32
  let c1_i32_324 : BitVec 32 := 1#32
  let arg19 : BitVec 32 := Scf.iv c0_i32_322 c1_i32_324 k0_t1
  let v866 : Index := Scalar.indexCast arg19
  let c16 : Index := 16#32
  ![0, v866.toNat, 16]
def k0_off4 (k0_t1 : Fin k0_t1_loop.trips) : Fin 3 → Nat :=
  let c0_i32_971 : BitVec 32 := 0#32
  let v877 : Index := Scalar.indexCast c0_i32_971
  let c0_i32_322 : BitVec 32 := 0#32
  let c1_i32_324 : BitVec 32 := 1#32
  let arg19 : BitVec 32 := Scf.iv c0_i32_322 c1_i32_324 k0_t1
  let v878 : Index := Scalar.indexCast arg19
  let c32 : Index := 32#32
  ![0, v878.toNat, 32]
def k0_off5 (k0_t1 : Fin k0_t1_loop.trips) : Fin 3 → Nat :=
  let c0_i32_976 : BitVec 32 := 0#32
  let v889 : Index := Scalar.indexCast c0_i32_976
  let c0_i32_322 : BitVec 32 := 0#32
  let c1_i32_324 : BitVec 32 := 1#32
  let arg19 : BitVec 32 := Scf.iv c0_i32_322 c1_i32_324 k0_t1
  let v890 : Index := Scalar.indexCast arg19
  let c48 : Index := 48#32
  ![0, v890.toNat, 48]
def k0_off6 (k0_t1 : Fin k0_t1_loop.trips) : Fin 3 → Nat :=
  let c0_i32_981 : BitVec 32 := 0#32
  let v901 : Index := Scalar.indexCast c0_i32_981
  let c0_i32_322 : BitVec 32 := 0#32
  let c1_i32_324 : BitVec 32 := 1#32
  let arg19 : BitVec 32 := Scf.iv c0_i32_322 c1_i32_324 k0_t1
  let v902 : Index := Scalar.indexCast arg19
  let c64 : Index := 64#32
  ![0, v902.toNat, 64]
def k0_off7 (k0_t1 : Fin k0_t1_loop.trips) : Fin 3 → Nat :=
  let c0_i32_986 : BitVec 32 := 0#32
  let v913 : Index := Scalar.indexCast c0_i32_986
  let c0_i32_322 : BitVec 32 := 0#32
  let c1_i32_324 : BitVec 32 := 1#32
  let arg19 : BitVec 32 := Scf.iv c0_i32_322 c1_i32_324 k0_t1
  let v914 : Index := Scalar.indexCast arg19
  let c80 : Index := 80#32
  ![0, v914.toNat, 80]
def k0_off8 (k0_t1 : Fin k0_t1_loop.trips) : Fin 3 → Nat :=
  let c0_i32_991 : BitVec 32 := 0#32
  let v925 : Index := Scalar.indexCast c0_i32_991
  let c0_i32_322 : BitVec 32 := 0#32
  let c1_i32_324 : BitVec 32 := 1#32
  let arg19 : BitVec 32 := Scf.iv c0_i32_322 c1_i32_324 k0_t1
  let v926 : Index := Scalar.indexCast arg19
  let c96 : Index := 96#32
  ![0, v926.toNat, 96]
def k0_off9 (k0_t1 : Fin k0_t1_loop.trips) : Fin 3 → Nat :=
  let c0_i32_996 : BitVec 32 := 0#32
  let v937 : Index := Scalar.indexCast c0_i32_996
  let c0_i32_322 : BitVec 32 := 0#32
  let c1_i32_324 : BitVec 32 := 1#32
  let arg19 : BitVec 32 := Scf.iv c0_i32_322 c1_i32_324 k0_t1
  let v938 : Index := Scalar.indexCast arg19
  let c112 : Index := 112#32
  ![0, v938.toNat, 112]
def k0_off10 (k0_t1 : Fin k0_t1_loop.trips) : Fin 3 → Nat :=
  let c0_i32_1001 : BitVec 32 := 0#32
  let v949 : Index := Scalar.indexCast c0_i32_1001
  let c0_i32_322 : BitVec 32 := 0#32
  let c1_i32_324 : BitVec 32 := 1#32
  let arg19 : BitVec 32 := Scf.iv c0_i32_322 c1_i32_324 k0_t1
  let v950 : Index := Scalar.indexCast arg19
  let c128 : Index := 128#32
  ![0, v950.toNat, 128]
def k0_off11 (k0_t1 : Fin k0_t1_loop.trips) : Fin 3 → Nat :=
  let c0_i32_1006 : BitVec 32 := 0#32
  let v961 : Index := Scalar.indexCast c0_i32_1006
  let c0_i32_322 : BitVec 32 := 0#32
  let c1_i32_324 : BitVec 32 := 1#32
  let arg19 : BitVec 32 := Scf.iv c0_i32_322 c1_i32_324 k0_t1
  let v962 : Index := Scalar.indexCast arg19
  let c144 : Index := 144#32
  ![0, v962.toNat, 144]
def k0_off12 (k0_t1 : Fin k0_t1_loop.trips) : Fin 3 → Nat :=
  let c0_i32_1011 : BitVec 32 := 0#32
  let v973 : Index := Scalar.indexCast c0_i32_1011
  let c0_i32_322 : BitVec 32 := 0#32
  let c1_i32_324 : BitVec 32 := 1#32
  let arg19 : BitVec 32 := Scf.iv c0_i32_322 c1_i32_324 k0_t1
  let v974 : Index := Scalar.indexCast arg19
  let c160 : Index := 160#32
  ![0, v974.toNat, 160]
def k0_off13 (k0_t1 : Fin k0_t1_loop.trips) : Fin 3 → Nat :=
  let c0_i32_1016 : BitVec 32 := 0#32
  let v985 : Index := Scalar.indexCast c0_i32_1016
  let c0_i32_322 : BitVec 32 := 0#32
  let c1_i32_324 : BitVec 32 := 1#32
  let arg19 : BitVec 32 := Scf.iv c0_i32_322 c1_i32_324 k0_t1
  let v986 : Index := Scalar.indexCast arg19
  let c176 : Index := 176#32
  ![0, v986.toNat, 176]
def k0_off14 (k0_t1 : Fin k0_t1_loop.trips) : Fin 3 → Nat :=
  let c0_i32_1021 : BitVec 32 := 0#32
  let v997 : Index := Scalar.indexCast c0_i32_1021
  let c0_i32_322 : BitVec 32 := 0#32
  let c1_i32_324 : BitVec 32 := 1#32
  let arg19 : BitVec 32 := Scf.iv c0_i32_322 c1_i32_324 k0_t1
  let v998 : Index := Scalar.indexCast arg19
  let c192 : Index := 192#32
  ![0, v998.toNat, 192]
def k0_off15 (k0_t1 : Fin k0_t1_loop.trips) : Fin 3 → Nat :=
  let c0_i32_1026 : BitVec 32 := 0#32
  let v1009 : Index := Scalar.indexCast c0_i32_1026
  let c0_i32_322 : BitVec 32 := 0#32
  let c1_i32_324 : BitVec 32 := 1#32
  let arg19 : BitVec 32 := Scf.iv c0_i32_322 c1_i32_324 k0_t1
  let v1010 : Index := Scalar.indexCast arg19
  let c208 : Index := 208#32
  ![0, v1010.toNat, 208]
def k0_off16 (k0_t1 : Fin k0_t1_loop.trips) : Fin 3 → Nat :=
  let c0_i32_1031 : BitVec 32 := 0#32
  let v1021 : Index := Scalar.indexCast c0_i32_1031
  let c0_i32_322 : BitVec 32 := 0#32
  let c1_i32_324 : BitVec 32 := 1#32
  let arg19 : BitVec 32 := Scf.iv c0_i32_322 c1_i32_324 k0_t1
  let v1022 : Index := Scalar.indexCast arg19
  let c224 : Index := 224#32
  ![0, v1022.toNat, 224]
def k0_off17 (k0_t1 : Fin k0_t1_loop.trips) : Fin 3 → Nat :=
  let c0_i32_1036 : BitVec 32 := 0#32
  let v1033 : Index := Scalar.indexCast c0_i32_1036
  let c0_i32_322 : BitVec 32 := 0#32
  let c1_i32_324 : BitVec 32 := 1#32
  let arg19 : BitVec 32 := Scf.iv c0_i32_322 c1_i32_324 k0_t1
  let v1034 : Index := Scalar.indexCast arg19
  let c240 : Index := 240#32
  ![0, v1034.toNat, 240]
def k0_off18 (k0_t1 : Fin k0_t1_loop.trips) : Fin 3 → Nat :=
  let c0_i32_1041 : BitVec 32 := 0#32
  let v1045 : Index := Scalar.indexCast c0_i32_1041
  let c0_i32_322 : BitVec 32 := 0#32
  let c1_i32_324 : BitVec 32 := 1#32
  let arg19 : BitVec 32 := Scf.iv c0_i32_322 c1_i32_324 k0_t1
  let v1046 : Index := Scalar.indexCast arg19
  let c256 : Index := 256#32
  ![0, v1046.toNat, 256]
def k0_off19 (k0_t1 : Fin k0_t1_loop.trips) : Fin 3 → Nat :=
  let c0_i32_1046 : BitVec 32 := 0#32
  let v1057 : Index := Scalar.indexCast c0_i32_1046
  let c0_i32_322 : BitVec 32 := 0#32
  let c1_i32_324 : BitVec 32 := 1#32
  let arg19 : BitVec 32 := Scf.iv c0_i32_322 c1_i32_324 k0_t1
  let v1058 : Index := Scalar.indexCast arg19
  let c272 : Index := 272#32
  ![0, v1058.toNat, 272]
def k0_off20 (k0_t1 : Fin k0_t1_loop.trips) : Fin 3 → Nat :=
  let c0_i32_1051 : BitVec 32 := 0#32
  let v1069 : Index := Scalar.indexCast c0_i32_1051
  let c0_i32_322 : BitVec 32 := 0#32
  let c1_i32_324 : BitVec 32 := 1#32
  let arg19 : BitVec 32 := Scf.iv c0_i32_322 c1_i32_324 k0_t1
  let v1070 : Index := Scalar.indexCast arg19
  let c288 : Index := 288#32
  ![0, v1070.toNat, 288]
def k0_off21 (k0_t1 : Fin k0_t1_loop.trips) : Fin 3 → Nat :=
  let c0_i32_1056 : BitVec 32 := 0#32
  let v1081 : Index := Scalar.indexCast c0_i32_1056
  let c0_i32_322 : BitVec 32 := 0#32
  let c1_i32_324 : BitVec 32 := 1#32
  let arg19 : BitVec 32 := Scf.iv c0_i32_322 c1_i32_324 k0_t1
  let v1082 : Index := Scalar.indexCast arg19
  let c304 : Index := 304#32
  ![0, v1082.toNat, 304]
def k0_off22 (k0_t1 : Fin k0_t1_loop.trips) : Fin 3 → Nat :=
  let c0_i32_1061 : BitVec 32 := 0#32
  let v1093 : Index := Scalar.indexCast c0_i32_1061
  let c0_i32_322 : BitVec 32 := 0#32
  let c1_i32_324 : BitVec 32 := 1#32
  let arg19 : BitVec 32 := Scf.iv c0_i32_322 c1_i32_324 k0_t1
  let v1094 : Index := Scalar.indexCast arg19
  let c320 : Index := 320#32
  ![0, v1094.toNat, 320]
def k0_off23 (k0_t1 : Fin k0_t1_loop.trips) : Fin 3 → Nat :=
  let c0_i32_1066 : BitVec 32 := 0#32
  let v1105 : Index := Scalar.indexCast c0_i32_1066
  let c0_i32_322 : BitVec 32 := 0#32
  let c1_i32_324 : BitVec 32 := 1#32
  let arg19 : BitVec 32 := Scf.iv c0_i32_322 c1_i32_324 k0_t1
  let v1106 : Index := Scalar.indexCast arg19
  let c336 : Index := 336#32
  ![0, v1106.toNat, 336]
def k0_off24 (k0_t1 : Fin k0_t1_loop.trips) : Fin 3 → Nat :=
  let c0_i32_1071 : BitVec 32 := 0#32
  let v1117 : Index := Scalar.indexCast c0_i32_1071
  let c0_i32_322 : BitVec 32 := 0#32
  let c1_i32_324 : BitVec 32 := 1#32
  let arg19 : BitVec 32 := Scf.iv c0_i32_322 c1_i32_324 k0_t1
  let v1118 : Index := Scalar.indexCast arg19
  let c352 : Index := 352#32
  ![0, v1118.toNat, 352]
def k0_off25 (k0_t1 : Fin k0_t1_loop.trips) : Fin 3 → Nat :=
  let c0_i32_1076 : BitVec 32 := 0#32
  let v1129 : Index := Scalar.indexCast c0_i32_1076
  let c0_i32_322 : BitVec 32 := 0#32
  let c1_i32_324 : BitVec 32 := 1#32
  let arg19 : BitVec 32 := Scf.iv c0_i32_322 c1_i32_324 k0_t1
  let v1130 : Index := Scalar.indexCast arg19
  let c368 : Index := 368#32
  ![0, v1130.toNat, 368]
def k0_off26 (k0_t1 : Fin k0_t1_loop.trips) : Fin 3 → Nat :=
  let c0_i32_1081 : BitVec 32 := 0#32
  let v1141 : Index := Scalar.indexCast c0_i32_1081
  let c0_i32_322 : BitVec 32 := 0#32
  let c1_i32_324 : BitVec 32 := 1#32
  let arg19 : BitVec 32 := Scf.iv c0_i32_322 c1_i32_324 k0_t1
  let v1142 : Index := Scalar.indexCast arg19
  let c384 : Index := 384#32
  ![0, v1142.toNat, 384]
def k0_off27 (k0_t1 : Fin k0_t1_loop.trips) : Fin 3 → Nat :=
  let c0_i32_1086 : BitVec 32 := 0#32
  let v1153 : Index := Scalar.indexCast c0_i32_1086
  let c0_i32_322 : BitVec 32 := 0#32
  let c1_i32_324 : BitVec 32 := 1#32
  let arg19 : BitVec 32 := Scf.iv c0_i32_322 c1_i32_324 k0_t1
  let v1154 : Index := Scalar.indexCast arg19
  let c400 : Index := 400#32
  ![0, v1154.toNat, 400]
def k0_off28 (k0_t1 : Fin k0_t1_loop.trips) : Fin 3 → Nat :=
  let c0_i32_1091 : BitVec 32 := 0#32
  let v1165 : Index := Scalar.indexCast c0_i32_1091
  let c0_i32_322 : BitVec 32 := 0#32
  let c1_i32_324 : BitVec 32 := 1#32
  let arg19 : BitVec 32 := Scf.iv c0_i32_322 c1_i32_324 k0_t1
  let v1166 : Index := Scalar.indexCast arg19
  let c416 : Index := 416#32
  ![0, v1166.toNat, 416]
def k0_off29 (k0_t1 : Fin k0_t1_loop.trips) : Fin 3 → Nat :=
  let c0_i32_1096 : BitVec 32 := 0#32
  let v1177 : Index := Scalar.indexCast c0_i32_1096
  let c0_i32_322 : BitVec 32 := 0#32
  let c1_i32_324 : BitVec 32 := 1#32
  let arg19 : BitVec 32 := Scf.iv c0_i32_322 c1_i32_324 k0_t1
  let v1178 : Index := Scalar.indexCast arg19
  let c432 : Index := 432#32
  ![0, v1178.toNat, 432]
def k0_off30 (k0_t1 : Fin k0_t1_loop.trips) : Fin 3 → Nat :=
  let c0_i32_1101 : BitVec 32 := 0#32
  let v1189 : Index := Scalar.indexCast c0_i32_1101
  let c0_i32_322 : BitVec 32 := 0#32
  let c1_i32_324 : BitVec 32 := 1#32
  let arg19 : BitVec 32 := Scf.iv c0_i32_322 c1_i32_324 k0_t1
  let v1190 : Index := Scalar.indexCast arg19
  let c448 : Index := 448#32
  ![0, v1190.toNat, 448]
def k0_off31 (k0_t1 : Fin k0_t1_loop.trips) : Fin 3 → Nat :=
  let c0_i32_1106 : BitVec 32 := 0#32
  let v1201 : Index := Scalar.indexCast c0_i32_1106
  let c0_i32_322 : BitVec 32 := 0#32
  let c1_i32_324 : BitVec 32 := 1#32
  let arg19 : BitVec 32 := Scf.iv c0_i32_322 c1_i32_324 k0_t1
  let v1202 : Index := Scalar.indexCast arg19
  let c464 : Index := 464#32
  ![0, v1202.toNat, 464]
def k0_off32 (k0_t1 : Fin k0_t1_loop.trips) : Fin 3 → Nat :=
  let c0_i32_1111 : BitVec 32 := 0#32
  let v1213 : Index := Scalar.indexCast c0_i32_1111
  let c0_i32_322 : BitVec 32 := 0#32
  let c1_i32_324 : BitVec 32 := 1#32
  let arg19 : BitVec 32 := Scf.iv c0_i32_322 c1_i32_324 k0_t1
  let v1214 : Index := Scalar.indexCast arg19
  let c480 : Index := 480#32
  ![0, v1214.toNat, 480]
def k0_off33 (k0_t1 : Fin k0_t1_loop.trips) : Fin 3 → Nat :=
  let c0_i32_1116 : BitVec 32 := 0#32
  let v1225 : Index := Scalar.indexCast c0_i32_1116
  let c0_i32_322 : BitVec 32 := 0#32
  let c1_i32_324 : BitVec 32 := 1#32
  let arg19 : BitVec 32 := Scf.iv c0_i32_322 c1_i32_324 k0_t1
  let v1226 : Index := Scalar.indexCast arg19
  let c496 : Index := 496#32
  ![0, v1226.toNat, 496]
def k0_off34 (k0_t1 : Fin k0_t1_loop.trips) : Fin 3 → Nat :=
  let c0_i32_1121 : BitVec 32 := 0#32
  let v1237 : Index := Scalar.indexCast c0_i32_1121
  let c0_i32_322 : BitVec 32 := 0#32
  let c1_i32_324 : BitVec 32 := 1#32
  let arg19 : BitVec 32 := Scf.iv c0_i32_322 c1_i32_324 k0_t1
  let v1238 : Index := Scalar.indexCast arg19
  let c512 : Index := 512#32
  ![0, v1238.toNat, 512]
def k0_off35 (k0_t1 : Fin k0_t1_loop.trips) : Fin 3 → Nat :=
  let c0_i32_1126 : BitVec 32 := 0#32
  let v1249 : Index := Scalar.indexCast c0_i32_1126
  let c0_i32_322 : BitVec 32 := 0#32
  let c1_i32_324 : BitVec 32 := 1#32
  let arg19 : BitVec 32 := Scf.iv c0_i32_322 c1_i32_324 k0_t1
  let v1250 : Index := Scalar.indexCast arg19
  let c528 : Index := 528#32
  ![0, v1250.toNat, 528]
def k0_off36 (k0_t1 : Fin k0_t1_loop.trips) : Fin 3 → Nat :=
  let c0_i32_1131 : BitVec 32 := 0#32
  let v1261 : Index := Scalar.indexCast c0_i32_1131
  let c0_i32_322 : BitVec 32 := 0#32
  let c1_i32_324 : BitVec 32 := 1#32
  let arg19 : BitVec 32 := Scf.iv c0_i32_322 c1_i32_324 k0_t1
  let v1262 : Index := Scalar.indexCast arg19
  let c544 : Index := 544#32
  ![0, v1262.toNat, 544]
def k0_off37 (k0_t1 : Fin k0_t1_loop.trips) : Fin 3 → Nat :=
  let c0_i32_1136 : BitVec 32 := 0#32
  let v1273 : Index := Scalar.indexCast c0_i32_1136
  let c0_i32_322 : BitVec 32 := 0#32
  let c1_i32_324 : BitVec 32 := 1#32
  let arg19 : BitVec 32 := Scf.iv c0_i32_322 c1_i32_324 k0_t1
  let v1274 : Index := Scalar.indexCast arg19
  let c560 : Index := 560#32
  ![0, v1274.toNat, 560]
def k0_off38 (k0_t1 : Fin k0_t1_loop.trips) : Fin 3 → Nat :=
  let c0_i32_1141 : BitVec 32 := 0#32
  let v1285 : Index := Scalar.indexCast c0_i32_1141
  let c0_i32_322 : BitVec 32 := 0#32
  let c1_i32_324 : BitVec 32 := 1#32
  let arg19 : BitVec 32 := Scf.iv c0_i32_322 c1_i32_324 k0_t1
  let v1286 : Index := Scalar.indexCast arg19
  let c576 : Index := 576#32
  ![0, v1286.toNat, 576]
def k0_off39 (k0_t1 : Fin k0_t1_loop.trips) : Fin 3 → Nat :=
  let c0_i32_1146 : BitVec 32 := 0#32
  let v1297 : Index := Scalar.indexCast c0_i32_1146
  let c0_i32_322 : BitVec 32 := 0#32
  let c1_i32_324 : BitVec 32 := 1#32
  let arg19 : BitVec 32 := Scf.iv c0_i32_322 c1_i32_324 k0_t1
  let v1298 : Index := Scalar.indexCast arg19
  let c592 : Index := 592#32
  ![0, v1298.toNat, 592]
def k0_off40 (k0_t1 : Fin k0_t1_loop.trips) : Fin 3 → Nat :=
  let c0_i32_1151 : BitVec 32 := 0#32
  let v1309 : Index := Scalar.indexCast c0_i32_1151
  let c0_i32_322 : BitVec 32 := 0#32
  let c1_i32_324 : BitVec 32 := 1#32
  let arg19 : BitVec 32 := Scf.iv c0_i32_322 c1_i32_324 k0_t1
  let v1310 : Index := Scalar.indexCast arg19
  let c608 : Index := 608#32
  ![0, v1310.toNat, 608]
def k0_off41 (k0_t1 : Fin k0_t1_loop.trips) : Fin 3 → Nat :=
  let c0_i32_1156 : BitVec 32 := 0#32
  let v1321 : Index := Scalar.indexCast c0_i32_1156
  let c0_i32_322 : BitVec 32 := 0#32
  let c1_i32_324 : BitVec 32 := 1#32
  let arg19 : BitVec 32 := Scf.iv c0_i32_322 c1_i32_324 k0_t1
  let v1322 : Index := Scalar.indexCast arg19
  let c624 : Index := 624#32
  ![0, v1322.toNat, 624]
def k0_off42 (k0_t1 : Fin k0_t1_loop.trips) : Fin 3 → Nat :=
  let c0_i32_1161 : BitVec 32 := 0#32
  let v1333 : Index := Scalar.indexCast c0_i32_1161
  let c0_i32_322 : BitVec 32 := 0#32
  let c1_i32_324 : BitVec 32 := 1#32
  let arg19 : BitVec 32 := Scf.iv c0_i32_322 c1_i32_324 k0_t1
  let v1334 : Index := Scalar.indexCast arg19
  let c640 : Index := 640#32
  ![0, v1334.toNat, 640]
def k0_off43 (k0_t1 : Fin k0_t1_loop.trips) : Fin 3 → Nat :=
  let c0_i32_1166 : BitVec 32 := 0#32
  let v1345 : Index := Scalar.indexCast c0_i32_1166
  let c0_i32_322 : BitVec 32 := 0#32
  let c1_i32_324 : BitVec 32 := 1#32
  let arg19 : BitVec 32 := Scf.iv c0_i32_322 c1_i32_324 k0_t1
  let v1346 : Index := Scalar.indexCast arg19
  let c656 : Index := 656#32
  ![0, v1346.toNat, 656]
def k0_off44 (k0_t1 : Fin k0_t1_loop.trips) : Fin 3 → Nat :=
  let c0_i32_1171 : BitVec 32 := 0#32
  let v1357 : Index := Scalar.indexCast c0_i32_1171
  let c0_i32_322 : BitVec 32 := 0#32
  let c1_i32_324 : BitVec 32 := 1#32
  let arg19 : BitVec 32 := Scf.iv c0_i32_322 c1_i32_324 k0_t1
  let v1358 : Index := Scalar.indexCast arg19
  let c672 : Index := 672#32
  ![0, v1358.toNat, 672]
def k0_off45 (k0_t1 : Fin k0_t1_loop.trips) : Fin 3 → Nat :=
  let c0_i32_1176 : BitVec 32 := 0#32
  let v1369 : Index := Scalar.indexCast c0_i32_1176
  let c0_i32_322 : BitVec 32 := 0#32
  let c1_i32_324 : BitVec 32 := 1#32
  let arg19 : BitVec 32 := Scf.iv c0_i32_322 c1_i32_324 k0_t1
  let v1370 : Index := Scalar.indexCast arg19
  let c688 : Index := 688#32
  ![0, v1370.toNat, 688]
def k0_off46 (k0_t1 : Fin k0_t1_loop.trips) : Fin 3 → Nat :=
  let c0_i32_1181 : BitVec 32 := 0#32
  let v1381 : Index := Scalar.indexCast c0_i32_1181
  let c0_i32_322 : BitVec 32 := 0#32
  let c1_i32_324 : BitVec 32 := 1#32
  let arg19 : BitVec 32 := Scf.iv c0_i32_322 c1_i32_324 k0_t1
  let v1382 : Index := Scalar.indexCast arg19
  let c704 : Index := 704#32
  ![0, v1382.toNat, 704]
def k0_off47 (k0_t1 : Fin k0_t1_loop.trips) : Fin 3 → Nat :=
  let c0_i32_1186 : BitVec 32 := 0#32
  let v1393 : Index := Scalar.indexCast c0_i32_1186
  let c0_i32_322 : BitVec 32 := 0#32
  let c1_i32_324 : BitVec 32 := 1#32
  let arg19 : BitVec 32 := Scf.iv c0_i32_322 c1_i32_324 k0_t1
  let v1394 : Index := Scalar.indexCast arg19
  let c720 : Index := 720#32
  ![0, v1394.toNat, 720]
def k0_off48 (k0_t1 : Fin k0_t1_loop.trips) : Fin 3 → Nat :=
  let c0_i32_1191 : BitVec 32 := 0#32
  let v1405 : Index := Scalar.indexCast c0_i32_1191
  let c0_i32_322 : BitVec 32 := 0#32
  let c1_i32_324 : BitVec 32 := 1#32
  let arg19 : BitVec 32 := Scf.iv c0_i32_322 c1_i32_324 k0_t1
  let v1406 : Index := Scalar.indexCast arg19
  let c736 : Index := 736#32
  ![0, v1406.toNat, 736]
def k0_off49 (k0_t1 : Fin k0_t1_loop.trips) : Fin 3 → Nat :=
  let c0_i32_1196 : BitVec 32 := 0#32
  let v1417 : Index := Scalar.indexCast c0_i32_1196
  let c0_i32_322 : BitVec 32 := 0#32
  let c1_i32_324 : BitVec 32 := 1#32
  let arg19 : BitVec 32 := Scf.iv c0_i32_322 c1_i32_324 k0_t1
  let v1418 : Index := Scalar.indexCast arg19
  let c752 : Index := 752#32
  ![0, v1418.toNat, 752]
def k0_off50 (k0_t1 : Fin k0_t1_loop.trips) : Fin 3 → Nat :=
  let c0_i32_1201 : BitVec 32 := 0#32
  let v1429 : Index := Scalar.indexCast c0_i32_1201
  let c0_i32_322 : BitVec 32 := 0#32
  let c1_i32_324 : BitVec 32 := 1#32
  let arg19 : BitVec 32 := Scf.iv c0_i32_322 c1_i32_324 k0_t1
  let v1430 : Index := Scalar.indexCast arg19
  let c768 : Index := 768#32
  ![0, v1430.toNat, 768]
def k0_off51 (k0_t1 : Fin k0_t1_loop.trips) : Fin 3 → Nat :=
  let c0_i32_1206 : BitVec 32 := 0#32
  let v1441 : Index := Scalar.indexCast c0_i32_1206
  let c0_i32_322 : BitVec 32 := 0#32
  let c1_i32_324 : BitVec 32 := 1#32
  let arg19 : BitVec 32 := Scf.iv c0_i32_322 c1_i32_324 k0_t1
  let v1442 : Index := Scalar.indexCast arg19
  let c784 : Index := 784#32
  ![0, v1442.toNat, 784]
def k0_off52 (k0_t1 : Fin k0_t1_loop.trips) : Fin 3 → Nat :=
  let c0_i32_1211 : BitVec 32 := 0#32
  let v1453 : Index := Scalar.indexCast c0_i32_1211
  let c0_i32_322 : BitVec 32 := 0#32
  let c1_i32_324 : BitVec 32 := 1#32
  let arg19 : BitVec 32 := Scf.iv c0_i32_322 c1_i32_324 k0_t1
  let v1454 : Index := Scalar.indexCast arg19
  let c800 : Index := 800#32
  ![0, v1454.toNat, 800]
def k0_off53 (k0_t1 : Fin k0_t1_loop.trips) : Fin 3 → Nat :=
  let c0_i32_1216 : BitVec 32 := 0#32
  let v1465 : Index := Scalar.indexCast c0_i32_1216
  let c0_i32_322 : BitVec 32 := 0#32
  let c1_i32_324 : BitVec 32 := 1#32
  let arg19 : BitVec 32 := Scf.iv c0_i32_322 c1_i32_324 k0_t1
  let v1466 : Index := Scalar.indexCast arg19
  let c816 : Index := 816#32
  ![0, v1466.toNat, 816]
def k0_off54 (k0_t1 : Fin k0_t1_loop.trips) : Fin 3 → Nat :=
  let c0_i32_1221 : BitVec 32 := 0#32
  let v1477 : Index := Scalar.indexCast c0_i32_1221
  let c0_i32_322 : BitVec 32 := 0#32
  let c1_i32_324 : BitVec 32 := 1#32
  let arg19 : BitVec 32 := Scf.iv c0_i32_322 c1_i32_324 k0_t1
  let v1478 : Index := Scalar.indexCast arg19
  let c832 : Index := 832#32
  ![0, v1478.toNat, 832]
def k0_off55 (k0_t1 : Fin k0_t1_loop.trips) : Fin 3 → Nat :=
  let c0_i32_1226 : BitVec 32 := 0#32
  let v1489 : Index := Scalar.indexCast c0_i32_1226
  let c0_i32_322 : BitVec 32 := 0#32
  let c1_i32_324 : BitVec 32 := 1#32
  let arg19 : BitVec 32 := Scf.iv c0_i32_322 c1_i32_324 k0_t1
  let v1490 : Index := Scalar.indexCast arg19
  let c848 : Index := 848#32
  ![0, v1490.toNat, 848]
def k0_off56 (k0_t1 : Fin k0_t1_loop.trips) : Fin 3 → Nat :=
  let c0_i32_1231 : BitVec 32 := 0#32
  let v1501 : Index := Scalar.indexCast c0_i32_1231
  let c0_i32_322 : BitVec 32 := 0#32
  let c1_i32_324 : BitVec 32 := 1#32
  let arg19 : BitVec 32 := Scf.iv c0_i32_322 c1_i32_324 k0_t1
  let v1502 : Index := Scalar.indexCast arg19
  let c864 : Index := 864#32
  ![0, v1502.toNat, 864]
def k0_off57 (k0_t1 : Fin k0_t1_loop.trips) : Fin 3 → Nat :=
  let c0_i32_1236 : BitVec 32 := 0#32
  let v1513 : Index := Scalar.indexCast c0_i32_1236
  let c0_i32_322 : BitVec 32 := 0#32
  let c1_i32_324 : BitVec 32 := 1#32
  let arg19 : BitVec 32 := Scf.iv c0_i32_322 c1_i32_324 k0_t1
  let v1514 : Index := Scalar.indexCast arg19
  let c880 : Index := 880#32
  ![0, v1514.toNat, 880]
def k0_off58 (k0_t1 : Fin k0_t1_loop.trips) : Fin 3 → Nat :=
  let c0_i32_1241 : BitVec 32 := 0#32
  let v1525 : Index := Scalar.indexCast c0_i32_1241
  let c0_i32_322 : BitVec 32 := 0#32
  let c1_i32_324 : BitVec 32 := 1#32
  let arg19 : BitVec 32 := Scf.iv c0_i32_322 c1_i32_324 k0_t1
  let v1526 : Index := Scalar.indexCast arg19
  let c896 : Index := 896#32
  ![0, v1526.toNat, 896]
def k0_off59 (k0_t1 : Fin k0_t1_loop.trips) : Fin 3 → Nat :=
  let c0_i32_1246 : BitVec 32 := 0#32
  let v1537 : Index := Scalar.indexCast c0_i32_1246
  let c0_i32_322 : BitVec 32 := 0#32
  let c1_i32_324 : BitVec 32 := 1#32
  let arg19 : BitVec 32 := Scf.iv c0_i32_322 c1_i32_324 k0_t1
  let v1538 : Index := Scalar.indexCast arg19
  let c912 : Index := 912#32
  ![0, v1538.toNat, 912]
def k0_off60 (k0_t1 : Fin k0_t1_loop.trips) : Fin 3 → Nat :=
  let c0_i32_1251 : BitVec 32 := 0#32
  let v1549 : Index := Scalar.indexCast c0_i32_1251
  let c0_i32_322 : BitVec 32 := 0#32
  let c1_i32_324 : BitVec 32 := 1#32
  let arg19 : BitVec 32 := Scf.iv c0_i32_322 c1_i32_324 k0_t1
  let v1550 : Index := Scalar.indexCast arg19
  let c928 : Index := 928#32
  ![0, v1550.toNat, 928]
def k0_off61 (k0_t1 : Fin k0_t1_loop.trips) : Fin 3 → Nat :=
  let c0_i32_1256 : BitVec 32 := 0#32
  let v1561 : Index := Scalar.indexCast c0_i32_1256
  let c0_i32_322 : BitVec 32 := 0#32
  let c1_i32_324 : BitVec 32 := 1#32
  let arg19 : BitVec 32 := Scf.iv c0_i32_322 c1_i32_324 k0_t1
  let v1562 : Index := Scalar.indexCast arg19
  let c944 : Index := 944#32
  ![0, v1562.toNat, 944]
def k0_off62 (k0_t1 : Fin k0_t1_loop.trips) : Fin 3 → Nat :=
  let c0_i32_1261 : BitVec 32 := 0#32
  let v1573 : Index := Scalar.indexCast c0_i32_1261
  let c0_i32_322 : BitVec 32 := 0#32
  let c1_i32_324 : BitVec 32 := 1#32
  let arg19 : BitVec 32 := Scf.iv c0_i32_322 c1_i32_324 k0_t1
  let v1574 : Index := Scalar.indexCast arg19
  let c960 : Index := 960#32
  ![0, v1574.toNat, 960]
def k0_off63 (k0_t1 : Fin k0_t1_loop.trips) : Fin 3 → Nat :=
  let c0_i32_1266 : BitVec 32 := 0#32
  let v1585 : Index := Scalar.indexCast c0_i32_1266
  let c0_i32_322 : BitVec 32 := 0#32
  let c1_i32_324 : BitVec 32 := 1#32
  let arg19 : BitVec 32 := Scf.iv c0_i32_322 c1_i32_324 k0_t1
  let v1586 : Index := Scalar.indexCast arg19
  let c976 : Index := 976#32
  ![0, v1586.toNat, 976]
def k0_off64 (k0_t1 : Fin k0_t1_loop.trips) : Fin 3 → Nat :=
  let c0_i32_1271 : BitVec 32 := 0#32
  let v1597 : Index := Scalar.indexCast c0_i32_1271
  let c0_i32_322 : BitVec 32 := 0#32
  let c1_i32_324 : BitVec 32 := 1#32
  let arg19 : BitVec 32 := Scf.iv c0_i32_322 c1_i32_324 k0_t1
  let v1598 : Index := Scalar.indexCast arg19
  let c992 : Index := 992#32
  ![0, v1598.toNat, 992]
def k0_off65 (k0_t1 : Fin k0_t1_loop.trips) : Fin 3 → Nat :=
  let c0_i32_1276 : BitVec 32 := 0#32
  let v1609 : Index := Scalar.indexCast c0_i32_1276
  let c0_i32_322 : BitVec 32 := 0#32
  let c1_i32_324 : BitVec 32 := 1#32
  let arg19 : BitVec 32 := Scf.iv c0_i32_322 c1_i32_324 k0_t1
  let v1610 : Index := Scalar.indexCast arg19
  let c1008 : Index := 1008#32
  ![0, v1610.toNat, 1008]
def k0_off66 (i : grid0.Coords) (c0_i32_326 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v309 : BitVec 32 := Scalar.addi v2 c0_i32_326
  let c0_i32_330 : BitVec 32 := 0#32
  ![v309.toNat, 0]
@[reducible] def k0_t2_loop : Scf.Loop 32 :=
  let c0_i32_558 : BitVec 32 := 0#32
  let c16_i32_559 : BitVec 32 := 16#32
  let v508 : BitVec 32 := Scalar.addi c0_i32_558 c16_i32_559
  let c1_i32_560 : BitVec 32 := 1#32
  ⟨c0_i32_558, v508, c1_i32_560⟩

def k0_chk3 (v848 : IVec S16 32) : Prop :=
  (∀ a x, ((![v848] : Fin 1 → IVec S16 32) a x).toNat < S64.size a)
theorem k0_idx3_inb : ∀ (v848 : IVec S16 32) (k0_hw3 : k0_chk3 v848), ∀ a x, ((![v848] : Fin 1 → IVec S16 32) a x).toNat < S64.size a := fun v848 k0_hw3 => k0_hw3

def k0_chk4 (v851 : IVec S16 32) : Prop :=
  (∀ a x, ((![v851] : Fin 1 → IVec S16 32) a x).toNat < S64.size a)
theorem k0_idx4_inb : ∀ (v851 : IVec S16 32) (k0_hw4 : k0_chk4 v851), ∀ a x, ((![v851] : Fin 1 → IVec S16 32) a x).toNat < S64.size a := fun v851 k0_hw4 => k0_hw4
def k0_off67 (k0_t2 : Fin k0_t2_loop.trips) : Fin 3 → Nat :=
  let c1_i32_961 : BitVec 32 := 1#32
  let v853 : Index := Scalar.indexCast c1_i32_961
  let c0_i32_558 : BitVec 32 := 0#32
  let c1_i32_560 : BitVec 32 := 1#32
  let arg19 : BitVec 32 := Scf.iv c0_i32_558 c1_i32_560 k0_t2
  let v854 : Index := Scalar.indexCast arg19
  let c0 : Index := 0#32
  ![1, v854.toNat, 0]
def k0_off68 (k0_t2 : Fin k0_t2_loop.trips) : Fin 3 → Nat :=
  let c1_i32_966 : BitVec 32 := 1#32
  let v865 : Index := Scalar.indexCast c1_i32_966
  let c0_i32_558 : BitVec 32 := 0#32
  let c1_i32_560 : BitVec 32 := 1#32
  let arg19 : BitVec 32 := Scf.iv c0_i32_558 c1_i32_560 k0_t2
  let v866 : Index := Scalar.indexCast arg19
  let c16 : Index := 16#32
  ![1, v866.toNat, 16]
def k0_off69 (k0_t2 : Fin k0_t2_loop.trips) : Fin 3 → Nat :=
  let c1_i32_971 : BitVec 32 := 1#32
  let v877 : Index := Scalar.indexCast c1_i32_971
  let c0_i32_558 : BitVec 32 := 0#32
  let c1_i32_560 : BitVec 32 := 1#32
  let arg19 : BitVec 32 := Scf.iv c0_i32_558 c1_i32_560 k0_t2
  let v878 : Index := Scalar.indexCast arg19
  let c32 : Index := 32#32
  ![1, v878.toNat, 32]
def k0_off70 (k0_t2 : Fin k0_t2_loop.trips) : Fin 3 → Nat :=
  let c1_i32_976 : BitVec 32 := 1#32
  let v889 : Index := Scalar.indexCast c1_i32_976
  let c0_i32_558 : BitVec 32 := 0#32
  let c1_i32_560 : BitVec 32 := 1#32
  let arg19 : BitVec 32 := Scf.iv c0_i32_558 c1_i32_560 k0_t2
  let v890 : Index := Scalar.indexCast arg19
  let c48 : Index := 48#32
  ![1, v890.toNat, 48]
def k0_off71 (k0_t2 : Fin k0_t2_loop.trips) : Fin 3 → Nat :=
  let c1_i32_981 : BitVec 32 := 1#32
  let v901 : Index := Scalar.indexCast c1_i32_981
  let c0_i32_558 : BitVec 32 := 0#32
  let c1_i32_560 : BitVec 32 := 1#32
  let arg19 : BitVec 32 := Scf.iv c0_i32_558 c1_i32_560 k0_t2
  let v902 : Index := Scalar.indexCast arg19
  let c64 : Index := 64#32
  ![1, v902.toNat, 64]
def k0_off72 (k0_t2 : Fin k0_t2_loop.trips) : Fin 3 → Nat :=
  let c1_i32_986 : BitVec 32 := 1#32
  let v913 : Index := Scalar.indexCast c1_i32_986
  let c0_i32_558 : BitVec 32 := 0#32
  let c1_i32_560 : BitVec 32 := 1#32
  let arg19 : BitVec 32 := Scf.iv c0_i32_558 c1_i32_560 k0_t2
  let v914 : Index := Scalar.indexCast arg19
  let c80 : Index := 80#32
  ![1, v914.toNat, 80]
def k0_off73 (k0_t2 : Fin k0_t2_loop.trips) : Fin 3 → Nat :=
  let c1_i32_991 : BitVec 32 := 1#32
  let v925 : Index := Scalar.indexCast c1_i32_991
  let c0_i32_558 : BitVec 32 := 0#32
  let c1_i32_560 : BitVec 32 := 1#32
  let arg19 : BitVec 32 := Scf.iv c0_i32_558 c1_i32_560 k0_t2
  let v926 : Index := Scalar.indexCast arg19
  let c96 : Index := 96#32
  ![1, v926.toNat, 96]
def k0_off74 (k0_t2 : Fin k0_t2_loop.trips) : Fin 3 → Nat :=
  let c1_i32_996 : BitVec 32 := 1#32
  let v937 : Index := Scalar.indexCast c1_i32_996
  let c0_i32_558 : BitVec 32 := 0#32
  let c1_i32_560 : BitVec 32 := 1#32
  let arg19 : BitVec 32 := Scf.iv c0_i32_558 c1_i32_560 k0_t2
  let v938 : Index := Scalar.indexCast arg19
  let c112 : Index := 112#32
  ![1, v938.toNat, 112]
def k0_off75 (k0_t2 : Fin k0_t2_loop.trips) : Fin 3 → Nat :=
  let c1_i32_1001 : BitVec 32 := 1#32
  let v949 : Index := Scalar.indexCast c1_i32_1001
  let c0_i32_558 : BitVec 32 := 0#32
  let c1_i32_560 : BitVec 32 := 1#32
  let arg19 : BitVec 32 := Scf.iv c0_i32_558 c1_i32_560 k0_t2
  let v950 : Index := Scalar.indexCast arg19
  let c128 : Index := 128#32
  ![1, v950.toNat, 128]
def k0_off76 (k0_t2 : Fin k0_t2_loop.trips) : Fin 3 → Nat :=
  let c1_i32_1006 : BitVec 32 := 1#32
  let v961 : Index := Scalar.indexCast c1_i32_1006
  let c0_i32_558 : BitVec 32 := 0#32
  let c1_i32_560 : BitVec 32 := 1#32
  let arg19 : BitVec 32 := Scf.iv c0_i32_558 c1_i32_560 k0_t2
  let v962 : Index := Scalar.indexCast arg19
  let c144 : Index := 144#32
  ![1, v962.toNat, 144]
def k0_off77 (k0_t2 : Fin k0_t2_loop.trips) : Fin 3 → Nat :=
  let c1_i32_1011 : BitVec 32 := 1#32
  let v973 : Index := Scalar.indexCast c1_i32_1011
  let c0_i32_558 : BitVec 32 := 0#32
  let c1_i32_560 : BitVec 32 := 1#32
  let arg19 : BitVec 32 := Scf.iv c0_i32_558 c1_i32_560 k0_t2
  let v974 : Index := Scalar.indexCast arg19
  let c160 : Index := 160#32
  ![1, v974.toNat, 160]
def k0_off78 (k0_t2 : Fin k0_t2_loop.trips) : Fin 3 → Nat :=
  let c1_i32_1016 : BitVec 32 := 1#32
  let v985 : Index := Scalar.indexCast c1_i32_1016
  let c0_i32_558 : BitVec 32 := 0#32
  let c1_i32_560 : BitVec 32 := 1#32
  let arg19 : BitVec 32 := Scf.iv c0_i32_558 c1_i32_560 k0_t2
  let v986 : Index := Scalar.indexCast arg19
  let c176 : Index := 176#32
  ![1, v986.toNat, 176]
def k0_off79 (k0_t2 : Fin k0_t2_loop.trips) : Fin 3 → Nat :=
  let c1_i32_1021 : BitVec 32 := 1#32
  let v997 : Index := Scalar.indexCast c1_i32_1021
  let c0_i32_558 : BitVec 32 := 0#32
  let c1_i32_560 : BitVec 32 := 1#32
  let arg19 : BitVec 32 := Scf.iv c0_i32_558 c1_i32_560 k0_t2
  let v998 : Index := Scalar.indexCast arg19
  let c192 : Index := 192#32
  ![1, v998.toNat, 192]
def k0_off80 (k0_t2 : Fin k0_t2_loop.trips) : Fin 3 → Nat :=
  let c1_i32_1026 : BitVec 32 := 1#32
  let v1009 : Index := Scalar.indexCast c1_i32_1026
  let c0_i32_558 : BitVec 32 := 0#32
  let c1_i32_560 : BitVec 32 := 1#32
  let arg19 : BitVec 32 := Scf.iv c0_i32_558 c1_i32_560 k0_t2
  let v1010 : Index := Scalar.indexCast arg19
  let c208 : Index := 208#32
  ![1, v1010.toNat, 208]
def k0_off81 (k0_t2 : Fin k0_t2_loop.trips) : Fin 3 → Nat :=
  let c1_i32_1031 : BitVec 32 := 1#32
  let v1021 : Index := Scalar.indexCast c1_i32_1031
  let c0_i32_558 : BitVec 32 := 0#32
  let c1_i32_560 : BitVec 32 := 1#32
  let arg19 : BitVec 32 := Scf.iv c0_i32_558 c1_i32_560 k0_t2
  let v1022 : Index := Scalar.indexCast arg19
  let c224 : Index := 224#32
  ![1, v1022.toNat, 224]
def k0_off82 (k0_t2 : Fin k0_t2_loop.trips) : Fin 3 → Nat :=
  let c1_i32_1036 : BitVec 32 := 1#32
  let v1033 : Index := Scalar.indexCast c1_i32_1036
  let c0_i32_558 : BitVec 32 := 0#32
  let c1_i32_560 : BitVec 32 := 1#32
  let arg19 : BitVec 32 := Scf.iv c0_i32_558 c1_i32_560 k0_t2
  let v1034 : Index := Scalar.indexCast arg19
  let c240 : Index := 240#32
  ![1, v1034.toNat, 240]
def k0_off83 (k0_t2 : Fin k0_t2_loop.trips) : Fin 3 → Nat :=
  let c1_i32_1041 : BitVec 32 := 1#32
  let v1045 : Index := Scalar.indexCast c1_i32_1041
  let c0_i32_558 : BitVec 32 := 0#32
  let c1_i32_560 : BitVec 32 := 1#32
  let arg19 : BitVec 32 := Scf.iv c0_i32_558 c1_i32_560 k0_t2
  let v1046 : Index := Scalar.indexCast arg19
  let c256 : Index := 256#32
  ![1, v1046.toNat, 256]
def k0_off84 (k0_t2 : Fin k0_t2_loop.trips) : Fin 3 → Nat :=
  let c1_i32_1046 : BitVec 32 := 1#32
  let v1057 : Index := Scalar.indexCast c1_i32_1046
  let c0_i32_558 : BitVec 32 := 0#32
  let c1_i32_560 : BitVec 32 := 1#32
  let arg19 : BitVec 32 := Scf.iv c0_i32_558 c1_i32_560 k0_t2
  let v1058 : Index := Scalar.indexCast arg19
  let c272 : Index := 272#32
  ![1, v1058.toNat, 272]
def k0_off85 (k0_t2 : Fin k0_t2_loop.trips) : Fin 3 → Nat :=
  let c1_i32_1051 : BitVec 32 := 1#32
  let v1069 : Index := Scalar.indexCast c1_i32_1051
  let c0_i32_558 : BitVec 32 := 0#32
  let c1_i32_560 : BitVec 32 := 1#32
  let arg19 : BitVec 32 := Scf.iv c0_i32_558 c1_i32_560 k0_t2
  let v1070 : Index := Scalar.indexCast arg19
  let c288 : Index := 288#32
  ![1, v1070.toNat, 288]
def k0_off86 (k0_t2 : Fin k0_t2_loop.trips) : Fin 3 → Nat :=
  let c1_i32_1056 : BitVec 32 := 1#32
  let v1081 : Index := Scalar.indexCast c1_i32_1056
  let c0_i32_558 : BitVec 32 := 0#32
  let c1_i32_560 : BitVec 32 := 1#32
  let arg19 : BitVec 32 := Scf.iv c0_i32_558 c1_i32_560 k0_t2
  let v1082 : Index := Scalar.indexCast arg19
  let c304 : Index := 304#32
  ![1, v1082.toNat, 304]
def k0_off87 (k0_t2 : Fin k0_t2_loop.trips) : Fin 3 → Nat :=
  let c1_i32_1061 : BitVec 32 := 1#32
  let v1093 : Index := Scalar.indexCast c1_i32_1061
  let c0_i32_558 : BitVec 32 := 0#32
  let c1_i32_560 : BitVec 32 := 1#32
  let arg19 : BitVec 32 := Scf.iv c0_i32_558 c1_i32_560 k0_t2
  let v1094 : Index := Scalar.indexCast arg19
  let c320 : Index := 320#32
  ![1, v1094.toNat, 320]
def k0_off88 (k0_t2 : Fin k0_t2_loop.trips) : Fin 3 → Nat :=
  let c1_i32_1066 : BitVec 32 := 1#32
  let v1105 : Index := Scalar.indexCast c1_i32_1066
  let c0_i32_558 : BitVec 32 := 0#32
  let c1_i32_560 : BitVec 32 := 1#32
  let arg19 : BitVec 32 := Scf.iv c0_i32_558 c1_i32_560 k0_t2
  let v1106 : Index := Scalar.indexCast arg19
  let c336 : Index := 336#32
  ![1, v1106.toNat, 336]
def k0_off89 (k0_t2 : Fin k0_t2_loop.trips) : Fin 3 → Nat :=
  let c1_i32_1071 : BitVec 32 := 1#32
  let v1117 : Index := Scalar.indexCast c1_i32_1071
  let c0_i32_558 : BitVec 32 := 0#32
  let c1_i32_560 : BitVec 32 := 1#32
  let arg19 : BitVec 32 := Scf.iv c0_i32_558 c1_i32_560 k0_t2
  let v1118 : Index := Scalar.indexCast arg19
  let c352 : Index := 352#32
  ![1, v1118.toNat, 352]
def k0_off90 (k0_t2 : Fin k0_t2_loop.trips) : Fin 3 → Nat :=
  let c1_i32_1076 : BitVec 32 := 1#32
  let v1129 : Index := Scalar.indexCast c1_i32_1076
  let c0_i32_558 : BitVec 32 := 0#32
  let c1_i32_560 : BitVec 32 := 1#32
  let arg19 : BitVec 32 := Scf.iv c0_i32_558 c1_i32_560 k0_t2
  let v1130 : Index := Scalar.indexCast arg19
  let c368 : Index := 368#32
  ![1, v1130.toNat, 368]
def k0_off91 (k0_t2 : Fin k0_t2_loop.trips) : Fin 3 → Nat :=
  let c1_i32_1081 : BitVec 32 := 1#32
  let v1141 : Index := Scalar.indexCast c1_i32_1081
  let c0_i32_558 : BitVec 32 := 0#32
  let c1_i32_560 : BitVec 32 := 1#32
  let arg19 : BitVec 32 := Scf.iv c0_i32_558 c1_i32_560 k0_t2
  let v1142 : Index := Scalar.indexCast arg19
  let c384 : Index := 384#32
  ![1, v1142.toNat, 384]
def k0_off92 (k0_t2 : Fin k0_t2_loop.trips) : Fin 3 → Nat :=
  let c1_i32_1086 : BitVec 32 := 1#32
  let v1153 : Index := Scalar.indexCast c1_i32_1086
  let c0_i32_558 : BitVec 32 := 0#32
  let c1_i32_560 : BitVec 32 := 1#32
  let arg19 : BitVec 32 := Scf.iv c0_i32_558 c1_i32_560 k0_t2
  let v1154 : Index := Scalar.indexCast arg19
  let c400 : Index := 400#32
  ![1, v1154.toNat, 400]
def k0_off93 (k0_t2 : Fin k0_t2_loop.trips) : Fin 3 → Nat :=
  let c1_i32_1091 : BitVec 32 := 1#32
  let v1165 : Index := Scalar.indexCast c1_i32_1091
  let c0_i32_558 : BitVec 32 := 0#32
  let c1_i32_560 : BitVec 32 := 1#32
  let arg19 : BitVec 32 := Scf.iv c0_i32_558 c1_i32_560 k0_t2
  let v1166 : Index := Scalar.indexCast arg19
  let c416 : Index := 416#32
  ![1, v1166.toNat, 416]
def k0_off94 (k0_t2 : Fin k0_t2_loop.trips) : Fin 3 → Nat :=
  let c1_i32_1096 : BitVec 32 := 1#32
  let v1177 : Index := Scalar.indexCast c1_i32_1096
  let c0_i32_558 : BitVec 32 := 0#32
  let c1_i32_560 : BitVec 32 := 1#32
  let arg19 : BitVec 32 := Scf.iv c0_i32_558 c1_i32_560 k0_t2
  let v1178 : Index := Scalar.indexCast arg19
  let c432 : Index := 432#32
  ![1, v1178.toNat, 432]
def k0_off95 (k0_t2 : Fin k0_t2_loop.trips) : Fin 3 → Nat :=
  let c1_i32_1101 : BitVec 32 := 1#32
  let v1189 : Index := Scalar.indexCast c1_i32_1101
  let c0_i32_558 : BitVec 32 := 0#32
  let c1_i32_560 : BitVec 32 := 1#32
  let arg19 : BitVec 32 := Scf.iv c0_i32_558 c1_i32_560 k0_t2
  let v1190 : Index := Scalar.indexCast arg19
  let c448 : Index := 448#32
  ![1, v1190.toNat, 448]
def k0_off96 (k0_t2 : Fin k0_t2_loop.trips) : Fin 3 → Nat :=
  let c1_i32_1106 : BitVec 32 := 1#32
  let v1201 : Index := Scalar.indexCast c1_i32_1106
  let c0_i32_558 : BitVec 32 := 0#32
  let c1_i32_560 : BitVec 32 := 1#32
  let arg19 : BitVec 32 := Scf.iv c0_i32_558 c1_i32_560 k0_t2
  let v1202 : Index := Scalar.indexCast arg19
  let c464 : Index := 464#32
  ![1, v1202.toNat, 464]
def k0_off97 (k0_t2 : Fin k0_t2_loop.trips) : Fin 3 → Nat :=
  let c1_i32_1111 : BitVec 32 := 1#32
  let v1213 : Index := Scalar.indexCast c1_i32_1111
  let c0_i32_558 : BitVec 32 := 0#32
  let c1_i32_560 : BitVec 32 := 1#32
  let arg19 : BitVec 32 := Scf.iv c0_i32_558 c1_i32_560 k0_t2
  let v1214 : Index := Scalar.indexCast arg19
  let c480 : Index := 480#32
  ![1, v1214.toNat, 480]
def k0_off98 (k0_t2 : Fin k0_t2_loop.trips) : Fin 3 → Nat :=
  let c1_i32_1116 : BitVec 32 := 1#32
  let v1225 : Index := Scalar.indexCast c1_i32_1116
  let c0_i32_558 : BitVec 32 := 0#32
  let c1_i32_560 : BitVec 32 := 1#32
  let arg19 : BitVec 32 := Scf.iv c0_i32_558 c1_i32_560 k0_t2
  let v1226 : Index := Scalar.indexCast arg19
  let c496 : Index := 496#32
  ![1, v1226.toNat, 496]
def k0_off99 (k0_t2 : Fin k0_t2_loop.trips) : Fin 3 → Nat :=
  let c1_i32_1121 : BitVec 32 := 1#32
  let v1237 : Index := Scalar.indexCast c1_i32_1121
  let c0_i32_558 : BitVec 32 := 0#32
  let c1_i32_560 : BitVec 32 := 1#32
  let arg19 : BitVec 32 := Scf.iv c0_i32_558 c1_i32_560 k0_t2
  let v1238 : Index := Scalar.indexCast arg19
  let c512 : Index := 512#32
  ![1, v1238.toNat, 512]
def k0_off100 (k0_t2 : Fin k0_t2_loop.trips) : Fin 3 → Nat :=
  let c1_i32_1126 : BitVec 32 := 1#32
  let v1249 : Index := Scalar.indexCast c1_i32_1126
  let c0_i32_558 : BitVec 32 := 0#32
  let c1_i32_560 : BitVec 32 := 1#32
  let arg19 : BitVec 32 := Scf.iv c0_i32_558 c1_i32_560 k0_t2
  let v1250 : Index := Scalar.indexCast arg19
  let c528 : Index := 528#32
  ![1, v1250.toNat, 528]
def k0_off101 (k0_t2 : Fin k0_t2_loop.trips) : Fin 3 → Nat :=
  let c1_i32_1131 : BitVec 32 := 1#32
  let v1261 : Index := Scalar.indexCast c1_i32_1131
  let c0_i32_558 : BitVec 32 := 0#32
  let c1_i32_560 : BitVec 32 := 1#32
  let arg19 : BitVec 32 := Scf.iv c0_i32_558 c1_i32_560 k0_t2
  let v1262 : Index := Scalar.indexCast arg19
  let c544 : Index := 544#32
  ![1, v1262.toNat, 544]
def k0_off102 (k0_t2 : Fin k0_t2_loop.trips) : Fin 3 → Nat :=
  let c1_i32_1136 : BitVec 32 := 1#32
  let v1273 : Index := Scalar.indexCast c1_i32_1136
  let c0_i32_558 : BitVec 32 := 0#32
  let c1_i32_560 : BitVec 32 := 1#32
  let arg19 : BitVec 32 := Scf.iv c0_i32_558 c1_i32_560 k0_t2
  let v1274 : Index := Scalar.indexCast arg19
  let c560 : Index := 560#32
  ![1, v1274.toNat, 560]
def k0_off103 (k0_t2 : Fin k0_t2_loop.trips) : Fin 3 → Nat :=
  let c1_i32_1141 : BitVec 32 := 1#32
  let v1285 : Index := Scalar.indexCast c1_i32_1141
  let c0_i32_558 : BitVec 32 := 0#32
  let c1_i32_560 : BitVec 32 := 1#32
  let arg19 : BitVec 32 := Scf.iv c0_i32_558 c1_i32_560 k0_t2
  let v1286 : Index := Scalar.indexCast arg19
  let c576 : Index := 576#32
  ![1, v1286.toNat, 576]
def k0_off104 (k0_t2 : Fin k0_t2_loop.trips) : Fin 3 → Nat :=
  let c1_i32_1146 : BitVec 32 := 1#32
  let v1297 : Index := Scalar.indexCast c1_i32_1146
  let c0_i32_558 : BitVec 32 := 0#32
  let c1_i32_560 : BitVec 32 := 1#32
  let arg19 : BitVec 32 := Scf.iv c0_i32_558 c1_i32_560 k0_t2
  let v1298 : Index := Scalar.indexCast arg19
  let c592 : Index := 592#32
  ![1, v1298.toNat, 592]
def k0_off105 (k0_t2 : Fin k0_t2_loop.trips) : Fin 3 → Nat :=
  let c1_i32_1151 : BitVec 32 := 1#32
  let v1309 : Index := Scalar.indexCast c1_i32_1151
  let c0_i32_558 : BitVec 32 := 0#32
  let c1_i32_560 : BitVec 32 := 1#32
  let arg19 : BitVec 32 := Scf.iv c0_i32_558 c1_i32_560 k0_t2
  let v1310 : Index := Scalar.indexCast arg19
  let c608 : Index := 608#32
  ![1, v1310.toNat, 608]
def k0_off106 (k0_t2 : Fin k0_t2_loop.trips) : Fin 3 → Nat :=
  let c1_i32_1156 : BitVec 32 := 1#32
  let v1321 : Index := Scalar.indexCast c1_i32_1156
  let c0_i32_558 : BitVec 32 := 0#32
  let c1_i32_560 : BitVec 32 := 1#32
  let arg19 : BitVec 32 := Scf.iv c0_i32_558 c1_i32_560 k0_t2
  let v1322 : Index := Scalar.indexCast arg19
  let c624 : Index := 624#32
  ![1, v1322.toNat, 624]
def k0_off107 (k0_t2 : Fin k0_t2_loop.trips) : Fin 3 → Nat :=
  let c1_i32_1161 : BitVec 32 := 1#32
  let v1333 : Index := Scalar.indexCast c1_i32_1161
  let c0_i32_558 : BitVec 32 := 0#32
  let c1_i32_560 : BitVec 32 := 1#32
  let arg19 : BitVec 32 := Scf.iv c0_i32_558 c1_i32_560 k0_t2
  let v1334 : Index := Scalar.indexCast arg19
  let c640 : Index := 640#32
  ![1, v1334.toNat, 640]
def k0_off108 (k0_t2 : Fin k0_t2_loop.trips) : Fin 3 → Nat :=
  let c1_i32_1166 : BitVec 32 := 1#32
  let v1345 : Index := Scalar.indexCast c1_i32_1166
  let c0_i32_558 : BitVec 32 := 0#32
  let c1_i32_560 : BitVec 32 := 1#32
  let arg19 : BitVec 32 := Scf.iv c0_i32_558 c1_i32_560 k0_t2
  let v1346 : Index := Scalar.indexCast arg19
  let c656 : Index := 656#32
  ![1, v1346.toNat, 656]
def k0_off109 (k0_t2 : Fin k0_t2_loop.trips) : Fin 3 → Nat :=
  let c1_i32_1171 : BitVec 32 := 1#32
  let v1357 : Index := Scalar.indexCast c1_i32_1171
  let c0_i32_558 : BitVec 32 := 0#32
  let c1_i32_560 : BitVec 32 := 1#32
  let arg19 : BitVec 32 := Scf.iv c0_i32_558 c1_i32_560 k0_t2
  let v1358 : Index := Scalar.indexCast arg19
  let c672 : Index := 672#32
  ![1, v1358.toNat, 672]
def k0_off110 (k0_t2 : Fin k0_t2_loop.trips) : Fin 3 → Nat :=
  let c1_i32_1176 : BitVec 32 := 1#32
  let v1369 : Index := Scalar.indexCast c1_i32_1176
  let c0_i32_558 : BitVec 32 := 0#32
  let c1_i32_560 : BitVec 32 := 1#32
  let arg19 : BitVec 32 := Scf.iv c0_i32_558 c1_i32_560 k0_t2
  let v1370 : Index := Scalar.indexCast arg19
  let c688 : Index := 688#32
  ![1, v1370.toNat, 688]
def k0_off111 (k0_t2 : Fin k0_t2_loop.trips) : Fin 3 → Nat :=
  let c1_i32_1181 : BitVec 32 := 1#32
  let v1381 : Index := Scalar.indexCast c1_i32_1181
  let c0_i32_558 : BitVec 32 := 0#32
  let c1_i32_560 : BitVec 32 := 1#32
  let arg19 : BitVec 32 := Scf.iv c0_i32_558 c1_i32_560 k0_t2
  let v1382 : Index := Scalar.indexCast arg19
  let c704 : Index := 704#32
  ![1, v1382.toNat, 704]
def k0_off112 (k0_t2 : Fin k0_t2_loop.trips) : Fin 3 → Nat :=
  let c1_i32_1186 : BitVec 32 := 1#32
  let v1393 : Index := Scalar.indexCast c1_i32_1186
  let c0_i32_558 : BitVec 32 := 0#32
  let c1_i32_560 : BitVec 32 := 1#32
  let arg19 : BitVec 32 := Scf.iv c0_i32_558 c1_i32_560 k0_t2
  let v1394 : Index := Scalar.indexCast arg19
  let c720 : Index := 720#32
  ![1, v1394.toNat, 720]
def k0_off113 (k0_t2 : Fin k0_t2_loop.trips) : Fin 3 → Nat :=
  let c1_i32_1191 : BitVec 32 := 1#32
  let v1405 : Index := Scalar.indexCast c1_i32_1191
  let c0_i32_558 : BitVec 32 := 0#32
  let c1_i32_560 : BitVec 32 := 1#32
  let arg19 : BitVec 32 := Scf.iv c0_i32_558 c1_i32_560 k0_t2
  let v1406 : Index := Scalar.indexCast arg19
  let c736 : Index := 736#32
  ![1, v1406.toNat, 736]
def k0_off114 (k0_t2 : Fin k0_t2_loop.trips) : Fin 3 → Nat :=
  let c1_i32_1196 : BitVec 32 := 1#32
  let v1417 : Index := Scalar.indexCast c1_i32_1196
  let c0_i32_558 : BitVec 32 := 0#32
  let c1_i32_560 : BitVec 32 := 1#32
  let arg19 : BitVec 32 := Scf.iv c0_i32_558 c1_i32_560 k0_t2
  let v1418 : Index := Scalar.indexCast arg19
  let c752 : Index := 752#32
  ![1, v1418.toNat, 752]
def k0_off115 (k0_t2 : Fin k0_t2_loop.trips) : Fin 3 → Nat :=
  let c1_i32_1201 : BitVec 32 := 1#32
  let v1429 : Index := Scalar.indexCast c1_i32_1201
  let c0_i32_558 : BitVec 32 := 0#32
  let c1_i32_560 : BitVec 32 := 1#32
  let arg19 : BitVec 32 := Scf.iv c0_i32_558 c1_i32_560 k0_t2
  let v1430 : Index := Scalar.indexCast arg19
  let c768 : Index := 768#32
  ![1, v1430.toNat, 768]
def k0_off116 (k0_t2 : Fin k0_t2_loop.trips) : Fin 3 → Nat :=
  let c1_i32_1206 : BitVec 32 := 1#32
  let v1441 : Index := Scalar.indexCast c1_i32_1206
  let c0_i32_558 : BitVec 32 := 0#32
  let c1_i32_560 : BitVec 32 := 1#32
  let arg19 : BitVec 32 := Scf.iv c0_i32_558 c1_i32_560 k0_t2
  let v1442 : Index := Scalar.indexCast arg19
  let c784 : Index := 784#32
  ![1, v1442.toNat, 784]
def k0_off117 (k0_t2 : Fin k0_t2_loop.trips) : Fin 3 → Nat :=
  let c1_i32_1211 : BitVec 32 := 1#32
  let v1453 : Index := Scalar.indexCast c1_i32_1211
  let c0_i32_558 : BitVec 32 := 0#32
  let c1_i32_560 : BitVec 32 := 1#32
  let arg19 : BitVec 32 := Scf.iv c0_i32_558 c1_i32_560 k0_t2
  let v1454 : Index := Scalar.indexCast arg19
  let c800 : Index := 800#32
  ![1, v1454.toNat, 800]
def k0_off118 (k0_t2 : Fin k0_t2_loop.trips) : Fin 3 → Nat :=
  let c1_i32_1216 : BitVec 32 := 1#32
  let v1465 : Index := Scalar.indexCast c1_i32_1216
  let c0_i32_558 : BitVec 32 := 0#32
  let c1_i32_560 : BitVec 32 := 1#32
  let arg19 : BitVec 32 := Scf.iv c0_i32_558 c1_i32_560 k0_t2
  let v1466 : Index := Scalar.indexCast arg19
  let c816 : Index := 816#32
  ![1, v1466.toNat, 816]
def k0_off119 (k0_t2 : Fin k0_t2_loop.trips) : Fin 3 → Nat :=
  let c1_i32_1221 : BitVec 32 := 1#32
  let v1477 : Index := Scalar.indexCast c1_i32_1221
  let c0_i32_558 : BitVec 32 := 0#32
  let c1_i32_560 : BitVec 32 := 1#32
  let arg19 : BitVec 32 := Scf.iv c0_i32_558 c1_i32_560 k0_t2
  let v1478 : Index := Scalar.indexCast arg19
  let c832 : Index := 832#32
  ![1, v1478.toNat, 832]
def k0_off120 (k0_t2 : Fin k0_t2_loop.trips) : Fin 3 → Nat :=
  let c1_i32_1226 : BitVec 32 := 1#32
  let v1489 : Index := Scalar.indexCast c1_i32_1226
  let c0_i32_558 : BitVec 32 := 0#32
  let c1_i32_560 : BitVec 32 := 1#32
  let arg19 : BitVec 32 := Scf.iv c0_i32_558 c1_i32_560 k0_t2
  let v1490 : Index := Scalar.indexCast arg19
  let c848 : Index := 848#32
  ![1, v1490.toNat, 848]
def k0_off121 (k0_t2 : Fin k0_t2_loop.trips) : Fin 3 → Nat :=
  let c1_i32_1231 : BitVec 32 := 1#32
  let v1501 : Index := Scalar.indexCast c1_i32_1231
  let c0_i32_558 : BitVec 32 := 0#32
  let c1_i32_560 : BitVec 32 := 1#32
  let arg19 : BitVec 32 := Scf.iv c0_i32_558 c1_i32_560 k0_t2
  let v1502 : Index := Scalar.indexCast arg19
  let c864 : Index := 864#32
  ![1, v1502.toNat, 864]
def k0_off122 (k0_t2 : Fin k0_t2_loop.trips) : Fin 3 → Nat :=
  let c1_i32_1236 : BitVec 32 := 1#32
  let v1513 : Index := Scalar.indexCast c1_i32_1236
  let c0_i32_558 : BitVec 32 := 0#32
  let c1_i32_560 : BitVec 32 := 1#32
  let arg19 : BitVec 32 := Scf.iv c0_i32_558 c1_i32_560 k0_t2
  let v1514 : Index := Scalar.indexCast arg19
  let c880 : Index := 880#32
  ![1, v1514.toNat, 880]
def k0_off123 (k0_t2 : Fin k0_t2_loop.trips) : Fin 3 → Nat :=
  let c1_i32_1241 : BitVec 32 := 1#32
  let v1525 : Index := Scalar.indexCast c1_i32_1241
  let c0_i32_558 : BitVec 32 := 0#32
  let c1_i32_560 : BitVec 32 := 1#32
  let arg19 : BitVec 32 := Scf.iv c0_i32_558 c1_i32_560 k0_t2
  let v1526 : Index := Scalar.indexCast arg19
  let c896 : Index := 896#32
  ![1, v1526.toNat, 896]
def k0_off124 (k0_t2 : Fin k0_t2_loop.trips) : Fin 3 → Nat :=
  let c1_i32_1246 : BitVec 32 := 1#32
  let v1537 : Index := Scalar.indexCast c1_i32_1246
  let c0_i32_558 : BitVec 32 := 0#32
  let c1_i32_560 : BitVec 32 := 1#32
  let arg19 : BitVec 32 := Scf.iv c0_i32_558 c1_i32_560 k0_t2
  let v1538 : Index := Scalar.indexCast arg19
  let c912 : Index := 912#32
  ![1, v1538.toNat, 912]
def k0_off125 (k0_t2 : Fin k0_t2_loop.trips) : Fin 3 → Nat :=
  let c1_i32_1251 : BitVec 32 := 1#32
  let v1549 : Index := Scalar.indexCast c1_i32_1251
  let c0_i32_558 : BitVec 32 := 0#32
  let c1_i32_560 : BitVec 32 := 1#32
  let arg19 : BitVec 32 := Scf.iv c0_i32_558 c1_i32_560 k0_t2
  let v1550 : Index := Scalar.indexCast arg19
  let c928 : Index := 928#32
  ![1, v1550.toNat, 928]
def k0_off126 (k0_t2 : Fin k0_t2_loop.trips) : Fin 3 → Nat :=
  let c1_i32_1256 : BitVec 32 := 1#32
  let v1561 : Index := Scalar.indexCast c1_i32_1256
  let c0_i32_558 : BitVec 32 := 0#32
  let c1_i32_560 : BitVec 32 := 1#32
  let arg19 : BitVec 32 := Scf.iv c0_i32_558 c1_i32_560 k0_t2
  let v1562 : Index := Scalar.indexCast arg19
  let c944 : Index := 944#32
  ![1, v1562.toNat, 944]
def k0_off127 (k0_t2 : Fin k0_t2_loop.trips) : Fin 3 → Nat :=
  let c1_i32_1261 : BitVec 32 := 1#32
  let v1573 : Index := Scalar.indexCast c1_i32_1261
  let c0_i32_558 : BitVec 32 := 0#32
  let c1_i32_560 : BitVec 32 := 1#32
  let arg19 : BitVec 32 := Scf.iv c0_i32_558 c1_i32_560 k0_t2
  let v1574 : Index := Scalar.indexCast arg19
  let c960 : Index := 960#32
  ![1, v1574.toNat, 960]
def k0_off128 (k0_t2 : Fin k0_t2_loop.trips) : Fin 3 → Nat :=
  let c1_i32_1266 : BitVec 32 := 1#32
  let v1585 : Index := Scalar.indexCast c1_i32_1266
  let c0_i32_558 : BitVec 32 := 0#32
  let c1_i32_560 : BitVec 32 := 1#32
  let arg19 : BitVec 32 := Scf.iv c0_i32_558 c1_i32_560 k0_t2
  let v1586 : Index := Scalar.indexCast arg19
  let c976 : Index := 976#32
  ![1, v1586.toNat, 976]
def k0_off129 (k0_t2 : Fin k0_t2_loop.trips) : Fin 3 → Nat :=
  let c1_i32_1271 : BitVec 32 := 1#32
  let v1597 : Index := Scalar.indexCast c1_i32_1271
  let c0_i32_558 : BitVec 32 := 0#32
  let c1_i32_560 : BitVec 32 := 1#32
  let arg19 : BitVec 32 := Scf.iv c0_i32_558 c1_i32_560 k0_t2
  let v1598 : Index := Scalar.indexCast arg19
  let c992 : Index := 992#32
  ![1, v1598.toNat, 992]
def k0_off130 (k0_t2 : Fin k0_t2_loop.trips) : Fin 3 → Nat :=
  let c1_i32_1276 : BitVec 32 := 1#32
  let v1609 : Index := Scalar.indexCast c1_i32_1276
  let c0_i32_558 : BitVec 32 := 0#32
  let c1_i32_560 : BitVec 32 := 1#32
  let arg19 : BitVec 32 := Scf.iv c0_i32_558 c1_i32_560 k0_t2
  let v1610 : Index := Scalar.indexCast arg19
  let c1008 : Index := 1008#32
  ![1, v1610.toNat, 1008]
@[reducible] def k0_t3_loop : Scf.Loop 32 :=
  let c0_i32_801 : BitVec 32 := 0#32
  let c16_i32_802 : BitVec 32 := 16#32
  let v715 : BitVec 32 := Scalar.addi c0_i32_801 c16_i32_802
  let c1_i32_803 : BitVec 32 := 1#32
  ⟨c0_i32_801, v715, c1_i32_803⟩

def k0_chk5 (v848 : IVec S16 32) : Prop :=
  (∀ a x, ((![v848] : Fin 1 → IVec S16 32) a x).toNat < S64.size a)
theorem k0_idx5_inb : ∀ (v848 : IVec S16 32) (k0_hw5 : k0_chk5 v848), ∀ a x, ((![v848] : Fin 1 → IVec S16 32) a x).toNat < S64.size a := fun v848 k0_hw5 => k0_hw5

def k0_chk6 (v851 : IVec S16 32) : Prop :=
  (∀ a x, ((![v851] : Fin 1 → IVec S16 32) a x).toNat < S64.size a)
theorem k0_idx6_inb : ∀ (v851 : IVec S16 32) (k0_hw6 : k0_chk6 v851), ∀ a x, ((![v851] : Fin 1 → IVec S16 32) a x).toNat < S64.size a := fun v851 k0_hw6 => k0_hw6
def k0_off131 (k0_t3 : Fin k0_t3_loop.trips) : Fin 3 → Nat :=
  let c0_i32_961 : BitVec 32 := 0#32
  let v853 : Index := Scalar.indexCast c0_i32_961
  let c0_i32_801 : BitVec 32 := 0#32
  let c1_i32_803 : BitVec 32 := 1#32
  let arg19 : BitVec 32 := Scf.iv c0_i32_801 c1_i32_803 k0_t3
  let v854 : Index := Scalar.indexCast arg19
  let c0 : Index := 0#32
  ![0, v854.toNat, 0]
def k0_off132 (k0_t3 : Fin k0_t3_loop.trips) : Fin 3 → Nat :=
  let c0_i32_966 : BitVec 32 := 0#32
  let v865 : Index := Scalar.indexCast c0_i32_966
  let c0_i32_801 : BitVec 32 := 0#32
  let c1_i32_803 : BitVec 32 := 1#32
  let arg19 : BitVec 32 := Scf.iv c0_i32_801 c1_i32_803 k0_t3
  let v866 : Index := Scalar.indexCast arg19
  let c16 : Index := 16#32
  ![0, v866.toNat, 16]
def k0_off133 (k0_t3 : Fin k0_t3_loop.trips) : Fin 3 → Nat :=
  let c0_i32_971 : BitVec 32 := 0#32
  let v877 : Index := Scalar.indexCast c0_i32_971
  let c0_i32_801 : BitVec 32 := 0#32
  let c1_i32_803 : BitVec 32 := 1#32
  let arg19 : BitVec 32 := Scf.iv c0_i32_801 c1_i32_803 k0_t3
  let v878 : Index := Scalar.indexCast arg19
  let c32 : Index := 32#32
  ![0, v878.toNat, 32]
def k0_off134 (k0_t3 : Fin k0_t3_loop.trips) : Fin 3 → Nat :=
  let c0_i32_976 : BitVec 32 := 0#32
  let v889 : Index := Scalar.indexCast c0_i32_976
  let c0_i32_801 : BitVec 32 := 0#32
  let c1_i32_803 : BitVec 32 := 1#32
  let arg19 : BitVec 32 := Scf.iv c0_i32_801 c1_i32_803 k0_t3
  let v890 : Index := Scalar.indexCast arg19
  let c48 : Index := 48#32
  ![0, v890.toNat, 48]
def k0_off135 (k0_t3 : Fin k0_t3_loop.trips) : Fin 3 → Nat :=
  let c0_i32_981 : BitVec 32 := 0#32
  let v901 : Index := Scalar.indexCast c0_i32_981
  let c0_i32_801 : BitVec 32 := 0#32
  let c1_i32_803 : BitVec 32 := 1#32
  let arg19 : BitVec 32 := Scf.iv c0_i32_801 c1_i32_803 k0_t3
  let v902 : Index := Scalar.indexCast arg19
  let c64 : Index := 64#32
  ![0, v902.toNat, 64]
def k0_off136 (k0_t3 : Fin k0_t3_loop.trips) : Fin 3 → Nat :=
  let c0_i32_986 : BitVec 32 := 0#32
  let v913 : Index := Scalar.indexCast c0_i32_986
  let c0_i32_801 : BitVec 32 := 0#32
  let c1_i32_803 : BitVec 32 := 1#32
  let arg19 : BitVec 32 := Scf.iv c0_i32_801 c1_i32_803 k0_t3
  let v914 : Index := Scalar.indexCast arg19
  let c80 : Index := 80#32
  ![0, v914.toNat, 80]
def k0_off137 (k0_t3 : Fin k0_t3_loop.trips) : Fin 3 → Nat :=
  let c0_i32_991 : BitVec 32 := 0#32
  let v925 : Index := Scalar.indexCast c0_i32_991
  let c0_i32_801 : BitVec 32 := 0#32
  let c1_i32_803 : BitVec 32 := 1#32
  let arg19 : BitVec 32 := Scf.iv c0_i32_801 c1_i32_803 k0_t3
  let v926 : Index := Scalar.indexCast arg19
  let c96 : Index := 96#32
  ![0, v926.toNat, 96]
def k0_off138 (k0_t3 : Fin k0_t3_loop.trips) : Fin 3 → Nat :=
  let c0_i32_996 : BitVec 32 := 0#32
  let v937 : Index := Scalar.indexCast c0_i32_996
  let c0_i32_801 : BitVec 32 := 0#32
  let c1_i32_803 : BitVec 32 := 1#32
  let arg19 : BitVec 32 := Scf.iv c0_i32_801 c1_i32_803 k0_t3
  let v938 : Index := Scalar.indexCast arg19
  let c112 : Index := 112#32
  ![0, v938.toNat, 112]
def k0_off139 (k0_t3 : Fin k0_t3_loop.trips) : Fin 3 → Nat :=
  let c0_i32_1001 : BitVec 32 := 0#32
  let v949 : Index := Scalar.indexCast c0_i32_1001
  let c0_i32_801 : BitVec 32 := 0#32
  let c1_i32_803 : BitVec 32 := 1#32
  let arg19 : BitVec 32 := Scf.iv c0_i32_801 c1_i32_803 k0_t3
  let v950 : Index := Scalar.indexCast arg19
  let c128 : Index := 128#32
  ![0, v950.toNat, 128]
def k0_off140 (k0_t3 : Fin k0_t3_loop.trips) : Fin 3 → Nat :=
  let c0_i32_1006 : BitVec 32 := 0#32
  let v961 : Index := Scalar.indexCast c0_i32_1006
  let c0_i32_801 : BitVec 32 := 0#32
  let c1_i32_803 : BitVec 32 := 1#32
  let arg19 : BitVec 32 := Scf.iv c0_i32_801 c1_i32_803 k0_t3
  let v962 : Index := Scalar.indexCast arg19
  let c144 : Index := 144#32
  ![0, v962.toNat, 144]
def k0_off141 (k0_t3 : Fin k0_t3_loop.trips) : Fin 3 → Nat :=
  let c0_i32_1011 : BitVec 32 := 0#32
  let v973 : Index := Scalar.indexCast c0_i32_1011
  let c0_i32_801 : BitVec 32 := 0#32
  let c1_i32_803 : BitVec 32 := 1#32
  let arg19 : BitVec 32 := Scf.iv c0_i32_801 c1_i32_803 k0_t3
  let v974 : Index := Scalar.indexCast arg19
  let c160 : Index := 160#32
  ![0, v974.toNat, 160]
def k0_off142 (k0_t3 : Fin k0_t3_loop.trips) : Fin 3 → Nat :=
  let c0_i32_1016 : BitVec 32 := 0#32
  let v985 : Index := Scalar.indexCast c0_i32_1016
  let c0_i32_801 : BitVec 32 := 0#32
  let c1_i32_803 : BitVec 32 := 1#32
  let arg19 : BitVec 32 := Scf.iv c0_i32_801 c1_i32_803 k0_t3
  let v986 : Index := Scalar.indexCast arg19
  let c176 : Index := 176#32
  ![0, v986.toNat, 176]
def k0_off143 (k0_t3 : Fin k0_t3_loop.trips) : Fin 3 → Nat :=
  let c0_i32_1021 : BitVec 32 := 0#32
  let v997 : Index := Scalar.indexCast c0_i32_1021
  let c0_i32_801 : BitVec 32 := 0#32
  let c1_i32_803 : BitVec 32 := 1#32
  let arg19 : BitVec 32 := Scf.iv c0_i32_801 c1_i32_803 k0_t3
  let v998 : Index := Scalar.indexCast arg19
  let c192 : Index := 192#32
  ![0, v998.toNat, 192]
def k0_off144 (k0_t3 : Fin k0_t3_loop.trips) : Fin 3 → Nat :=
  let c0_i32_1026 : BitVec 32 := 0#32
  let v1009 : Index := Scalar.indexCast c0_i32_1026
  let c0_i32_801 : BitVec 32 := 0#32
  let c1_i32_803 : BitVec 32 := 1#32
  let arg19 : BitVec 32 := Scf.iv c0_i32_801 c1_i32_803 k0_t3
  let v1010 : Index := Scalar.indexCast arg19
  let c208 : Index := 208#32
  ![0, v1010.toNat, 208]
def k0_off145 (k0_t3 : Fin k0_t3_loop.trips) : Fin 3 → Nat :=
  let c0_i32_1031 : BitVec 32 := 0#32
  let v1021 : Index := Scalar.indexCast c0_i32_1031
  let c0_i32_801 : BitVec 32 := 0#32
  let c1_i32_803 : BitVec 32 := 1#32
  let arg19 : BitVec 32 := Scf.iv c0_i32_801 c1_i32_803 k0_t3
  let v1022 : Index := Scalar.indexCast arg19
  let c224 : Index := 224#32
  ![0, v1022.toNat, 224]
def k0_off146 (k0_t3 : Fin k0_t3_loop.trips) : Fin 3 → Nat :=
  let c0_i32_1036 : BitVec 32 := 0#32
  let v1033 : Index := Scalar.indexCast c0_i32_1036
  let c0_i32_801 : BitVec 32 := 0#32
  let c1_i32_803 : BitVec 32 := 1#32
  let arg19 : BitVec 32 := Scf.iv c0_i32_801 c1_i32_803 k0_t3
  let v1034 : Index := Scalar.indexCast arg19
  let c240 : Index := 240#32
  ![0, v1034.toNat, 240]
def k0_off147 (k0_t3 : Fin k0_t3_loop.trips) : Fin 3 → Nat :=
  let c0_i32_1041 : BitVec 32 := 0#32
  let v1045 : Index := Scalar.indexCast c0_i32_1041
  let c0_i32_801 : BitVec 32 := 0#32
  let c1_i32_803 : BitVec 32 := 1#32
  let arg19 : BitVec 32 := Scf.iv c0_i32_801 c1_i32_803 k0_t3
  let v1046 : Index := Scalar.indexCast arg19
  let c256 : Index := 256#32
  ![0, v1046.toNat, 256]
def k0_off148 (k0_t3 : Fin k0_t3_loop.trips) : Fin 3 → Nat :=
  let c0_i32_1046 : BitVec 32 := 0#32
  let v1057 : Index := Scalar.indexCast c0_i32_1046
  let c0_i32_801 : BitVec 32 := 0#32
  let c1_i32_803 : BitVec 32 := 1#32
  let arg19 : BitVec 32 := Scf.iv c0_i32_801 c1_i32_803 k0_t3
  let v1058 : Index := Scalar.indexCast arg19
  let c272 : Index := 272#32
  ![0, v1058.toNat, 272]
def k0_off149 (k0_t3 : Fin k0_t3_loop.trips) : Fin 3 → Nat :=
  let c0_i32_1051 : BitVec 32 := 0#32
  let v1069 : Index := Scalar.indexCast c0_i32_1051
  let c0_i32_801 : BitVec 32 := 0#32
  let c1_i32_803 : BitVec 32 := 1#32
  let arg19 : BitVec 32 := Scf.iv c0_i32_801 c1_i32_803 k0_t3
  let v1070 : Index := Scalar.indexCast arg19
  let c288 : Index := 288#32
  ![0, v1070.toNat, 288]
def k0_off150 (k0_t3 : Fin k0_t3_loop.trips) : Fin 3 → Nat :=
  let c0_i32_1056 : BitVec 32 := 0#32
  let v1081 : Index := Scalar.indexCast c0_i32_1056
  let c0_i32_801 : BitVec 32 := 0#32
  let c1_i32_803 : BitVec 32 := 1#32
  let arg19 : BitVec 32 := Scf.iv c0_i32_801 c1_i32_803 k0_t3
  let v1082 : Index := Scalar.indexCast arg19
  let c304 : Index := 304#32
  ![0, v1082.toNat, 304]
def k0_off151 (k0_t3 : Fin k0_t3_loop.trips) : Fin 3 → Nat :=
  let c0_i32_1061 : BitVec 32 := 0#32
  let v1093 : Index := Scalar.indexCast c0_i32_1061
  let c0_i32_801 : BitVec 32 := 0#32
  let c1_i32_803 : BitVec 32 := 1#32
  let arg19 : BitVec 32 := Scf.iv c0_i32_801 c1_i32_803 k0_t3
  let v1094 : Index := Scalar.indexCast arg19
  let c320 : Index := 320#32
  ![0, v1094.toNat, 320]
def k0_off152 (k0_t3 : Fin k0_t3_loop.trips) : Fin 3 → Nat :=
  let c0_i32_1066 : BitVec 32 := 0#32
  let v1105 : Index := Scalar.indexCast c0_i32_1066
  let c0_i32_801 : BitVec 32 := 0#32
  let c1_i32_803 : BitVec 32 := 1#32
  let arg19 : BitVec 32 := Scf.iv c0_i32_801 c1_i32_803 k0_t3
  let v1106 : Index := Scalar.indexCast arg19
  let c336 : Index := 336#32
  ![0, v1106.toNat, 336]
def k0_off153 (k0_t3 : Fin k0_t3_loop.trips) : Fin 3 → Nat :=
  let c0_i32_1071 : BitVec 32 := 0#32
  let v1117 : Index := Scalar.indexCast c0_i32_1071
  let c0_i32_801 : BitVec 32 := 0#32
  let c1_i32_803 : BitVec 32 := 1#32
  let arg19 : BitVec 32 := Scf.iv c0_i32_801 c1_i32_803 k0_t3
  let v1118 : Index := Scalar.indexCast arg19
  let c352 : Index := 352#32
  ![0, v1118.toNat, 352]
def k0_off154 (k0_t3 : Fin k0_t3_loop.trips) : Fin 3 → Nat :=
  let c0_i32_1076 : BitVec 32 := 0#32
  let v1129 : Index := Scalar.indexCast c0_i32_1076
  let c0_i32_801 : BitVec 32 := 0#32
  let c1_i32_803 : BitVec 32 := 1#32
  let arg19 : BitVec 32 := Scf.iv c0_i32_801 c1_i32_803 k0_t3
  let v1130 : Index := Scalar.indexCast arg19
  let c368 : Index := 368#32
  ![0, v1130.toNat, 368]
def k0_off155 (k0_t3 : Fin k0_t3_loop.trips) : Fin 3 → Nat :=
  let c0_i32_1081 : BitVec 32 := 0#32
  let v1141 : Index := Scalar.indexCast c0_i32_1081
  let c0_i32_801 : BitVec 32 := 0#32
  let c1_i32_803 : BitVec 32 := 1#32
  let arg19 : BitVec 32 := Scf.iv c0_i32_801 c1_i32_803 k0_t3
  let v1142 : Index := Scalar.indexCast arg19
  let c384 : Index := 384#32
  ![0, v1142.toNat, 384]
def k0_off156 (k0_t3 : Fin k0_t3_loop.trips) : Fin 3 → Nat :=
  let c0_i32_1086 : BitVec 32 := 0#32
  let v1153 : Index := Scalar.indexCast c0_i32_1086
  let c0_i32_801 : BitVec 32 := 0#32
  let c1_i32_803 : BitVec 32 := 1#32
  let arg19 : BitVec 32 := Scf.iv c0_i32_801 c1_i32_803 k0_t3
  let v1154 : Index := Scalar.indexCast arg19
  let c400 : Index := 400#32
  ![0, v1154.toNat, 400]
def k0_off157 (k0_t3 : Fin k0_t3_loop.trips) : Fin 3 → Nat :=
  let c0_i32_1091 : BitVec 32 := 0#32
  let v1165 : Index := Scalar.indexCast c0_i32_1091
  let c0_i32_801 : BitVec 32 := 0#32
  let c1_i32_803 : BitVec 32 := 1#32
  let arg19 : BitVec 32 := Scf.iv c0_i32_801 c1_i32_803 k0_t3
  let v1166 : Index := Scalar.indexCast arg19
  let c416 : Index := 416#32
  ![0, v1166.toNat, 416]
def k0_off158 (k0_t3 : Fin k0_t3_loop.trips) : Fin 3 → Nat :=
  let c0_i32_1096 : BitVec 32 := 0#32
  let v1177 : Index := Scalar.indexCast c0_i32_1096
  let c0_i32_801 : BitVec 32 := 0#32
  let c1_i32_803 : BitVec 32 := 1#32
  let arg19 : BitVec 32 := Scf.iv c0_i32_801 c1_i32_803 k0_t3
  let v1178 : Index := Scalar.indexCast arg19
  let c432 : Index := 432#32
  ![0, v1178.toNat, 432]
def k0_off159 (k0_t3 : Fin k0_t3_loop.trips) : Fin 3 → Nat :=
  let c0_i32_1101 : BitVec 32 := 0#32
  let v1189 : Index := Scalar.indexCast c0_i32_1101
  let c0_i32_801 : BitVec 32 := 0#32
  let c1_i32_803 : BitVec 32 := 1#32
  let arg19 : BitVec 32 := Scf.iv c0_i32_801 c1_i32_803 k0_t3
  let v1190 : Index := Scalar.indexCast arg19
  let c448 : Index := 448#32
  ![0, v1190.toNat, 448]
def k0_off160 (k0_t3 : Fin k0_t3_loop.trips) : Fin 3 → Nat :=
  let c0_i32_1106 : BitVec 32 := 0#32
  let v1201 : Index := Scalar.indexCast c0_i32_1106
  let c0_i32_801 : BitVec 32 := 0#32
  let c1_i32_803 : BitVec 32 := 1#32
  let arg19 : BitVec 32 := Scf.iv c0_i32_801 c1_i32_803 k0_t3
  let v1202 : Index := Scalar.indexCast arg19
  let c464 : Index := 464#32
  ![0, v1202.toNat, 464]
def k0_off161 (k0_t3 : Fin k0_t3_loop.trips) : Fin 3 → Nat :=
  let c0_i32_1111 : BitVec 32 := 0#32
  let v1213 : Index := Scalar.indexCast c0_i32_1111
  let c0_i32_801 : BitVec 32 := 0#32
  let c1_i32_803 : BitVec 32 := 1#32
  let arg19 : BitVec 32 := Scf.iv c0_i32_801 c1_i32_803 k0_t3
  let v1214 : Index := Scalar.indexCast arg19
  let c480 : Index := 480#32
  ![0, v1214.toNat, 480]
def k0_off162 (k0_t3 : Fin k0_t3_loop.trips) : Fin 3 → Nat :=
  let c0_i32_1116 : BitVec 32 := 0#32
  let v1225 : Index := Scalar.indexCast c0_i32_1116
  let c0_i32_801 : BitVec 32 := 0#32
  let c1_i32_803 : BitVec 32 := 1#32
  let arg19 : BitVec 32 := Scf.iv c0_i32_801 c1_i32_803 k0_t3
  let v1226 : Index := Scalar.indexCast arg19
  let c496 : Index := 496#32
  ![0, v1226.toNat, 496]
def k0_off163 (k0_t3 : Fin k0_t3_loop.trips) : Fin 3 → Nat :=
  let c0_i32_1121 : BitVec 32 := 0#32
  let v1237 : Index := Scalar.indexCast c0_i32_1121
  let c0_i32_801 : BitVec 32 := 0#32
  let c1_i32_803 : BitVec 32 := 1#32
  let arg19 : BitVec 32 := Scf.iv c0_i32_801 c1_i32_803 k0_t3
  let v1238 : Index := Scalar.indexCast arg19
  let c512 : Index := 512#32
  ![0, v1238.toNat, 512]
def k0_off164 (k0_t3 : Fin k0_t3_loop.trips) : Fin 3 → Nat :=
  let c0_i32_1126 : BitVec 32 := 0#32
  let v1249 : Index := Scalar.indexCast c0_i32_1126
  let c0_i32_801 : BitVec 32 := 0#32
  let c1_i32_803 : BitVec 32 := 1#32
  let arg19 : BitVec 32 := Scf.iv c0_i32_801 c1_i32_803 k0_t3
  let v1250 : Index := Scalar.indexCast arg19
  let c528 : Index := 528#32
  ![0, v1250.toNat, 528]
def k0_off165 (k0_t3 : Fin k0_t3_loop.trips) : Fin 3 → Nat :=
  let c0_i32_1131 : BitVec 32 := 0#32
  let v1261 : Index := Scalar.indexCast c0_i32_1131
  let c0_i32_801 : BitVec 32 := 0#32
  let c1_i32_803 : BitVec 32 := 1#32
  let arg19 : BitVec 32 := Scf.iv c0_i32_801 c1_i32_803 k0_t3
  let v1262 : Index := Scalar.indexCast arg19
  let c544 : Index := 544#32
  ![0, v1262.toNat, 544]
def k0_off166 (k0_t3 : Fin k0_t3_loop.trips) : Fin 3 → Nat :=
  let c0_i32_1136 : BitVec 32 := 0#32
  let v1273 : Index := Scalar.indexCast c0_i32_1136
  let c0_i32_801 : BitVec 32 := 0#32
  let c1_i32_803 : BitVec 32 := 1#32
  let arg19 : BitVec 32 := Scf.iv c0_i32_801 c1_i32_803 k0_t3
  let v1274 : Index := Scalar.indexCast arg19
  let c560 : Index := 560#32
  ![0, v1274.toNat, 560]
def k0_off167 (k0_t3 : Fin k0_t3_loop.trips) : Fin 3 → Nat :=
  let c0_i32_1141 : BitVec 32 := 0#32
  let v1285 : Index := Scalar.indexCast c0_i32_1141
  let c0_i32_801 : BitVec 32 := 0#32
  let c1_i32_803 : BitVec 32 := 1#32
  let arg19 : BitVec 32 := Scf.iv c0_i32_801 c1_i32_803 k0_t3
  let v1286 : Index := Scalar.indexCast arg19
  let c576 : Index := 576#32
  ![0, v1286.toNat, 576]
def k0_off168 (k0_t3 : Fin k0_t3_loop.trips) : Fin 3 → Nat :=
  let c0_i32_1146 : BitVec 32 := 0#32
  let v1297 : Index := Scalar.indexCast c0_i32_1146
  let c0_i32_801 : BitVec 32 := 0#32
  let c1_i32_803 : BitVec 32 := 1#32
  let arg19 : BitVec 32 := Scf.iv c0_i32_801 c1_i32_803 k0_t3
  let v1298 : Index := Scalar.indexCast arg19
  let c592 : Index := 592#32
  ![0, v1298.toNat, 592]
def k0_off169 (k0_t3 : Fin k0_t3_loop.trips) : Fin 3 → Nat :=
  let c0_i32_1151 : BitVec 32 := 0#32
  let v1309 : Index := Scalar.indexCast c0_i32_1151
  let c0_i32_801 : BitVec 32 := 0#32
  let c1_i32_803 : BitVec 32 := 1#32
  let arg19 : BitVec 32 := Scf.iv c0_i32_801 c1_i32_803 k0_t3
  let v1310 : Index := Scalar.indexCast arg19
  let c608 : Index := 608#32
  ![0, v1310.toNat, 608]
def k0_off170 (k0_t3 : Fin k0_t3_loop.trips) : Fin 3 → Nat :=
  let c0_i32_1156 : BitVec 32 := 0#32
  let v1321 : Index := Scalar.indexCast c0_i32_1156
  let c0_i32_801 : BitVec 32 := 0#32
  let c1_i32_803 : BitVec 32 := 1#32
  let arg19 : BitVec 32 := Scf.iv c0_i32_801 c1_i32_803 k0_t3
  let v1322 : Index := Scalar.indexCast arg19
  let c624 : Index := 624#32
  ![0, v1322.toNat, 624]
def k0_off171 (k0_t3 : Fin k0_t3_loop.trips) : Fin 3 → Nat :=
  let c0_i32_1161 : BitVec 32 := 0#32
  let v1333 : Index := Scalar.indexCast c0_i32_1161
  let c0_i32_801 : BitVec 32 := 0#32
  let c1_i32_803 : BitVec 32 := 1#32
  let arg19 : BitVec 32 := Scf.iv c0_i32_801 c1_i32_803 k0_t3
  let v1334 : Index := Scalar.indexCast arg19
  let c640 : Index := 640#32
  ![0, v1334.toNat, 640]
def k0_off172 (k0_t3 : Fin k0_t3_loop.trips) : Fin 3 → Nat :=
  let c0_i32_1166 : BitVec 32 := 0#32
  let v1345 : Index := Scalar.indexCast c0_i32_1166
  let c0_i32_801 : BitVec 32 := 0#32
  let c1_i32_803 : BitVec 32 := 1#32
  let arg19 : BitVec 32 := Scf.iv c0_i32_801 c1_i32_803 k0_t3
  let v1346 : Index := Scalar.indexCast arg19
  let c656 : Index := 656#32
  ![0, v1346.toNat, 656]
def k0_off173 (k0_t3 : Fin k0_t3_loop.trips) : Fin 3 → Nat :=
  let c0_i32_1171 : BitVec 32 := 0#32
  let v1357 : Index := Scalar.indexCast c0_i32_1171
  let c0_i32_801 : BitVec 32 := 0#32
  let c1_i32_803 : BitVec 32 := 1#32
  let arg19 : BitVec 32 := Scf.iv c0_i32_801 c1_i32_803 k0_t3
  let v1358 : Index := Scalar.indexCast arg19
  let c672 : Index := 672#32
  ![0, v1358.toNat, 672]
def k0_off174 (k0_t3 : Fin k0_t3_loop.trips) : Fin 3 → Nat :=
  let c0_i32_1176 : BitVec 32 := 0#32
  let v1369 : Index := Scalar.indexCast c0_i32_1176
  let c0_i32_801 : BitVec 32 := 0#32
  let c1_i32_803 : BitVec 32 := 1#32
  let arg19 : BitVec 32 := Scf.iv c0_i32_801 c1_i32_803 k0_t3
  let v1370 : Index := Scalar.indexCast arg19
  let c688 : Index := 688#32
  ![0, v1370.toNat, 688]
def k0_off175 (k0_t3 : Fin k0_t3_loop.trips) : Fin 3 → Nat :=
  let c0_i32_1181 : BitVec 32 := 0#32
  let v1381 : Index := Scalar.indexCast c0_i32_1181
  let c0_i32_801 : BitVec 32 := 0#32
  let c1_i32_803 : BitVec 32 := 1#32
  let arg19 : BitVec 32 := Scf.iv c0_i32_801 c1_i32_803 k0_t3
  let v1382 : Index := Scalar.indexCast arg19
  let c704 : Index := 704#32
  ![0, v1382.toNat, 704]
def k0_off176 (k0_t3 : Fin k0_t3_loop.trips) : Fin 3 → Nat :=
  let c0_i32_1186 : BitVec 32 := 0#32
  let v1393 : Index := Scalar.indexCast c0_i32_1186
  let c0_i32_801 : BitVec 32 := 0#32
  let c1_i32_803 : BitVec 32 := 1#32
  let arg19 : BitVec 32 := Scf.iv c0_i32_801 c1_i32_803 k0_t3
  let v1394 : Index := Scalar.indexCast arg19
  let c720 : Index := 720#32
  ![0, v1394.toNat, 720]
def k0_off177 (k0_t3 : Fin k0_t3_loop.trips) : Fin 3 → Nat :=
  let c0_i32_1191 : BitVec 32 := 0#32
  let v1405 : Index := Scalar.indexCast c0_i32_1191
  let c0_i32_801 : BitVec 32 := 0#32
  let c1_i32_803 : BitVec 32 := 1#32
  let arg19 : BitVec 32 := Scf.iv c0_i32_801 c1_i32_803 k0_t3
  let v1406 : Index := Scalar.indexCast arg19
  let c736 : Index := 736#32
  ![0, v1406.toNat, 736]
def k0_off178 (k0_t3 : Fin k0_t3_loop.trips) : Fin 3 → Nat :=
  let c0_i32_1196 : BitVec 32 := 0#32
  let v1417 : Index := Scalar.indexCast c0_i32_1196
  let c0_i32_801 : BitVec 32 := 0#32
  let c1_i32_803 : BitVec 32 := 1#32
  let arg19 : BitVec 32 := Scf.iv c0_i32_801 c1_i32_803 k0_t3
  let v1418 : Index := Scalar.indexCast arg19
  let c752 : Index := 752#32
  ![0, v1418.toNat, 752]
def k0_off179 (k0_t3 : Fin k0_t3_loop.trips) : Fin 3 → Nat :=
  let c0_i32_1201 : BitVec 32 := 0#32
  let v1429 : Index := Scalar.indexCast c0_i32_1201
  let c0_i32_801 : BitVec 32 := 0#32
  let c1_i32_803 : BitVec 32 := 1#32
  let arg19 : BitVec 32 := Scf.iv c0_i32_801 c1_i32_803 k0_t3
  let v1430 : Index := Scalar.indexCast arg19
  let c768 : Index := 768#32
  ![0, v1430.toNat, 768]
def k0_off180 (k0_t3 : Fin k0_t3_loop.trips) : Fin 3 → Nat :=
  let c0_i32_1206 : BitVec 32 := 0#32
  let v1441 : Index := Scalar.indexCast c0_i32_1206
  let c0_i32_801 : BitVec 32 := 0#32
  let c1_i32_803 : BitVec 32 := 1#32
  let arg19 : BitVec 32 := Scf.iv c0_i32_801 c1_i32_803 k0_t3
  let v1442 : Index := Scalar.indexCast arg19
  let c784 : Index := 784#32
  ![0, v1442.toNat, 784]
def k0_off181 (k0_t3 : Fin k0_t3_loop.trips) : Fin 3 → Nat :=
  let c0_i32_1211 : BitVec 32 := 0#32
  let v1453 : Index := Scalar.indexCast c0_i32_1211
  let c0_i32_801 : BitVec 32 := 0#32
  let c1_i32_803 : BitVec 32 := 1#32
  let arg19 : BitVec 32 := Scf.iv c0_i32_801 c1_i32_803 k0_t3
  let v1454 : Index := Scalar.indexCast arg19
  let c800 : Index := 800#32
  ![0, v1454.toNat, 800]
def k0_off182 (k0_t3 : Fin k0_t3_loop.trips) : Fin 3 → Nat :=
  let c0_i32_1216 : BitVec 32 := 0#32
  let v1465 : Index := Scalar.indexCast c0_i32_1216
  let c0_i32_801 : BitVec 32 := 0#32
  let c1_i32_803 : BitVec 32 := 1#32
  let arg19 : BitVec 32 := Scf.iv c0_i32_801 c1_i32_803 k0_t3
  let v1466 : Index := Scalar.indexCast arg19
  let c816 : Index := 816#32
  ![0, v1466.toNat, 816]
def k0_off183 (k0_t3 : Fin k0_t3_loop.trips) : Fin 3 → Nat :=
  let c0_i32_1221 : BitVec 32 := 0#32
  let v1477 : Index := Scalar.indexCast c0_i32_1221
  let c0_i32_801 : BitVec 32 := 0#32
  let c1_i32_803 : BitVec 32 := 1#32
  let arg19 : BitVec 32 := Scf.iv c0_i32_801 c1_i32_803 k0_t3
  let v1478 : Index := Scalar.indexCast arg19
  let c832 : Index := 832#32
  ![0, v1478.toNat, 832]
def k0_off184 (k0_t3 : Fin k0_t3_loop.trips) : Fin 3 → Nat :=
  let c0_i32_1226 : BitVec 32 := 0#32
  let v1489 : Index := Scalar.indexCast c0_i32_1226
  let c0_i32_801 : BitVec 32 := 0#32
  let c1_i32_803 : BitVec 32 := 1#32
  let arg19 : BitVec 32 := Scf.iv c0_i32_801 c1_i32_803 k0_t3
  let v1490 : Index := Scalar.indexCast arg19
  let c848 : Index := 848#32
  ![0, v1490.toNat, 848]
def k0_off185 (k0_t3 : Fin k0_t3_loop.trips) : Fin 3 → Nat :=
  let c0_i32_1231 : BitVec 32 := 0#32
  let v1501 : Index := Scalar.indexCast c0_i32_1231
  let c0_i32_801 : BitVec 32 := 0#32
  let c1_i32_803 : BitVec 32 := 1#32
  let arg19 : BitVec 32 := Scf.iv c0_i32_801 c1_i32_803 k0_t3
  let v1502 : Index := Scalar.indexCast arg19
  let c864 : Index := 864#32
  ![0, v1502.toNat, 864]
def k0_off186 (k0_t3 : Fin k0_t3_loop.trips) : Fin 3 → Nat :=
  let c0_i32_1236 : BitVec 32 := 0#32
  let v1513 : Index := Scalar.indexCast c0_i32_1236
  let c0_i32_801 : BitVec 32 := 0#32
  let c1_i32_803 : BitVec 32 := 1#32
  let arg19 : BitVec 32 := Scf.iv c0_i32_801 c1_i32_803 k0_t3
  let v1514 : Index := Scalar.indexCast arg19
  let c880 : Index := 880#32
  ![0, v1514.toNat, 880]
def k0_off187 (k0_t3 : Fin k0_t3_loop.trips) : Fin 3 → Nat :=
  let c0_i32_1241 : BitVec 32 := 0#32
  let v1525 : Index := Scalar.indexCast c0_i32_1241
  let c0_i32_801 : BitVec 32 := 0#32
  let c1_i32_803 : BitVec 32 := 1#32
  let arg19 : BitVec 32 := Scf.iv c0_i32_801 c1_i32_803 k0_t3
  let v1526 : Index := Scalar.indexCast arg19
  let c896 : Index := 896#32
  ![0, v1526.toNat, 896]
def k0_off188 (k0_t3 : Fin k0_t3_loop.trips) : Fin 3 → Nat :=
  let c0_i32_1246 : BitVec 32 := 0#32
  let v1537 : Index := Scalar.indexCast c0_i32_1246
  let c0_i32_801 : BitVec 32 := 0#32
  let c1_i32_803 : BitVec 32 := 1#32
  let arg19 : BitVec 32 := Scf.iv c0_i32_801 c1_i32_803 k0_t3
  let v1538 : Index := Scalar.indexCast arg19
  let c912 : Index := 912#32
  ![0, v1538.toNat, 912]
def k0_off189 (k0_t3 : Fin k0_t3_loop.trips) : Fin 3 → Nat :=
  let c0_i32_1251 : BitVec 32 := 0#32
  let v1549 : Index := Scalar.indexCast c0_i32_1251
  let c0_i32_801 : BitVec 32 := 0#32
  let c1_i32_803 : BitVec 32 := 1#32
  let arg19 : BitVec 32 := Scf.iv c0_i32_801 c1_i32_803 k0_t3
  let v1550 : Index := Scalar.indexCast arg19
  let c928 : Index := 928#32
  ![0, v1550.toNat, 928]
def k0_off190 (k0_t3 : Fin k0_t3_loop.trips) : Fin 3 → Nat :=
  let c0_i32_1256 : BitVec 32 := 0#32
  let v1561 : Index := Scalar.indexCast c0_i32_1256
  let c0_i32_801 : BitVec 32 := 0#32
  let c1_i32_803 : BitVec 32 := 1#32
  let arg19 : BitVec 32 := Scf.iv c0_i32_801 c1_i32_803 k0_t3
  let v1562 : Index := Scalar.indexCast arg19
  let c944 : Index := 944#32
  ![0, v1562.toNat, 944]
def k0_off191 (k0_t3 : Fin k0_t3_loop.trips) : Fin 3 → Nat :=
  let c0_i32_1261 : BitVec 32 := 0#32
  let v1573 : Index := Scalar.indexCast c0_i32_1261
  let c0_i32_801 : BitVec 32 := 0#32
  let c1_i32_803 : BitVec 32 := 1#32
  let arg19 : BitVec 32 := Scf.iv c0_i32_801 c1_i32_803 k0_t3
  let v1574 : Index := Scalar.indexCast arg19
  let c960 : Index := 960#32
  ![0, v1574.toNat, 960]
def k0_off192 (k0_t3 : Fin k0_t3_loop.trips) : Fin 3 → Nat :=
  let c0_i32_1266 : BitVec 32 := 0#32
  let v1585 : Index := Scalar.indexCast c0_i32_1266
  let c0_i32_801 : BitVec 32 := 0#32
  let c1_i32_803 : BitVec 32 := 1#32
  let arg19 : BitVec 32 := Scf.iv c0_i32_801 c1_i32_803 k0_t3
  let v1586 : Index := Scalar.indexCast arg19
  let c976 : Index := 976#32
  ![0, v1586.toNat, 976]
def k0_off193 (k0_t3 : Fin k0_t3_loop.trips) : Fin 3 → Nat :=
  let c0_i32_1271 : BitVec 32 := 0#32
  let v1597 : Index := Scalar.indexCast c0_i32_1271
  let c0_i32_801 : BitVec 32 := 0#32
  let c1_i32_803 : BitVec 32 := 1#32
  let arg19 : BitVec 32 := Scf.iv c0_i32_801 c1_i32_803 k0_t3
  let v1598 : Index := Scalar.indexCast arg19
  let c992 : Index := 992#32
  ![0, v1598.toNat, 992]
def k0_off194 (k0_t3 : Fin k0_t3_loop.trips) : Fin 3 → Nat :=
  let c0_i32_1276 : BitVec 32 := 0#32
  let v1609 : Index := Scalar.indexCast c0_i32_1276
  let c0_i32_801 : BitVec 32 := 0#32
  let c1_i32_803 : BitVec 32 := 1#32
  let arg19 : BitVec 32 := Scf.iv c0_i32_801 c1_i32_803 k0_t3
  let v1610 : Index := Scalar.indexCast arg19
  let c1008 : Index := 1008#32
  ![0, v1610.toNat, 1008]
@[reducible] def k0_t4_loop : Scf.Loop 32 :=
  let c0_i32_933 : BitVec 32 := 0#32
  let c16_i32_934 : BitVec 32 := 16#32
  let v826 : BitVec 32 := Scalar.addi c0_i32_933 c16_i32_934
  let c1_i32_935 : BitVec 32 := 1#32
  ⟨c0_i32_933, v826, c1_i32_935⟩

def k0_chk7 (v848 : IVec S16 32) : Prop :=
  (∀ a x, ((![v848] : Fin 1 → IVec S16 32) a x).toNat < S64.size a)
theorem k0_idx7_inb : ∀ (v848 : IVec S16 32) (k0_hw7 : k0_chk7 v848), ∀ a x, ((![v848] : Fin 1 → IVec S16 32) a x).toNat < S64.size a := fun v848 k0_hw7 => k0_hw7

def k0_chk8 (v851 : IVec S16 32) : Prop :=
  (∀ a x, ((![v851] : Fin 1 → IVec S16 32) a x).toNat < S64.size a)
theorem k0_idx8_inb : ∀ (v851 : IVec S16 32) (k0_hw8 : k0_chk8 v851), ∀ a x, ((![v851] : Fin 1 → IVec S16 32) a x).toNat < S64.size a := fun v851 k0_hw8 => k0_hw8
def k0_off195 (k0_t4 : Fin k0_t4_loop.trips) : Fin 3 → Nat :=
  let c1_i32_961 : BitVec 32 := 1#32
  let v853 : Index := Scalar.indexCast c1_i32_961
  let c0_i32_933 : BitVec 32 := 0#32
  let c1_i32_935 : BitVec 32 := 1#32
  let arg19 : BitVec 32 := Scf.iv c0_i32_933 c1_i32_935 k0_t4
  let v854 : Index := Scalar.indexCast arg19
  let c0 : Index := 0#32
  ![1, v854.toNat, 0]
def k0_off196 (k0_t4 : Fin k0_t4_loop.trips) : Fin 3 → Nat :=
  let c1_i32_966 : BitVec 32 := 1#32
  let v865 : Index := Scalar.indexCast c1_i32_966
  let c0_i32_933 : BitVec 32 := 0#32
  let c1_i32_935 : BitVec 32 := 1#32
  let arg19 : BitVec 32 := Scf.iv c0_i32_933 c1_i32_935 k0_t4
  let v866 : Index := Scalar.indexCast arg19
  let c16 : Index := 16#32
  ![1, v866.toNat, 16]
def k0_off197 (k0_t4 : Fin k0_t4_loop.trips) : Fin 3 → Nat :=
  let c1_i32_971 : BitVec 32 := 1#32
  let v877 : Index := Scalar.indexCast c1_i32_971
  let c0_i32_933 : BitVec 32 := 0#32
  let c1_i32_935 : BitVec 32 := 1#32
  let arg19 : BitVec 32 := Scf.iv c0_i32_933 c1_i32_935 k0_t4
  let v878 : Index := Scalar.indexCast arg19
  let c32 : Index := 32#32
  ![1, v878.toNat, 32]
def k0_off198 (k0_t4 : Fin k0_t4_loop.trips) : Fin 3 → Nat :=
  let c1_i32_976 : BitVec 32 := 1#32
  let v889 : Index := Scalar.indexCast c1_i32_976
  let c0_i32_933 : BitVec 32 := 0#32
  let c1_i32_935 : BitVec 32 := 1#32
  let arg19 : BitVec 32 := Scf.iv c0_i32_933 c1_i32_935 k0_t4
  let v890 : Index := Scalar.indexCast arg19
  let c48 : Index := 48#32
  ![1, v890.toNat, 48]
def k0_off199 (k0_t4 : Fin k0_t4_loop.trips) : Fin 3 → Nat :=
  let c1_i32_981 : BitVec 32 := 1#32
  let v901 : Index := Scalar.indexCast c1_i32_981
  let c0_i32_933 : BitVec 32 := 0#32
  let c1_i32_935 : BitVec 32 := 1#32
  let arg19 : BitVec 32 := Scf.iv c0_i32_933 c1_i32_935 k0_t4
  let v902 : Index := Scalar.indexCast arg19
  let c64 : Index := 64#32
  ![1, v902.toNat, 64]
def k0_off200 (k0_t4 : Fin k0_t4_loop.trips) : Fin 3 → Nat :=
  let c1_i32_986 : BitVec 32 := 1#32
  let v913 : Index := Scalar.indexCast c1_i32_986
  let c0_i32_933 : BitVec 32 := 0#32
  let c1_i32_935 : BitVec 32 := 1#32
  let arg19 : BitVec 32 := Scf.iv c0_i32_933 c1_i32_935 k0_t4
  let v914 : Index := Scalar.indexCast arg19
  let c80 : Index := 80#32
  ![1, v914.toNat, 80]
def k0_off201 (k0_t4 : Fin k0_t4_loop.trips) : Fin 3 → Nat :=
  let c1_i32_991 : BitVec 32 := 1#32
  let v925 : Index := Scalar.indexCast c1_i32_991
  let c0_i32_933 : BitVec 32 := 0#32
  let c1_i32_935 : BitVec 32 := 1#32
  let arg19 : BitVec 32 := Scf.iv c0_i32_933 c1_i32_935 k0_t4
  let v926 : Index := Scalar.indexCast arg19
  let c96 : Index := 96#32
  ![1, v926.toNat, 96]
def k0_off202 (k0_t4 : Fin k0_t4_loop.trips) : Fin 3 → Nat :=
  let c1_i32_996 : BitVec 32 := 1#32
  let v937 : Index := Scalar.indexCast c1_i32_996
  let c0_i32_933 : BitVec 32 := 0#32
  let c1_i32_935 : BitVec 32 := 1#32
  let arg19 : BitVec 32 := Scf.iv c0_i32_933 c1_i32_935 k0_t4
  let v938 : Index := Scalar.indexCast arg19
  let c112 : Index := 112#32
  ![1, v938.toNat, 112]
def k0_off203 (k0_t4 : Fin k0_t4_loop.trips) : Fin 3 → Nat :=
  let c1_i32_1001 : BitVec 32 := 1#32
  let v949 : Index := Scalar.indexCast c1_i32_1001
  let c0_i32_933 : BitVec 32 := 0#32
  let c1_i32_935 : BitVec 32 := 1#32
  let arg19 : BitVec 32 := Scf.iv c0_i32_933 c1_i32_935 k0_t4
  let v950 : Index := Scalar.indexCast arg19
  let c128 : Index := 128#32
  ![1, v950.toNat, 128]
def k0_off204 (k0_t4 : Fin k0_t4_loop.trips) : Fin 3 → Nat :=
  let c1_i32_1006 : BitVec 32 := 1#32
  let v961 : Index := Scalar.indexCast c1_i32_1006
  let c0_i32_933 : BitVec 32 := 0#32
  let c1_i32_935 : BitVec 32 := 1#32
  let arg19 : BitVec 32 := Scf.iv c0_i32_933 c1_i32_935 k0_t4
  let v962 : Index := Scalar.indexCast arg19
  let c144 : Index := 144#32
  ![1, v962.toNat, 144]
def k0_off205 (k0_t4 : Fin k0_t4_loop.trips) : Fin 3 → Nat :=
  let c1_i32_1011 : BitVec 32 := 1#32
  let v973 : Index := Scalar.indexCast c1_i32_1011
  let c0_i32_933 : BitVec 32 := 0#32
  let c1_i32_935 : BitVec 32 := 1#32
  let arg19 : BitVec 32 := Scf.iv c0_i32_933 c1_i32_935 k0_t4
  let v974 : Index := Scalar.indexCast arg19
  let c160 : Index := 160#32
  ![1, v974.toNat, 160]
def k0_off206 (k0_t4 : Fin k0_t4_loop.trips) : Fin 3 → Nat :=
  let c1_i32_1016 : BitVec 32 := 1#32
  let v985 : Index := Scalar.indexCast c1_i32_1016
  let c0_i32_933 : BitVec 32 := 0#32
  let c1_i32_935 : BitVec 32 := 1#32
  let arg19 : BitVec 32 := Scf.iv c0_i32_933 c1_i32_935 k0_t4
  let v986 : Index := Scalar.indexCast arg19
  let c176 : Index := 176#32
  ![1, v986.toNat, 176]
def k0_off207 (k0_t4 : Fin k0_t4_loop.trips) : Fin 3 → Nat :=
  let c1_i32_1021 : BitVec 32 := 1#32
  let v997 : Index := Scalar.indexCast c1_i32_1021
  let c0_i32_933 : BitVec 32 := 0#32
  let c1_i32_935 : BitVec 32 := 1#32
  let arg19 : BitVec 32 := Scf.iv c0_i32_933 c1_i32_935 k0_t4
  let v998 : Index := Scalar.indexCast arg19
  let c192 : Index := 192#32
  ![1, v998.toNat, 192]
def k0_off208 (k0_t4 : Fin k0_t4_loop.trips) : Fin 3 → Nat :=
  let c1_i32_1026 : BitVec 32 := 1#32
  let v1009 : Index := Scalar.indexCast c1_i32_1026
  let c0_i32_933 : BitVec 32 := 0#32
  let c1_i32_935 : BitVec 32 := 1#32
  let arg19 : BitVec 32 := Scf.iv c0_i32_933 c1_i32_935 k0_t4
  let v1010 : Index := Scalar.indexCast arg19
  let c208 : Index := 208#32
  ![1, v1010.toNat, 208]
def k0_off209 (k0_t4 : Fin k0_t4_loop.trips) : Fin 3 → Nat :=
  let c1_i32_1031 : BitVec 32 := 1#32
  let v1021 : Index := Scalar.indexCast c1_i32_1031
  let c0_i32_933 : BitVec 32 := 0#32
  let c1_i32_935 : BitVec 32 := 1#32
  let arg19 : BitVec 32 := Scf.iv c0_i32_933 c1_i32_935 k0_t4
  let v1022 : Index := Scalar.indexCast arg19
  let c224 : Index := 224#32
  ![1, v1022.toNat, 224]
def k0_off210 (k0_t4 : Fin k0_t4_loop.trips) : Fin 3 → Nat :=
  let c1_i32_1036 : BitVec 32 := 1#32
  let v1033 : Index := Scalar.indexCast c1_i32_1036
  let c0_i32_933 : BitVec 32 := 0#32
  let c1_i32_935 : BitVec 32 := 1#32
  let arg19 : BitVec 32 := Scf.iv c0_i32_933 c1_i32_935 k0_t4
  let v1034 : Index := Scalar.indexCast arg19
  let c240 : Index := 240#32
  ![1, v1034.toNat, 240]
def k0_off211 (k0_t4 : Fin k0_t4_loop.trips) : Fin 3 → Nat :=
  let c1_i32_1041 : BitVec 32 := 1#32
  let v1045 : Index := Scalar.indexCast c1_i32_1041
  let c0_i32_933 : BitVec 32 := 0#32
  let c1_i32_935 : BitVec 32 := 1#32
  let arg19 : BitVec 32 := Scf.iv c0_i32_933 c1_i32_935 k0_t4
  let v1046 : Index := Scalar.indexCast arg19
  let c256 : Index := 256#32
  ![1, v1046.toNat, 256]
def k0_off212 (k0_t4 : Fin k0_t4_loop.trips) : Fin 3 → Nat :=
  let c1_i32_1046 : BitVec 32 := 1#32
  let v1057 : Index := Scalar.indexCast c1_i32_1046
  let c0_i32_933 : BitVec 32 := 0#32
  let c1_i32_935 : BitVec 32 := 1#32
  let arg19 : BitVec 32 := Scf.iv c0_i32_933 c1_i32_935 k0_t4
  let v1058 : Index := Scalar.indexCast arg19
  let c272 : Index := 272#32
  ![1, v1058.toNat, 272]
def k0_off213 (k0_t4 : Fin k0_t4_loop.trips) : Fin 3 → Nat :=
  let c1_i32_1051 : BitVec 32 := 1#32
  let v1069 : Index := Scalar.indexCast c1_i32_1051
  let c0_i32_933 : BitVec 32 := 0#32
  let c1_i32_935 : BitVec 32 := 1#32
  let arg19 : BitVec 32 := Scf.iv c0_i32_933 c1_i32_935 k0_t4
  let v1070 : Index := Scalar.indexCast arg19
  let c288 : Index := 288#32
  ![1, v1070.toNat, 288]
def k0_off214 (k0_t4 : Fin k0_t4_loop.trips) : Fin 3 → Nat :=
  let c1_i32_1056 : BitVec 32 := 1#32
  let v1081 : Index := Scalar.indexCast c1_i32_1056
  let c0_i32_933 : BitVec 32 := 0#32
  let c1_i32_935 : BitVec 32 := 1#32
  let arg19 : BitVec 32 := Scf.iv c0_i32_933 c1_i32_935 k0_t4
  let v1082 : Index := Scalar.indexCast arg19
  let c304 : Index := 304#32
  ![1, v1082.toNat, 304]
def k0_off215 (k0_t4 : Fin k0_t4_loop.trips) : Fin 3 → Nat :=
  let c1_i32_1061 : BitVec 32 := 1#32
  let v1093 : Index := Scalar.indexCast c1_i32_1061
  let c0_i32_933 : BitVec 32 := 0#32
  let c1_i32_935 : BitVec 32 := 1#32
  let arg19 : BitVec 32 := Scf.iv c0_i32_933 c1_i32_935 k0_t4
  let v1094 : Index := Scalar.indexCast arg19
  let c320 : Index := 320#32
  ![1, v1094.toNat, 320]
def k0_off216 (k0_t4 : Fin k0_t4_loop.trips) : Fin 3 → Nat :=
  let c1_i32_1066 : BitVec 32 := 1#32
  let v1105 : Index := Scalar.indexCast c1_i32_1066
  let c0_i32_933 : BitVec 32 := 0#32
  let c1_i32_935 : BitVec 32 := 1#32
  let arg19 : BitVec 32 := Scf.iv c0_i32_933 c1_i32_935 k0_t4
  let v1106 : Index := Scalar.indexCast arg19
  let c336 : Index := 336#32
  ![1, v1106.toNat, 336]
def k0_off217 (k0_t4 : Fin k0_t4_loop.trips) : Fin 3 → Nat :=
  let c1_i32_1071 : BitVec 32 := 1#32
  let v1117 : Index := Scalar.indexCast c1_i32_1071
  let c0_i32_933 : BitVec 32 := 0#32
  let c1_i32_935 : BitVec 32 := 1#32
  let arg19 : BitVec 32 := Scf.iv c0_i32_933 c1_i32_935 k0_t4
  let v1118 : Index := Scalar.indexCast arg19
  let c352 : Index := 352#32
  ![1, v1118.toNat, 352]
def k0_off218 (k0_t4 : Fin k0_t4_loop.trips) : Fin 3 → Nat :=
  let c1_i32_1076 : BitVec 32 := 1#32
  let v1129 : Index := Scalar.indexCast c1_i32_1076
  let c0_i32_933 : BitVec 32 := 0#32
  let c1_i32_935 : BitVec 32 := 1#32
  let arg19 : BitVec 32 := Scf.iv c0_i32_933 c1_i32_935 k0_t4
  let v1130 : Index := Scalar.indexCast arg19
  let c368 : Index := 368#32
  ![1, v1130.toNat, 368]
def k0_off219 (k0_t4 : Fin k0_t4_loop.trips) : Fin 3 → Nat :=
  let c1_i32_1081 : BitVec 32 := 1#32
  let v1141 : Index := Scalar.indexCast c1_i32_1081
  let c0_i32_933 : BitVec 32 := 0#32
  let c1_i32_935 : BitVec 32 := 1#32
  let arg19 : BitVec 32 := Scf.iv c0_i32_933 c1_i32_935 k0_t4
  let v1142 : Index := Scalar.indexCast arg19
  let c384 : Index := 384#32
  ![1, v1142.toNat, 384]
def k0_off220 (k0_t4 : Fin k0_t4_loop.trips) : Fin 3 → Nat :=
  let c1_i32_1086 : BitVec 32 := 1#32
  let v1153 : Index := Scalar.indexCast c1_i32_1086
  let c0_i32_933 : BitVec 32 := 0#32
  let c1_i32_935 : BitVec 32 := 1#32
  let arg19 : BitVec 32 := Scf.iv c0_i32_933 c1_i32_935 k0_t4
  let v1154 : Index := Scalar.indexCast arg19
  let c400 : Index := 400#32
  ![1, v1154.toNat, 400]
def k0_off221 (k0_t4 : Fin k0_t4_loop.trips) : Fin 3 → Nat :=
  let c1_i32_1091 : BitVec 32 := 1#32
  let v1165 : Index := Scalar.indexCast c1_i32_1091
  let c0_i32_933 : BitVec 32 := 0#32
  let c1_i32_935 : BitVec 32 := 1#32
  let arg19 : BitVec 32 := Scf.iv c0_i32_933 c1_i32_935 k0_t4
  let v1166 : Index := Scalar.indexCast arg19
  let c416 : Index := 416#32
  ![1, v1166.toNat, 416]
def k0_off222 (k0_t4 : Fin k0_t4_loop.trips) : Fin 3 → Nat :=
  let c1_i32_1096 : BitVec 32 := 1#32
  let v1177 : Index := Scalar.indexCast c1_i32_1096
  let c0_i32_933 : BitVec 32 := 0#32
  let c1_i32_935 : BitVec 32 := 1#32
  let arg19 : BitVec 32 := Scf.iv c0_i32_933 c1_i32_935 k0_t4
  let v1178 : Index := Scalar.indexCast arg19
  let c432 : Index := 432#32
  ![1, v1178.toNat, 432]
def k0_off223 (k0_t4 : Fin k0_t4_loop.trips) : Fin 3 → Nat :=
  let c1_i32_1101 : BitVec 32 := 1#32
  let v1189 : Index := Scalar.indexCast c1_i32_1101
  let c0_i32_933 : BitVec 32 := 0#32
  let c1_i32_935 : BitVec 32 := 1#32
  let arg19 : BitVec 32 := Scf.iv c0_i32_933 c1_i32_935 k0_t4
  let v1190 : Index := Scalar.indexCast arg19
  let c448 : Index := 448#32
  ![1, v1190.toNat, 448]
def k0_off224 (k0_t4 : Fin k0_t4_loop.trips) : Fin 3 → Nat :=
  let c1_i32_1106 : BitVec 32 := 1#32
  let v1201 : Index := Scalar.indexCast c1_i32_1106
  let c0_i32_933 : BitVec 32 := 0#32
  let c1_i32_935 : BitVec 32 := 1#32
  let arg19 : BitVec 32 := Scf.iv c0_i32_933 c1_i32_935 k0_t4
  let v1202 : Index := Scalar.indexCast arg19
  let c464 : Index := 464#32
  ![1, v1202.toNat, 464]
def k0_off225 (k0_t4 : Fin k0_t4_loop.trips) : Fin 3 → Nat :=
  let c1_i32_1111 : BitVec 32 := 1#32
  let v1213 : Index := Scalar.indexCast c1_i32_1111
  let c0_i32_933 : BitVec 32 := 0#32
  let c1_i32_935 : BitVec 32 := 1#32
  let arg19 : BitVec 32 := Scf.iv c0_i32_933 c1_i32_935 k0_t4
  let v1214 : Index := Scalar.indexCast arg19
  let c480 : Index := 480#32
  ![1, v1214.toNat, 480]
def k0_off226 (k0_t4 : Fin k0_t4_loop.trips) : Fin 3 → Nat :=
  let c1_i32_1116 : BitVec 32 := 1#32
  let v1225 : Index := Scalar.indexCast c1_i32_1116
  let c0_i32_933 : BitVec 32 := 0#32
  let c1_i32_935 : BitVec 32 := 1#32
  let arg19 : BitVec 32 := Scf.iv c0_i32_933 c1_i32_935 k0_t4
  let v1226 : Index := Scalar.indexCast arg19
  let c496 : Index := 496#32
  ![1, v1226.toNat, 496]
def k0_off227 (k0_t4 : Fin k0_t4_loop.trips) : Fin 3 → Nat :=
  let c1_i32_1121 : BitVec 32 := 1#32
  let v1237 : Index := Scalar.indexCast c1_i32_1121
  let c0_i32_933 : BitVec 32 := 0#32
  let c1_i32_935 : BitVec 32 := 1#32
  let arg19 : BitVec 32 := Scf.iv c0_i32_933 c1_i32_935 k0_t4
  let v1238 : Index := Scalar.indexCast arg19
  let c512 : Index := 512#32
  ![1, v1238.toNat, 512]
def k0_off228 (k0_t4 : Fin k0_t4_loop.trips) : Fin 3 → Nat :=
  let c1_i32_1126 : BitVec 32 := 1#32
  let v1249 : Index := Scalar.indexCast c1_i32_1126
  let c0_i32_933 : BitVec 32 := 0#32
  let c1_i32_935 : BitVec 32 := 1#32
  let arg19 : BitVec 32 := Scf.iv c0_i32_933 c1_i32_935 k0_t4
  let v1250 : Index := Scalar.indexCast arg19
  let c528 : Index := 528#32
  ![1, v1250.toNat, 528]
def k0_off229 (k0_t4 : Fin k0_t4_loop.trips) : Fin 3 → Nat :=
  let c1_i32_1131 : BitVec 32 := 1#32
  let v1261 : Index := Scalar.indexCast c1_i32_1131
  let c0_i32_933 : BitVec 32 := 0#32
  let c1_i32_935 : BitVec 32 := 1#32
  let arg19 : BitVec 32 := Scf.iv c0_i32_933 c1_i32_935 k0_t4
  let v1262 : Index := Scalar.indexCast arg19
  let c544 : Index := 544#32
  ![1, v1262.toNat, 544]
def k0_off230 (k0_t4 : Fin k0_t4_loop.trips) : Fin 3 → Nat :=
  let c1_i32_1136 : BitVec 32 := 1#32
  let v1273 : Index := Scalar.indexCast c1_i32_1136
  let c0_i32_933 : BitVec 32 := 0#32
  let c1_i32_935 : BitVec 32 := 1#32
  let arg19 : BitVec 32 := Scf.iv c0_i32_933 c1_i32_935 k0_t4
  let v1274 : Index := Scalar.indexCast arg19
  let c560 : Index := 560#32
  ![1, v1274.toNat, 560]
def k0_off231 (k0_t4 : Fin k0_t4_loop.trips) : Fin 3 → Nat :=
  let c1_i32_1141 : BitVec 32 := 1#32
  let v1285 : Index := Scalar.indexCast c1_i32_1141
  let c0_i32_933 : BitVec 32 := 0#32
  let c1_i32_935 : BitVec 32 := 1#32
  let arg19 : BitVec 32 := Scf.iv c0_i32_933 c1_i32_935 k0_t4
  let v1286 : Index := Scalar.indexCast arg19
  let c576 : Index := 576#32
  ![1, v1286.toNat, 576]
def k0_off232 (k0_t4 : Fin k0_t4_loop.trips) : Fin 3 → Nat :=
  let c1_i32_1146 : BitVec 32 := 1#32
  let v1297 : Index := Scalar.indexCast c1_i32_1146
  let c0_i32_933 : BitVec 32 := 0#32
  let c1_i32_935 : BitVec 32 := 1#32
  let arg19 : BitVec 32 := Scf.iv c0_i32_933 c1_i32_935 k0_t4
  let v1298 : Index := Scalar.indexCast arg19
  let c592 : Index := 592#32
  ![1, v1298.toNat, 592]
def k0_off233 (k0_t4 : Fin k0_t4_loop.trips) : Fin 3 → Nat :=
  let c1_i32_1151 : BitVec 32 := 1#32
  let v1309 : Index := Scalar.indexCast c1_i32_1151
  let c0_i32_933 : BitVec 32 := 0#32
  let c1_i32_935 : BitVec 32 := 1#32
  let arg19 : BitVec 32 := Scf.iv c0_i32_933 c1_i32_935 k0_t4
  let v1310 : Index := Scalar.indexCast arg19
  let c608 : Index := 608#32
  ![1, v1310.toNat, 608]
def k0_off234 (k0_t4 : Fin k0_t4_loop.trips) : Fin 3 → Nat :=
  let c1_i32_1156 : BitVec 32 := 1#32
  let v1321 : Index := Scalar.indexCast c1_i32_1156
  let c0_i32_933 : BitVec 32 := 0#32
  let c1_i32_935 : BitVec 32 := 1#32
  let arg19 : BitVec 32 := Scf.iv c0_i32_933 c1_i32_935 k0_t4
  let v1322 : Index := Scalar.indexCast arg19
  let c624 : Index := 624#32
  ![1, v1322.toNat, 624]
def k0_off235 (k0_t4 : Fin k0_t4_loop.trips) : Fin 3 → Nat :=
  let c1_i32_1161 : BitVec 32 := 1#32
  let v1333 : Index := Scalar.indexCast c1_i32_1161
  let c0_i32_933 : BitVec 32 := 0#32
  let c1_i32_935 : BitVec 32 := 1#32
  let arg19 : BitVec 32 := Scf.iv c0_i32_933 c1_i32_935 k0_t4
  let v1334 : Index := Scalar.indexCast arg19
  let c640 : Index := 640#32
  ![1, v1334.toNat, 640]
def k0_off236 (k0_t4 : Fin k0_t4_loop.trips) : Fin 3 → Nat :=
  let c1_i32_1166 : BitVec 32 := 1#32
  let v1345 : Index := Scalar.indexCast c1_i32_1166
  let c0_i32_933 : BitVec 32 := 0#32
  let c1_i32_935 : BitVec 32 := 1#32
  let arg19 : BitVec 32 := Scf.iv c0_i32_933 c1_i32_935 k0_t4
  let v1346 : Index := Scalar.indexCast arg19
  let c656 : Index := 656#32
  ![1, v1346.toNat, 656]
def k0_off237 (k0_t4 : Fin k0_t4_loop.trips) : Fin 3 → Nat :=
  let c1_i32_1171 : BitVec 32 := 1#32
  let v1357 : Index := Scalar.indexCast c1_i32_1171
  let c0_i32_933 : BitVec 32 := 0#32
  let c1_i32_935 : BitVec 32 := 1#32
  let arg19 : BitVec 32 := Scf.iv c0_i32_933 c1_i32_935 k0_t4
  let v1358 : Index := Scalar.indexCast arg19
  let c672 : Index := 672#32
  ![1, v1358.toNat, 672]
def k0_off238 (k0_t4 : Fin k0_t4_loop.trips) : Fin 3 → Nat :=
  let c1_i32_1176 : BitVec 32 := 1#32
  let v1369 : Index := Scalar.indexCast c1_i32_1176
  let c0_i32_933 : BitVec 32 := 0#32
  let c1_i32_935 : BitVec 32 := 1#32
  let arg19 : BitVec 32 := Scf.iv c0_i32_933 c1_i32_935 k0_t4
  let v1370 : Index := Scalar.indexCast arg19
  let c688 : Index := 688#32
  ![1, v1370.toNat, 688]
def k0_off239 (k0_t4 : Fin k0_t4_loop.trips) : Fin 3 → Nat :=
  let c1_i32_1181 : BitVec 32 := 1#32
  let v1381 : Index := Scalar.indexCast c1_i32_1181
  let c0_i32_933 : BitVec 32 := 0#32
  let c1_i32_935 : BitVec 32 := 1#32
  let arg19 : BitVec 32 := Scf.iv c0_i32_933 c1_i32_935 k0_t4
  let v1382 : Index := Scalar.indexCast arg19
  let c704 : Index := 704#32
  ![1, v1382.toNat, 704]
def k0_off240 (k0_t4 : Fin k0_t4_loop.trips) : Fin 3 → Nat :=
  let c1_i32_1186 : BitVec 32 := 1#32
  let v1393 : Index := Scalar.indexCast c1_i32_1186
  let c0_i32_933 : BitVec 32 := 0#32
  let c1_i32_935 : BitVec 32 := 1#32
  let arg19 : BitVec 32 := Scf.iv c0_i32_933 c1_i32_935 k0_t4
  let v1394 : Index := Scalar.indexCast arg19
  let c720 : Index := 720#32
  ![1, v1394.toNat, 720]
def k0_off241 (k0_t4 : Fin k0_t4_loop.trips) : Fin 3 → Nat :=
  let c1_i32_1191 : BitVec 32 := 1#32
  let v1405 : Index := Scalar.indexCast c1_i32_1191
  let c0_i32_933 : BitVec 32 := 0#32
  let c1_i32_935 : BitVec 32 := 1#32
  let arg19 : BitVec 32 := Scf.iv c0_i32_933 c1_i32_935 k0_t4
  let v1406 : Index := Scalar.indexCast arg19
  let c736 : Index := 736#32
  ![1, v1406.toNat, 736]
def k0_off242 (k0_t4 : Fin k0_t4_loop.trips) : Fin 3 → Nat :=
  let c1_i32_1196 : BitVec 32 := 1#32
  let v1417 : Index := Scalar.indexCast c1_i32_1196
  let c0_i32_933 : BitVec 32 := 0#32
  let c1_i32_935 : BitVec 32 := 1#32
  let arg19 : BitVec 32 := Scf.iv c0_i32_933 c1_i32_935 k0_t4
  let v1418 : Index := Scalar.indexCast arg19
  let c752 : Index := 752#32
  ![1, v1418.toNat, 752]
def k0_off243 (k0_t4 : Fin k0_t4_loop.trips) : Fin 3 → Nat :=
  let c1_i32_1201 : BitVec 32 := 1#32
  let v1429 : Index := Scalar.indexCast c1_i32_1201
  let c0_i32_933 : BitVec 32 := 0#32
  let c1_i32_935 : BitVec 32 := 1#32
  let arg19 : BitVec 32 := Scf.iv c0_i32_933 c1_i32_935 k0_t4
  let v1430 : Index := Scalar.indexCast arg19
  let c768 : Index := 768#32
  ![1, v1430.toNat, 768]
def k0_off244 (k0_t4 : Fin k0_t4_loop.trips) : Fin 3 → Nat :=
  let c1_i32_1206 : BitVec 32 := 1#32
  let v1441 : Index := Scalar.indexCast c1_i32_1206
  let c0_i32_933 : BitVec 32 := 0#32
  let c1_i32_935 : BitVec 32 := 1#32
  let arg19 : BitVec 32 := Scf.iv c0_i32_933 c1_i32_935 k0_t4
  let v1442 : Index := Scalar.indexCast arg19
  let c784 : Index := 784#32
  ![1, v1442.toNat, 784]
def k0_off245 (k0_t4 : Fin k0_t4_loop.trips) : Fin 3 → Nat :=
  let c1_i32_1211 : BitVec 32 := 1#32
  let v1453 : Index := Scalar.indexCast c1_i32_1211
  let c0_i32_933 : BitVec 32 := 0#32
  let c1_i32_935 : BitVec 32 := 1#32
  let arg19 : BitVec 32 := Scf.iv c0_i32_933 c1_i32_935 k0_t4
  let v1454 : Index := Scalar.indexCast arg19
  let c800 : Index := 800#32
  ![1, v1454.toNat, 800]
def k0_off246 (k0_t4 : Fin k0_t4_loop.trips) : Fin 3 → Nat :=
  let c1_i32_1216 : BitVec 32 := 1#32
  let v1465 : Index := Scalar.indexCast c1_i32_1216
  let c0_i32_933 : BitVec 32 := 0#32
  let c1_i32_935 : BitVec 32 := 1#32
  let arg19 : BitVec 32 := Scf.iv c0_i32_933 c1_i32_935 k0_t4
  let v1466 : Index := Scalar.indexCast arg19
  let c816 : Index := 816#32
  ![1, v1466.toNat, 816]
def k0_off247 (k0_t4 : Fin k0_t4_loop.trips) : Fin 3 → Nat :=
  let c1_i32_1221 : BitVec 32 := 1#32
  let v1477 : Index := Scalar.indexCast c1_i32_1221
  let c0_i32_933 : BitVec 32 := 0#32
  let c1_i32_935 : BitVec 32 := 1#32
  let arg19 : BitVec 32 := Scf.iv c0_i32_933 c1_i32_935 k0_t4
  let v1478 : Index := Scalar.indexCast arg19
  let c832 : Index := 832#32
  ![1, v1478.toNat, 832]
def k0_off248 (k0_t4 : Fin k0_t4_loop.trips) : Fin 3 → Nat :=
  let c1_i32_1226 : BitVec 32 := 1#32
  let v1489 : Index := Scalar.indexCast c1_i32_1226
  let c0_i32_933 : BitVec 32 := 0#32
  let c1_i32_935 : BitVec 32 := 1#32
  let arg19 : BitVec 32 := Scf.iv c0_i32_933 c1_i32_935 k0_t4
  let v1490 : Index := Scalar.indexCast arg19
  let c848 : Index := 848#32
  ![1, v1490.toNat, 848]
def k0_off249 (k0_t4 : Fin k0_t4_loop.trips) : Fin 3 → Nat :=
  let c1_i32_1231 : BitVec 32 := 1#32
  let v1501 : Index := Scalar.indexCast c1_i32_1231
  let c0_i32_933 : BitVec 32 := 0#32
  let c1_i32_935 : BitVec 32 := 1#32
  let arg19 : BitVec 32 := Scf.iv c0_i32_933 c1_i32_935 k0_t4
  let v1502 : Index := Scalar.indexCast arg19
  let c864 : Index := 864#32
  ![1, v1502.toNat, 864]
def k0_off250 (k0_t4 : Fin k0_t4_loop.trips) : Fin 3 → Nat :=
  let c1_i32_1236 : BitVec 32 := 1#32
  let v1513 : Index := Scalar.indexCast c1_i32_1236
  let c0_i32_933 : BitVec 32 := 0#32
  let c1_i32_935 : BitVec 32 := 1#32
  let arg19 : BitVec 32 := Scf.iv c0_i32_933 c1_i32_935 k0_t4
  let v1514 : Index := Scalar.indexCast arg19
  let c880 : Index := 880#32
  ![1, v1514.toNat, 880]
def k0_off251 (k0_t4 : Fin k0_t4_loop.trips) : Fin 3 → Nat :=
  let c1_i32_1241 : BitVec 32 := 1#32
  let v1525 : Index := Scalar.indexCast c1_i32_1241
  let c0_i32_933 : BitVec 32 := 0#32
  let c1_i32_935 : BitVec 32 := 1#32
  let arg19 : BitVec 32 := Scf.iv c0_i32_933 c1_i32_935 k0_t4
  let v1526 : Index := Scalar.indexCast arg19
  let c896 : Index := 896#32
  ![1, v1526.toNat, 896]
def k0_off252 (k0_t4 : Fin k0_t4_loop.trips) : Fin 3 → Nat :=
  let c1_i32_1246 : BitVec 32 := 1#32
  let v1537 : Index := Scalar.indexCast c1_i32_1246
  let c0_i32_933 : BitVec 32 := 0#32
  let c1_i32_935 : BitVec 32 := 1#32
  let arg19 : BitVec 32 := Scf.iv c0_i32_933 c1_i32_935 k0_t4
  let v1538 : Index := Scalar.indexCast arg19
  let c912 : Index := 912#32
  ![1, v1538.toNat, 912]
def k0_off253 (k0_t4 : Fin k0_t4_loop.trips) : Fin 3 → Nat :=
  let c1_i32_1251 : BitVec 32 := 1#32
  let v1549 : Index := Scalar.indexCast c1_i32_1251
  let c0_i32_933 : BitVec 32 := 0#32
  let c1_i32_935 : BitVec 32 := 1#32
  let arg19 : BitVec 32 := Scf.iv c0_i32_933 c1_i32_935 k0_t4
  let v1550 : Index := Scalar.indexCast arg19
  let c928 : Index := 928#32
  ![1, v1550.toNat, 928]
def k0_off254 (k0_t4 : Fin k0_t4_loop.trips) : Fin 3 → Nat :=
  let c1_i32_1256 : BitVec 32 := 1#32
  let v1561 : Index := Scalar.indexCast c1_i32_1256
  let c0_i32_933 : BitVec 32 := 0#32
  let c1_i32_935 : BitVec 32 := 1#32
  let arg19 : BitVec 32 := Scf.iv c0_i32_933 c1_i32_935 k0_t4
  let v1562 : Index := Scalar.indexCast arg19
  let c944 : Index := 944#32
  ![1, v1562.toNat, 944]
def k0_off255 (k0_t4 : Fin k0_t4_loop.trips) : Fin 3 → Nat :=
  let c1_i32_1261 : BitVec 32 := 1#32
  let v1573 : Index := Scalar.indexCast c1_i32_1261
  let c0_i32_933 : BitVec 32 := 0#32
  let c1_i32_935 : BitVec 32 := 1#32
  let arg19 : BitVec 32 := Scf.iv c0_i32_933 c1_i32_935 k0_t4
  let v1574 : Index := Scalar.indexCast arg19
  let c960 : Index := 960#32
  ![1, v1574.toNat, 960]
def k0_off256 (k0_t4 : Fin k0_t4_loop.trips) : Fin 3 → Nat :=
  let c1_i32_1266 : BitVec 32 := 1#32
  let v1585 : Index := Scalar.indexCast c1_i32_1266
  let c0_i32_933 : BitVec 32 := 0#32
  let c1_i32_935 : BitVec 32 := 1#32
  let arg19 : BitVec 32 := Scf.iv c0_i32_933 c1_i32_935 k0_t4
  let v1586 : Index := Scalar.indexCast arg19
  let c976 : Index := 976#32
  ![1, v1586.toNat, 976]
def k0_off257 (k0_t4 : Fin k0_t4_loop.trips) : Fin 3 → Nat :=
  let c1_i32_1271 : BitVec 32 := 1#32
  let v1597 : Index := Scalar.indexCast c1_i32_1271
  let c0_i32_933 : BitVec 32 := 0#32
  let c1_i32_935 : BitVec 32 := 1#32
  let arg19 : BitVec 32 := Scf.iv c0_i32_933 c1_i32_935 k0_t4
  let v1598 : Index := Scalar.indexCast arg19
  let c992 : Index := 992#32
  ![1, v1598.toNat, 992]
def k0_off258 (k0_t4 : Fin k0_t4_loop.trips) : Fin 3 → Nat :=
  let c1_i32_1276 : BitVec 32 := 1#32
  let v1609 : Index := Scalar.indexCast c1_i32_1276
  let c0_i32_933 : BitVec 32 := 0#32
  let c1_i32_935 : BitVec 32 := 1#32
  let arg19 : BitVec 32 := Scf.iv c0_i32_933 c1_i32_935 k0_t4
  let v1610 : Index := Scalar.indexCast arg19
  let c1008 : Index := 1008#32
  ![1, v1610.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S7680x1024 : Shape := ⟨2, ![7680, 1024]⟩
abbrev S2048 : Shape := ⟨1, ![2048]⟩
abbrev S2048x1 : Shape := ⟨2, ![2048, 1]⟩
abbrev S_ : Shape := ⟨0, ![]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S7680x1024, .f32⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S2048x1, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | _, _ => ⟨S7680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Dispatch.lean ====
abbrev S2048x1024 : Shape := ⟨2, ![2048, 1024]⟩
abbrev S2048 : Shape := ⟨1, ![2048]⟩
abbrev S32x16 : Shape := ⟨2, ![32, 16]⟩
abbrev S7680x1024 : Shape := ⟨2, ![7680, 1024]⟩
abbrev S64 : Shape := ⟨1, ![64]⟩
abbrev S16 : Shape := ⟨1, ![16]⟩
abbrev S64x1024 : Shape := ⟨2, ![64, 1024]⟩
abbrev S_ : Shape := ⟨0, ![]⟩
abbrev S8 : Shape := ⟨1, ![8]⟩
abbrev S1x16 : Shape := ⟨2, ![1, 16]⟩
abbrev S64x128 : Shape := ⟨2, ![64, 128]⟩
abbrev S7680x128 : Shape := ⟨2, ![7680, 128]⟩
abbrev S1 : Shape := ⟨1, ![1]⟩

abbrev nBuf : Table → Nat
  | .hbm => 7
  | .local .scVector .vmem => 6
  | _ => 0

abbrev bufTy : (tb : Table) → Fin (nBuf tb) → BufTy
  | .hbm, ⟨0, _⟩ => ⟨S2048x1024, .f32⟩
  | .hbm, ⟨1, _⟩ => ⟨S2048, .i32⟩
  | .hbm, ⟨2, _⟩ => ⟨S2048, .i32⟩
  | .hbm, ⟨3, _⟩ => ⟨S32x16, .i32⟩
  | .hbm, ⟨4, _⟩ => ⟨S7680x1024, .f32⟩
  | .hbm, ⟨5, _⟩ => ⟨S2048, .i32⟩
  | .hbm, ⟨6, _⟩ => ⟨S2048, .i32⟩
  | .local .scVector .vmem, ⟨0, _⟩ => ⟨S64, .i32⟩
  | .local .scVector .vmem, ⟨1, _⟩ => ⟨S64, .i32⟩
  | .local .scVector .vmem, ⟨2, _⟩ => ⟨S64, .i32⟩
  | .local .scVector .vmem, ⟨3, _⟩ => ⟨S64, .i32⟩
  | .local .scVector .vmem, ⟨4, _⟩ => ⟨S16, .i32⟩
  | .local .scVector .vmem, ⟨5, _⟩ => ⟨S64x1024, .f32⟩
  | _, _ => ⟨S2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev main_v0_2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_682_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DispatchReferenceIdeal.lean ====
abbrev S2048x1024 : Shape := ⟨2, ![2048, 1024]⟩
abbrev S2048 : Shape := ⟨1, ![2048]⟩
abbrev S32x16 : Shape := ⟨2, ![32, 16]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x16 : Shape := ⟨2, ![2048, 16]⟩
abbrev S16 : Shape := ⟨1, ![16]⟩
abbrev S1x16 : Shape := ⟨2, ![1, 16]⟩
abbrev S7680x1024 : Shape := ⟨2, ![7680, 1024]⟩

abbrev nBuf : Space → Nat
  | .hbm => 146
  | .vmem => 0
  | .smem => 0
  | _ => 0

abbrev hbmTy0_0 (i : Nat) : BufTy := match i % 128 with
  | 0 => ⟨S2048x1024, .f32⟩
  | 1 => ⟨S2048, .i32⟩
  | 2 => ⟨S2048, .i32⟩
  | 3 => ⟨S32x16, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048x1, .i32⟩
  | 12 => ⟨S1x2048, .i32⟩
  | 13 => ⟨S2048x2048, .i32⟩
  | 14 => ⟨S2048x2048, .i32⟩
  | 15 => ⟨S2048x2048, .i1⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S2048x2048, .i1⟩
  | 22 => ⟨S1x2048, .i32⟩
  | 23 => ⟨S2048x1, .i32⟩
  | 24 => ⟨S2048x2048, .i32⟩
  | 25 => ⟨S2048x2048, .i32⟩
  | 26 => ⟨S2048x2048, .i1⟩
  | 27 => ⟨S2048x2048, .i1⟩
  | 28 => ⟨S1x2048, .i32⟩
  | 29 => ⟨S2048x1, .i32⟩
  | 30 => ⟨S2048x2048, .i32⟩
  | 31 => ⟨S2048x2048, .i32⟩
  | 32 => ⟨S2048x2048, .i1⟩
  | 33 => ⟨S2048x2048, .i1⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S2048x16, .i32⟩
  | 43 => ⟨S16, .i32⟩
  | 44 => ⟨S1x2048, .i32⟩
  | 45 => ⟨S2048x1, .i32⟩
  | 46 => ⟨S2048x2048, .i32⟩
  | 47 => ⟨S2048x2048, .i32⟩
  | 48 => ⟨S2048x2048, .i1⟩
  | 49 => ⟨S2048x2048, .i1⟩
  | 50 => ⟨S_, .i32⟩
  | 51 => ⟨S_, .i32⟩
  | 52 => ⟨S2048x2048, .i32⟩
  | 53 => ⟨S2048x2048, .i32⟩
  | 54 => ⟨S2048x2048, .i32⟩
  | 55 => ⟨S2048x2048, .i32⟩
  | 56 => ⟨S_, .i32⟩
  | 57 => ⟨S2048, .i32⟩
  | 58 => ⟨S1x2048, .i32⟩
  | 59 => ⟨S2048x1, .i32⟩
  | 60 => ⟨S2048x2048, .i32⟩
  | 61 => ⟨S2048x2048, .i32⟩
  | 62 => ⟨S2048x2048, .i1⟩
  | 63 => ⟨S2048x2048, .i1⟩
  | 64 => ⟨S_, .i32⟩
  | 65 => ⟨S_, .i32⟩
  | 66 => ⟨S2048x2048, .i32⟩
  | 67 => ⟨S2048x2048, .i32⟩
  | 68 => ⟨S2048x2048, .i32⟩
  | 69 => ⟨S2048x2048, .i32⟩
  | 70 => ⟨S_, .i32⟩
  | 71 => ⟨S2048, .i32⟩
  | 72 => ⟨S1x16, .i32⟩
  | 73 => ⟨S2048x1, .i32⟩
  | 74 => ⟨S2048x16, .i32⟩
  | 75 => ⟨S2048x16, .i32⟩
  | 76 => ⟨S2048x16, .i1⟩
  | 77 => ⟨S_, .i32⟩
  | 78 => ⟨S_, .i32⟩
  | 79 => ⟨S2048x16, .i32⟩
  | 80 => ⟨S2048x16, .i32⟩
  | 81 => ⟨S_, .i32⟩
  | 82 => ⟨S2048, .i32⟩
  | 83 => ⟨S2048, .i32⟩
  | 84 => ⟨S2048, .i32⟩
  | 85 => ⟨S1x2048, .i32⟩
  | 86 => ⟨S2048x1, .i32⟩
  | 87 => ⟨S2048x2048, .i32⟩
  | 88 => ⟨S2048x2048, .i32⟩
  | 89 => ⟨S2048x2048, .i1⟩
  | 90 => ⟨S2048x2048, .i1⟩
  | 91 => ⟨S_, .i32⟩
  | 92 => ⟨S_, .i32⟩
  | 93 => ⟨S2048x2048, .i32⟩
  | 94 => ⟨S2048x2048, .i32⟩
  | 95 => ⟨S2048x2048, .i32⟩
  | 96 => ⟨S2048x2048, .i32⟩
  | 97 => ⟨S_, .i32⟩
  | 98 => ⟨S2048, .i32⟩
  | 99 => ⟨S1x2048, .i32⟩
  | 100 => ⟨S2048x1, .i32⟩
  | 101 => ⟨S2048x2048, .i32⟩
  | 102 => ⟨S2048x2048, .i32⟩
  | 103 => ⟨S2048x2048, .i1⟩
  | 104 => ⟨S2048x2048, .i1⟩
  | 105 => ⟨S_, .i32⟩
  | 106 => ⟨S_, .i32⟩
  | 107 => ⟨S2048x2048, .i32⟩
  | 108 => ⟨S2048x2048, .i32⟩
  | 109 => ⟨S2048x2048, .i32⟩
  | 110 => ⟨S2048x2048, .i32⟩
  | 111 => ⟨S_, .i32⟩
  | 112 => ⟨S2048, .i32⟩
  | 113 => ⟨S1x16, .i32⟩
  | 114 => ⟨S2048x1, .i32⟩
  | 115 => ⟨S2048x16, .i32⟩
  | 116 => ⟨S2048x16, .i32⟩
  | 117 => ⟨S2048x16, .i1⟩
  | 118 => ⟨S_, .i32⟩
  | 119 => ⟨S_, .i32⟩
  | 120 => ⟨S2048x16, .i32⟩
  | 121 => ⟨S2048x16, .i32⟩
  | 122 => ⟨S_, .i32⟩
  | 123 => ⟨S2048, .i32⟩
  | 124 => ⟨S2048, .i32⟩
  | 125 => ⟨S2048, .i32⟩
  | 126 => ⟨S_, .f32⟩
  | 127 => ⟨S7680x1024, .f32⟩
  | _ => ⟨S2048x1024, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S7680x1024, .f32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S7680x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_c_4 : Ref sig .tc := ⟨.hbm, 51, rfl⟩
abbrev main_call0_v0 : Ref sig .tc := ⟨.hbm, 52, rfl⟩
abbrev main_call0_v1 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_c_7 : Ref sig .tc := ⟨.hbm, 65, rfl⟩
abbrev main_call1_v0 : Ref sig .tc := ⟨.hbm, 66, rfl⟩
abbrev main_call1_v1 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_call2_v0 : Ref sig .tc := ⟨.hbm, 78, rfl⟩
abbrev main_call2_v1 : Ref sig .tc := ⟨.hbm, 79, rfl⟩
abbrev main_v59 : Ref sig .tc := ⟨.hbm, 80, rfl⟩
abbrev main_c_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_c_12 : Ref sig .tc := ⟨.hbm, 92, rfl⟩
abbrev main_call3_v0 : Ref sig .tc := ⟨.hbm, 93, rfl⟩
abbrev main_call3_v1 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_c_15 : Ref sig .tc := ⟨.hbm, 106, rfl⟩
abbrev main_call4_v0 : Ref sig .tc := ⟨.hbm, 107, rfl⟩
abbrev main_call4_v1 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_17 : Ref sig .tc := ⟨.hbm, 118, rfl⟩
abbrev main_call5_v0 : Ref sig .tc := ⟨.hbm, 119, rfl⟩
abbrev main_call5_v1 : Ref sig .tc := ⟨.hbm, 120, rfl⟩
abbrev main_v86 : Ref sig .tc := ⟨.hbm, 121, rfl⟩
abbrev main_c_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_c_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_21 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== Experts.lean ====
abbrev S48 : Shape := ⟨1, ![48]⟩
abbrev S7680x1024 : Shape := ⟨2, ![7680, 1024]⟩
abbrev S8x1024x1024 : Shape := ⟨3, ![8, 1024, 1024]⟩
abbrev S512x1024 : Shape := ⟨2, ![512, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S7680x1024, .f32⟩
  | .hbm, ⟨1, _⟩ => ⟨S8x1024x1024, .f32⟩
  | .hbm, ⟨2, _⟩ => ⟨S8x1024x1024, .f32⟩
  | .hbm, ⟨3, _⟩ => ⟨S7680x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S512x1024, .f32⟩
  | .local _ .vmem, ⟨7, _⟩ => ⟨S512x1024, .f32⟩
  | .local _ .smem, ⟨0, _⟩ => ⟨S48, .i32⟩
  | _, _ => ⟨S7680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S48 : Shape := ⟨1, ![48]⟩
abbrev S7680x1024 : Shape := ⟨2, ![7680, 1024]⟩
abbrev S8x1024x1024 : Shape := ⟨3, ![8, 1024, 1024]⟩
abbrev S15 : Shape := ⟨1, ![15]⟩
abbrev S15x512x1024 : Shape := ⟨3, ![15, 512, 1024]⟩
abbrev S_ : Shape := ⟨0, ![]⟩
abbrev S15x1 : Shape := ⟨2, ![15, 1]⟩
abbrev S15x1024x1024 : Shape := ⟨3, ![15, 1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S48, .i32⟩
  | .hbm, ⟨1, _⟩ => ⟨S7680x1024, .f32⟩
  | .hbm, ⟨2, _⟩ => ⟨S8x1024x1024, .f32⟩
  | .hbm, ⟨3, _⟩ => ⟨S8x1024x1024, .f32⟩
  | .hbm, ⟨4, _⟩ => ⟨S15, .i32⟩
  | .hbm, ⟨5, _⟩ => ⟨S15x512x1024, .f32⟩
  | .hbm, ⟨6, _⟩ => ⟨S_, .i32⟩
  | .hbm, ⟨7, _⟩ => ⟨S15, .i32⟩
  | .hbm, ⟨8, _⟩ => ⟨S15, .i1⟩
  | .hbm, ⟨9, _⟩ => ⟨S_, .i32⟩
  | .hbm, ⟨10, _⟩ => ⟨S15, .i32⟩
  | .hbm, ⟨11, _⟩ => ⟨S15, .i32⟩
  | .hbm, ⟨12, _⟩ => ⟨S15, .i32⟩
  | .hbm, ⟨13, _⟩ => ⟨S15x1, .i32⟩
  | .hbm, ⟨14, _⟩ => ⟨S15x1024x1024, .f32⟩
  | .hbm, ⟨15, _⟩ => ⟨S15x512x1024, .f32⟩
  | .hbm, ⟨16, _⟩ => ⟨S15x512x1024, .bf16⟩
  | .hbm, ⟨17, _⟩ => ⟨S15x512x1024, .bf16⟩
  | .hbm, ⟨18, _⟩ => ⟨S15x512x1024, .bf16⟩
  | .hbm, ⟨19, _⟩ => ⟨S_, .bf16⟩
  | .hbm, ⟨20, _⟩ => ⟨S15x512x1024, .bf16⟩
  | .hbm, ⟨21, _⟩ => ⟨S15x512x1024, .bf16⟩
  | .hbm, ⟨22, _⟩ => ⟨S15x512x1024, .bf16⟩
  | .hbm, ⟨23, _⟩ => ⟨S_, .bf16⟩
  | .hbm, ⟨24, _⟩ => ⟨S15x512x1024, .bf16⟩
  | .hbm, ⟨25, _⟩ => ⟨S15x512x1024, .bf16⟩
  | .hbm, ⟨26, _⟩ => ⟨S15x512x1024, .bf16⟩
  | .hbm, ⟨27, _⟩ => ⟨S_, .bf16⟩
  | .hbm, ⟨28, _⟩ => ⟨S15x512x1024, .bf16⟩
  | .hbm, ⟨29, _⟩ => ⟨S15x512x1024, .bf16⟩
  | .hbm, ⟨30, _⟩ => ⟨S_, .bf16⟩
  | .hbm, ⟨31, _⟩ => ⟨S15x512x1024, .bf16⟩
  | .hbm, ⟨32, _⟩ => ⟨S15x512x1024, .bf16⟩
  | .hbm, ⟨33, _⟩ => ⟨S15x512x1024, .bf16⟩
  | .hbm, ⟨34, _⟩ => ⟨S_, .i32⟩
  | .hbm, ⟨35, _⟩ => ⟨S15, .i32⟩
  | .hbm, ⟨36, _⟩ => ⟨S15, .i1⟩
  | .hbm, ⟨37, _⟩ => ⟨S_, .i32⟩
  | .hbm, ⟨38, _⟩ => ⟨S15, .i32⟩
  | .hbm, ⟨39, _⟩ => ⟨S15, .i32⟩
  | .hbm, ⟨40, _⟩ => ⟨S15, .i32⟩
  | .hbm, ⟨41, _⟩ => ⟨S15x1, .i32⟩
  | .hbm, ⟨42, _⟩ => ⟨S15x1024x1024, .f32⟩
  | .hbm, ⟨43, _⟩ => ⟨S15x512x1024, .f32⟩
  | .hbm, ⟨44, _⟩ => ⟨S7680x1024, .f32⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Body.lean ====
/-
  The combine kernel's body, restated as a short program over the chunk number and the buffer half: the printed text
  spells out every gather, wait and lane group; here each is written once. `body_eq` says the two are one program.
-/
module

public import proofs.«01_k».proof.Proof.Gen.KernelIdeal

@[expose] public section

noncomputable section

namespace Cert.Proof.Combine

open Cert.KernelIdeal Cert.KernelIdeal.Gen
open Idealize.ShloMosaic Idealize.SL.Sem

variable {F : FTy → Type} [FloatOps F]

/-- The tile's programs: those of one vector subcore of the launch grid. -/
abbrev TP (F : FTy → Type) [FloatOps F] (i : grid0.Coords) (α : Type) :=
  Prog (TpuEff nD τ sig (Elt F) Λ₀ (.scVector ((i 0).castLE hcore0) ((i 1).castLE hsub0))) α

/-- Lanes `[16j, 16j + 16)` of row `t` of half `b` lie in the row buffers. -/
theorem lane_inb (b t j : ℕ) (hb : b < 2) (ht : t < 16) (hj : j < 64) :
    ∀ a, (![b, t, 16 * j] : Fin 3 → ℕ) a + S1x1x16.size a ≤ S2x16x1024.size a := by
  intro a; fin_cases a <;> simp <;> omega
/-- Columns `[128k, 128k + 128)` of half `b` lie in the row buffers. -/
theorem win_inb (b k : ℕ) (hb : b < 2) (hk : k < 8) :
    ∀ a, (![b, 0, 128 * k] : Fin 3 → ℕ) a + S1x16x128.size a ≤ S2x16x1024.size a := by
  intro a; fin_cases a <;> simp <;> omega
/-- Half `b` lies in the row buffers. -/
theorem half_inb (b : ℕ) (hb : b < 2) :
    ∀ a, (![b, 0, 0] : Fin 3 → ℕ) a + S1x16x1024.size a ≤ S2x16x1024.size a := by
  intro a; fin_cases a <;> simp <;> omega
/-- Columns `[128k, 128k + 128)` lie in the table. -/
theorem col_inb (k : ℕ) (hk : k < 8) :
    ∀ a, (![0, 128 * k] : Fin 2 → ℕ) a + S7680x128.size a ≤ S7680x1024.size a := by
  intro a; fin_cases a <;> simp <;> omega
/-- Chunk `ci`'s sixteen entries lie in the lists. -/
theorem list_inb (ci : ℕ) (h : ci < 4) : ∀ a, (![16 * ci] : Fin 1 → ℕ) a + S16.size a ≤ S64.size a := by
  intro a; fin_cases a; simp; omega
/-- Semaphore `k` lies in the array of eight. -/
theorem sem_inb (k : ℕ) (h : k < 8) : ∀ a, (![k] : Fin 1 → ℕ) a + S1.size a ≤ S8.size a := by
  intro a; fin_cases a; simp; omega

/-- The row number of trip `t`, as the loop computes it. -/
abbrev rowOfTrip (t : Fin k0_t1_loop.trips) : BitVec 32 := Scf.iv (0#32 : BitVec 32) 1#32 t

/-- Where lane group `j` of trip `t` starts in half `b` of the row buffers. -/
abbrev laneOff (b j : ℕ) (t : Fin k0_t1_loop.trips) : Fin 3 → ℕ := ![b, (Scalar.indexCast (rowOfTrip t)).toNat, 16 * j]

theorem rowOfTrip_toNat : ∀ t : Fin k0_t1_loop.trips, (Scalar.indexCast (rowOfTrip t)).toNat = t.val := by decide
theorem trips_eq : k0_t1_loop.trips = 16 := by decide

theorem laneOff_inb (b j : ℕ) (hb : b < 2) (hj : j < 64) (t : Fin k0_t1_loop.trips) :
    ∀ a, laneOff b j t a + S1x1x16.size a ≤ S2x16x1024.size a := by
  unfold laneOff; rw [rowOfTrip_toNat]
  exact lane_inb b t.val j hb (trips_eq ▸ t.isLt) hj

section Prog

variable (i : grid0.Coords) (yH : Memref sig .scVector .hbm S7680x1024 .f32)
  (s0H s1H : Memref sig .scVector .hbm S2048 .i32) (p0H p1H : Memref sig .scVector .hbm S2048 .f32)
  (oH : Memref sig .scVector .hbm S2048x1024 .f32)
  (s0V s1V : Memref sig .scVector .vmem S64 .i32) (h0V : s0V.IsWhole) (h1V : s1V.IsWhole)
  (p0V p1V : Memref sig .scVector .vmem S64 .f32) (hp0V : p0V.IsWhole) (hp1V : p1V.IsWhole)
  (y0V y1V oV : Memref sig .scVector .vmem S2x16x1024 .f32)
  (semI : DmaSems sig S_) (semG0 semG1 : DmaSems sig S8) (semO : DmaSems sig S_)

/-- One lane group of a row: `out = p0 * y0 + p1 * y1` on sixteen lanes. -/
def laneStep (b j : ℕ) (hb : b < 2) (hj : j < 64) (t : Fin k0_t1_loop.trips) (q0 q1 : Vec F S16 .f32) : TP F i PUnit := do
  let a ← Prog.lift (.load y0V (Rect.unit (s := S2x16x1024) (laneOff b j t) S1x1x16.size (laneOff_inb b j hb hj t)).toLoadRect (View.loadsAt_vmem Gen.h_S1x1x16))
  let c ← Prog.lift (.load y1V (Rect.unit (s := S2x16x1024) (laneOff b j t) S1x1x16.size (laneOff_inb b j hb hj t)).toLoadRect (View.loadsAt_vmem Gen.h_S1x1x16))
  let _ ← Prog.lift (.load oV (Rect.unit (s := S2x16x1024) (laneOff b j t) S1x1x16.size (laneOff_inb b j hb hj t)).toLoadRect (View.loadsAt_vmem Gen.h_S1x1x16))
  Prog.lift (.store oV (Rect.unit (s := S2x16x1024) (laneOff b j t) S1x1x16.size (laneOff_inb b j hb hj t))
    (shapeCast S1x1x16 (addf (mulf q0 (shapeCast S16 a Gen.shapeCasts_S1x1x16_S16)) (mulf q1 (shapeCast S16 c Gen.shapeCasts_S1x1x16_S16))) Gen.shapeCasts_S16_S1x1x16)
    Finset.univ (View.stores_vmem_bits_univ Gen.h_S1x1x16 rfl) (.inl rfl))

/-- The last `n` of a row's 64 lane groups, in order. -/
def laneRun (b : ℕ) (hb : b < 2) (t : Fin k0_t1_loop.trips) (q0 q1 : Vec F S16 .f32) : (n : ℕ) → n ≤ 64 → TP F i PUnit
  | 0, _ => pure ⟨⟩
  | n + 1, h => do
    laneStep i y0V y1V oV b (64 - (n + 1)) hb (by omega) t q0 q1
    laneRun b hb t q0 q1 n (by omega)

/-- What the loop asks of the lanes of a one-word gather. -/
abbrev LaneChk (v : IVec S16 32) : Prop := ∀ a x, ((![v] : Fin 1 → IVec S16 32) a x).toNat < S64.size a
instance LaneChk.dec (v : IVec S16 32) : Decidable (LaneChk v) := k0_chk1.dec v

/-- One trip of a chunk's loop: the row's two weights, broadcast by a one-word gather, then its 64 lane groups. -/
def rowTrip (ci b : ℕ) (hb : b < 2) (t : Fin k0_t1_loop.trips) : TP F i (BitVec 32) := do
  have v0 : IVec S16 32 := broadcast S16 (Scalar.addi (BitVec.ofNat 32 (16 * ci)) (rowOfTrip t))
  have h0 : LaneChk v0 := (← Prog.lift (TpuEff.assume (LaneChk v0) (LaneChk.dec v0))).down
  let q0 : Vec F S16 .f32 ← SparseCore.vectorLoadIdx p0V ![v0] h0 (View.loads_vmem Gen.h_S64)
  have h1 : LaneChk v0 := (← Prog.lift (TpuEff.assume (LaneChk v0) (LaneChk.dec v0))).down
  let q1 : Vec F S16 .f32 ← SparseCore.vectorLoadIdx p1V ![v0] h1 (View.loads_vmem Gen.h_S64)
  laneRun i y0V y1V oV b hb t q0 q1 64 le_rfl
  pure 0#32

/-- A chunk's loop over its sixteen rows. -/
def rowLoop (ci b : ℕ) (hb : b < 2) : TP F i (BitVec 32) :=
  Scf.Loop.for k0_t1_loop Gen.k0_t1_ok 0#32 fun t _ => rowTrip i p0V p1V y0V y1V oV ci b hb t

/-- Columns `[128k, 128k + 128)` of half `b` of a row buffer, the gather's destination. -/
abbrev winM (yV : Memref sig .scVector .vmem S2x16x1024 .f32) (b k : ℕ) (hb : b < 2) (hk : k < 8) : Memref sig .scVector .vmem S16x128 .f32 :=
  (yV.slice (Rect.unit (s := S2x16x1024) ![b, 0, 128 * k] S1x16x128.size (win_inb b k hb hk)) (fun _ => rfl)).squeeze S16x128 Gen.squeezes_S1x16x128_S16x128
/-- Columns `[128k, 128k + 128)` of the table, the gather's source. -/
abbrev colM (k : ℕ) (hk : k < 8) : Memref sig .scVector .hbm S7680x128 .f32 :=
  yH.slice (Rect.unit (s := S7680x1024) ![0, 128 * k] S7680x128.size (col_inb k hk)) (fun _ => rfl)
/-- Chunk `ci`'s sixteen entries of a slot list. -/
abbrev listM (sV : Memref sig .scVector .vmem S64 .i32) (ci : ℕ) (hci : ci < 4) : Memref sig .scVector .vmem S16 .i32 :=
  sV.slice (Rect.unit (s := S64) ![16 * ci] S16.size (list_inb ci hci)) (fun _ => rfl)
/-- Semaphore `k` of a table's eight. -/
abbrev semK (sem : DmaSems sig S8) (k : ℕ) (hk : k < 8) : DmaSem sig :=
  ((sem.slice (Rect.unit (s := S8) ![k] S1.size (sem_inb k hk))).squeeze S_ Gen.squeezes_S1_S_).sem

/-- The start of the last `n` of a chunk's eight column gathers, in order, then `k`. -/
def issueRun (sV : Memref sig .scVector .vmem S64 .i32) (yV : Memref sig .scVector .vmem S2x16x1024 .f32) (sem : DmaSems sig S8)
    (ci b : ℕ) (hci : ci < 4) (hb : b < 2) (k : TP F i PUnit) : (n : ℕ) → n ≤ 8 → TP F i PUnit
  | 0, _ => k
  | n + 1, h =>
    SparseCore.enqueueIndirectGather rfl (colM yH (8 - (n + 1)) (by omega)) (winM yV b (8 - (n + 1)) hb (by omega)) Gen.gathers_S7680x128_S16x128
      (listM sV ci hci) rfl (semK sem (8 - (n + 1)) (by omega)) (View.wordExact_bits rfl) rfl (Or.inl rfl) >>= fun _ =>
    issueRun sV yV sem ci b hci hb k n (by omega)

/-- The wait for the last `n` of a chunk's eight column gathers, in order, then `k`. -/
def waitRun (yV : Memref sig .scVector .vmem S2x16x1024 .f32) (sem : DmaSems sig S8)
    (b : ℕ) (hb : b < 2) (k : TP F i PUnit) : (n : ℕ) → n ≤ 8 → TP F i PUnit
  | 0, _ => k
  | n + 1, h =>
    SparseCore.waitIndirectGather (semK sem (8 - (n + 1)) (by omega)) (colM yH (8 - (n + 1)) (by omega)) (winM yV b (8 - (n + 1)) hb (by omega))
      (View.wordExact_bits rfl) ((View.wordExact_bits rfl).reshape _ _) >>= fun _ =>
    waitRun yV sem b hb k n (by omega)

/-- Half `b` of the result buffer, the source of a chunk's copy out. -/
abbrev outHalf (b : ℕ) (hb : b < 2) : Memref sig .scVector .vmem S16x1024 .f32 :=
  (oV.slice (Rect.unit (s := S2x16x1024) ![b, 0, 0] S1x16x1024.size (half_inb b hb)) (fun _ => rfl)).squeeze S16x1024 Gen.squeezes_S1x16x1024_S16x1024
/-- The sixteen result rows of chunk `ci`, its destination. -/
abbrev outRows (ci : Fin 4) : Memref sig .scVector .hbm S16x1024 .f32 :=
  oH.slice (Rect.unit (s := S2048x1024) (k0_off66 i (BitVec.ofNat 32 (16 * ci.val))) S16x1024.size (Gen.k0_off66_inb i ci)) (fun _ => rfl)

/-- Chunk `ci`'s copy out of half `b` started, then `k`. -/
def sendOut (ci : Fin 4) (b : ℕ) (hb : b < 2) (k : TP F i PUnit) : TP F i PUnit :=
  Prog.lift (.enqueueDma (outHalf oV b hb) (.here (outRows i oH ci)) (.dma semO.sem) ((View.wordExact_bits rfl).reshape _ _) (View.wordExact_bits rfl) ⟨Or.inl rfl, trivial⟩) >>= fun _ => k
/-- The same copy waited for, then `k`. -/
def waitOut (ci : Fin 4) (b : ℕ) (hb : b < 2) (k : TP F i PUnit) : TP F i PUnit :=
  Prog.lift (.waitDma2 semO.sem (outHalf oV b hb) (outRows i oH ci) ((View.wordExact_bits rfl).reshape _ _) (View.wordExact_bits rfl)) >>= fun _ => k

/-- This tile's 64 words of an integer argument. -/
abbrev mineI (sH : Memref sig .scVector .hbm S2048 .i32) : Memref sig .scVector .hbm S64 .i32 :=
  sH.slice (Rect.unit (s := S2048) (k0_off1 i) S64.size (Gen.k0_off1_inb i)) (fun _ => rfl)
/-- This tile's 64 words of a float argument. -/
abbrev mineF (pH : Memref sig .scVector .hbm S2048 .f32) : Memref sig .scVector .hbm S64 .f32 :=
  pH.slice (Rect.unit (s := S2048) (k0_off1 i) S64.size (Gen.k0_off1_inb i)) (fun _ => rfl)

/-- The tile's slots and weights fetched, then `k`. -/
def fetch (k : TP F i PUnit) : TP F i PUnit := do
  Prog.lift (.enqueueDma (mineI i s0H) (.here s0V) (.dma semI.sem) (View.wordExact_bits rfl) h0V.wordExact ⟨Or.inl rfl, trivial⟩)
  Prog.lift (.enqueueDma (mineI i s1H) (.here s1V) (.dma semI.sem) (View.wordExact_bits rfl) h1V.wordExact ⟨Or.inl rfl, trivial⟩)
  Prog.lift (.enqueueDma (mineF i p0H) (.here p0V) (.dma semI.sem) (View.wordExact_bits rfl) hp0V.wordExact ⟨Or.inl rfl, trivial⟩)
  Prog.lift (.enqueueDma (mineF i p1H) (.here p1V) (.dma semI.sem) (View.wordExact_bits rfl) hp1V.wordExact ⟨Or.inl rfl, trivial⟩)
  Prog.lift (.waitDma2 semI.sem (mineI i s0H) s0V (View.wordExact_bits rfl) h0V.wordExact)
  Prog.lift (.waitDma2 semI.sem (mineI i s1H) s1V (View.wordExact_bits rfl) h1V.wordExact)
  Prog.lift (.waitDma2 semI.sem (mineF i p0H) p0V (View.wordExact_bits rfl) hp0V.wordExact)
  Prog.lift (.waitDma2 semI.sem (mineF i p1H) p1V (View.wordExact_bits rfl) hp1V.wordExact)
  k

/-- Both tables' gathers of chunk `ci` started into half `b`, then `k`. -/
def issue (ci b : ℕ) (hci : ci < 4) (hb : b < 2) (k : TP F i PUnit) : TP F i PUnit :=
  issueRun i yH s0V y0V semG0 ci b hci hb (issueRun i yH s1V y1V semG1 ci b hci hb k 8 le_rfl) 8 le_rfl
/-- Both tables' gathers into half `b` waited for, then `k`. -/
def waitG (b : ℕ) (hb : b < 2) (k : TP F i PUnit) : TP F i PUnit :=
  waitRun i yH y0V semG0 b hb (waitRun i yH y1V semG1 b hb k 8 le_rfl) 8 le_rfl

variable (L0 L1 L2 L3 : TP F i (BitVec 32))

/-- The body from the last chunk's loop on, around it. -/
def tail3 : TP F i PUnit :=
  L3 >>= fun _ => waitOut i oH oV semO 2 0 (by decide) <| sendOut i oH oV semO 3 1 (by decide) <| waitOut i oH oV semO 3 1 (by decide) (pure ⟨⟩)
/-- From chunk 2's loop on. -/
def tail2 : TP F i PUnit :=
  L2 >>= fun _ => waitOut i oH oV semO 1 1 (by decide) <| sendOut i oH oV semO 2 0 (by decide) <|
    waitG i yH y0V y1V semG0 semG1 1 (by decide) <| tail3 i oH oV semO L3
/-- From chunk 1's loop on. -/
def tail1 : TP F i PUnit :=
  L1 >>= fun _ => waitOut i oH oV semO 0 0 (by decide) <| sendOut i oH oV semO 1 1 (by decide) <|
    waitG i yH y0V y1V semG0 semG1 0 (by decide) <| issue i yH s0V s1V y0V y1V semG0 semG1 3 1 (by decide) (by decide) <|
    tail2 i yH oH y0V y1V oV semG0 semG1 semO L2 L3
/-- From chunk 0's loop on. -/
def tail0 : TP F i PUnit :=
  L0 >>= fun _ => sendOut i oH oV semO 0 0 (by decide) <|
    waitG i yH y0V y1V semG0 semG1 1 (by decide) <| issue i yH s0V s1V y0V y1V semG0 semG1 2 0 (by decide) (by decide) <|
    tail1 i yH oH s0V s1V y0V y1V oV semG0 semG1 semO L1 L2 L3
/-- The tile's body around its four loops. -/
def bodyWith : TP F i PUnit :=
  fetch i s0H s1H p0H p1H s0V s1V h0V h1V p0V p1V hp0V hp1V semI <|
  issue i yH s0V s1V y0V y1V semG0 semG1 0 0 (by decide) (by decide) <|
  waitG i yH y0V y1V semG0 semG1 0 (by decide) <|
  issue i yH s0V s1V y0V y1V semG0 semG1 1 1 (by decide) (by decide) <|
  tail0 i yH oH s0V s1V y0V y1V oV semG0 semG1 semO L0 L1 L2 L3

/-- The tile's whole body. -/
def body : TP F i PUnit :=
  bodyWith i yH s0H s1H p0H p1H oH s0V s1V h0V h1V p0V p1V hp0V hp1V y0V y1V oV semI semG0 semG1 semO
    (rowLoop i p0V p1V y0V y1V oV 0 0 (by decide)) (rowLoop i p0V p1V y0V y1V oV 1 1 (by decide))
    (rowLoop i p0V p1V y0V y1V oV 2 0 (by decide)) (rowLoop i p0V p1V y0V y1V oV 3 1 (by decide))

end Prog

end Cert.Proof.Combine

end
-- ==== Proof.Loop0.lean ====
/-
  The loop of chunk 0, as printed, is the short one.
-/
module

public import proofs.«01_k».proof.Proof.Body

@[expose] public section

set_option maxHeartbeats 4000000

noncomputable section

namespace Cert.Proof.Combine

open Cert.KernelIdeal Cert.KernelIdeal.Gen
open Idealize.ShloMosaic Idealize.SL.Sem

variable {F : FTy → Type} [FloatOps F]

/-- The printed loop of chunk 0. -/
def printedLoop0 (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : TP F i (BitVec 32) :=
  Scf.Loop.for k0_t1_loop k0_t1_ok 0#32 fun t _ => do
    let ⟨v, _⟩ : Σ' (_ : FVec F S16 .f32), Vec F S1x1x16 .f32 ← k0_part24 i arg2 harg2 arg3 harg3 arg4 harg4 arg5 harg5 arg6 harg6 arg7 harg7 arg8 harg8 arg9 harg9 arg10 harg10 arg11 harg11 arg12 harg12 arg13 harg13 arg14 harg14 arg15 arg16 arg17 arg18 0#32 1#32 t
    Prog.lift (.store arg14 (Rect.unit (s := S2x16x1024) (k0_off65 t) S1x1x16.size (k0_off65_inb t)) (shapeCast S1x1x16 v shapeCasts_S16_S1x1x16) Finset.univ (View.stores_vmem_bits_univ h_S1x1x16 rfl) (.inl rfl))
    pure 0#32

/-- It is chunk 0's loop. -/
theorem printedLoop0_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    printedLoop0 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 = rowLoop i arg10 arg11 arg12 arg13 arg14 0 0 (by decide) := by
  refine congrArg (Scf.Loop.for k0_t1_loop Gen.k0_t1_ok 0#32) (funext fun t => funext fun _ => ?_)
  rfl

end Cert.Proof.Combine

end
-- ==== Proof.Loop1.lean ====
/-
  The loop of chunk 1, as printed, is the short one.
-/
module

public import proofs.«01_k».proof.Proof.Body

@[expose] public section

set_option maxHeartbeats 4000000

noncomputable section

namespace Cert.Proof.Combine

open Cert.KernelIdeal Cert.KernelIdeal.Gen
open Idealize.ShloMosaic Idealize.SL.Sem

variable {F : FTy → Type} [FloatOps F]

/-- The printed loop of chunk 1. -/
def printedLoop1 (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : TP F i (BitVec 32) :=
  Scf.Loop.for k0_t2_loop k0_t2_ok 0#32 fun t _ => do
    let ⟨v, _⟩ : Σ' (_ : FVec F S16 .f32), Vec F S1x1x16 .f32 ← k0_part48 i arg2 harg2 arg3 harg3 arg4 harg4 arg5 harg5 arg6 harg6 arg7 harg7 arg8 harg8 arg9 harg9 arg10 harg10 arg11 harg11 arg12 harg12 arg13 harg13 arg14 harg14 arg15 arg16 arg17 arg18 0#32 1#32 t
    Prog.lift (.store arg14 (Rect.unit (s := S2x16x1024) (k0_off130 t) S1x1x16.size (k0_off130_inb t)) (shapeCast S1x1x16 v shapeCasts_S16_S1x1x16) Finset.univ (View.stores_vmem_bits_univ h_S1x1x16 rfl) (.inl rfl))
    pure 0#32

/-- It is chunk 1's loop. -/
theorem printedLoop1_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    printedLoop1 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 = rowLoop i arg10 arg11 arg12 arg13 arg14 1 1 (by decide) := by
  refine congrArg (Scf.Loop.for k0_t1_loop Gen.k0_t1_ok 0#32) (funext fun t => funext fun _ => ?_)
  rfl

end Cert.Proof.Combine

end
-- ==== Proof.Loop2.lean ====
/-
  The loop of chunk 2, as printed, is the short one.
-/
module

public import proofs.«01_k».proof.Proof.Body

@[expose] public section

set_option maxHeartbeats 4000000

noncomputable section

namespace Cert.Proof.Combine

open Cert.KernelIdeal Cert.KernelIdeal.Gen
open Idealize.ShloMosaic Idealize.SL.Sem

variable {F : FTy → Type} [FloatOps F]

/-- The printed loop of chunk 2. -/
def printedLoop2 (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : TP F i (BitVec 32) :=
  Scf.Loop.for k0_t3_loop k0_t3_ok 0#32 fun t _ => do
    let ⟨v, _⟩ : Σ' (_ : FVec F S16 .f32), Vec F S1x1x16 .f32 ← k0_part72 i arg2 harg2 arg3 harg3 arg4 harg4 arg5 harg5 arg6 harg6 arg7 harg7 arg8 harg8 arg9 harg9 arg10 harg10 arg11 harg11 arg12 harg12 arg13 harg13 arg14 harg14 arg15 arg16 arg17 arg18 0#32 1#32 t
    Prog.lift (.store arg14 (Rect.unit (s := S2x16x1024) (k0_off194 t) S1x1x16.size (k0_off194_inb t)) (shapeCast S1x1x16 v shapeCasts_S16_S1x1x16) Finset.univ (View.stores_vmem_bits_univ h_S1x1x16 rfl) (.inl rfl))
    pure 0#32

/-- It is chunk 2's loop. -/
theorem printedLoop2_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    printedLoop2 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 = rowLoop i arg10 arg11 arg12 arg13 arg14 2 0 (by decide) := by
  refine congrArg (Scf.Loop.for k0_t1_loop Gen.k0_t1_ok 0#32) (funext fun t => funext fun _ => ?_)
  rfl

end Cert.Proof.Combine

end
-- ==== Proof.Loop3.lean ====
/-
  The loop of chunk 3, as printed, is the short one.
-/
module

public import proofs.«01_k».proof.Proof.Body

@[expose] public section

set_option maxHeartbeats 4000000

noncomputable section

namespace Cert.Proof.Combine

open Cert.KernelIdeal Cert.KernelIdeal.Gen
open Idealize.ShloMosaic Idealize.SL.Sem

variable {F : FTy → Type} [FloatOps F]

/-- The printed loop of chunk 3. -/
def printedLoop3 (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : TP F i (BitVec 32) :=
  Scf.Loop.for k0_t4_loop k0_t4_ok 0#32 fun t _ => do
    let ⟨v, _⟩ : Σ' (_ : FVec F S16 .f32), Vec F S1x1x16 .f32 ← k0_part96 i arg2 harg2 arg3 harg3 arg4 harg4 arg5 harg5 arg6 harg6 arg7 harg7 arg8 harg8 arg9 harg9 arg10 harg10 arg11 harg11 arg12 harg12 arg13 harg13 arg14 harg14 arg15 arg16 arg17 arg18 0#32 1#32 t
    Prog.lift (.store arg14 (Rect.unit (s := S2x16x1024) (k0_off258 t) S1x1x16.size (k0_off258_inb t)) (shapeCast S1x1x16 v shapeCasts_S16_S1x1x16) Finset.univ (View.stores_vmem_bits_univ h_S1x1x16 rfl) (.inl rfl))
    pure 0#32

/-- It is chunk 3's loop. -/
theorem printedLoop3_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    printedLoop3 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 = rowLoop i arg10 arg11 arg12 arg13 arg14 3 1 (by decide) := by
  refine congrArg (Scf.Loop.for k0_t1_loop Gen.k0_t1_ok 0#32) (funext fun t => funext fun _ => ?_)
  rfl

end Cert.Proof.Combine

end
-- ==== Proof.Whole.lean ====
/-
  The printed body is the short one.
-/
module

public import proofs.«01_k».proof.Proof.Loop0
public import proofs.«01_k».proof.Proof.Loop1
public import proofs.«01_k».proof.Proof.Loop2
public import proofs.«01_k».proof.Proof.Loop3

@[expose] public section

set_option maxHeartbeats 4000000

noncomputable section

namespace Cert.Proof.Combine

open Cert.KernelIdeal Cert.KernelIdeal.Gen
open Idealize.ShloMosaic Idealize.SL.Sem

variable {F : FTy → Type} [FloatOps F]

/-- The printed part that ends in chunk 0's loop. -/
theorem part108_bind (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (v2 : BitVec 32) (k : PUnit → TP F i PUnit) :
    (k0_part108 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v2 >>= k)
    = issueRun i arg2 arg9 arg13 arg17 1 1 (by decide) (by decide) (printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18 >>= fun _ => k ⟨⟩) 4 (by decide) := by
  unfold k0_part108
  simp only [bind_assoc, pure_bind]
  rfl

/-- The printed part with chunk 1's loop. -/
theorem part116_bind (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (v2 : BitVec 32) (k : PUnit → TP F i PUnit) :
    (k0_part116 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v2 >>= k)
    = issueRun i arg2 arg9 arg13 arg17 2 0 (by decide) (by decide)
        (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18 >>= fun _ => waitOut i arg7 arg14 arg18 0 0 (by decide) (k ⟨⟩)) 3 (by decide) := by
  unfold k0_part116
  simp only [bind_assoc, pure_bind]
  rfl

/-- The printed part with chunk 2's loop. -/
theorem part124_bind (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (k : PUnit → TP F i PUnit) :
    (k0_part124 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 >>= k)
    = issueRun i arg2 arg9 arg13 arg17 3 1 (by decide) (by decide)
        (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18 >>= fun _ => waitOut i arg7 arg14 arg18 1 1 (by decide) (k ⟨⟩)) 3 (by decide) := by
  unfold k0_part124
  simp only [bind_assoc, pure_bind]
  rfl

/-- The rest from chunk 3's loop on, as printed, is the short one. -/
theorem tail3_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : (do
  let c0_i32_932 : BitVec 32 := 0#32
  let c0_i32_933 : BitVec 32 := 0#32
  let c16_i32_934 : BitVec 32 := 16#32
  let v826 : BitVec 32 := Scalar.addi c0_i32_933 c16_i32_934
  let c1_i32_935 : BitVec 32 := 1#32
  let v827 : BitVec 32 ← Scf.Loop.for k0_t4_loop k0_t4_ok c0_i32_932 fun k0_t4 arg20 => do
    let ⟨v1617, v1620_ld⟩ : Σ' (v1617 : FVec F S16 .f32), Vec F S1x1x16 .f32 ← k0_part96 i arg2 harg2 arg3 harg3 arg4 harg4 arg5 harg5 arg6 harg6 arg7 harg7 arg8 harg8 arg9 harg9 arg10 harg10 arg11 harg11 arg12 harg12 arg13 harg13 arg14 harg14 arg15 arg16 arg17 arg18 c0_i32_933 c1_i32_935 k0_t4
    have v1620 : Vec F S16 .f32 := shapeCast S16 v1620_ld shapeCasts_S1x1x16_S16
    Prog.lift (.store arg14 (Rect.unit (s := S2x16x1024) (k0_off258 k0_t4) S1x1x16.size (k0_off258_inb k0_t4)) (shapeCast S1x1x16 v1617 shapeCasts_S16_S1x1x16) Finset.univ (View.stores_vmem_bits_univ h_S1x1x16 rfl) (.inl rfl))
    let c0_i32_1281 : BitVec 32 := 0#32
    pure c0_i32_1281
  let c16_i32_936 : BitVec 32 := 16#32
  let c0_i32_937 : BitVec 32 := 0#32
  let c0_i32_938 : BitVec 32 := 0#32
  let c0_i32_939 : BitVec 32 := 0#32
  let v828 : Memref sig .scVector .vmem S1x16x1024 .f32 := arg14.slice (Rect.unit (s := S2x16x1024) ![0, 0, 0] S1x16x1024.size inb_S2x16x1024_S1x16x1024_0_0_0) (fun _ => rfl)
  let v829 : Memref sig .scVector .vmem S16x1024 .f32 := v828.squeeze S16x1024 squeezes_S1x16x1024_S16x1024
  let c0_i32_940 : BitVec 32 := 0#32
  let v830 : Memref sig .scVector .hbm S16x1024 .f32 := arg7.slice (Rect.unit (s := S2048x1024) (k0_off66 i 32#32) S16x1024.size (k0_off66_inb i 2)) (fun _ => rfl)
  let c0_i32_941 : BitVec 32 := 0#32
  let v831 : Memref sig .scVector .hbm S16x1024 .f32 := arg7.slice (Rect.unit (s := S2048x1024) (k0_off66 i 32#32) S16x1024.size (k0_off66_inb i 2)) (fun _ => rfl)
  let c0_i32_942 : BitVec 32 := 0#32
  let c0_i32_943 : BitVec 32 := 0#32
  let v832 : Memref sig .scVector .vmem S1x16x1024 .f32 := arg14.slice (Rect.unit (s := S2x16x1024) ![0, 0, 0] S1x16x1024.size inb_S2x16x1024_S1x16x1024_0_0_0) (fun _ => rfl)
  let v833 : Memref sig .scVector .vmem S16x1024 .f32 := v832.squeeze S16x1024 squeezes_S1x16x1024_S16x1024
  Prog.lift (.waitDma2 arg18.sem v833 v831 ((View.wordExact_bits rfl).reshape _ _) (View.wordExact_bits rfl))
  let c48_i32_944 : BitVec 32 := 48#32
  let v834 : BitVec 32 := c48_i32_944
  let c1_i32_945 : BitVec 32 := 1#32
  let c0_i32_946 : BitVec 32 := 0#32
  let c0_i32_947 : BitVec 32 := 0#32
  let v835 : Memref sig .scVector .vmem S1x16x1024 .f32 := arg14.slice (Rect.unit (s := S2x16x1024) ![1, 0, 0] S1x16x1024.size inb_S2x16x1024_S1x16x1024_1_0_0) (fun _ => rfl)
  let v836 : Memref sig .scVector .vmem S16x1024 .f32 := v835.squeeze S16x1024 squeezes_S1x16x1024_S16x1024
  let c0_i32_948 : BitVec 32 := 0#32
  let v837 : Memref sig .scVector .hbm S16x1024 .f32 := arg7.slice (Rect.unit (s := S2048x1024) (k0_off66 i 48#32) S16x1024.size (k0_off66_inb i 3)) (fun _ => rfl)
  let c0_i32_949 : BitVec 32 := 0#32
  let v838 : Memref sig .scVector .hbm S16x1024 .f32 := arg7.slice (Rect.unit (s := S2048x1024) (k0_off66 i 48#32) S16x1024.size (k0_off66_inb i 3)) (fun _ => rfl)
  let c0_i32_950 : BitVec 32 := 0#32
  let c0_i32_951 : BitVec 32 := 0#32
  let v839 : Memref sig .scVector .vmem S1x16x1024 .f32 := arg14.slice (Rect.unit (s := S2x16x1024) ![1, 0, 0] S1x16x1024.size inb_S2x16x1024_S1x16x1024_1_0_0) (fun _ => rfl)
  let v840 : Memref sig .scVector .vmem S16x1024 .f32 := v839.squeeze S16x1024 squeezes_S1x16x1024_S16x1024
  Prog.lift (.enqueueDma v840 (.here v838) (.dma arg18.sem) ((View.wordExact_bits rfl).reshape _ _) (View.wordExact_bits rfl) ⟨Or.inl rfl, trivial⟩)
  let c1_i32_952 : BitVec 32 := 1#32
  let c0_i32_953 : BitVec 32 := 0#32
  let c0_i32_954 : BitVec 32 := 0#32
  let v841 : Memref sig .scVector .vmem S1x16x1024 .f32 := arg14.slice (Rect.unit (s := S2x16x1024) ![1, 0, 0] S1x16x1024.size inb_S2x16x1024_S1x16x1024_1_0_0) (fun _ => rfl)
  let v842 : Memref sig .scVector .vmem S16x1024 .f32 := v841.squeeze S16x1024 squeezes_S1x16x1024_S16x1024
  let c0_i32_955 : BitVec 32 := 0#32
  let v843 : Memref sig .scVector .hbm S16x1024 .f32 := arg7.slice (Rect.unit (s := S2048x1024) (k0_off66 i 48#32) S16x1024.size (k0_off66_inb i 3)) (fun _ => rfl)
  let c0_i32_956 : BitVec 32 := 0#32
  let v844 : Memref sig .scVector .hbm S16x1024 .f32 := arg7.slice (Rect.unit (s := S2048x1024) (k0_off66 i 48#32) S16x1024.size (k0_off66_inb i 3)) (fun _ => rfl)
  let c0_i32_957 : BitVec 32 := 0#32
  let c0_i32_958 : BitVec 32 := 0#32
  let v845 : Memref sig .scVector .vmem S1x16x1024 .f32 := arg14.slice (Rect.unit (s := S2x16x1024) ![1, 0, 0] S1x16x1024.size inb_S2x16x1024_S1x16x1024_1_0_0) (fun _ => rfl)
  let v846 : Memref sig .scVector .vmem S16x1024 .f32 := v845.squeeze S16x1024 squeezes_S1x16x1024_S16x1024
  Prog.lift (.waitDma2 arg18.sem v846 v844 ((View.wordExact_bits rfl).reshape _ _) (View.wordExact_bits rfl))
  pure ⟨⟩ : TP F i PUnit) = tail3 i arg7 arg14 arg18 (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  rfl

/-- From chunk 2's loop on. -/
theorem tail2_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (v2 : BitVec 32) : (do
  let _ ← printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18
  waitOut i arg7 arg14 arg18 1 1 (by decide) (do
    k0_part125 i arg2 harg2 arg3 harg3 arg4 harg4 arg5 harg5 arg6 harg6 arg7 harg7 arg8 harg8 arg9 harg9 arg10 harg10 arg11 harg11 arg12 harg12 arg13 harg13 arg14 harg14 arg15 arg16 arg17 arg18 v2
    k0_part126 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part127 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part128 i arg2 harg2 arg3 harg3 arg4 harg4 arg5 harg5 arg6 harg6 arg7 harg7 arg8 harg8 arg9 harg9 arg10 harg10 arg11 harg11 arg12 harg12 arg13 harg13 arg14 harg14 arg15 arg16 arg17 arg18
    tail3 i arg7 arg14 arg18 (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18)) : TP F i PUnit) = tail2 i arg2 arg7 arg12 arg13 arg14 arg16 arg17 arg18 (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  rfl

/-- From chunk 1's loop on. -/
theorem tail1_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (v2 : BitVec 32) : (do
  let _ ← printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18
  waitOut i arg7 arg14 arg18 0 0 (by decide) (do
    k0_part117 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part118 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part119 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part120 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part121 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part122 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part123 i arg2 harg2 arg3 harg3 arg4 harg4 arg5 harg5 arg6 harg6 arg7 harg7 arg8 harg8 arg9 harg9 arg10 harg10 arg11 harg11 arg12 harg12 arg13 harg13 arg14 harg14 arg15 arg16 arg17 arg18
    issueRun i arg2 arg9 arg13 arg17 3 1 (by decide) (by decide) (tail2 i arg2 arg7 arg12 arg13 arg14 arg16 arg17 arg18 (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18)) 3 (by decide)) : TP F i PUnit) = tail1 i arg2 arg7 arg8 arg9 arg12 arg13 arg14 arg16 arg17 arg18 (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  rfl

/-- From chunk 0's loop on. -/
theorem tail0_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) (v2 : BitVec 32) : (do
  let _ ← printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part109 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part110 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part111 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part112 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part113 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part114 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part115 i arg2 harg2 arg3 harg3 arg4 harg4 arg5 harg5 arg6 harg6 arg7 harg7 arg8 harg8 arg9 harg9 arg10 harg10 arg11 harg11 arg12 harg12 arg13 harg13 arg14 harg14 arg15 arg16 arg17 arg18
  issueRun i arg2 arg9 arg13 arg17 2 0 (by decide) (by decide) (tail1 i arg2 arg7 arg8 arg9 arg12 arg13 arg14 arg16 arg17 arg18 (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18)) 3 (by decide) : TP F i PUnit) = tail0 i arg2 arg7 arg8 arg9 arg12 arg13 arg14 arg16 arg17 arg18 (printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  rfl

/-- The whole, its rest from chunk 0's loop on being the short one. -/
theorem head_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) : (do
  let v2 ← k0_part97 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part98 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part99 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part100 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part101 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part102 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part103 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part104 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part105 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part106 i arg2 harg2 arg3 harg3 arg4 harg4 arg5 harg5 arg6 harg6 arg7 harg7 arg8 harg8 arg9 harg9 arg10 harg10 arg11 harg11 arg12 harg12 arg13 harg13 arg14 harg14 arg15 arg16 arg17 arg18
  k0_part107 i arg2 harg2 arg3 harg3 arg4 harg4 arg5 harg5 arg6 harg6 arg7 harg7 arg8 harg8 arg9 harg9 arg10 harg10 arg11 harg11 arg12 harg12 arg13 harg13 arg14 harg14 arg15 arg16 arg17 arg18
  issueRun i arg2 arg9 arg13 arg17 1 1 (by decide) (by decide) (tail0 i arg2 arg7 arg8 arg9 arg12 arg13 arg14 arg16 arg17 arg18 (printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18)  (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18)) 4 (by decide) : TP F i PUnit) = bodyWith i arg2 arg3 arg4 arg5 arg6 arg7 arg8 arg9 harg8 harg9 arg10 arg11 harg10 harg11 arg12 arg13 arg14 arg15 arg16 arg17 arg18
        (printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  rfl

/-- The printed body is the short one around the printed loops. -/
theorem body_with (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    cc0__combine_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18
    = bodyWith i arg2 arg3 arg4 arg5 arg6 arg7 arg8 arg9 harg8 harg9 arg10 arg11 harg10 harg11 arg12 arg13 arg14 arg15 arg16 arg17 arg18
        (printedLoop0 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop1 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop2 i arg2 harg2 arg3 harg3 arg4 harg4 arg5 harg5 arg6 harg6 arg7 harg7 arg8 harg8 arg9 harg9 arg10 harg10 arg11 harg11 arg12 harg12 arg13 harg13 arg14 harg14 arg15 arg16 arg17 arg18) (printedLoop3 i arg2 harg2 arg3 harg3 arg4 harg4 arg5 harg5 arg6 harg6 arg7 harg7 arg8 harg8 arg9 harg9 arg10 harg10 arg11 harg11 arg12 harg12 arg13 harg13 arg14 harg14 arg15 arg16 arg17 arg18) := by
  unfold cc0__combine_body k0_part129
  simp only [bind_assoc, pure_bind]
  simp only [part108_bind, part116_bind, part124_bind]
  refine Eq.trans ?_ (head_eq i arg2 harg2 arg3 harg3 arg4 harg4 arg5 harg5 arg6 harg6 arg7 harg7 arg8 harg8 arg9 harg9 arg10 harg10 arg11 harg11 arg12 harg12 arg13 harg13 arg14 harg14 arg15 arg16 arg17 arg18)
  refine bind_congr fun v2 => ?_
  iterate 10 refine bind_congr fun _ => ?_
  refine congrArg (fun k => issueRun i arg2 arg9 arg13 arg17 1 1 _ _ k 4 _) ?_
  refine Eq.trans ?_ (tail0_eq i arg2 harg2 arg3 harg3 arg4 harg4 arg5 harg5 arg6 harg6 arg7 harg7 arg8 harg8 arg9 harg9 arg10 harg10 arg11 harg11 arg12 harg12 arg13 harg13 arg14 harg14 arg15 arg16 arg17 arg18 v2)
  iterate 8 refine bind_congr fun _ => ?_
  refine congrArg (fun k => issueRun i arg2 arg9 arg13 arg17 2 0 _ _ k 3 _) ?_
  refine Eq.trans ?_ (tail1_eq i arg2 harg2 arg3 harg3 arg4 harg4 arg5 harg5 arg6 harg6 arg7 harg7 arg8 harg8 arg9 harg9 arg10 harg10 arg11 harg11 arg12 harg12 arg13 harg13 arg14 harg14 arg15 arg16 arg17 arg18 v2)
  refine bind_congr fun _ => ?_
  refine congrArg (waitOut i arg7 arg14 arg18 0 0 _) ?_
  iterate 7 refine bind_congr fun _ => ?_
  refine congrArg (fun k => issueRun i arg2 arg9 arg13 arg17 3 1 _ _ k 3 _) ?_
  refine Eq.trans ?_ (tail2_eq i arg2 harg2 arg3 harg3 arg4 harg4 arg5 harg5 arg6 harg6 arg7 harg7 arg8 harg8 arg9 harg9 arg10 harg10 arg11 harg11 arg12 harg12 arg13 harg13 arg14 harg14 arg15 arg16 arg17 arg18 v2)
  refine bind_congr fun _ => ?_
  refine congrArg (waitOut i arg7 arg14 arg18 1 1 _) ?_
  iterate 4 refine bind_congr fun _ => ?_
  exact tail3_eq i arg2 harg2 arg3 harg3 arg4 harg4 arg5 harg5 arg6 harg6 arg7 harg7 arg8 harg8 arg9 harg9 arg10 harg10 arg11 harg11 arg12 harg12 arg13 harg13 arg14 harg14 arg15 arg16 arg17 arg18

/-- The printed body is the short one, on any memrefs and semaphores. -/
theorem body_eq (i : grid0.Coords) (arg2 : Memref sig .scVector .hbm S7680x1024 .f32) (harg2 : arg2.IsWhole) (arg3 : Memref sig .scVector .hbm S2048 .i32) (harg3 : arg3.IsWhole) (arg4 : Memref sig .scVector .hbm S2048 .i32) (harg4 : arg4.IsWhole) (arg5 : Memref sig .scVector .hbm S2048 .f32) (harg5 : arg5.IsWhole) (arg6 : Memref sig .scVector .hbm S2048 .f32) (harg6 : arg6.IsWhole) (arg7 : Memref sig .scVector .hbm S2048x1024 .f32) (harg7 : arg7.IsWhole) (arg8 : Memref sig .scVector .vmem S64 .i32) (harg8 : arg8.IsWhole) (arg9 : Memref sig .scVector .vmem S64 .i32) (harg9 : arg9.IsWhole) (arg10 : Memref sig .scVector .vmem S64 .f32) (harg10 : arg10.IsWhole) (arg11 : Memref sig .scVector .vmem S64 .f32) (harg11 : arg11.IsWhole) (arg12 : Memref sig .scVector .vmem S2x16x1024 .f32) (harg12 : arg12.IsWhole) (arg13 : Memref sig .scVector .vmem S2x16x1024 .f32) (harg13 : arg13.IsWhole) (arg14 : Memref sig .scVector .vmem S2x16x1024 .f32) (harg14 : arg14.IsWhole) (arg15 : DmaSems sig S_) (arg16 : DmaSems sig S8) (arg17 : DmaSems sig S8) (arg18 : DmaSems sig S_) :
    cc0__combine_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18
    = body i arg2 arg3 arg4 arg5 arg6 arg7 arg8 arg9 harg8 harg9 arg10 arg11 harg10 harg11 arg12 arg13 arg14 arg15 arg16 arg17 arg18 := by
  rw [body_with, printedLoop0_eq, printedLoop1_eq, printedLoop2_eq, printedLoop3_eq]; rfl

end Cert.Proof.Combine

end
-- ==== Proof.Setup.lean ====
/-
  The combine launch as the SparseCore launch theorem sees it, the ghost state of its proof, and what the tile's
  body computes: for chunk `ci` of a tile, row `t` and lane `l`, the weighted sum of the two table rows named by the
  tile's slot lists.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ValueLayout
public import Idealize.ShloMosaic.Lib.Batch
public import Idealize.ShloMosaic.Lib.Tactic

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The program as the launch theorem sees it -/

/-- The labels of the whole program: the tile body's beside none of a pipelined call's. -/
abbrev ΛP : Labels := Pipeline.Sig Λ₀ (Fin 0) fun p => (pcfgs (F := F) p).Adm
/-- The launch: one call on two cores of sixteen tiles. -/
abbrev K : SparseCore.Cfg τ sig (ΛP (F := F)) 1 := sc (F := F)
theorem nSub_zero : (K (F := F)).nSub 0 = 16 := rfl
theorem nCore_zero : (K (F := F)).nCore 0 = 2 := rfl
/-- The program's bodies under those labels. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake cells are distinct and outlive every task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's programs and their weakest preconditions -/

/-- The tile at grid point `i` of device `d`. -/
abbrev thr (d : Dev nD) (i : grid0.Coords) : Thread nD τ := V d ((i 0).castLE hcore0) ((i 1).castLE hsub0)

/-- The weakest precondition of a tile's program. -/
abbrev wpT (d : Dev nD) (i : grid0.Coords) {α : Type} (p : TP F i α) (Q : α → sProp 𝕄) : sProp 𝕄 :=
  wp frame (wpE (defs₀ (F := F)) 𝒱₀ (thr d i) none) Set.univ p Q

/-! ## What is computed -/

/-- Half `b` of a row buffer. -/
def halfS (b : ℕ) : Finset S2x16x1024.Idx := Finset.univ.filter fun x => (x 0).val = b

theorem mem_halfS {b : ℕ} {x : S2x16x1024.Idx} : x ∈ halfS b ↔ (x 0).val = b := by simp [halfS]

/-- One lane: `p0 * y0 + p1 * y1`. -/
def mix (q0 q1 a c : Elt F .f32) : Elt F .f32 := FloatOps.addf (FloatOps.mulf q0 a) (FloatOps.mulf q1 c)

/-- Word `16 ci + t` of a list of 64. -/
def at64 (ci t : ℕ) (h : ci < 4) (ht : t < 16) : S64.Idx := ix1 ⟨16 * ci + t, by omega⟩

end Cert.Proof.Combine

end
-- ==== Proof.Gather.lean ====
/-
  A chunk's eight column gathers of one table, started together and waited for together: each brings, for sixteen slots of
  a list in tile memory, 128 columns of the table rows they name; after the eight waits the buffer's half holds whole rows.
-/
module

public import proofs.«01_k».proof.Proof.Setup

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The windows -/

/-- Columns `[128k, 128k + 128)` of half `b` of a row buffer. -/
abbrev winR (b k : ℕ) (hb : b < 2) (hk : k < 8) : Rect S2x16x1024 := Rect.unit (s := S2x16x1024) ![b, 0, 128 * k] S1x16x128.size (win_inb b k hb hk)
/-- Columns `[128k, 128k + 128)` of the table. -/
abbrev colR (k : ℕ) (hk : k < 8) : Rect S7680x1024 := Rect.unit (s := S7680x1024) ![0, 128 * k] S7680x128.size (col_inb k hk)
/-- Chunk `ci`'s sixteen words of a list. -/
abbrev listR (ci : ℕ) (hci : ci < 4) : Rect S64 := Rect.unit (s := S64) ![16 * ci] S16.size (list_inb ci hci)

/-- The last `n` windows of half `b`. -/
def winsFrom (b n : ℕ) : Finset S2x16x1024.Idx := Finset.univ.filter fun x => (x 0).val = b ∧ 128 * (8 - n) ≤ (x 2).val
/-- The table's last `n` windows. -/
def colsFrom (n : ℕ) : Finset S7680x1024.Idx := Finset.univ.filter fun x => 128 * (8 - n) ≤ (x 1).val

theorem mem_winR {b k : ℕ} {hb : b < 2} {hk : k < 8} {x : S2x16x1024.Idx} :
    x ∈ (winR b k hb hk).set ↔ (x 0).val = b ∧ 128 * k ≤ (x 2).val ∧ (x 2).val < 128 * (k + 1) := by
  rw [Rect.mem_set_unit]
  constructor
  · intro h
    have h0 := h 0; have h2 := h 2
    simp at h0 h2
    omega
  · rintro ⟨h0, h1, h2⟩ a
    have := (x 1).isLt
    fin_cases a <;> simp at * <;> omega

theorem mem_colR {k : ℕ} {hk : k < 8} {x : S7680x1024.Idx} :
    x ∈ (colR k hk).set ↔ 128 * k ≤ (x 1).val ∧ (x 1).val < 128 * (k + 1) := by
  rw [Rect.mem_set_unit]
  constructor
  · intro h
    have h1 := h 1
    simp at h1
    omega
  · rintro ⟨h1, h2⟩ a
    have := (x 0).isLt
    fin_cases a <;> simp at * <;> omega

theorem winsFrom_succ (b n : ℕ) (hb : b < 2) (hn : n + 1 ≤ 8) :
    winsFrom b (n + 1) = (winR b (8 - (n + 1)) hb (by omega)).set ∪ winsFrom b n := by
  ext x; rw [Finset.mem_union, mem_winR]; simp only [winsFrom, Finset.mem_filter, Finset.mem_univ, true_and]; omega
theorem winsFrom_disjoint (b n : ℕ) (hb : b < 2) (hn : n + 1 ≤ 8) :
    Disjoint (winR b (8 - (n + 1)) hb (by omega)).set (winsFrom b n) := by
  rw [Finset.disjoint_left]; intro x; rw [mem_winR]; simp only [winsFrom, Finset.mem_filter, Finset.mem_univ, true_and]; omega
theorem winsFrom_eight (b : ℕ) : winsFrom b 8 = halfS b := by
  ext x; rw [mem_halfS]; simp [winsFrom]
theorem colsFrom_succ (n : ℕ) (hn : n + 1 ≤ 8) : colsFrom (n + 1) = (colR (8 - (n + 1)) (by omega)).set ∪ colsFrom n := by
  ext x; rw [Finset.mem_union, mem_colR]; simp only [colsFrom, Finset.mem_filter, Finset.mem_univ, true_and]; omega
theorem colsFrom_disjoint (n : ℕ) (hn : n + 1 ≤ 8) : Disjoint (colR (8 - (n + 1)) (by omega)).set (colsFrom n) := by
  rw [Finset.disjoint_left]; intro x; rw [mem_colR]; simp only [colsFrom, Finset.mem_filter, Finset.mem_univ, true_and]; omega
theorem colsFrom_eight : colsFrom 8 = Finset.univ := by ext x; simp [colsFrom]

/-! ## What a gather brings -/

/-- The element of a row buffer after chunk `ci`'s gathers: the table's row named by the chunk's slot, at the same column. -/
def gat (y : S7680x1024.Idx → Elt F .f32) (s : S64.Idx → BitVec 32) (hs : ∀ j, (s j).toNat < 7680) (ci : ℕ) (hci : ci < 4)
    (x : S2x16x1024.Idx) : Elt F .f32 :=
  y (ix2 ⟨(s (at64 ci (x 1).val hci (x 1).isLt)).toNat, hs _⟩ ⟨(x 2).val, (x 2).isLt⟩)

section

variable (yH : Memref sig .scVector .hbm S7680x1024 .f32) (sV : Memref sig .scVector .vmem S64 .i32) (yV : Memref sig .scVector .vmem S2x16x1024 .f32)

/-- A chunk's sixteen slots name rows of the table. -/
theorem list_in (fS : sV.view.ty.Contents (Elt F)) (hs : ∀ j, (sV.view.read (Elt F) fS j).toNat < 7680) (ci : ℕ) (hci : ci < 4) :
    ∀ x, ((listM sV ci hci).view.read (Elt F) fS x).toNat < S7680x128.size Gen.gathers_S7680x128_S16x128.axis :=
  fun x => hs ((listR ci hci).emb x)

/-- A window read after its gather: whole rows of the table, in that window. -/
theorem gather_read (fY : yH.view.ty.Contents (Elt F)) (fS : sV.view.ty.Contents (Elt F)) (fd : yV.view.ty.Contents (Elt F))
    (hs : ∀ j, (sV.view.read (Elt F) fS j).toNat < 7680) (ci : ℕ) (hci : ci < 4) (b k : ℕ) (hb : b < 2) (hk : k < 8)
    (x : S2x16x1024.Idx) (hx : x ∈ (winR b k hb hk).set) :
    yV.view.read (Elt F) ((winM yV b k hb hk).view.write (Elt F) fd
        (SparseCore.gatherPayload Gen.gathers_S7680x128_S16x128 ((colM yH k hk).view.read (Elt F) fY)
          (SparseCore.rows ((listM sV ci hci).view.read (Elt F) fS) rfl (list_in sV fS hs ci hci))) Finset.univ) x
      = gat (yH.view.read (Elt F) fY) (sV.view.read (Elt F) fS) hs ci hci x := by
  obtain ⟨h0, h1, h2⟩ := mem_winR.1 hx
  have hx1 : (x 1).val < 16 := (x 1).isLt
  have e : x = (winR b k hb hk).emb (Shape.reshapeEquiv Gen.squeezes_S1x16x128_S16x128.numel_eq
      (ix2 (⟨(x 1).val, hx1⟩ : Fin 16) (⟨(x 2).val - 128 * k, by omega⟩ : Fin 128))) := by
    rw [reshapeEquiv_ix2_1ab]
    funext a
    refine Fin.ext ?_
    rw [Rect.emb_apply]
    fin_cases a
    · simp; omega
    · simp
    · simp; omega
  have ew : yV.view.emb x = (winM yV b k hb hk).view.emb (ix2 (⟨(x 1).val, hx1⟩ : Fin 16) (⟨(x 2).val - 128 * k, by omega⟩ : Fin 128)) :=
    congrArg yV.view.emb e
  rw [View.read_apply, ew, View.write_emb_of_mem _ _ (Finset.mem_univ _), cast_cast, cast_eq]
  show yH.view.read (Elt F) fY ((colR k hk).emb (Gen.gathers_S7680x128_S16x128.idx _ _)) = yH.view.read (Elt F) fY _
  refine congrArg _ (funext fun a => Fin.ext ?_)
  rw [Rect.emb_apply]
  fin_cases a
  · show 0 + 1 * (sV.view.read (Elt F) fS ((listR ci hci).emb _)).toNat = (sV.view.read (Elt F) fS _).toNat
    rw [Nat.zero_add, Nat.one_mul]
    refine congrArg (fun j => (sV.view.read (Elt F) fS j).toNat) (funext fun a => Fin.ext ?_)
    fin_cases a
    show 16 * ci + 1 * _ = 16 * ci + (x 1).val
    rw [Nat.one_mul]
    refine congrArg (16 * ci + ·) ?_
    have hm := Shape.rowMajor_val_one (d := ![16]) (S16.rowMajor.symm (Fin.cast (by rfl : (16 : ℕ) = S16.numel) ⟨(x 1).val, hx1⟩))
    rw [Equiv.apply_symm_apply] at hm
    exact hm.symm
  · show 128 * k + 1 * ((x 2).val - 128 * k) = (x 2).val
    omega

end

/-! ## The list's share, dealt out gather by gather -/

/-- What is left of a list's full share with `n` gathers still to be started. -/
def lsh (n : ℕ) : PosShare TreeShare := (fun q : PosShare TreeShare => q.right)^[8 - n] fullShare

theorem lsh_eight : lsh 8 = fullShare := rfl
theorem lsh_succ (n : ℕ) (hn : n + 1 ≤ 8) : lsh n = (lsh (n + 1)).right := by
  unfold lsh; rw [show 8 - n = (8 - (n + 1)) + 1 by omega, Function.iterate_succ_apply']

section

variable (i : grid0.Coords) (d : Dev nD) (yH : Memref sig .scVector .hbm S7680x1024 .f32) (sV : Memref sig .scVector .vmem S64 .i32)
  (yV : Memref sig .scVector .vmem S2x16x1024 .f32) (sem : DmaSems sig S8) (q : PosShare TreeShare)
  (fY : Buf (Elt F) (yH.view.loc (thr d i))) (fS : Buf (Elt F) (sV.view.loc (thr d i)))
  (hs : ∀ j, (sV.view.read (Elt F) fS j).toNat < 7680)

/-- The waits recorded so far: the task's own beside those it started with. -/
def OW (O : CellTallies nD τ sig (HIx 1)) (W : Waits sig (HIx 1)) : sProp 𝕄 :=
  iprop(∃ W', ⌜∀ p ∈ W', p ∈ W ∨ p.2 = none⌝ ∗ owes (thr d i) O W')

/-- The last `n` cells of a table's eight, at zero. -/
def semsFrom : (n : ℕ) → n ≤ 8 → sProp 𝕄
  | 0, _ => iprop(emp)
  | n + 1, h => iprop(semVal (thr d i, SemLoc.dma (semK sem (8 - (n + 1)) (by omega))) 0 ∗ semsFrom n (by omega))

theorem semsFrom_succ (n : ℕ) (h : n + 1 ≤ 8) : (semsFrom (F := F) i d sem (n + 1) h : sProp 𝕄)
    = iprop(semVal (thr d i, SemLoc.dma (semK sem (8 - (n + 1)) (by omega))) 0 ∗ semsFrom i d sem n (by omega)) := rfl

/-- What the last `n` gathers need beside their destinations. -/
def Idle (n : ℕ) (h : n ≤ 8) : sProp 𝕄 :=
  iprop((sV.view.loc (thr d i) ↦{lsh n} fS) ∗ (yH.view.loc (thr d i) ↦[yH.view.setOn (colsFrom n)]{q} fY) ∗ semsFrom (F := F) i d sem n h)

/-- What a gather delivers: its window, holding the rows' columns, and its shares of the table and of the list back. -/
def Gathered (ci b k n : ℕ) (hci : ci < 4) (hb : b < 2) (hk : k < 8) : sProp 𝕄 :=
  iprop((∃ f : Buf (Elt F) (yV.view.loc (thr d i)),
      ⌜∀ x ∈ (winR b k hb hk).set, yV.view.read (Elt F) f x = gat (yH.view.read (Elt F) fY) (sV.view.read (Elt F) fS) hs ci hci x⌝
        ∗ (yV.view.loc (thr d i) ↦[yV.view.setOn (winR b k hb hk).set]{fullShare} f))
    ∗ (yH.view.loc (thr d i) ↦[yH.view.setOn (colR k hk).set]{q} fY)
    ∗ (sV.view.loc (thr d i) ↦[(listM sV ci hci).view.set]{(lsh n).left} fS))

/-- The last `n` gathers in flight. -/
def Fly (ci b : ℕ) (hci : ci < 4) (hb : b < 2) : (n : ℕ) → n ≤ 8 → sProp 𝕄
  | 0, h => iprop(Idle i d yH sV sem q fY fS 0 h ∗ ∃ f : Buf (Elt F) (yV.view.loc (thr d i)), yV.view.loc (thr d i) ↦[yV.view.setOn (winsFrom b 0)]{fullShare} f)
  | n + 1, h => iprop(Transfers.Flight (countersEmb (nD := nD)) (thr d i) (.dma (semK sem (8 - (n + 1)) (by omega))) none
        (winM yV b (8 - (n + 1)) hb (by omega)).view.dmaCredit
        (Gathered i d yH sV yV q fY fS hs ci b (8 - (n + 1)) (n + 1) hci hb (by omega))
      ∗ (sV.view.loc (thr d i) ↦[Finset.univ \ (listM sV ci hci).view.set]{(lsh (n + 1)).left} fS)
      ∗ Fly ci b hci hb n (by omega))

theorem Fly_succ (ci b : ℕ) (hci : ci < 4) (hb : b < 2) (n : ℕ) (h : n + 1 ≤ 8) :
    (Fly i d yH sV yV sem q fY fS hs ci b hci hb (n + 1) h : sProp 𝕄)
      = iprop(Transfers.Flight (countersEmb (nD := nD)) (thr d i) (.dma (semK sem (8 - (n + 1)) (by omega))) none
        (winM yV b (8 - (n + 1)) hb (by omega)).view.dmaCredit
        (Gathered i d yH sV yV q fY fS hs ci b (8 - (n + 1)) (n + 1) hci hb (by omega))
      ∗ (sV.view.loc (thr d i) ↦[Finset.univ \ (listM sV ci hci).view.set]{(lsh (n + 1)).left} fS)
      ∗ Fly i d yH sV yV sem q fY fS hs ci b hci hb n (by omega)) := rfl

/-- A window's gather credits its rows' bytes in all. -/
def Credits (b : ℕ) (hb : b < 2) : Prop := ∀ k hk, ∑ j, ((winM yV b k hb hk).slice (S16x128.rowRect Gen.gathers_S7680x128_S16x128.axis' j)
    (S16x128.stride_rowRect Gen.gathers_S7680x128_S16x128.axis' j)).view.dmaCredit = (winM yV b k hb hk).view.dmaCredit

theorem win_set (b k : ℕ) (hb : b < 2) (hk : k < 8) :
    ((winM yV b k hb hk).view.set : Finset yV.view.ty.Idx) = yV.view.setOn (winR b k hb hk).set :=
  (View.set_reshape _ _).trans (View.set_slice _ _)
theorem col_set (k : ℕ) (hk : k < 8) : ((colM yH k hk).view.set : Finset yH.view.ty.Idx) = yH.view.setOn (colR k hk).set :=
  View.set_slice _ _

/-- A window owned is the gather's destination owned. -/
theorem pts_win (b k : ℕ) (hb : b < 2) (hk : k < 8) (f : Buf (Elt F) (yV.view.loc (thr d i))) :
    (yV.view.loc (thr d i) ↦[yV.view.setOn (winR b k hb hk).set]{fullShare} f : sProp 𝕄)
      = ((winM yV b k hb hk).view.loc (thr d i) ↦[(winM yV b k hb hk).view.set]{fullShare} f) :=
  congrArg (fun S : Finset yV.view.ty.Idx => (yV.view.loc (thr d i) ↦[S]{fullShare} f : sProp 𝕄)) (win_set yV b k hb hk).symm
/-- A share of a window's columns of the table is a share of the gather's source. -/
theorem pts_col (k : ℕ) (hk : k < 8) :
    (yH.view.loc (thr d i) ↦[yH.view.setOn (colR k hk).set]{q} fY : sProp 𝕄)
      = ((colM yH k hk).view.loc (thr d i) ↦[(colM yH k hk).view.set]{q} fY) :=
  congrArg (fun S : Finset yH.view.ty.Idx => (yH.view.loc (thr d i) ↦[S]{q} fY : sProp 𝕄)) (col_set yH k hk).symm

/-- A share of a list is a share of the chunk's words and a share of the others. -/
theorem list_split (ci : ℕ) (hci : ci < 4) (p : PosShare TreeShare) :
    (sV.view.loc (thr d i) ↦{p} fS : sProp 𝕄) ⊣⊢ iprop((sV.view.loc (thr d i) ↦[(listM sV ci hci).view.set]{p} fS)
      ∗ (sV.view.loc (thr d i) ↦[Finset.univ \ (listM sV ci hci).view.set]{p} fS)) :=
  pointsTo_split_subset (Finset.subset_univ _)

/-- What a gather's flight carries is what it delivers. -/
theorem gathered_of (ci b k n : ℕ) (hci : ci < 4) (hb : b < 2) (hk : k < 8) (f : Buf (Elt F) (yV.view.loc (thr d i))) :
    iprop(((winM yV b k hb hk).view.loc (thr d i) ↦[(winM yV b k hb hk).view.set]{fullShare}
          (winM yV b k hb hk).view.write (Elt F) f
            (SparseCore.gatherPayload Gen.gathers_S7680x128_S16x128 ((colM yH k hk).view.read (Elt F) fY)
              (SparseCore.rows ((listM sV ci hci).view.read (Elt F) fS) rfl (list_in sV fS hs ci hci))) Finset.univ)
        ∗ ((colM yH k hk).view.loc (thr d i) ↦[(colM yH k hk).view.set]{q} fY)
        ∗ ((listM sV ci hci).view.loc (thr d i) ↦[(listM sV ci hci).view.set]{(lsh n).left} fS))
      ⊢ Gathered i d yH sV yV q fY fS hs ci b k n hci hb hk := by
  iintro ⟨Hd, Hs, Hl⟩
  unfold Gathered
  rw [pts_col]
  isplitl [Hd]
  · iexists _
    isplitr
    swap
    · rw [pts_win]; iexact Hd
    ipureintro
    intro x hx
    exact gather_read yH sV yV fY fS f hs ci hci b k hb hk x hx
  isplitl [Hs]; · iexact Hs
  iexact Hl

/-- One gather started. -/
theorem wp_gather (ci b k n : ℕ) (hci : ci < 4) (hb : b < 2) (hk : k < 8) (hN : Credits yV b hb) (K : TP F i PUnit) (Q : PUnit → sProp 𝕄)
    (f : Buf (Elt F) (yV.view.loc (thr d i))) :
    iprop((yH.view.loc (thr d i) ↦[yH.view.setOn (colR k hk).set]{q} fY)
        ∗ (yV.view.loc (thr d i) ↦[yV.view.setOn (winR b k hb hk).set]{fullShare} f)
        ∗ (sV.view.loc (thr d i) ↦[(listM sV ci hci).view.set]{(lsh n).left} fS)
        ∗ semVal (thr d i, SemLoc.dma (semK sem k hk)) 0)
      ⊢ iprop((Transfers.Flight (countersEmb (nD := nD)) (thr d i) (.dma (semK sem k hk)) none (winM yV b k hb hk).view.dmaCredit
            (Gathered i d yH sV yV q fY fS hs ci b k n hci hb hk) -∗ wpT d i K Q)
        -∗ wpT d i (SparseCore.enqueueIndirectGather rfl (colM yH k hk) (winM yV b k hb hk) Gen.gathers_S7680x128_S16x128
            (listM sV ci hci) rfl (semK sem k hk) (View.wordExact_bits rfl) rfl (Or.inl rfl) >>= fun _ => K) Q) := by
  rw [pts_win, pts_col]
  iintro H HK
  iapply (SparseCore.wp_indirectGatherLocal countersEmb 𝒱₀ (thr d i) none (hg := Gen.gathers_S7680x128_S16x128) (none : HIx 1)
    (winM yV b k hb hk).view.dmaCredit (hN k hk) (by decide) (list_in sV fS hs ci hci)) $$ H
  iintro Hfl
  iapply HK
  iapply (Transfers.Flight_mono countersEmb (thr d i) (gathered_of i d yH sV yV q fY fS hs ci b k n hci hb hk f)) $$ Hfl

/-- One gather waited for. -/
theorem wp_gwait (b k : ℕ) (hb : b < 2) (hk : k < 8) (O : CellTallies nD τ sig (HIx 1)) (W : Waits sig (HIx 1)) (D : sProp 𝕄)
    (K : TP F i PUnit) (Q : PUnit → sProp 𝕄) :
    iprop(Transfers.MayWaits (thr d i) (none : HIx 1) O
        ∗ Transfers.Flight (countersEmb (nD := nD)) (thr d i) (.dma (semK sem k hk)) none (winM yV b k hb hk).view.dmaCredit D
        ∗ OW (F := F) i d O W)
      ⊢ iprop((iprop(D ∗ semVal (thr d i, SemLoc.dma (semK sem k hk)) 0 ∗ OW (F := F) i d O W) -∗ wpT d i K Q)
        -∗ wpT d i (SparseCore.waitIndirectGather (semK sem k hk) (colM yH k hk) (winM yV b k hb hk)
            (View.wordExact_bits rfl) ((View.wordExact_bits rfl).reshape _ _) >>= fun _ => K) Q) := by
  unfold OW
  have e : (SparseCore.waitIndirectGather (semK sem k hk) (colM yH k hk) (winM yV b k hb hk)
      (View.wordExact_bits rfl) ((View.wordExact_bits rfl).reshape _ _) >>= fun _ => K : TP F i PUnit)
      = .op (.waitDma2 (semK sem k hk) (colM yH k hk) (winM yV b k hb hk) (View.wordExact_bits rfl) ((View.wordExact_bits rfl).reshape _ _)) fun _ => K := rfl
  rw [e]
  iintro ⟨Hmw, Hfl, %W', %hW', HO⟩ Hk
  iapply (Transfers.wp_waitLocalO countersEmb 𝒱₀ (thr d i) none (none : HIx 1) (rfl : (winM yV b k hb hk).view.dmaCredit = _)) $$ [Hfl HO Hmw]
  · isplitl [Hfl]; · iexact Hfl
    isplitl [HO]; · iexact HO
    iapply (Transfers.MayWaits.elim (SemLoc.dma (semK sem k hk))) $$ Hmw
  iintro ⟨HD, Hsem, HO⟩
  iapply Hk
  isplitl [HD]; · iexact HD
  isplitl [Hsem]; · iexact Hsem
  iexists _
  isplitr
  swap; · iexact HO
  ipureintro
  intro p hp
  rcases Finset.mem_insert.mp hp with hp | hp
  · exact .inr (hp ▸ rfl)
  · exact hW' p hp

theorem pts_wins_succ (b n : ℕ) (hb : b < 2) (hn : n + 1 ≤ 8) (f : Buf (Elt F) (yV.view.loc (thr d i))) :
    (yV.view.loc (thr d i) ↦[yV.view.setOn (winsFrom b (n + 1))]{fullShare} f : sProp 𝕄)
      = (yV.view.loc (thr d i) ↦[yV.view.setOn (winR b (8 - (n + 1)) hb (by omega)).set ∪ yV.view.setOn (winsFrom b n)]{fullShare} f) :=
  congrArg (fun S : Finset yV.view.ty.Idx => (yV.view.loc (thr d i) ↦[S]{fullShare} f : sProp 𝕄))
    ((congrArg yV.view.setOn (winsFrom_succ b n hb hn)).trans (Finset.map_union _ _))
theorem pts_cols_succ (n : ℕ) (hn : n + 1 ≤ 8) :
    (yH.view.loc (thr d i) ↦[yH.view.setOn (colsFrom (n + 1))]{q} fY : sProp 𝕄)
      = (yH.view.loc (thr d i) ↦[yH.view.setOn (colR (8 - (n + 1)) (by omega)).set ∪ yH.view.setOn (colsFrom n)]{q} fY) :=
  congrArg (fun S : Finset yH.view.ty.Idx => (yH.view.loc (thr d i) ↦[S]{q} fY : sProp 𝕄))
    ((congrArg yH.view.setOn (colsFrom_succ n hn)).trans (Finset.map_union _ _))
theorem wins_disj (b n : ℕ) (hb : b < 2) (hn : n + 1 ≤ 8) :
    Disjoint (yV.view.setOn (winR b (8 - (n + 1)) hb (by omega)).set) (yV.view.setOn (winsFrom b n)) :=
  (Finset.disjoint_map yV.view.emb).2 (winsFrom_disjoint b n hb hn)
theorem cols_disj (n : ℕ) (hn : n + 1 ≤ 8) :
    Disjoint (yH.view.setOn (colR (8 - (n + 1)) (by omega)).set) (yH.view.setOn (colsFrom n)) :=
  (Finset.disjoint_map yH.view.emb).2 (colsFrom_disjoint n hn)

/-- The last `n` gathers started. -/
theorem wp_issueRun (ci b : ℕ) (hci : ci < 4) (hb : b < 2) (hN : Credits yV b hb) (k : TP F i PUnit) (Q : PUnit → sProp 𝕄) :
    ∀ (n : ℕ) (hn : n ≤ 8),
    iprop(Idle i d yH sV sem q fY fS n hn ∗ ∃ f : Buf (Elt F) (yV.view.loc (thr d i)), yV.view.loc (thr d i) ↦[yV.view.setOn (winsFrom b n)]{fullShare} f)
      ⊢ iprop((Fly i d yH sV yV sem q fY fS hs ci b hci hb n hn -∗ wpT d i k Q)
        -∗ wpT d i (issueRun i yH sV yV sem ci b hci hb k n hn) Q)
  | 0, hn => by
    iintro H Hk
    unfold issueRun Fly
    iapply Hk; iexact H
  | n + 1, hn => by
    unfold issueRun
    iintro ⟨HI, %f, Hd⟩ Hk
    unfold Idle
    rw [semsFrom_succ]
    icases HI with ⟨Hl, Hy, Hsem, Hsems⟩
    ihave Hd' := (Entails.of_eq (pts_wins_succ i d yV b n hb hn f)) $$ Hd
    ihave Hd2 := (pointsTo_union (ℓ := yV.view.loc (thr d i)) (wins_disj yV b n hb hn)).1 $$ Hd'
    icases Hd2 with ⟨Hw, Hd⟩
    ihave Hy' := (Entails.of_eq (pts_cols_succ i d yH q fY n hn)) $$ Hy
    ihave Hy2 := (pointsTo_union (ℓ := yH.view.loc (thr d i)) (cols_disj yH n hn)).1 $$ Hy'
    icases Hy2 with ⟨Hc, Hy⟩
    ihave Hl2 := (pointsTo_share (PosShare.mem_left_op_right (lsh (n + 1)))).1 $$ Hl
    icases Hl2 with ⟨Hll, Hl⟩
    ihave Hl3 := (list_split i d sV fS ci hci (lsh (n + 1)).left).1 $$ Hll
    icases Hl3 with ⟨Hll, Hlr⟩
    iapply (wp_gather i d yH sV yV sem q fY fS hs ci b (8 - (n + 1)) (n + 1) hci hb _ hN _ Q f) $$ [Hw Hc Hll Hsem]
    · isplitl [Hc]; · iexact Hc
      isplitl [Hw]; · iexact Hw
      isplitl [Hll]; · iexact Hll
      iexact Hsem
    iintro Hfl
    iapply (wp_issueRun ci b hci hb hN k Q n _) $$ [Hl Hy Hsems Hd]
    · unfold Idle
      isplitr [Hd]
      · isplitl [Hl]; · rw [lsh_succ n hn]; iexact Hl
        isplitl [Hy]; · iexact Hy
        iexact Hsems
      · iexists f; iexact Hd
    iintro Hn
    iapply Hk
    rw [Fly_succ]
    isplitl [Hfl]; · iexact Hfl
    isplitl [Hlr]; · iexact Hlr
    iexact Hn

/-- The last `n` gathers waited for. -/
theorem wp_waitRun (ci b : ℕ) (hci : ci < 4) (hb : b < 2) (O : CellTallies nD τ sig (HIx 1)) (W : Waits sig (HIx 1))
    (k : TP F i PUnit) (Q : PUnit → sProp 𝕄) :
    ∀ (n : ℕ) (hn : n ≤ 8),
    iprop(Transfers.MayWaits (thr d i) (none : HIx 1) O ∗ Fly i d yH sV yV sem q fY fS hs ci b hci hb n hn ∗ OW (F := F) i d O W)
      ⊢ iprop((iprop(Idle i d yH sV sem q fY fS n hn
          ∗ (∃ f : Buf (Elt F) (yV.view.loc (thr d i)),
              ⌜∀ x ∈ winsFrom b n, yV.view.read (Elt F) f x = gat (yH.view.read (Elt F) fY) (sV.view.read (Elt F) fS) hs ci hci x⌝
                ∗ (yV.view.loc (thr d i) ↦[yV.view.setOn (winsFrom b n)]{fullShare} f))
          ∗ OW (F := F) i d O W) -∗ wpT d i k Q)
        -∗ wpT d i (waitRun i yH yV sem b hb k n hn) Q)
  | 0, hn => by
    unfold waitRun Fly
    iintro ⟨-, ⟨HI, %f, Hd⟩, HO⟩ Hk
    iapply Hk
    isplitl [HI]; · iexact HI
    isplitl [Hd]
    · iexists f
      isplitr
      · ipureintro
        intro x hx
        have h2 : (x 2).val < 1024 := (x 2).isLt
        simp only [winsFrom, Finset.mem_filter, Finset.mem_univ, true_and] at hx
        omega
      · iexact Hd
    iexact HO
  | n + 1, hn => by
    unfold waitRun
    rw [Fly_succ]
    iintro ⟨#Hmw, ⟨Hfl, Hlr, Hn⟩, HO⟩ Hk
    iapply (wp_gwait i d yH yV sem b (8 - (n + 1)) hb _ O W _ _ Q) $$ [Hfl HO]
    · isplitr; · iexact Hmw
      isplitl [Hfl]; · iexact Hfl
      iexact HO
    iintro ⟨HD, Hsem, HO⟩
    iapply (wp_waitRun ci b hci hb O W k Q n _) $$ [Hn HO]
    · isplitr; · iexact Hmw
      isplitl [Hn]; · iexact Hn
      iexact HO
    iintro ⟨HI, ⟨%g, %hg, Hg⟩, HO⟩
    unfold Gathered Idle
    icases HD with ⟨⟨%f, %hf, Hf⟩, Hc, Hll⟩
    icases HI with ⟨Hl, Hy, Hsems⟩
    iapply Hk
    isplitl [Hlr Hll Hl Hc Hy Hsem Hsems]
    · isplitl [Hlr Hll Hl]
      · iapply (pointsTo_share (PosShare.mem_left_op_right (lsh (n + 1)))).2
        isplitl [Hlr Hll]
        · iapply (pointsTo_split_subset (Finset.subset_univ (listM sV ci hci).view.set)).2
          isplitl [Hll]; · iexact Hll
          iexact Hlr
        · rw [← lsh_succ n hn]; iexact Hl
      isplitl [Hc Hy]
      · iapply (Entails.of_eq (pts_cols_succ i d yH q fY n hn).symm)
        iapply (pointsTo_union (ℓ := yH.view.loc (thr d i)) (cols_disj yH n hn)).2
        isplitl [Hc]; · iexact Hc
        iexact Hy
      rw [semsFrom_succ]
      isplitl [Hsem]; · iexact Hsem
      iexact Hsems
    isplitl [Hf Hg]
    · ihave Hj := (pointsTo_join (ℓ := yV.view.loc (thr d i)) (wins_disj yV b n hb hn)) $$ [Hf Hg]
      · isplitl [Hf]; · iexact Hf
        iexact Hg
      iexists _
      isplitr
      swap
      · iapply (Entails.of_eq (pts_wins_succ i d yV b n hb hn _).symm)
        iexact Hj
      ipureintro
      intro x hx
      rw [winsFrom_succ b n hb hn, Finset.mem_union] at hx
      by_cases hx' : x ∈ winsFrom b n
      · rw [← hg x hx']
        exact View.read_congr_at x (Finset.piecewise_eq_of_mem _ _ _ (Finset.mem_map_of_mem _ hx'))
      · rw [← hf x (hx.resolve_right hx')]
        exact View.read_congr_at x (Finset.piecewise_eq_of_notMem _ _ _ (fun h => hx' ((Finset.mem_map' _).1 h)))
    · iexact HO

end

end Cert.Proof.Combine

end
-- ==== Proof.Copies.lean ====
/-
  The tile's plain copies: its 64 slots and weights of each of the four lists fetched on one semaphore, four copies waited
  for together; and each chunk's sixteen result rows copied out of a half of the result buffer.
-/
module

public import proofs.«01_k».proof.Proof.Gather

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]
  rfl

/-! ## Waits recorded -/

/-- A wait of a transfer recorded beside the task's own. -/
theorem OW_insert (i : grid0.Coords) (d : Dev nD) (O : CellTallies nD τ sig (HIx 1)) (W W' : Waits sig (HIx 1)) (sm : SemLoc sig)
    (h : ∀ p ∈ W', p ∈ W ∨ p.2 = none) :
    (owes (thr d i) O (insert (sm, (none : HIx 1)) W') : sProp 𝕄) ⊢ OW (F := F) i d O W := by
  unfold OW
  iintro HO
  iexists _
  isplitr
  swap; · iexact HO
  ipureintro
  intro p hp
  rcases Finset.mem_insert.mp hp with hp | hp
  · exact .inr (hp ▸ rfl)
  · exact h p hp

theorem OW_intro (i : grid0.Coords) (d : Dev nD) (O : CellTallies nD τ sig (HIx 1)) (W W' : Waits sig (HIx 1))
    (h : ∀ p ∈ W', p ∈ W ∨ p.2 = none) : (owes (thr d i) O W' : sProp 𝕄) ⊢ OW (F := F) i d O W := by
  unfold OW
  iintro HO
  iexists W'
  isplitr
  swap; · iexact HO
  ipureintro
  exact h

/-! ## A chunk's rows copied out -/

/-- Chunk `ci`'s sixteen result rows of the tile at `i`. -/
abbrev blkR (i : grid0.Coords) (ci : Fin 4) : Rect S2048x1024 :=
  Rect.unit (s := S2048x1024) (k0_off66 i (BitVec.ofNat 32 (16 * ci.val))) S16x1024.size (Gen.k0_off66_inb i ci)

section Out

variable (i : grid0.Coords) (d : Dev nD) (oH : Memref sig .scVector .hbm S2048x1024 .f32) (oV : Memref sig .scVector .vmem S2x16x1024 .f32)
  (semO : DmaSems sig S_) (Y : Buf (Elt F) (oH.view.loc (thr d i)))

theorem half_rect (b : ℕ) (hb : b < 2) : (Rect.unit (s := S2x16x1024) ![b, 0, 0] S1x16x1024.size (half_inb b hb)).set = halfS b := by
  ext x
  rw [Rect.mem_set_unit, mem_halfS]
  constructor
  · intro h
    have h0 := h 0
    simp at h0
    omega
  · intro h0 a
    have h1 := (x 1).isLt
    have h2 := (x 2).isLt
    fin_cases a <;> simp at * <;> omega

theorem half_set (b : ℕ) (hb : b < 2) : ((outHalf oV b hb).view.set : Finset oV.view.ty.Idx) = oV.view.setOn (halfS b) :=
  (View.set_reshape _ _).trans ((View.set_slice _ _).trans (congrArg (Finset.map oV.view.emb) (half_rect b hb)))
theorem rows_set (ci : Fin 4) : ((outRows i oH ci).view.set : Finset oH.view.ty.Idx) = oH.view.setOn (blkR i ci).set :=
  View.set_slice _ _

theorem pts_half (b : ℕ) (hb : b < 2) (f : Buf (Elt F) (oV.view.loc (thr d i))) :
    (oV.view.loc (thr d i) ↦[oV.view.setOn (halfS b)]{fullShare} f : sProp 𝕄)
      = ((outHalf oV b hb).view.loc (thr d i) ↦[(outHalf oV b hb).view.set]{fullShare} f) :=
  congrArg (fun S : Finset oV.view.ty.Idx => (oV.view.loc (thr d i) ↦[S]{fullShare} f : sProp 𝕄)) (half_set oV b hb).symm
theorem pts_rows (ci : Fin 4) (f : Buf (Elt F) (oH.view.loc (thr d i))) :
    (oH.view.loc (thr d i) ↦[oH.view.setOn (blkR i ci).set]{fullShare} f : sProp 𝕄)
      = ((outRows i oH ci).view.loc (thr d i) ↦[(outRows i oH ci).view.set]{fullShare} f) :=
  congrArg (fun S : Finset oH.view.ty.Idx => (oH.view.loc (thr d i) ↦[S]{fullShare} f : sProp 𝕄)) (rows_set i oH ci).symm

/-- What a chunk's copy out delivers: its rows, holding the wanted values, and the half of the result buffer back. -/
def Sent (ci : Fin 4) (b : ℕ) : sProp 𝕄 :=
  iprop((oH.view.loc (thr d i) ↦[oH.view.setOn (blkR i ci).set]{fullShare} Y)
    ∗ ∃ f : Buf (Elt F) (oV.view.loc (thr d i)), oV.view.loc (thr d i) ↦[oV.view.setOn (halfS b)]{fullShare} f)

theorem sent_of (ci : Fin 4) (b : ℕ) (hb : b < 2) (f : Buf (Elt F) (oV.view.loc (thr d i))) (g : Buf (Elt F) (oH.view.loc (thr d i)))
    (hf : ∀ z, (outHalf oV b hb).view.read (Elt F) f z = (outRows i oH ci).view.read (Elt F) Y z) :
    iprop(((outRows i oH ci).view.loc (thr d i) ↦[(outRows i oH ci).view.set]{fullShare}
        (outRows i oH ci).view.write (Elt F) g ((outHalf oV b hb).view.read (Elt F) f) Finset.univ)
      ∗ ((outHalf oV b hb).view.loc (thr d i) ↦[(outHalf oV b hb).view.set]{fullShare} f)) ⊢ Sent (F := F) i d oH oV Y ci b := by
  have e : ((outRows i oH ci).view.loc (thr d i) ↦[(outRows i oH ci).view.set]{fullShare}
        (outRows i oH ci).view.write (Elt F) g ((outHalf oV b hb).view.read (Elt F) f) Finset.univ : sProp 𝕄)
      = ((outRows i oH ci).view.loc (thr d i) ↦[(outRows i oH ci).view.set]{fullShare} Y) := by
    refine pointsTo_congr fun y hy => ?_
    obtain ⟨z, -, rfl⟩ := Finset.mem_map.1 hy
    rw [View.write_emb_of_mem _ _ (Finset.mem_univ _), hf z, View.read_apply, cast_cast, cast_eq]
  rw [e, ← pts_rows, ← pts_half]
  unfold Sent
  iintro ⟨H1, H2⟩
  isplitl [H1]; · iexact H1
  iexists f; iexact H2

/-- A chunk's copy out started. -/
theorem wp_sendOut (ci : Fin 4) (b : ℕ) (hb : b < 2) (K : TP F i PUnit) (Q : PUnit → sProp 𝕄)
    (f : Buf (Elt F) (oV.view.loc (thr d i)))
    (hf : ∀ z, (outHalf oV b hb).view.read (Elt F) f z = (outRows i oH ci).view.read (Elt F) Y z) :
    iprop((oV.view.loc (thr d i) ↦[oV.view.setOn (halfS b)]{fullShare} f)
        ∗ (∃ g : Buf (Elt F) (oH.view.loc (thr d i)), oH.view.loc (thr d i) ↦[oH.view.setOn (blkR i ci).set]{fullShare} g)
        ∗ semVal (thr d i, SemLoc.dma semO.sem) 0)
      ⊢ iprop((Transfers.Flight (countersEmb (nD := nD)) (thr d i) (.dma semO.sem) none (outRows i oH ci).view.dmaCredit (Sent (F := F) i d oH oV Y ci b)
            -∗ wpT d i K Q)
        -∗ wpT d i (sendOut i oH oV semO ci b hb K) Q) := by
  unfold sendOut
  iintro ⟨Ho, ⟨%g, Hg⟩, Hs⟩ HK
  ihave Ho' := (Entails.of_eq (pts_half i d oV b hb f)) $$ Ho
  ihave Hg' := (Entails.of_eq (pts_rows i d oH ci g)) $$ Hg
  iapply (Transfers.wp_dmaLocal countersEmb 𝒱₀ (thr d i) none (none : HIx 1) (outRows i oH ci).view.dmaCredit
    (View.amount_dma _ _) (View.amount_pos (outRows i oH ci).view (.dma semO.sem) (by decide)) (Finset.Subset.refl _)) $$ [Ho' Hg' Hs]
  · isplitl [Ho']; · iexact Ho'
    isplitl [Hg']; · iexact Hg'
    iexact Hs
  iintro Hfl
  iapply HK
  iapply (Transfers.Flight_mono countersEmb (thr d i) (sent_of i d oH oV Y ci b hb f g hf)) $$ Hfl

/-- A chunk's copy out waited for. -/
theorem wp_waitOut (ci : Fin 4) (b : ℕ) (hb : b < 2) (O : CellTallies nD τ sig (HIx 1)) (W : Waits sig (HIx 1)) (D : sProp 𝕄)
    (K : TP F i PUnit) (Q : PUnit → sProp 𝕄) :
    iprop(Transfers.MayWaits (thr d i) (none : HIx 1) O
        ∗ Transfers.Flight (countersEmb (nD := nD)) (thr d i) (.dma semO.sem) none (outRows i oH ci).view.dmaCredit D
        ∗ OW (F := F) i d O W)
      ⊢ iprop((iprop(D ∗ semVal (thr d i, SemLoc.dma semO.sem) 0 ∗ OW (F := F) i d O W) -∗ wpT d i K Q)
        -∗ wpT d i (waitOut i oH oV semO ci b hb K) Q) := by
  unfold waitOut
  conv => lhs; unfold OW
  iintro ⟨Hmw, Hfl, %W', %hW', HO⟩ Hk
  iapply (Transfers.wp_waitLocalO countersEmb 𝒱₀ (thr d i) none (none : HIx 1) (rfl : (outRows i oH ci).view.dmaCredit = _)) $$ [Hfl HO Hmw]
  · isplitl [Hfl]; · iexact Hfl
    isplitl [HO]; · iexact HO
    iapply (Transfers.MayWaits.elim (SemLoc.dma semO.sem)) $$ Hmw
  iintro ⟨HD, Hsem, HO⟩
  iapply Hk
  isplitl [HD]; · iexact HD
  isplitl [Hsem]; · iexact Hsem
  iapply (OW_insert i d O W W' _ hW') $$ HO

end Out

/-! ## The lists fetched -/

section Fetch

variable (i : grid0.Coords) (d : Dev nD) (s0H s1H : Memref sig .scVector .hbm S2048 .i32) (p0H p1H : Memref sig .scVector .hbm S2048 .f32)
  (s0V s1V : Memref sig .scVector .vmem S64 .i32) (h0V : s0V.IsWhole) (h1V : s1V.IsWhole)
  (p0V p1V : Memref sig .scVector .vmem S64 .f32) (hp0V : p0V.IsWhole) (hp1V : p1V.IsWhole) (semI : DmaSems sig S_) (q : PosShare TreeShare)
  (a0 : Buf (Elt F) (s0H.view.loc (thr d i))) (a1 : Buf (Elt F) (s1H.view.loc (thr d i)))
  (a2 : Buf (Elt F) (p0H.view.loc (thr d i))) (a3 : Buf (Elt F) (p1H.view.loc (thr d i)))
  (f0 : Buf (Elt F) (s0V.view.loc (thr d i))) (f1 : Buf (Elt F) (s1V.view.loc (thr d i)))
  (f2 : Buf (Elt F) (p0V.view.loc (thr d i))) (f3 : Buf (Elt F) (p1V.view.loc (thr d i)))

section One

variable {e : EltTy} (src : Memref sig .scVector .hbm S64 e) (dst : Memref sig .scVector .vmem S64 e)
  (fs : Buf (Elt F) (src.view.loc (thr d i))) (fd : Buf (Elt F) (dst.view.loc (thr d i)))
  (N : ℕ)

/-- One of the four copies started. -/
theorem wp_fetchOne (hN : dst.view.dmaCredit = N) (D : Fin 4 → sProp 𝕄) (j : ℕ) (hj : j < 4)
    (hD : (iprop((dst.view.loc (thr d i) ↦{fullShare} dst.view.write (Elt F) fd (src.view.read (Elt F) fs) Finset.univ)
      ∗ (src.view.loc (thr d i) ↦[src.view.set]{q} fs)) : sProp 𝕄) ⊢ (D ⟨j, hj⟩ : sProp 𝕄))
    {hw : src.view.WordExact} {hw' : dst.view.WordExact}
    (K : TP F i PUnit) (Q : PUnit → sProp 𝕄) :
    iprop((src.view.loc (thr d i) ↦[src.view.set]{q} fs) ∗ (dst.view.loc (thr d i) ↦{fullShare} fd)
        ∗ Transfers.Batch (countersEmb (nD := nD)) (thr d i) (.dma semI.sem) none N D j 0)
      ⊢ iprop((Transfers.Batch (countersEmb (nD := nD)) (thr d i) (.dma semI.sem) none N D (j + 1) 0 -∗ wpT d i K Q)
        -∗ wpT d i ((Prog.lift (.enqueueDma src (.here dst) (.dma semI.sem) hw hw' ⟨Or.inl rfl, trivial⟩) : TP F i PUnit) >>= fun _ => K) Q) := by
  iintro H HK
  iapply (Transfers.wp_dmaBatch countersEmb 𝒱₀ (thr d i) none (none : HIx 1) N ((View.amount_dma _ semI.sem).trans hN) (Sd := Finset.univ) (Finset.subset_univ _)
    (src := src) (dst := dst) (via := .same) (D := D) (q := q) (fs := fs) (fd := fd) hj (Nat.zero_le _) hD) $$ H
  iexact HK

/-- One of the four waits, not the last. -/
theorem wp_fetchWait (hN : dst.view.dmaCredit = N) (D : Fin 4 → sProp 𝕄) (u : ℕ) (hu : u + N < N * 4) (O : CellTallies nD τ sig (HIx 1)) (W : Waits sig (HIx 1))
    {hw : src.view.WordExact} {hw' : dst.view.WordExact} (K : TP F i PUnit) (Q : PUnit → sProp 𝕄) :
    iprop(Transfers.MayWaits (thr d i) (none : HIx 1) O
        ∗ Transfers.Batch (countersEmb (nD := nD)) (thr d i) (.dma semI.sem) none N D 4 u ∗ OW (F := F) i d O W)
      ⊢ iprop((iprop(Transfers.Batch (countersEmb (nD := nD)) (thr d i) (.dma semI.sem) none N D 4 (u + N) ∗ OW (F := F) i d O W) -∗ wpT d i K Q)
        -∗ wpT d i (Prog.lift (.waitDma2 semI.sem src dst hw hw') >>= fun _ => K) Q) := by
  conv => lhs; unfold OW
  iintro ⟨Hmw, HB, %W', %hW', HO⟩ Hk
  iapply (Transfers.wp_waitBatchO countersEmb 𝒱₀ (thr d i) none (none : HIx 1) hN hu) $$ [HB HO Hmw]
  · isplitl [HB]; · iexact HB
    isplitl [HO]; · iexact HO
    iapply (Transfers.MayWaits.elim (SemLoc.dma semI.sem)) $$ Hmw
  iintro ⟨HB, HO⟩
  iapply Hk
  isplitl [HB]; · iexact HB
  iapply (OW_insert i d O W W' _ hW') $$ HO

/-- The last wait. -/
theorem wp_fetchLast (hN : dst.view.dmaCredit = N) (hN0 : 0 < N) (D : Fin 4 → sProp 𝕄) (u : ℕ) (hu : u + N = N * 4) (O : CellTallies nD τ sig (HIx 1)) (W : Waits sig (HIx 1))
    {hw : src.view.WordExact} {hw' : dst.view.WordExact} (K : TP F i PUnit) (Q : PUnit → sProp 𝕄) :
    iprop(Transfers.MayWaits (thr d i) (none : HIx 1) O
        ∗ Transfers.Batch (countersEmb (nD := nD)) (thr d i) (.dma semI.sem) none N D 4 u ∗ OW (F := F) i d O W)
      ⊢ iprop((iprop(bigSep Finset.univ D ∗ semVal (thr d i, SemLoc.dma semI.sem) 0 ∗ OW (F := F) i d O W) -∗ wpT d i K Q)
        -∗ wpT d i (Prog.lift (.waitDma2 semI.sem src dst hw hw') >>= fun _ => K) Q) := by
  conv => lhs; unfold OW
  iintro ⟨Hmw, HB, %W', %hW', HO⟩ Hk
  iapply (Transfers.wp_waitBatchLastO countersEmb 𝒱₀ (thr d i) none (none : HIx 1) hN hN0 hu) $$ [HB HO Hmw]
  · isplitl [HB]; · iexact HB
    isplitl [HO]; · iexact HO
    iapply (Transfers.MayWaits.elim (SemLoc.dma semI.sem)) $$ Hmw
  iintro ⟨HD, Hv, HO⟩
  iapply Hk
  isplitl [HD]; · iexact HD
  isplitl [Hv]; · iexact Hv
  iapply (OW_insert i d O W W' _ hW') $$ HO

end One

/-- What the four copies deliver. -/
def fetchD : Fin 4 → sProp 𝕄
  | 0 => iprop((s0V.view.loc (thr d i) ↦{fullShare} s0V.view.write (Elt F) f0 ((mineI i s0H).view.read (Elt F) a0) Finset.univ)
      ∗ ((mineI i s0H).view.loc (thr d i) ↦[(mineI i s0H).view.set]{q} a0))
  | 1 => iprop((s1V.view.loc (thr d i) ↦{fullShare} s1V.view.write (Elt F) f1 ((mineI i s1H).view.read (Elt F) a1) Finset.univ)
      ∗ ((mineI i s1H).view.loc (thr d i) ↦[(mineI i s1H).view.set]{q} a1))
  | 2 => iprop((p0V.view.loc (thr d i) ↦{fullShare} p0V.view.write (Elt F) f2 ((mineF i p0H).view.read (Elt F) a2) Finset.univ)
      ∗ ((mineF i p0H).view.loc (thr d i) ↦[(mineF i p0H).view.set]{q} a2))
  | 3 => iprop((p1V.view.loc (thr d i) ↦{fullShare} p1V.view.write (Elt F) f3 ((mineF i p1H).view.read (Elt F) a3) Finset.univ)
      ∗ ((mineF i p1H).view.loc (thr d i) ↦[(mineF i p1H).view.set]{q} a3))

instance fetchD_storable : ∀ t, BI.Storable (upEmb : UEmb _ 𝕄) (fetchD i d s0H s1H p0H p1H s0V s1V p0V p1V q a0 a1 a2 a3 f0 f1 f2 f3 t)
  | 0 => by unfold fetchD; infer_instance
  | 1 => by unfold fetchD; infer_instance
  | 2 => by unfold fetchD; infer_instance
  | 3 => by unfold fetchD; infer_instance

/-- The four lists fetched. -/
theorem wp_fetch (N : ℕ) (hN0 : 0 < N) (n0 : s0V.view.dmaCredit = N) (n1 : s1V.view.dmaCredit = N) (n2 : p0V.view.dmaCredit = N) (n3 : p1V.view.dmaCredit = N)
    (O : CellTallies nD τ sig (HIx 1)) (W : Waits sig (HIx 1)) (K : TP F i PUnit) (Q : PUnit → sProp 𝕄) :
    iprop(Transfers.MayWaits (thr d i) (none : HIx 1) O
        ∗ (((mineI i s0H).view.loc (thr d i) ↦[(mineI i s0H).view.set]{q} a0)
          ∗ ((mineI i s1H).view.loc (thr d i) ↦[(mineI i s1H).view.set]{q} a1)
          ∗ ((mineF i p0H).view.loc (thr d i) ↦[(mineF i p0H).view.set]{q} a2)
          ∗ ((mineF i p1H).view.loc (thr d i) ↦[(mineF i p1H).view.set]{q} a3))
        ∗ ((s0V.view.loc (thr d i) ↦{fullShare} f0) ∗ (s1V.view.loc (thr d i) ↦{fullShare} f1)
          ∗ (p0V.view.loc (thr d i) ↦{fullShare} f2) ∗ (p1V.view.loc (thr d i) ↦{fullShare} f3))
        ∗ semVal (thr d i, SemLoc.dma semI.sem) 0 ∗ OW (F := F) i d O W)
      ⊢ iprop((iprop(fetchD i d s0H s1H p0H p1H s0V s1V p0V p1V q a0 a1 a2 a3 f0 f1 f2 f3 0
            ∗ fetchD i d s0H s1H p0H p1H s0V s1V p0V p1V q a0 a1 a2 a3 f0 f1 f2 f3 1
            ∗ fetchD i d s0H s1H p0H p1H s0V s1V p0V p1V q a0 a1 a2 a3 f0 f1 f2 f3 2
            ∗ fetchD i d s0H s1H p0H p1H s0V s1V p0V p1V q a0 a1 a2 a3 f0 f1 f2 f3 3
            ∗ semVal (thr d i, SemLoc.dma semI.sem) 0 ∗ OW (F := F) i d O W) -∗ wpT d i K Q)
        -∗ wpT d i (fetch i s0H s1H p0H p1H s0V s1V h0V h1V p0V p1V hp0V hp1V semI K) Q) := by
  unfold fetch
  iintro ⟨#Hmw, ⟨Hs0, Hs1, Hs2, Hs3⟩, ⟨Hd0, Hd1, Hd2, Hd3⟩, Hv, HO⟩ Hk
  imod (Transfers.batch_alloc' countersEmb (thr d i) (sm := SemLoc.dma semI.sem) (none : HIx 1) N
    (fetchD i d s0H s1H p0H p1H s0V s1V p0V p1V q a0 a1 a2 a3 f0 f1 f2 f3) (E := Set.univ)) $$ Hv with HB
  iapply (wp_fetchOne i d semI q (mineI i s0H) s0V a0 f0 N n0 (fetchD i d s0H s1H p0H p1H s0V s1V p0V p1V q a0 a1 a2 a3 f0 f1 f2 f3) 0 (by decide)
    (Entails.of_eq rfl)) $$ [Hs0 Hd0 HB]
  · isplitl [Hs0]; · iexact Hs0
    isplitl [Hd0]; · iexact Hd0
    iexact HB
  iintro HB
  iapply (wp_fetchOne i d semI q (mineI i s1H) s1V a1 f1 N n1 (fetchD i d s0H s1H p0H p1H s0V s1V p0V p1V q a0 a1 a2 a3 f0 f1 f2 f3) 1 (by decide)
    (Entails.of_eq rfl)) $$ [Hs1 Hd1 HB]
  · isplitl [Hs1]; · iexact Hs1
    isplitl [Hd1]; · iexact Hd1
    iexact HB
  iintro HB
  iapply (wp_fetchOne i d semI q (mineF i p0H) p0V a2 f2 N n2 (fetchD i d s0H s1H p0H p1H s0V s1V p0V p1V q a0 a1 a2 a3 f0 f1 f2 f3) 2 (by decide)
    (Entails.of_eq rfl)) $$ [Hs2 Hd2 HB]
  · isplitl [Hs2]; · iexact Hs2
    isplitl [Hd2]; · iexact Hd2
    iexact HB
  iintro HB
  iapply (wp_fetchOne i d semI q (mineF i p1H) p1V a3 f3 N n3 (fetchD i d s0H s1H p0H p1H s0V s1V p0V p1V q a0 a1 a2 a3 f0 f1 f2 f3) 3 (by decide)
    (Entails.of_eq rfl)) $$ [Hs3 Hd3 HB]
  · isplitl [Hs3]; · iexact Hs3
    isplitl [Hd3]; · iexact Hd3
    iexact HB
  iintro HB
  iapply (wp_fetchWait i d semI (mineI i s0H) s0V N n0 _ (0) (by omega) O W) $$ [HB HO]
  · isplitr; · iexact Hmw
    isplitl [HB]; · iexact HB
    iexact HO
  iintro ⟨HB, HO⟩
  iapply (wp_fetchWait i d semI (mineI i s1H) s1V N n1 _ (0+N) (by omega) O W) $$ [HB HO]
  · isplitr; · iexact Hmw
    isplitl [HB]; · iexact HB
    iexact HO
  iintro ⟨HB, HO⟩
  iapply (wp_fetchWait i d semI (mineF i p0H) p0V N n2 _ (0+N+N) (by omega) O W) $$ [HB HO]
  · isplitr; · iexact Hmw
    isplitl [HB]; · iexact HB
    iexact HO
  iintro ⟨HB, HO⟩
  iapply (wp_fetchLast i d semI (mineF i p1H) p1V N n3 hN0 _ (0+N+N+N) (by omega) O W) $$ [HB HO]
  · isplitr; · iexact Hmw
    isplitl [HB]; · iexact HB
    iexact HO
  iintro ⟨HD, Hv, HO⟩
  iapply Hk
  ihave HD' := (Entails.of_eq (bigSep_four (fetchD i d s0H s1H p0H p1H s0V s1V p0V p1V q a0 a1 a2 a3 f0 f1 f2 f3))) $$ HD
  icases HD' with ⟨H0, H1, H2, H3⟩
  isplitl [H0]; · iexact H0
  isplitl [H1]; · iexact H1
  isplitl [H2]; · iexact H2
  isplitl [H3]; · iexact H3
  isplitl [Hv]; · iexact Hv
  iexact HO

end Fetch

end Cert.Proof.Combine

end
-- ==== Proof.Rows.lean ====
/-
  A chunk's loop over its sixteen rows: from the two gathered halves and the two weight lists it leaves, in the half of
  the result buffer it was given, the weighted sum of the two rows, lane by lane.
-/
module

public import proofs.«01_k».proof.Proof.Setup

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- What a chunk's loop computes at an element of the row buffers, from the weight lists and the two gathered rows. -/
def mixAt (ci : ℕ) (hci : ci < 4) (p0 p1 : S64.Idx → Elt F .f32) (a c : S2x16x1024.Idx → Elt F .f32) (x : S2x16x1024.Idx) : Elt F .f32 :=
  mix (p0 (at64 ci (x 1).val hci (x 1).isLt)) (p1 (at64 ci (x 1).val hci (x 1).isLt)) (a x) (c x)

/-- Elements of half `b` before lane group `j` of row `t`. -/
def Before (b t j : ℕ) (x : S2x16x1024.Idx) : Prop := (x 0).val = b ∧ ((x 1).val < t ∨ (x 1).val = t ∧ (x 2).val < 16 * j)

/-- The rectangle of lane group `j` of trip `t`. -/
abbrev laneRect (b j : ℕ) (hb : b < 2) (hj : j < 64) (t : Fin k0_t1_loop.trips) : Rect S2x16x1024 :=
  Rect.unit (s := S2x16x1024) (laneOff b j t) S1x1x16.size (laneOff_inb b j hb hj t)

theorem mem_laneRect {b j : ℕ} {hb : b < 2} {hj : j < 64} {t : Fin k0_t1_loop.trips} {x : S2x16x1024.Idx} :
    x ∈ (laneRect b j hb hj t).set ↔ (x 0).val = b ∧ (x 1).val = t.val ∧ 16 * j ≤ (x 2).val ∧ (x 2).val < 16 * (j + 1) := by
  rw [Rect.mem_set_unit]
  unfold laneOff
  rw [rowOfTrip_toNat]
  constructor
  · intro h
    have h0 := h 0; have h1 := h 1; have h2 := h 2
    simp at h0 h1 h2
    omega
  · rintro ⟨h0, h1, h2, h3⟩ a
    fin_cases a <;> simp <;> omega

/-- A lane group's rectangle lies in its half. -/
theorem laneRect_subset {b j : ℕ} {hb : b < 2} {hj : j < 64} {t : Fin k0_t1_loop.trips} :
    (laneRect b j hb hj t).set ⊆ halfS b := fun _ hx => mem_halfS.2 (mem_laneRect.1 hx).1

section

variable (i : grid0.Coords) (p0V p1V : Memref sig .scVector .vmem S64 .f32) (y0V y1V oV : Memref sig .scVector .vmem S2x16x1024 .f32)

/-- What a lane group's store writes. -/
abbrev laneVal (b j : ℕ) (hb : b < 2) (hj : j < 64) (t : Fin k0_t1_loop.trips) (q0 q1 : Vec F S16 .f32)
    (f0 : y0V.view.ty.Contents (Elt F)) (f1 : y1V.view.ty.Contents (Elt F)) : S1x1x16.Idx → Elt F .f32 :=
  shapeCast S1x1x16 (addf (mulf q0 (shapeCast S16 ((y0V.access (laneRect b j hb hj t)).read (Elt F) f0) Gen.shapeCasts_S1x1x16_S16))
    (mulf q1 (shapeCast S16 ((y1V.access (laneRect b j hb hj t)).read (Elt F) f1) Gen.shapeCasts_S1x1x16_S16))) Gen.shapeCasts_S16_S1x1x16

/-- At each of its lanes that is the weighted sum there. -/
theorem laneVal_apply (b j : ℕ) (hb : b < 2) (hj : j < 64) (t : Fin k0_t1_loop.trips) (q0 q1 : Elt F .f32)
    (f0 : y0V.view.ty.Contents (Elt F)) (f1 : y1V.view.ty.Contents (Elt F)) (z : S1x1x16.Idx) :
    laneVal y0V y1V b j hb hj t (fun _ => q0) (fun _ => q1) f0 f1 z
      = mix q0 q1 (y0V.view.read (Elt F) f0 ((laneRect b j hb hj t).emb z)) (y1V.view.read (Elt F) f1 ((laneRect b j hb hj t).emb z)) := by
  have e : ∀ v : S1x1x16.Idx → Elt F .f32, shapeCast S16 v Gen.shapeCasts_S1x1x16_S16 (Shape.reshapeEquiv Gen.shapeCasts_S16_S1x1x16 z) = v z := fun v => by
    unfold shapeCast
    rw [Shape.reshapeEquiv_reshapeEquiv, Shape.reshapeEquiv_self]
  show FloatOps.addf (FloatOps.mulf q0 _) (FloatOps.mulf q1 _) = _
  rw [e, e]; rfl

/-- After a lane group's store, what was right before it is right, and the group with it. -/
theorem lane_next (b j : ℕ) (hb : b < 2) (hj : j < 64) (t : Fin k0_t1_loop.trips) (q0 q1 : Elt F .f32)
    (f0 : y0V.view.ty.Contents (Elt F)) (f1 : y1V.view.ty.Contents (Elt F)) (f : oV.view.ty.Contents (Elt F)) (G : S2x16x1024.Idx → Elt F .f32)
    (hG : ∀ x, (x 1).val = t.val → G x = mix q0 q1 (y0V.view.read (Elt F) f0 x) (y1V.view.read (Elt F) f1 x))
    (hf : ∀ x, Before b t.val j x → oV.view.read (Elt F) f x = G x) :
    ∀ x, Before b t.val (j + 1) x →
      oV.view.read (Elt F) ((oV.access (laneRect b j hb hj t)).write (Elt F) f (laneVal y0V y1V b j hb hj t (fun _ => q0) (fun _ => q1) f0 f1) Finset.univ) x = G x := by
  intro x hx
  by_cases hm : x ∈ (laneRect b j hb hj t).set
  · have ht := (mem_laneRect.1 hm).2.1
    rw [← Rect.map_emb_univ] at hm
    obtain ⟨z, -, rfl⟩ := Finset.mem_map.1 hm
    rw [View.read_slice_write_emb (v := oV.view) (r := laneRect b j hb hj t) f _ (Finset.mem_univ z), laneVal_apply]
    exact (hG _ ht).symm
  · rw [View.read_slice_write_of_not_mem (v := oV.view) (r := laneRect b j hb hj t) f _ Finset.univ (by rw [Rect.map_emb_univ]; exact hm)]
    refine hf x ⟨hx.1, ?_⟩
    rcases hx.2 with h | ⟨h, h'⟩
    · exact .inl h
    · refine .inr ⟨h, ?_⟩
      by_contra hn
      exact hm (mem_laneRect.2 ⟨hx.1, h, by omega, h'⟩)

variable (d : Dev nD)

/-- One lane group, at the head of a program. -/
theorem wp_laneStep (b j : ℕ) (hb : b < 2) (hj : j < 64) (t : Fin k0_t1_loop.trips) (q0 q1 : Vec F S16 .f32)
    (f0 : Buf (Elt F) (y0V.view.loc (thr d i))) (f1 : Buf (Elt F) (y1V.view.loc (thr d i))) (f : Buf (Elt F) (oV.view.loc (thr d i)))
    {α : Type} (kk : PUnit → TP F i α) (Q : α → sProp 𝕄) :
    iprop((y0V.view.loc (thr d i) ↦[y0V.view.setOn (halfS b)]{fullShare} f0) ∗ (y1V.view.loc (thr d i) ↦[y1V.view.setOn (halfS b)]{fullShare} f1)
        ∗ (oV.view.loc (thr d i) ↦[oV.view.setOn (halfS b)]{fullShare} f))
      ⊢ iprop((iprop((y0V.view.loc (thr d i) ↦[y0V.view.setOn (halfS b)]{fullShare} f0) ∗ (y1V.view.loc (thr d i) ↦[y1V.view.setOn (halfS b)]{fullShare} f1)
          ∗ (oV.view.loc (thr d i) ↦[oV.view.setOn (halfS b)]{fullShare}
              ((oV.access (laneRect b j hb hj t)).write (Elt F) f (laneVal y0V y1V b j hb hj t q0 q1 f0 f1) Finset.univ))) -∗ wpT d i (kk ⟨⟩) Q)
        -∗ wpT d i (laneStep i y0V y1V oV b j hb hj t q0 q1 >>= kk) Q) := by
  have hs : ∀ m : Memref sig .scVector .vmem S2x16x1024 .f32, (m.access (laneRect b j hb hj t)).set ⊆ m.view.setOn (halfS b) := fun m => by
    rw [View.set_slice]; exact Finset.map_subset_map.2 laneRect_subset
  iintro ⟨H0, H1, Ho⟩ Hk
  unfold laneStep
  iapply (wp_load_rect 𝒱₀ (thr d i) none Set.univ (m := y0V) (r := laneRect b j hb hj t) (hs y0V)) $$ H0
  iintro H0
  iapply (wp_load_rect 𝒱₀ (thr d i) none Set.univ (m := y1V) (r := laneRect b j hb hj t) (hs y1V)) $$ H1
  iintro H1
  iapply (wp_load_rect 𝒱₀ (thr d i) none Set.univ (m := oV) (r := laneRect b j hb hj t) (hs oV)) $$ Ho
  iintro Ho
  iapply (wp_store 𝒱₀ (thr d i) none Set.univ (m := oV) (r := laneRect b j hb hj t) (Mk := Finset.univ) (hs oV)) $$ Ho
  iintro Ho
  iapply Hk
  isplitl [H0]; · iexact H0
  isplitl [H1]; · iexact H1
  iexact Ho

/-- The last `n` lane groups of a row, at the head of a program. -/
theorem wp_laneRun (b : ℕ) (hb : b < 2) (t : Fin k0_t1_loop.trips) (q0 q1 : Elt F .f32)
    (f0 : Buf (Elt F) (y0V.view.loc (thr d i))) (f1 : Buf (Elt F) (y1V.view.loc (thr d i)))
    (G : S2x16x1024.Idx → Elt F .f32)
    (hG : ∀ x, (x 1).val = t.val → G x = mix q0 q1 (y0V.view.read (Elt F) f0 x) (y1V.view.read (Elt F) f1 x))
    {α : Type} (kk : PUnit → TP F i α) (Q : α → sProp 𝕄) :
    ∀ (n : ℕ) (hn : n ≤ 64) (f : Buf (Elt F) (oV.view.loc (thr d i))) (_ : ∀ x, Before b t.val (64 - n) x → oV.view.read (Elt F) f x = G x),
    iprop((y0V.view.loc (thr d i) ↦[y0V.view.setOn (halfS b)]{fullShare} f0) ∗ (y1V.view.loc (thr d i) ↦[y1V.view.setOn (halfS b)]{fullShare} f1)
        ∗ (oV.view.loc (thr d i) ↦[oV.view.setOn (halfS b)]{fullShare} f))
      ⊢ iprop((iprop((y0V.view.loc (thr d i) ↦[y0V.view.setOn (halfS b)]{fullShare} f0) ∗ (y1V.view.loc (thr d i) ↦[y1V.view.setOn (halfS b)]{fullShare} f1)
          ∗ ∃ f' : Buf (Elt F) (oV.view.loc (thr d i)), ⌜∀ x, Before b t.val 64 x → oV.view.read (Elt F) f' x = G x⌝
            ∗ (oV.view.loc (thr d i) ↦[oV.view.setOn (halfS b)]{fullShare} f')) -∗ wpT d i (kk ⟨⟩) Q)
        -∗ wpT d i (laneRun i y0V y1V oV b hb t (fun _ => q0) (fun _ => q1) n hn >>= kk) Q)
  | 0, _, f, hf => by
    iintro ⟨H0, H1, Ho⟩ Hk
    unfold laneRun
    iapply Hk
    isplitl [H0]; · iexact H0
    isplitl [H1]; · iexact H1
    iexists f
    isplitr
    · ipureintro; exact hf
    · iexact Ho
  | n + 1, hn, f, hf => by
    iintro ⟨H0, H1, Ho⟩ Hk
    unfold laneRun
    rw [bind_assoc]
    iapply (wp_laneStep i y0V y1V oV d b (64 - (n + 1)) hb _ t (fun _ => q0) (fun _ => q1) f0 f1 f) $$ [H0 H1 Ho]
    · isplitl [H0]; · iexact H0
      isplitl [H1]; · iexact H1
      iexact Ho
    iintro ⟨H0, H1, Ho⟩
    iapply (wp_laneRun b hb t q0 q1 f0 f1 G hG kk Q n _ _ (by
      have := lane_next y0V y1V oV b (64 - (n + 1)) hb (by omega) t q0 q1 f0 f1 f G hG hf
      rwa [show 64 - (n + 1) + 1 = 64 - n by omega] at this)) $$ [H0 H1 Ho]
    · isplitl [H0]; · iexact H0
      isplitl [H1]; · iexact H1
      iexact Ho
    iexact Hk

/-- The row's lanes are in range of a list of 64, and name its word. -/
theorem lane_word (ci : ℕ) (hci : ci < 4) : ∀ t : Fin k0_t1_loop.trips,
    (Scalar.addi (BitVec.ofNat 32 (16 * ci)) (rowOfTrip t)).toNat = 16 * ci + t.val := by
  intro t
  have h : (rowOfTrip t).toNat = t.val := (by decide : ∀ t : Fin k0_t1_loop.trips, (rowOfTrip t).toNat = t.val) t
  have ht : t.val < 16 := trips_eq ▸ t.isLt
  show (BitVec.ofNat 32 (16 * ci) + rowOfTrip t).toNat = _
  rw [BitVec.toNat_add, BitVec.toNat_ofNat, h]
  omega

theorem lane_chk (ci : ℕ) (hci : ci < 4) (t : Fin k0_t1_loop.trips) :
    LaneChk (broadcast S16 (Scalar.addi (BitVec.ofNat 32 (16 * ci)) (rowOfTrip t))) := by
  intro a x
  have ht : t.val < 16 := trips_eq ▸ t.isLt
  fin_cases a
  show (Scalar.addi (BitVec.ofNat 32 (16 * ci)) (rowOfTrip t)).toNat < 64
  rw [lane_word ci hci]; omega

/-- A one-word gather is that word in every lane. -/
theorem loadIdx_word (ci : ℕ) (hci : ci < 4) (t : Fin k0_t1_loop.trips) (f : S64.Idx → Elt F .f32)
    (h : LaneChk (broadcast S16 (Scalar.addi (BitVec.ofNat 32 (16 * ci)) (rowOfTrip t)))) :
    (loadIdx (F := F) (e := .f32) f ![broadcast S16 (Scalar.addi (BitVec.ofNat 32 (16 * ci)) (rowOfTrip t))] h : Vec F S16 .f32)
      = fun _ => f (at64 ci t.val hci (trips_eq ▸ t.isLt)) := by
  funext x
  refine congrArg f (funext fun a => Fin.ext ?_)
  fin_cases a
  exact lane_word ci hci t

/-- What a chunk's loop keeps: both gathered halves, both weight lists, and the result half right in the rows done. -/
def RowInv (ci : ℕ) (hci : ci < 4) (b : ℕ) (f0 : Buf (Elt F) (y0V.view.loc (thr d i))) (f1 : Buf (Elt F) (y1V.view.loc (thr d i)))
    (g0 : Buf (Elt F) (p0V.view.loc (thr d i))) (g1 : Buf (Elt F) (p1V.view.loc (thr d i))) (t : ℕ) : sProp 𝕄 :=
  iprop((y0V.view.loc (thr d i) ↦[y0V.view.setOn (halfS b)]{fullShare} f0) ∗ (y1V.view.loc (thr d i) ↦[y1V.view.setOn (halfS b)]{fullShare} f1)
    ∗ (p0V.view.loc (thr d i) ↦{fullShare} g0) ∗ (p1V.view.loc (thr d i) ↦{fullShare} g1)
    ∗ ∃ f : Buf (Elt F) (oV.view.loc (thr d i)),
        ⌜∀ x, Before b t 0 x → oV.view.read (Elt F) f x
          = mixAt ci hci (p0V.view.read (Elt F) g0) (p1V.view.read (Elt F) g1) (y0V.view.read (Elt F) f0) (y1V.view.read (Elt F) f1) x⌝
        ∗ (oV.view.loc (thr d i) ↦[oV.view.setOn (halfS b)]{fullShare} f))

/-- One trip keeps it. -/
theorem wp_rowTrip (ci : ℕ) (hci : ci < 4) (b : ℕ) (hb : b < 2) (t : Fin k0_t1_loop.trips)
    (f0 : Buf (Elt F) (y0V.view.loc (thr d i))) (f1 : Buf (Elt F) (y1V.view.loc (thr d i)))
    (g0 : Buf (Elt F) (p0V.view.loc (thr d i))) (g1 : Buf (Elt F) (p1V.view.loc (thr d i))) :
    RowInv i p0V p1V y0V y1V oV d ci hci b f0 f1 g0 g1 t.val
      ⊢ wpT d i (rowTrip i p0V p1V y0V y1V oV ci b hb t) fun _ => RowInv i p0V p1V y0V y1V oV d ci hci b f0 f1 g0 g1 (t.val + 1) := by
  have hw : ∀ (m : Memref sig .scVector .vmem S64 .f32) (g : m.view.ty.Contents (Elt F)) (y : S64.Idx),
      (m.access (Rect.whole S64)).read (Elt F) g y = m.view.read (Elt F) g y := fun m g y => by
    show m.view.read (Elt F) g ((Rect.whole S64).emb y) = _
    exact congrArg _ (funext fun a => Fin.ext (by simp))
  have hG : ∀ x : S2x16x1024.Idx, (x 1).val = t.val →
      mixAt ci hci (p0V.view.read (Elt F) g0) (p1V.view.read (Elt F) g1) (y0V.view.read (Elt F) f0) (y1V.view.read (Elt F) f1) x
        = mix ((p0V.access (Rect.whole S64)).read (Elt F) g0 (at64 ci t.val hci (trips_eq ▸ t.isLt)))
            ((p1V.access (Rect.whole S64)).read (Elt F) g1 (at64 ci t.val hci (trips_eq ▸ t.isLt)))
            (y0V.view.read (Elt F) f0 x) (y1V.view.read (Elt F) f1 x) := fun x hx => by
    rw [hw, hw]
    unfold mixAt
    have e : at64 ci (x 1).val hci (x 1).isLt = at64 ci t.val hci (trips_eq ▸ t.isLt) := by
      unfold at64; exact congrArg _ (Fin.ext (by simp only [hx]))
    rw [e]
  unfold RowInv rowTrip
  iintro ⟨H0, H1, Hp0, Hp1, %f, %hf, Ho⟩
  iapply (wp_assume 𝒱₀ (thr d i) none Set.univ (lane_chk ci hci t))
  iapply (SparseCore.wp_vectorLoadIdx 𝒱₀ (thr d i) none Set.univ (base := p0V) (hl := View.loads_vmem Gen.h_S64) (Finset.subset_univ _)) $$ Hp0
  iintro Hp0
  iapply (wp_assume 𝒱₀ (thr d i) none Set.univ (lane_chk ci hci t))
  iapply (SparseCore.wp_vectorLoadIdx 𝒱₀ (thr d i) none Set.univ (base := p1V) (hl := View.loads_vmem Gen.h_S64) (Finset.subset_univ _)) $$ Hp1
  iintro Hp1
  rw [loadIdx_word ci hci t, loadIdx_word ci hci t]
  iapply (wp_laneRun i y0V y1V oV d b hb t _ _ f0 f1
    (mixAt ci hci (p0V.view.read (Elt F) g0) (p1V.view.read (Elt F) g1) (y0V.view.read (Elt F) f0) (y1V.view.read (Elt F) f1))
    hG _ _ 64 le_rfl f (fun x hx => hf x ⟨hx.1, by have := hx.2; omega⟩)) $$ [H0 H1 Ho]
  · isplitl [H0]; · iexact H0
    isplitl [H1]; · iexact H1
    iexact Ho
  · iintro ⟨H0, H1, %f', %hf', Ho⟩
    unfold wpT
    rw [wp_pure]
    isplitl [H0]; · iexact H0
    isplitl [H1]; · iexact H1
    isplitl [Hp0]; · iexact Hp0
    isplitl [Hp1]; · iexact Hp1
    iexists f'
    isplitr
    · ipureintro
      intro x hx
      refine hf' x ⟨hx.1, ?_⟩
      have h2 : (x 2).val < 1024 := (x 2).isLt
      have := hx.2
      omega
    · iexact Ho

set_option maxRecDepth 8192 in
/-- A chunk's loop, at the head of a program: from the gathered halves to the result half. -/
theorem wp_rowLoop (ci : ℕ) (hci : ci < 4) (b : ℕ) (hb : b < 2)
    (f0 : Buf (Elt F) (y0V.view.loc (thr d i))) (f1 : Buf (Elt F) (y1V.view.loc (thr d i)))
    (g0 : Buf (Elt F) (p0V.view.loc (thr d i))) (g1 : Buf (Elt F) (p1V.view.loc (thr d i)))
    {α : Type} (kk : BitVec 32 → TP F i α) (Q : α → sProp 𝕄) :
    RowInv i p0V p1V y0V y1V oV d ci hci b f0 f1 g0 g1 0
      ⊢ iprop((∀ acc, RowInv i p0V p1V y0V y1V oV d ci hci b f0 f1 g0 g1 16 -∗ wpT d i (kk acc) Q)
        -∗ wpT d i (rowLoop i p0V p1V y0V y1V oV ci b hb >>= kk) Q) := by
  have h : ∀ N, N = k0_t1_loop.trips → RowInv i p0V p1V y0V y1V oV d ci hci b f0 f1 g0 g1 0
      ⊢ iprop((∀ acc, RowInv i p0V p1V y0V y1V oV d ci hci b f0 f1 g0 g1 N -∗ wpT d i (kk acc) Q)
        -∗ wpT d i (rowLoop i p0V p1V y0V y1V oV ci b hb >>= kk) Q) := fun N hN => by
    subst hN
    exact Scf.wp_for_bind frame (wpE (defs₀ (F := F)) 𝒱₀ (thr d i) none) Set.univ k0_t1_loop.lb k0_t1_loop.ub k0_t1_loop.st Gen.k0_t1_ok (0#32 : BitVec 32)
      (fun t _ => rowTrip i p0V p1V y0V y1V oV ci b hb t) (fun t _ => RowInv i p0V p1V y0V y1V oV d ci hci b f0 f1 g0 g1 t)
      (fun t _ => wp_rowTrip i p0V p1V y0V y1V oV d ci hci b hb t f0 f1 g0 g1)
  have e : 16 = k0_t1_loop.trips := by rw [trips_eq]
  exact h 16 e

end

end Cert.Proof.Combine

end
-- ==== Proof.Assemble.lean ====
/-
  The tile's body put together, over any buffers: the lists fetched, then four chunks, each gathered into one half of the row
  buffers while the other half is combined, the combined rows copied out behind it.
-/
module

public import proofs.«01_k».proof.Proof.Copies
public import proofs.«01_k».proof.Proof.Rows

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- The buffers and semaphores a tile's body is given. -/
structure Mem where
  yH : Memref sig .scVector .hbm S7680x1024 .f32
  s0H : Memref sig .scVector .hbm S2048 .i32
  s1H : Memref sig .scVector .hbm S2048 .i32
  p0H : Memref sig .scVector .hbm S2048 .f32
  p1H : Memref sig .scVector .hbm S2048 .f32
  oH : Memref sig .scVector .hbm S2048x1024 .f32
  s0V : Memref sig .scVector .vmem S64 .i32
  s1V : Memref sig .scVector .vmem S64 .i32
  h0V : s0V.IsWhole
  h1V : s1V.IsWhole
  p0V : Memref sig .scVector .vmem S64 .f32
  p1V : Memref sig .scVector .vmem S64 .f32
  hp0V : p0V.IsWhole
  hp1V : p1V.IsWhole
  y0V : Memref sig .scVector .vmem S2x16x1024 .f32
  y1V : Memref sig .scVector .vmem S2x16x1024 .f32
  oV : Memref sig .scVector .vmem S2x16x1024 .f32
  semI : DmaSems sig S_
  semG0 : DmaSems sig S8
  semG1 : DmaSems sig S8
  semO : DmaSems sig S_
  c0 : ∀ b hb, Credits y0V b hb
  c1 : ∀ b hb, Credits y1V b hb

/-- The table, the fetched lists, the wanted result, and the shares the table is read at. -/
structure Vals (F : FTy → Type) (i : grid0.Coords) (d : Dev nD) (M : Mem) where
  fY : Buf (Elt F) (M.yH.view.loc (thr d i))
  L0 : Buf (Elt F) (M.s0V.view.loc (thr d i))
  L1 : Buf (Elt F) (M.s1V.view.loc (thr d i))
  g0 : Buf (Elt F) (M.p0V.view.loc (thr d i))
  g1 : Buf (Elt F) (M.p1V.view.loc (thr d i))
  Y : Buf (Elt F) (M.oH.view.loc (thr d i))
  hs0 : ∀ j, (M.s0V.view.read (Elt F) L0 j).toNat < 7680
  hs1 : ∀ j, (M.s1V.view.read (Elt F) L1 j).toNat < 7680
  q0 : PosShare TreeShare
  q1 : PosShare TreeShare

section

variable (i : grid0.Coords) (d : Dev nD) (M : Mem) (v : Vals F i d M) (O : CellTallies nD τ sig (HIx 1)) (W : Waits sig (HIx 1))

/-- The value of the result buffer's element `x` for chunk `ci`. -/
def want (ci : ℕ) (hci : ci < 4) (x : S2x16x1024.Idx) : Elt F .f32 :=
  mixAt ci hci (M.p0V.view.read (Elt F) v.g0) (M.p1V.view.read (Elt F) v.g1)
    (gat (M.yH.view.read (Elt F) v.fY) (M.s0V.view.read (Elt F) v.L0) v.hs0 ci hci)
    (gat (M.yH.view.read (Elt F) v.fY) (M.s1V.view.read (Elt F) v.L1) v.hs1 ci hci) x

/-- What both tables' gathers need beside destinations. -/
def IdleB : sProp 𝕄 :=
  iprop(Idle i d M.yH M.s0V M.semG0 v.q0 v.fY v.L0 8 le_rfl ∗ Idle i d M.yH M.s1V M.semG1 v.q1 v.fY v.L1 8 le_rfl)
/-- Both tables' gathers of a chunk in flight. -/
def FlyB (ci : ℕ) (hci : ci < 4) (b : ℕ) (hb : b < 2) : sProp 𝕄 :=
  iprop(Fly i d M.yH M.s0V M.y0V M.semG0 v.q0 v.fY v.L0 v.hs0 ci b hci hb 8 le_rfl
    ∗ Fly i d M.yH M.s1V M.y1V M.semG1 v.q1 v.fY v.L1 v.hs1 ci b hci hb 8 le_rfl)
/-- Half `b` of both row buffers. -/
def HalfY (b : ℕ) : sProp 𝕄 :=
  iprop((∃ f : Buf (Elt F) (M.y0V.view.loc (thr d i)), M.y0V.view.loc (thr d i) ↦[M.y0V.view.setOn (halfS b)]{fullShare} f)
    ∗ ∃ f : Buf (Elt F) (M.y1V.view.loc (thr d i)), M.y1V.view.loc (thr d i) ↦[M.y1V.view.setOn (halfS b)]{fullShare} f)
/-- Half `b` of both row buffers, holding a chunk's rows. -/
def FullY (ci : ℕ) (hci : ci < 4) (b : ℕ) : sProp 𝕄 :=
  iprop((∃ f : Buf (Elt F) (M.y0V.view.loc (thr d i)),
      ⌜∀ x, x ∈ halfS b → M.y0V.view.read (Elt F) f x = gat (M.yH.view.read (Elt F) v.fY) (M.s0V.view.read (Elt F) v.L0) v.hs0 ci hci x⌝
        ∗ (M.y0V.view.loc (thr d i) ↦[M.y0V.view.setOn (halfS b)]{fullShare} f))
    ∗ ∃ f : Buf (Elt F) (M.y1V.view.loc (thr d i)),
      ⌜∀ x, x ∈ halfS b → M.y1V.view.read (Elt F) f x = gat (M.yH.view.read (Elt F) v.fY) (M.s1V.view.read (Elt F) v.L1) v.hs1 ci hci x⌝
        ∗ (M.y1V.view.loc (thr d i) ↦[M.y1V.view.setOn (halfS b)]{fullShare} f))
/-- The fetched weights. -/
def Wts : sProp 𝕄 := iprop((M.p0V.view.loc (thr d i) ↦{fullShare} v.g0) ∗ (M.p1V.view.loc (thr d i) ↦{fullShare} v.g1))
/-- Half `b` of the result buffer. -/
def HalfO (b : ℕ) : sProp 𝕄 :=
  iprop(∃ f : Buf (Elt F) (M.oV.view.loc (thr d i)), M.oV.view.loc (thr d i) ↦[M.oV.view.setOn (halfS b)]{fullShare} f)
/-- Half `b` of the result buffer, holding a chunk's results. -/
def Done (ci : ℕ) (hci : ci < 4) (b : ℕ) : sProp 𝕄 :=
  iprop(∃ f : Buf (Elt F) (M.oV.view.loc (thr d i)), ⌜∀ x, x ∈ halfS b → M.oV.view.read (Elt F) f x = want i d M v ci hci x⌝
    ∗ (M.oV.view.loc (thr d i) ↦[M.oV.view.setOn (halfS b)]{fullShare} f))
/-- A chunk's result rows, at any contents. -/
def OutFree (ci : Fin 4) : sProp 𝕄 :=
  iprop(∃ g : Buf (Elt F) (M.oH.view.loc (thr d i)), M.oH.view.loc (thr d i) ↦[M.oH.view.setOn (blkR i ci).set]{fullShare} g)
/-- A chunk's result rows, holding the wanted values. -/
def OutDone (ci : Fin 4) : sProp 𝕄 :=
  iprop(M.oH.view.loc (thr d i) ↦[M.oH.view.setOn (blkR i ci).set]{fullShare} v.Y)

theorem wp_issue (ci : ℕ) (hci : ci < 4) (b : ℕ) (hb : b < 2) (K : TP F i PUnit) (Q : PUnit → sProp 𝕄) :
    iprop(IdleB i d M v ∗ HalfY i d M b)
      ⊢ iprop((FlyB i d M v ci hci b hb -∗ wpT d i K Q)
        -∗ wpT d i (issue i M.yH M.s0V M.s1V M.y0V M.y1V M.semG0 M.semG1 ci b hci hb K) Q) := by
  unfold issue IdleB HalfY FlyB
  rw [← winsFrom_eight]
  iintro ⟨⟨HI0, HI1⟩, H0, H1⟩ HK
  iapply (wp_issueRun i d M.yH M.s0V M.y0V M.semG0 v.q0 v.fY v.L0 v.hs0 ci b hci hb (M.c0 b hb) _ Q 8 le_rfl) $$ [HI0 H0]
  · isplitl [HI0]; · iexact HI0
    iexact H0
  iintro HF0
  iapply (wp_issueRun i d M.yH M.s1V M.y1V M.semG1 v.q1 v.fY v.L1 v.hs1 ci b hci hb (M.c1 b hb) _ Q 8 le_rfl) $$ [HI1 H1]
  · isplitl [HI1]; · iexact HI1
    iexact H1
  iintro HF1
  iapply HK
  isplitl [HF0]; · iexact HF0
  iexact HF1

theorem wp_waitG (ci : ℕ) (hci : ci < 4) (b : ℕ) (hb : b < 2) (K : TP F i PUnit) (Q : PUnit → sProp 𝕄) :
    iprop(Transfers.MayWaits (thr d i) (none : HIx 1) O ∗ FlyB i d M v ci hci b hb ∗ OW (F := F) i d O W)
      ⊢ iprop((iprop(IdleB i d M v ∗ FullY i d M v ci hci b ∗ OW (F := F) i d O W) -∗ wpT d i K Q)
        -∗ wpT d i (waitG i M.yH M.y0V M.y1V M.semG0 M.semG1 b hb K) Q) := by
  unfold waitG IdleB FullY FlyB
  rw [← winsFrom_eight]
  iintro ⟨#Hmw, ⟨HF0, HF1⟩, HO⟩ HK
  iapply (wp_waitRun i d M.yH M.s0V M.y0V M.semG0 v.q0 v.fY v.L0 v.hs0 ci b hci hb O W _ Q 8 le_rfl) $$ [HF0 HO]
  · isplitr; · iexact Hmw
    isplitl [HF0]; · iexact HF0
    iexact HO
  iintro ⟨HI0, H0, HO⟩
  iapply (wp_waitRun i d M.yH M.s1V M.y1V M.semG1 v.q1 v.fY v.L1 v.hs1 ci b hci hb O W _ Q 8 le_rfl) $$ [HF1 HO]
  · isplitr; · iexact Hmw
    isplitl [HF1]; · iexact HF1
    iexact HO
  iintro ⟨HI1, H1, HO⟩
  iapply HK
  isplitl [HI0 HI1]
  · isplitl [HI0]; · iexact HI0
    iexact HI1
  isplitl [H0 H1]
  · isplitl [H0]; · iexact H0
    iexact H1
  iexact HO

theorem wp_chunk (ci : ℕ) (hci : ci < 4) (b : ℕ) (hb : b < 2) (K : TP F i PUnit) (Q : PUnit → sProp 𝕄) :
    iprop(FullY i d M v ci hci b ∗ Wts i d M v ∗ HalfO (F := F) i d M b)
      ⊢ iprop((iprop(HalfY i d M b ∗ Wts i d M v ∗ Done i d M v ci hci b) -∗ wpT d i K Q)
        -∗ wpT d i (rowLoop i M.p0V M.p1V M.y0V M.y1V M.oV ci b hb >>= fun _ => K) Q) := by
  unfold FullY Wts HalfO
  iintro ⟨⟨⟨%f0, %h0, H0⟩, %f1, %h1, H1⟩, ⟨Hg0, Hg1⟩, %f, Ho⟩ HK
  iapply (wp_rowLoop i M.p0V M.p1V M.y0V M.y1V M.oV d ci hci b hb f0 f1 v.g0 v.g1 (fun _ => K) Q) $$ [H0 H1 Hg0 Hg1 Ho]
  · unfold RowInv
    isplitl [H0]; · iexact H0
    isplitl [H1]; · iexact H1
    isplitl [Hg0]; · iexact Hg0
    isplitl [Hg1]; · iexact Hg1
    iexists f
    isplitr
    · ipureintro
      intro x hx
      obtain ⟨-, h | ⟨-, h⟩⟩ := hx
      · exact absurd h (Nat.not_lt_zero _)
      · exact absurd h (by omega)
    · iexact Ho
  iintro %acc HR
  unfold RowInv
  icases HR with ⟨H0, H1, Hg0, Hg1, %g, %hg, Ho⟩
  iapply HK
  unfold HalfY Done
  isplitl [H0 H1]
  · isplitl [H0]
    · iexists f0; iexact H0
    · iexists f1; iexact H1
  isplitl [Hg0 Hg1]
  · isplitl [Hg0]; · iexact Hg0
    iexact Hg1
  iexists g
  isplitr
  · ipureintro
    intro x hx
    rw [hg x ⟨mem_halfS.1 hx, .inl (x 1).isLt⟩]
    unfold want mixAt
    rw [h0 x hx, h1 x hx]
  · iexact Ho

/-- What a result block of chunk `ci` should hold, in the copy's own indices. -/
def Wanted : Prop := ∀ (ci : Fin 4) (b : ℕ) (hb : b < 2) (z : S16x1024.Idx),
  want i d M v ci.val ci.isLt ((Rect.unit (s := S2x16x1024) ![b, 0, 0] S1x16x1024.size (half_inb b hb)).emb
    (Shape.reshapeEquiv Gen.squeezes_S1x16x1024_S16x1024.numel_eq z)) = (outRows i M.oH ci).view.read (Elt F) v.Y z

theorem wp_send (hw : Wanted i d M v) (ci : Fin 4) (b : ℕ) (hb : b < 2) (K : TP F i PUnit) (Q : PUnit → sProp 𝕄) :
    iprop(Done i d M v ci.val ci.isLt b ∗ OutFree (F := F) i d M ci ∗ semVal (thr d i, SemLoc.dma M.semO.sem) 0)
      ⊢ iprop((Transfers.Flight (countersEmb (nD := nD)) (thr d i) (.dma M.semO.sem) none (outRows i M.oH ci).view.dmaCredit (Sent (F := F) i d M.oH M.oV v.Y ci b)
            -∗ wpT d i K Q)
        -∗ wpT d i (sendOut i M.oH M.oV M.semO ci b hb K) Q) := by
  unfold Done OutFree
  iintro ⟨⟨%f, %hf, Hf⟩, Hg, Hs⟩ HK
  have hz : ∀ z, (outHalf M.oV b hb).view.read (Elt F) f z = (outRows i M.oH ci).view.read (Elt F) v.Y z := fun z => by
    rw [← hw ci b hb z]
    refine hf _ ?_
    rw [← half_rect b hb]
    rw [← Rect.map_emb_univ]
    exact Finset.mem_map_of_mem _ (Finset.mem_univ _)
  iapply (wp_sendOut i d M.oH M.oV M.semO v.Y ci b hb K Q f hz) $$ [Hf Hg Hs]
  · isplitl [Hf]; · iexact Hf
    isplitl [Hg]; · iexact Hg
    iexact Hs
  iexact HK

theorem wp_unsend (ci : Fin 4) (b : ℕ) (hb : b < 2) (K : TP F i PUnit) (Q : PUnit → sProp 𝕄) :
    iprop(Transfers.MayWaits (thr d i) (none : HIx 1) O
        ∗ Transfers.Flight (countersEmb (nD := nD)) (thr d i) (.dma M.semO.sem) none (outRows i M.oH ci).view.dmaCredit (Sent (F := F) i d M.oH M.oV v.Y ci b)
        ∗ OW (F := F) i d O W)
      ⊢ iprop((iprop(OutDone i d M v ci ∗ HalfO (F := F) i d M b ∗ semVal (thr d i, SemLoc.dma M.semO.sem) 0 ∗ OW (F := F) i d O W) -∗ wpT d i K Q)
        -∗ wpT d i (waitOut i M.oH M.oV M.semO ci b hb K) Q) := by
  iintro H HK
  iapply (wp_waitOut i d M.oH M.oV M.semO ci b hb O W _ K Q) $$ H
  iintro ⟨HS, Hs, HO⟩
  unfold Sent
  icases HS with ⟨Hr, Hh⟩
  iapply HK
  unfold OutDone HalfO
  isplitl [Hr]; · iexact Hr
  isplitl [Hh]; · iexact Hh
  isplitl [Hs]; · iexact Hs
  iexact HO

/-- The body after its fetches. -/
abbrev afterFetch : TP F i PUnit :=
  issue i M.yH M.s0V M.s1V M.y0V M.y1V M.semG0 M.semG1 0 0 (by decide) (by decide) <|
  waitG i M.yH M.y0V M.y1V M.semG0 M.semG1 0 (by decide) <|
  issue i M.yH M.s0V M.s1V M.y0V M.y1V M.semG0 M.semG1 1 1 (by decide) (by decide) <|
  tail0 i M.yH M.oH M.s0V M.s1V M.y0V M.y1V M.oV M.semG0 M.semG1 M.semO
    (rowLoop i M.p0V M.p1V M.y0V M.y1V M.oV 0 0 (by decide)) (rowLoop i M.p0V M.p1V M.y0V M.y1V M.oV 1 1 (by decide))
    (rowLoop i M.p0V M.p1V M.y0V M.y1V M.oV 2 0 (by decide)) (rowLoop i M.p0V M.p1V M.y0V M.y1V M.oV 3 1 (by decide))

theorem wp_afterFetch (hw : Wanted i d M v) (Q : PUnit → sProp 𝕄) :
    iprop(Transfers.MayWaits (thr d i) (none : HIx 1) O ∗ IdleB i d M v ∗ Wts i d M v ∗ (HalfY (F := F) i d M 0 ∗ HalfY (F := F) i d M 1)
        ∗ (HalfO (F := F) i d M 0 ∗ HalfO (F := F) i d M 1)
        ∗ (OutFree (F := F) i d M 0 ∗ OutFree (F := F) i d M 1 ∗ OutFree (F := F) i d M 2 ∗ OutFree (F := F) i d M 3)
        ∗ semVal (thr d i, SemLoc.dma M.semO.sem) 0 ∗ OW (F := F) i d O W)
      ⊢ iprop((iprop(IdleB i d M v ∗ Wts i d M v ∗ (HalfY (F := F) i d M 0 ∗ HalfY (F := F) i d M 1)
          ∗ (HalfO (F := F) i d M 0 ∗ HalfO (F := F) i d M 1)
          ∗ (OutDone i d M v 0 ∗ OutDone i d M v 1 ∗ OutDone i d M v 2 ∗ OutDone i d M v 3)
          ∗ semVal (thr d i, SemLoc.dma M.semO.sem) 0 ∗ OW (F := F) i d O W) -∗ Q ⟨⟩)
        -∗ wpT d i (afterFetch i M) Q) := by
  iintro ⟨#Hmw, HI, HW, ⟨HY0, HY1⟩, ⟨HB0, HB1⟩, ⟨HR0, HR1, HR2, HR3⟩, Hs, HO⟩ HQ
  unfold afterFetch
  iapply (wp_issue i d M v 0 _ 0 _) $$ [HI HY0]
  · isplitl [HI]; · iexact HI
    iexact HY0
  iintro HF
  iapply (wp_waitG i d M v O W 0 (by decide) 0 _) $$ [HF HO]
  · isplitr; · iexact Hmw
    isplitl [HF]; · iexact HF
    iexact HO
  iintro ⟨HI, HY0, HO⟩
  iapply (wp_issue i d M v 1 _ 1 _) $$ [HI HY1]
  · isplitl [HI]; · iexact HI
    iexact HY1
  iintro HF
  unfold tail0
  iapply (wp_chunk i d M v 0 (by decide) 0 _) $$ [HY0 HW HB0]
  · isplitl [HY0]; · iexact HY0
    isplitl [HW]; · iexact HW
    iexact HB0
  iintro ⟨HY0, HW, HD⟩
  iapply (wp_send i d M v hw 0 0 _) $$ [HD HR0 Hs]
  · isplitl [HD]; · iexact HD
    isplitl [HR0]; · iexact HR0
    iexact Hs
  iintro HS0
  iapply (wp_waitG i d M v O W 1 (by decide) 1 _) $$ [HF HO]
  · isplitr; · iexact Hmw
    isplitl [HF]; · iexact HF
    iexact HO
  iintro ⟨HI, HY1, HO⟩
  iapply (wp_issue i d M v 2 _ 0 _) $$ [HI HY0]
  · isplitl [HI]; · iexact HI
    iexact HY0
  iintro HF
  unfold tail1
  iapply (wp_chunk i d M v 1 (by decide) 1 _) $$ [HY1 HW HB1]
  · isplitl [HY1]; · iexact HY1
    isplitl [HW]; · iexact HW
    iexact HB1
  iintro ⟨HY1, HW, HD⟩
  iapply (wp_unsend i d M v O W 0 0 _) $$ [HS0 HO]
  · isplitr; · iexact Hmw
    isplitl [HS0]; · iexact HS0
    iexact HO
  iintro ⟨HR0, HB0, Hs, HO⟩
  iapply (wp_send i d M v hw 1 1 _) $$ [HD HR1 Hs]
  · isplitl [HD]; · iexact HD
    isplitl [HR1]; · iexact HR1
    iexact Hs
  iintro HS1
  iapply (wp_waitG i d M v O W 2 (by decide) 0 _) $$ [HF HO]
  · isplitr; · iexact Hmw
    isplitl [HF]; · iexact HF
    iexact HO
  iintro ⟨HI, HY0, HO⟩
  iapply (wp_issue i d M v 3 _ 1 _) $$ [HI HY1]
  · isplitl [HI]; · iexact HI
    iexact HY1
  iintro HF
  unfold tail2
  iapply (wp_chunk i d M v 2 (by decide) 0 _) $$ [HY0 HW HB0]
  · isplitl [HY0]; · iexact HY0
    isplitl [HW]; · iexact HW
    iexact HB0
  iintro ⟨HY0, HW, HD⟩
  iapply (wp_unsend i d M v O W 1 1 _) $$ [HS1 HO]
  · isplitr; · iexact Hmw
    isplitl [HS1]; · iexact HS1
    iexact HO
  iintro ⟨HR1, HB1, Hs, HO⟩
  iapply (wp_send i d M v hw 2 0 _) $$ [HD HR2 Hs]
  · isplitl [HD]; · iexact HD
    isplitl [HR2]; · iexact HR2
    iexact Hs
  iintro HS2
  iapply (wp_waitG i d M v O W 3 (by decide) 1 _) $$ [HF HO]
  · isplitr; · iexact Hmw
    isplitl [HF]; · iexact HF
    iexact HO
  iintro ⟨HI, HY1, HO⟩
  unfold tail3
  iapply (wp_chunk i d M v 3 (by decide) 1 _) $$ [HY1 HW HB1]
  · isplitl [HY1]; · iexact HY1
    isplitl [HW]; · iexact HW
    iexact HB1
  iintro ⟨HY1, HW, HD⟩
  iapply (wp_unsend i d M v O W 2 0 _) $$ [HS2 HO]
  · isplitr; · iexact Hmw
    isplitl [HS2]; · iexact HS2
    iexact HO
  iintro ⟨HR2, HB0, Hs, HO⟩
  iapply (wp_send i d M v hw 3 1 _) $$ [HD HR3 Hs]
  · isplitl [HD]; · iexact HD
    isplitl [HR3]; · iexact HR3
    iexact Hs
  iintro HS3
  iapply (wp_unsend i d M v O W 3 1 _) $$ [HS3 HO]
  · isplitr; · iexact Hmw
    isplitl [HS3]; · iexact HS3
    iexact HO
  iintro ⟨HR3, HB1, Hs, HO⟩
  unfold wpT
  rw [wp_pure]
  imodintro
  iapply HQ
  isplitl [HI]; · iexact HI
  isplitl [HW]; · iexact HW
  isplitl [HY0 HY1]
  · isplitl [HY0]; · iexact HY0
    iexact HY1
  isplitl [HB0 HB1]
  · isplitl [HB0]; · iexact HB0
    iexact HB1
  isplitl [HR0 HR1 HR2 HR3]
  · isplitl [HR0]; · iexact HR0
    isplitl [HR1]; · iexact HR1
    isplitl [HR2]; · iexact HR2
    iexact HR3
  isplitl [Hs]; · iexact Hs
  iexact HO

end

end Cert.Proof.Combine

end
-- ==== Proof.Parts.lean ====
/-
  A tile's own semaphores and buffers, and its shares of the arguments and of the result, cut into the pieces its body uses.
-/
module

public import proofs.«01_k».proof.Proof.Assemble

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The tile's semaphores -/

/-- The tile's transfer cells: the fetches' one, eight for each table's column gathers, the copies out's one. -/
def cell : Fin 1 ⊕ Fin 8 ⊕ Fin 8 ⊕ Fin 1 → DmaSem sig
  | .inl _ => cc0_scratch7.sem
  | .inr (.inl k) => semK cc0_scratch8 k.val k.isLt
  | .inr (.inr (.inl k)) => semK cc0_scratch9 k.val k.isLt
  | .inr (.inr (.inr _)) => cc0_scratch10.sem

theorem cell_inj : Function.Injective cell := by decide

/-- A table's eight cells as one family. -/
theorem semsFrom_eight (i : grid0.Coords) (d : Dev nD) (sem : DmaSems sig S8) :
    (bigSep Finset.univ fun k : Fin 8 => semVal (thr d i, SemLoc.dma (semK sem k.val k.isLt)) 0 : sProp 𝕄) = semsFrom (F := F) i d sem 8 le_rfl := by
  rw [Idealize.ShloMosaic.bigSep_univ_succ, Idealize.ShloMosaic.bigSep_univ_succ, Idealize.ShloMosaic.bigSep_univ_succ, Idealize.ShloMosaic.bigSep_univ_succ,
    Idealize.ShloMosaic.bigSep_univ_succ, Idealize.ShloMosaic.bigSep_univ_succ, Idealize.ShloMosaic.bigSep_univ_succ, Idealize.ShloMosaic.bigSep_univ_succ]
  rfl

/-- The cells as cells of the machine. -/
def cellE (i : grid0.Coords) (d : Dev nD) : Fin 1 ⊕ Fin 8 ⊕ Fin 8 ⊕ Fin 1 ↪ GSem nD τ sig :=
  ⟨fun k => (thr d i, .dma (cell k)), fun a b h => cell_inj (SemLoc.dma.inj (Prod.mk.inj h).2)⟩

/-- The tile's own semaphores beside those its body uses. -/
def restSems (i : grid0.Coords) (d : Dev nD) : sProp 𝕄 :=
  bigSep (ownCells (thr d i) \ Finset.univ.map (cellE i d)) fun g => semVal g 0

theorem ownSems_eq (i : grid0.Coords) (d : Dev nD) :
    (ownSems0 (thr d i) : sProp 𝕄)
      = iprop((semVal (thr d i, SemLoc.dma cc0_scratch7.sem) 0 ∗ semsFrom (F := F) i d cc0_scratch8 8 le_rfl ∗ semsFrom (F := F) i d cc0_scratch9 8 le_rfl
          ∗ semVal (thr d i, SemLoc.dma cc0_scratch10.sem) 0) ∗ restSems i d) := by
  unfold SparseCore.Cfg.ownSems0 restSems
  have hsub : Finset.univ.map (cellE i d) ⊆ ownCells (thr d i) := by
    intro g hg
    obtain ⟨k, -, rfl⟩ := Finset.mem_map.1 hg
    refine mem_ownCells.2 ⟨rfl, ?_⟩
    show (SemLoc.dma (cell k) : SemLoc sig).isScoped .scVector = true
    exact (by decide : ∀ k, (SemLoc.dma (cell k) : SemLoc sig).isScoped .scVector = true) k
  rw [BI.bigSep_sdiff_split hsub, BI.bigSep_map, BI.bigSep_univ_sum, BI.bigSep_univ_sum, BI.bigSep_univ_sum, ← semsFrom_eight, ← semsFrom_eight,
    BI.bigSep_univ_of_subsingleton (0 : Fin 1), BI.bigSep_univ_of_subsingleton (0 : Fin 1)]
  rfl

/-! ## The tile's buffers -/

/-- The tile's buffers: two lists of slots, two of weights, two row buffers, the result buffer. -/
def buf : Fin 7 → Ref sig .scVector := ![cc0_scratch0, cc0_scratch1, cc0_scratch2, cc0_scratch3, cc0_scratch4, cc0_scratch5, cc0_scratch6]

theorem buf_inj : Function.Injective buf := by decide

def bufE (i : grid0.Coords) (d : Dev nD) : Fin 7 ↪ DevRef τ sig :=
  ⟨fun k => (thr d i).2.devRef (buf k), fun _ _ h => buf_inj (Proc.devRef_injective _ h)⟩

/-- The tile's own buffers beside those its body uses. -/
def restBufs (i : grid0.Coords) (d : Dev nD) : sProp 𝕄 :=
  bigSep (ownRefs (thr d i).2 \ Finset.univ.map (bufE i d)) fun b => iprop(∃ f, ((d, b) : Loc nD τ sig) ↦{fullShare} f)

/-- A tile's buffer at any contents. -/
abbrev anyBuf (i : grid0.Coords) (d : Dev nD) (r : Ref sig .scVector) : sProp 𝕄 := iprop(∃ f, (thr d i).loc r ↦{fullShare} f)

theorem ownBufs_eq (i : grid0.Coords) (d : Dev nD) :
    (ownBufs (thr d i) : sProp 𝕄)
      = iprop((anyBuf i d cc0_scratch0 ∗ anyBuf i d cc0_scratch1 ∗ anyBuf i d cc0_scratch2 ∗ anyBuf i d cc0_scratch3 ∗ anyBuf i d cc0_scratch4
          ∗ anyBuf i d cc0_scratch5 ∗ anyBuf i d cc0_scratch6) ∗ restBufs i d) := by
  unfold SparseCore.Cfg.ownBufs restBufs
  have hsub : Finset.univ.map (bufE i d) ⊆ ownRefs (thr d i).2 := by
    intro g hg
    obtain ⟨k, -, rfl⟩ := Finset.mem_map.1 hg
    refine SparseCore.Cfg.mem_ownRefs_of_owner ?_
    fin_cases k <;> rfl
  rw [BI.bigSep_sdiff_split hsub, BI.bigSep_map, Idealize.ShloMosaic.bigSep_univ_succ, Idealize.ShloMosaic.bigSep_univ_succ, Idealize.ShloMosaic.bigSep_univ_succ,
    Idealize.ShloMosaic.bigSep_univ_succ, Idealize.ShloMosaic.bigSep_univ_succ, Idealize.ShloMosaic.bigSep_univ_succ, BI.bigSep_univ_of_subsingleton (0 : Fin 1)]
  rfl

/-! ## The buffers and semaphores of this program -/

theorem credits_y0 (b : ℕ) (hb : b < 2) : Credits (Memref.whole cc0_scratch4) b hb :=
  fun k hk => (by decide : ∑ j, sig.dmaCredit .scVector (Kind.scVector.table .vmem) cc0_scratch4.idx (S16x128.rowShape Gen.gathers_S7680x128_S16x128.axis') .f32
    = sig.dmaCredit .scVector (Kind.scVector.table .vmem) cc0_scratch4.idx S16x128 .f32)
theorem credits_y1 (b : ℕ) (hb : b < 2) : Credits (Memref.whole cc0_scratch5) b hb :=
  fun k hk => (by decide : ∑ j, sig.dmaCredit .scVector (Kind.scVector.table .vmem) cc0_scratch5.idx (S16x128.rowShape Gen.gathers_S7680x128_S16x128.axis') .f32
    = sig.dmaCredit .scVector (Kind.scVector.table .vmem) cc0_scratch5.idx S16x128 .f32)

/-- The buffers and semaphores of this program. -/
@[reducible] def prog : Mem where
  yH := Memref.whole main_arg0_scv
  s0H := Memref.whole main_arg1_scv
  s1H := Memref.whole main_arg2_scv
  p0H := Memref.whole main_arg3_scv
  p1H := Memref.whole main_arg4_scv
  oH := Memref.whole main_v0_scv
  s0V := Memref.whole cc0_scratch0
  s1V := Memref.whole cc0_scratch1
  h0V := Memref.isWhole_whole _
  h1V := Memref.isWhole_whole _
  p0V := Memref.whole cc0_scratch2
  p1V := Memref.whole cc0_scratch3
  hp0V := Memref.isWhole_whole _
  hp1V := Memref.isWhole_whole _
  y0V := Memref.whole cc0_scratch4
  y1V := Memref.whole cc0_scratch5
  oV := Memref.whole cc0_scratch6
  semI := cc0_scratch7
  semG0 := cc0_scratch8
  semG1 := cc0_scratch9
  semO := cc0_scratch10
  c0 := credits_y0
  c1 := credits_y1

end Cert.Proof.Combine

end
-- ==== Proof.Tile.lean ====
/-
  One tile of the launch: from its 64 words of each list, its share of the table and its 64 result rows to the same with the
  rows holding the weighted sums of the table's rows.
-/
module

public import proofs.«01_k».proof.Proof.Whole
public import proofs.«01_k».proof.Proof.Parts

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The arguments and the result -/

abbrev yLoc (d : Dev nD) : Loc nD τ sig := (SparseCore.T d).loc main_arg0
abbrev s0Loc (d : Dev nD) : Loc nD τ sig := (SparseCore.T d).loc main_arg1
abbrev s1Loc (d : Dev nD) : Loc nD τ sig := (SparseCore.T d).loc main_arg2
abbrev p0Loc (d : Dev nD) : Loc nD τ sig := (SparseCore.T d).loc main_arg3
abbrev p1Loc (d : Dev nD) : Loc nD τ sig := (SparseCore.T d).loc main_arg4
abbrev oLoc (d : Dev nD) : Loc nD τ sig := (SparseCore.T d).loc main_v0

section

variable (m : (ℓ : Loc nD τ sig) → Buf (Elt F) ℓ) (d : Dev nD)

/-- Every slot of both lists names a row of the table. -/
def SlotsOK : Prop := ∀ (d : Dev nD) (j : S2048.Idx), (m (s0Loc d) j).toNat < 7680 ∧ (m (s1Loc d) j).toNat < 7680

/-- A row of the table: the one `s` names (of every 32-bit word, that at its remainder by 7680). -/
def rowOf (s : BitVec 32) (c : Fin 1024) : S7680x1024.Idx := ix2 (⟨s.toNat % 7680, Nat.mod_lt _ (by decide)⟩ : Fin 7680) c

/-- What the launch computes: row `r` is `p0[r] * y[s0[r]] + p1[r] * y[s1[r]]`. -/
def OUT : Buf (Elt F) (oLoc d) := fun x : S2048x1024.Idx =>
  mix (F := F) (m (p0Loc d) (ix1 (x 0))) (m (p1Loc d) (ix1 (x 0))) (m (yLoc d) (rowOf (m (s0Loc d) (ix1 (x 0))) (x 1)))
    (m (yLoc d) (rowOf (m (s1Loc d) (ix1 (x 0))) (x 1)))

/-! ## The rows of a tile -/

/-- The 64 result rows of the tile at a grid point. -/
def tileS (i : grid0.Coords) : Finset S2048x1024.Idx :=
  Finset.univ.filter fun x => 128 * (i 1).val + 64 * (i 0).val ≤ (x 0).val ∧ (x 0).val < 128 * (i 1).val + 64 * (i 0).val + 64

theorem mem_blk {i : grid0.Coords} {ci : Fin 4} {x : S2048x1024.Idx} : x ∈ (blkR i ci).set ↔
    128 * (i 1).val + 64 * (i 0).val + 16 * ci.val ≤ (x 0).val ∧ (x 0).val < 128 * (i 1).val + 64 * (i 0).val + 16 * ci.val + 16 := by
  have e := k0_off66_eq i ci
  rw [Rect.mem_set_unit, e]
  constructor
  · intro h
    have h0 := h 0
    simp at h0
    omega
  · rintro ⟨h1, h2⟩ a
    have := (x 1).isLt
    fin_cases a <;> simp at * <;> omega

theorem tileS_eq (i : grid0.Coords) : tileS i = Finset.univ.biUnion fun ci : Fin 4 => (blkR i ci).set := by
  ext x
  simp only [tileS, Finset.mem_filter, Finset.mem_univ, true_and, Finset.mem_biUnion, mem_blk]
  constructor
  · rintro ⟨h1, h2⟩
    refine ⟨⟨((x 0).val - (128 * (i 1).val + 64 * (i 0).val)) / 16, by omega⟩, ?_, ?_⟩ <;> simp only <;> omega
  · rintro ⟨ci, h1, h2⟩
    have := ci.isLt
    omega

theorem blk_disjoint (i : grid0.Coords) : ∀ a ∈ (Finset.univ : Finset (Fin 4)), ∀ b ∈ (Finset.univ : Finset (Fin 4)), a ≠ b →
    Disjoint (blkR i a).set (blkR i b).set := by
  intro a _ b _ hab
  rw [Finset.disjoint_left]
  intro x ha hb
  rw [mem_blk] at ha hb
  exact hab (Fin.ext (by omega))

/-- A tile's result rows are its four chunks'. -/
theorem pts_tile (i : grid0.Coords) (f : Buf (Elt F) (oLoc d)) :
    (oLoc d ↦[tileS i]{fullShare} f : sProp 𝕄)
      = iprop((oLoc d ↦[(blkR i 0).set]{fullShare} f) ∗ (oLoc d ↦[(blkR i 1).set]{fullShare} f)
          ∗ (oLoc d ↦[(blkR i 2).set]{fullShare} f) ∗ (oLoc d ↦[(blkR i 3).set]{fullShare} f)) := by
  rw [tileS_eq, pointsTo_biUnion Finset.univ (ℓ := oLoc d) _ (blk_disjoint i), bigSep_four]

/-! ## Halves of the scratch buffers -/

theorem half_cover : (Finset.univ : Finset S2x16x1024.Idx) = halfS 0 ∪ halfS 1 := by
  ext x
  have h : (x 0).val < 2 := (x 0).isLt
  simp only [Finset.mem_univ, Finset.mem_union, mem_halfS, true_iff]
  omega
theorem half_disjoint : Disjoint (halfS 0) (halfS 1) := by
  rw [Finset.disjoint_left]; intro x; rw [mem_halfS, mem_halfS]; omega

theorem setOn_cover (v : View sig .scVector .vmem S2x16x1024 .f32) : v.set = v.setOn (halfS 0) ∪ v.setOn (halfS 1) :=
  (congrArg v.setOn half_cover).trans (Finset.map_union _ _)
theorem setOn_disj (v : View sig .scVector .vmem S2x16x1024 .f32) : Disjoint (v.setOn (halfS 0)) (v.setOn (halfS 1)) :=
  (Finset.disjoint_map _).mpr half_disjoint

/-- A scratch buffer, at any contents, in halves. -/
theorem halves (ℓ : Loc nD τ sig) (A B : Finset (Idx ℓ)) (hc : (Finset.univ : Finset (Idx ℓ)) = A ∪ B) (hd : Disjoint A B) :
    (iprop(∃ f, ℓ ↦{fullShare} f) : sProp 𝕄) ⊣⊢ iprop((∃ f, ℓ ↦[A]{fullShare} f) ∗ ∃ f, ℓ ↦[B]{fullShare} f) := by
  constructor
  · iintro ⟨%f, H⟩
    ihave H' := (Entails.of_eq (show (ℓ ↦{fullShare} f : sProp 𝕄) = (ℓ ↦[A ∪ B]{fullShare} f) by rw [hc])) $$ H
    ihave H'' := (pointsTo_union (ℓ := ℓ) hd).1 $$ H'
    icases H'' with ⟨H0, H1⟩
    isplitl [H0]
    · iexists f; iexact H0
    · iexists f; iexact H1
  · iintro ⟨⟨%f, H0⟩, %g, H1⟩
    ihave H := (pointsTo_join (ℓ := ℓ) hd) $$ [H0 H1]
    · isplitl [H0]; · iexact H0
      iexact H1
    iexists _
    ihave H' := (Entails.of_eq (show (ℓ ↦[A ∪ B]{fullShare} (B.piecewise g f) : sProp 𝕄) = (ℓ ↦{fullShare} (B.piecewise g f)) by rw [hc])) $$ H
    iexact H'

/-! ## What the tile fetches -/

/-- Word `j` of a tile's 64 words of a list. -/
def wordOf (i : grid0.Coords) (j : ℕ) (hj : j < 64) : S2048.Idx :=
  ix1 (⟨128 * (i 1).val + 64 * (i 0).val + j, by have := (i 0).isLt; have := (i 1).isLt; simp at *; omega⟩ : Fin 2048)

theorem mine_emb (i : grid0.Coords) (j : S64.Idx) :
    (Rect.unit (s := S2048) (k0_off1 i) S64.size (Gen.k0_off1_inb i)).emb j = wordOf i (j 0).val (j 0).isLt := by
  funext a
  refine Fin.ext ?_
  rw [Rect.emb_apply]
  have e := k0_off1_eq i
  fin_cases a
  show (k0_off1 i) 0 + 1 * (j 0).val = 128 * (i 1).val + 64 * (i 0).val + (j 0).val
  rw [e, Nat.one_mul]
  rfl

variable (hpre : SlotsOK m) (q : PosShare TreeShare) (i : grid0.Coords)
  (f0 : Buf (Elt F) ((thr d i).loc cc0_scratch0)) (f1 : Buf (Elt F) ((thr d i).loc cc0_scratch1))
  (f2 : Buf (Elt F) ((thr d i).loc cc0_scratch2)) (f3 : Buf (Elt F) ((thr d i).loc cc0_scratch3))

theorem read_s0 (j : S64.Idx) : prog.s0V.view.read (Elt F)
    (prog.s0V.view.write (Elt F) f0 ((mineI i prog.s0H).view.read (Elt F) (m (s0Loc d))) Finset.univ) j = m (s0Loc d) (wordOf i (j 0).val (j 0).isLt) := by
  rw [View.read_write_univ]
  exact congrArg (m (s0Loc d)) (mine_emb i j)
theorem read_s1 (j : S64.Idx) : prog.s1V.view.read (Elt F)
    (prog.s1V.view.write (Elt F) f1 ((mineI i prog.s1H).view.read (Elt F) (m (s1Loc d))) Finset.univ) j = m (s1Loc d) (wordOf i (j 0).val (j 0).isLt) := by
  rw [View.read_write_univ]
  exact congrArg (m (s1Loc d)) (mine_emb i j)
theorem read_p0 (j : S64.Idx) : prog.p0V.view.read (Elt F)
    (prog.p0V.view.write (Elt F) f2 ((mineF i prog.p0H).view.read (Elt F) (m (p0Loc d))) Finset.univ) j = m (p0Loc d) (wordOf i (j 0).val (j 0).isLt) := by
  rw [View.read_write_univ]
  exact congrArg (m (p0Loc d)) (mine_emb i j)
theorem read_p1 (j : S64.Idx) : prog.p1V.view.read (Elt F)
    (prog.p1V.view.write (Elt F) f3 ((mineF i prog.p1H).view.read (Elt F) (m (p1Loc d))) Finset.univ) j = m (p1Loc d) (wordOf i (j 0).val (j 0).isLt) := by
  rw [View.read_write_univ]
  exact congrArg (m (p1Loc d)) (mine_emb i j)

/-- The tile's values: the table as given, its lists fetched, the launch's result. -/
@[reducible] def vals : Vals F i d prog where
  fY := m (yLoc d)
  L0 := prog.s0V.view.write (Elt F) f0 ((mineI i prog.s0H).view.read (Elt F) (m (s0Loc d))) Finset.univ
  L1 := prog.s1V.view.write (Elt F) f1 ((mineI i prog.s1H).view.read (Elt F) (m (s1Loc d))) Finset.univ
  g0 := prog.p0V.view.write (Elt F) f2 ((mineF i prog.p0H).view.read (Elt F) (m (p0Loc d))) Finset.univ
  g1 := prog.p1V.view.write (Elt F) f3 ((mineF i prog.p1H).view.read (Elt F) (m (p1Loc d))) Finset.univ
  Y := OUT m d
  hs0 := fun j => by rw [read_s0]; exact (hpre d _).1
  hs1 := fun j => by rw [read_s1]; exact (hpre d _).2
  q0 := q.left
  q1 := q.right

/-- What the tile computes is the launch's result at its rows. -/
theorem wanted : Wanted i d prog (vals m d hpre q i f0 f1 f2 f3) := by
  intro ci b hb z
  have hci := ci.isLt
  have hz0 : (z 0).val < 16 := (z 0).isLt
  have hz1 : (z 1).val < 1024 := (z 1).isLt
  have e : (Rect.unit (s := S2x16x1024) ![b, 0, 0] S1x16x1024.size (half_inb b hb)).emb
      (Shape.reshapeEquiv Gen.squeezes_S1x16x1024_S16x1024.numel_eq z)
      = ix3 (⟨b, hb⟩ : Fin 2) (⟨(z 0).val, hz0⟩ : Fin 16) (⟨(z 1).val, hz1⟩ : Fin 1024) := by
    have ez : z = ix2 (⟨(z 0).val, hz0⟩ : Fin 16) (⟨(z 1).val, hz1⟩ : Fin 1024) := by
      funext a; fin_cases a <;> rfl
    conv_lhs => rw [ez]
    rw [reshapeEquiv_ix2_1ab]
    funext a
    refine Fin.ext ?_
    rw [Rect.emb_apply]
    fin_cases a
    · show b + 1 * 0 = b; omega
    · show 0 + 1 * (z 0).val = (z 0).val; omega
    · show 0 + 1 * (z 1).val = (z 1).val; omega
  have eo : (blkR i ci).emb z = ix2 (wordOf i (16 * ci.val + (z 0).val) (by omega) 0) (⟨(z 1).val, hz1⟩ : Fin 1024) := by
    have e66 := k0_off66_eq i ci
    funext a
    refine Fin.ext ?_
    rw [Rect.emb_apply]
    fin_cases a
    · show (k0_off66 i (BitVec.ofNat 32 (16 * ci.val))) 0 + 1 * (z 0).val = 128 * (i 1).val + 64 * (i 0).val + (16 * ci.val + (z 0).val)
      rw [e66]
      show 128 * (i 1).val + 64 * (i 0).val + 16 * ci.val + 1 * (z 0).val = _
      omega
    · show (k0_off66 i (BitVec.ofNat 32 (16 * ci.val))) 1 + 1 * (z 1).val = (z 1).val
      rw [e66]
      show 0 + 1 * (z 1).val = _
      omega
  rw [e]
  refine Eq.trans ?_ (congrArg (OUT m d) eo).symm
  unfold want mixAt gat
  rw [read_p0, read_p1]
  have hw : ∀ (h : ((at64 ci.val (z 0).val hci hz0) 0).val < 64), wordOf i ((at64 ci.val (z 0).val hci hz0) 0).val h
      = ix1 (wordOf i (16 * ci.val + (z 0).val) (by omega) 0) := by
    intro h; funext a; fin_cases a; rfl
  unfold OUT
  have r0 : ∀ h, (ix2 (⟨(prog.s0V.view.read (Elt F) (vals m d hpre q i f0 f1 f2 f3).L0 (at64 ci.val (z 0).val hci hz0)).toNat, h⟩ : Fin 7680)
      (⟨(z 1).val, hz1⟩ : Fin 1024) : S7680x1024.Idx) = rowOf (m (s0Loc d) (ix1 (wordOf i (16 * ci.val + (z 0).val) (by omega) 0))) ⟨(z 1).val, hz1⟩ := by
    intro h
    unfold rowOf
    refine congrArg (fun r : Fin 7680 => (ix2 r (⟨(z 1).val, hz1⟩ : Fin 1024) : S7680x1024.Idx)) (Fin.ext ?_)
    show (prog.s0V.view.read (Elt F) _ _).toNat = _ % 7680
    rw [read_s0, Nat.mod_eq_of_lt (hpre d _).1]
    rfl
  have r1 : ∀ h, (ix2 (⟨(prog.s1V.view.read (Elt F) (vals m d hpre q i f0 f1 f2 f3).L1 (at64 ci.val (z 0).val hci hz0)).toNat, h⟩ : Fin 7680)
      (⟨(z 1).val, hz1⟩ : Fin 1024) : S7680x1024.Idx) = rowOf (m (s1Loc d) (ix1 (wordOf i (16 * ci.val + (z 0).val) (by omega) 0))) ⟨(z 1).val, hz1⟩ := by
    intro h
    unfold rowOf
    refine congrArg (fun r : Fin 7680 => (ix2 r (⟨(z 1).val, hz1⟩ : Fin 1024) : S7680x1024.Idx)) (Fin.ext ?_)
    show (prog.s1V.view.read (Elt F) _ _).toNat = _ % 7680
    rw [read_s1, Nat.mod_eq_of_lt (hpre d _).2]
    rfl
  show mix (m (p0Loc d) (wordOf i _ _)) (m (p1Loc d) (wordOf i _ _)) (m (yLoc d) (ix2 _ _)) (m (yLoc d) (ix2 _ _)) = _
  exact congr (congr (congrArg₂ mix (congrArg (m (p0Loc d)) (hw _)) (congrArg (m (p1Loc d)) (hw _))) (congrArg (m (yLoc d)) (r0 _))) (congrArg (m (yLoc d)) (r1 _))

/-! ## The tile -/

/-- The five arguments at share `q`. -/
def Args (q : PosShare TreeShare) : sProp 𝕄 :=
  iprop((yLoc d ↦{q} m (yLoc d)) ∗ (s0Loc d ↦{q} m (s0Loc d)) ∗ (s1Loc d ↦{q} m (s1Loc d))
    ∗ (p0Loc d ↦{q} m (p0Loc d)) ∗ (p1Loc d ↦{q} m (p1Loc d)))

/-- A whole table at a share, as the two gathers' columns at the share's halves. -/
theorem table_split : (yLoc d ↦{q} m (yLoc d) : sProp 𝕄)
    ⊣⊢ iprop((prog.yH.view.loc (thr d i) ↦[prog.yH.view.setOn (colsFrom 8)]{q.left} m (yLoc d))
      ∗ (prog.yH.view.loc (thr d i) ↦[prog.yH.view.setOn (colsFrom 8)]{q.right} m (yLoc d))) := by
  have e : (prog.yH.view.setOn (colsFrom 8) : Finset (Idx (yLoc d))) = Finset.univ := by
    rw [colsFrom_eight]; exact View.set_whole _
  have h := pointsTo_share (ℓ := yLoc d) (I := Finset.univ) (f := m (yLoc d)) (PosShare.mem_left_op_right q) (Val := Elt F) (Ix := HIx 1) (Name := ℕ) (U := UU) (Lvl := ℕ)
  have e' : ∀ q', (prog.yH.view.loc (thr d i) ↦[prog.yH.view.setOn (colsFrom 8)]{q'} m (yLoc d) : sProp 𝕄) = (yLoc d ↦{q'} m (yLoc d)) :=
    fun q' => congrArg (fun S : Finset (Idx (yLoc d)) => (yLoc d ↦[S]{q'} m (yLoc d) : sProp 𝕄)) e
  rw [e', e']
  exact h

theorem halvesV (bV : Memref sig .scVector .vmem S2x16x1024 .f32) (hv : bV.view.set = Finset.univ) :
    (iprop(∃ f : Buf (Elt F) (bV.view.loc (thr d i)), bV.view.loc (thr d i) ↦{fullShare} f) : sProp 𝕄)
      ⊣⊢ iprop((∃ f : Buf (Elt F) (bV.view.loc (thr d i)), bV.view.loc (thr d i) ↦[bV.view.setOn (halfS 0)]{fullShare} f)
        ∗ ∃ f : Buf (Elt F) (bV.view.loc (thr d i)), bV.view.loc (thr d i) ↦[bV.view.setOn (halfS 1)]{fullShare} f) :=
  halves (F := F) (bV.view.loc (thr d i)) (bV.view.setOn (halfS 0)) (bV.view.setOn (halfS 1)) (hv.symm.trans (setOn_cover bV.view)) (setOn_disj bV.view)

/-- Halves of a row or result buffer, at any contents. -/
theorem halves4 : (anyBuf (F := F) i d cc0_scratch4 : sProp 𝕄)
    ⊣⊢ iprop((∃ f : Buf (Elt F) (prog.y0V.view.loc (thr d i)), prog.y0V.view.loc (thr d i) ↦[prog.y0V.view.setOn (halfS 0)]{fullShare} f)
      ∗ ∃ f : Buf (Elt F) (prog.y0V.view.loc (thr d i)), prog.y0V.view.loc (thr d i) ↦[prog.y0V.view.setOn (halfS 1)]{fullShare} f) :=
  halvesV (F := F) d i (Memref.whole cc0_scratch4) (View.set_whole _)
theorem halves5 : (anyBuf (F := F) i d cc0_scratch5 : sProp 𝕄)
    ⊣⊢ iprop((∃ f : Buf (Elt F) (prog.y1V.view.loc (thr d i)), prog.y1V.view.loc (thr d i) ↦[prog.y1V.view.setOn (halfS 0)]{fullShare} f)
      ∗ ∃ f : Buf (Elt F) (prog.y1V.view.loc (thr d i)), prog.y1V.view.loc (thr d i) ↦[prog.y1V.view.setOn (halfS 1)]{fullShare} f) :=
  halvesV (F := F) d i (Memref.whole cc0_scratch5) (View.set_whole _)
theorem halves6 : (anyBuf (F := F) i d cc0_scratch6 : sProp 𝕄)
    ⊣⊢ iprop((∃ f : Buf (Elt F) (prog.oV.view.loc (thr d i)), prog.oV.view.loc (thr d i) ↦[prog.oV.view.setOn (halfS 0)]{fullShare} f)
      ∗ ∃ f : Buf (Elt F) (prog.oV.view.loc (thr d i)), prog.oV.view.loc (thr d i) ↦[prog.oV.view.setOn (halfS 1)]{fullShare} f) :=
  halvesV (F := F) d i (Memref.whole cc0_scratch6) (View.set_whole _)

/-- A chunk's result rows, as the copy out addresses them. -/
theorem pts_blk (ci : Fin 4) (f : Buf (Elt F) (oLoc d)) :
    (prog.oH.view.loc (thr d i) ↦[prog.oH.view.setOn (blkR i ci).set]{fullShare} f : sProp 𝕄) ⊣⊢ (oLoc d ↦[(blkR i ci).set]{fullShare} f) := by
  have e : (prog.oH.view.setOn (blkR i ci).set : Finset (Idx (oLoc d))) = (blkR i ci).set := Finset.map_refl
  have e' : (prog.oH.view.loc (thr d i) ↦[prog.oH.view.setOn (blkR i ci).set]{fullShare} f : sProp 𝕄) = (oLoc d ↦[(blkR i ci).set]{fullShare} f) :=
    congrArg (fun S : Finset (Idx (oLoc d)) => (oLoc d ↦[S]{fullShare} f : sProp 𝕄)) e
  rw [e']

/-- A tile's buffers, each at any contents. -/
def Bufs : sProp 𝕄 :=
  iprop(anyBuf i d cc0_scratch0 ∗ anyBuf i d cc0_scratch1 ∗ anyBuf i d cc0_scratch2 ∗ anyBuf i d cc0_scratch3 ∗ anyBuf i d cc0_scratch4
    ∗ anyBuf i d cc0_scratch5 ∗ anyBuf i d cc0_scratch6)
/-- A tile's semaphores, each at zero. -/
def Sems : sProp 𝕄 :=
  iprop(semVal (thr d i, SemLoc.dma cc0_scratch7.sem) 0 ∗ semsFrom (F := F) i d cc0_scratch8 8 le_rfl ∗ semsFrom (F := F) i d cc0_scratch9 8 le_rfl
    ∗ semVal (thr d i, SemLoc.dma cc0_scratch10.sem) 0)

/-- The program's body. -/
abbrev tileProg : TP F i PUnit :=
  body i prog.yH prog.s0H prog.s1H prog.p0H prog.p1H prog.oH prog.s0V prog.s1V prog.h0V prog.h1V prog.p0V prog.p1V prog.hp0V prog.hp1V
    prog.y0V prog.y1V prog.oV prog.semI prog.semG0 prog.semG1 prog.semO

include hpre in
/-- The tile's run: its 64 result rows come to hold the launch's result, everything else comes back. -/
theorem wp_tile (O : CellTallies nD τ sig (HIx 1)) (W : Waits sig (HIx 1)) (Q : PUnit → sProp 𝕄) :
    iprop(Transfers.MayWaits (thr d i) (none : HIx 1) O ∗ Args m d q ∗ (oLoc d ↦[tileS i]{fullShare} m (oLoc d)) ∗ Bufs (F := F) d i ∗ Sems (F := F) d i
        ∗ OW (F := F) i d O W)
      ⊢ iprop((iprop(Args m d q ∗ (oLoc d ↦[tileS i]{fullShare} OUT m d) ∗ Bufs (F := F) d i ∗ Sems (F := F) d i ∗ OW (F := F) i d O W) -∗ Q ⟨⟩)
        -∗ wpT d i (tileProg i) Q) := by
  unfold Args Bufs Sems
  rw [pts_tile, pts_tile]
  iintro ⟨#Hmw, ⟨Hy, Hs0, Hs1, Hp0, Hp1⟩, ⟨Ho0, Ho1, Ho2, Ho3⟩, ⟨⟨%f0, Hb0⟩, ⟨%f1, Hb1⟩, ⟨%f2, Hb2⟩, ⟨%f3, Hb3⟩, Hb4, Hb5, Hb6⟩, ⟨HsI, HG0, HG1, HsO⟩, HO⟩ HQ
  ihave Hs0 := (pointsTo_split_subset (q := q) (f := m (s0Loc d)) (S := Finset.univ) (Finset.subset_univ (mineI i prog.s0H).view.set)).1 $$ Hs0
  ihave Hs1 := (pointsTo_split_subset (q := q) (f := m (s1Loc d)) (S := Finset.univ) (Finset.subset_univ (mineI i prog.s1H).view.set)).1 $$ Hs1
  ihave Hp0 := (pointsTo_split_subset (q := q) (f := m (p0Loc d)) (S := Finset.univ) (Finset.subset_univ (mineF i prog.p0H).view.set)).1 $$ Hp0
  ihave Hp1 := (pointsTo_split_subset (q := q) (f := m (p1Loc d)) (S := Finset.univ) (Finset.subset_univ (mineF i prog.p1H).view.set)).1 $$ Hp1
  icases Hs0 with ⟨Hs0, Rs0⟩
  icases Hs1 with ⟨Hs1, Rs1⟩
  icases Hp0 with ⟨Hp0, Rp0⟩
  icases Hp1 with ⟨Hp1, Rp1⟩
  ihave Hy := (table_split m d q i).1 $$ Hy
  icases Hy with ⟨HyL, HyR⟩
  ihave Hb4 := (halves4 (F := F) d i).1 $$ Hb4
  ihave Hb5 := (halves5 (F := F) d i).1 $$ Hb5
  ihave Hb6 := (halves6 (F := F) d i).1 $$ Hb6
  icases Hb4 with ⟨H40, H41⟩
  icases Hb5 with ⟨H50, H51⟩
  icases Hb6 with ⟨H60, H61⟩
  unfold tileProg body bodyWith
  iapply (wp_fetch i d prog.s0H prog.s1H prog.p0H prog.p1H prog.s0V prog.s1V prog.h0V prog.h1V prog.p0V prog.p1V prog.hp0V prog.hp1V prog.semI q
    (m (s0Loc d)) (m (s1Loc d)) (m (p0Loc d)) (m (p1Loc d)) f0 f1 f2 f3 prog.s0V.view.dmaCredit (by decide) rfl (by decide) (by decide) (by decide) O W (afterFetch i prog) Q)
    $$ [Hs0 Hs1 Hp0 Hp1 Hb0 Hb1 Hb2 Hb3 HsI HO]
  · isplitr; · iexact Hmw
    isplitl [Hs0 Hs1 Hp0 Hp1]
    · isplitl [Hs0]; · iexact Hs0
      isplitl [Hs1]; · iexact Hs1
      isplitl [Hp0]; · iexact Hp0
      iexact Hp1
    isplitl [Hb0 Hb1 Hb2 Hb3]
    · isplitl [Hb0]; · iexact Hb0
      isplitl [Hb1]; · iexact Hb1
      isplitl [Hb2]; · iexact Hb2
      iexact Hb3
    isplitl [HsI]; · iexact HsI
    iexact HO
  unfold fetchD
  iintro ⟨⟨Hb0, Hs0⟩, ⟨Hb1, Hs1⟩, ⟨Hb2, Hp0⟩, ⟨Hb3, Hp1⟩, HsI, HO⟩
  iapply (wp_afterFetch i d prog (vals m d hpre q i f0 f1 f2 f3) O W (wanted m d hpre q i f0 f1 f2 f3) Q)
    $$ [Hb0 Hb1 Hb2 Hb3 HyL HyR H40 H41 H50 H51 H60 H61 HG0 HG1 Ho0 Ho1 Ho2 Ho3 HsO HO]
  · isplitr; · iexact Hmw
    isplitl [Hb0 Hb1 HyL HyR HG0 HG1]
    · unfold IdleB Idle
      isplitl [Hb0 HyL HG0]
      · isplitl [Hb0]; · iexact Hb0
        isplitl [HyL]; · iexact HyL
        iexact HG0
      · isplitl [Hb1]; · iexact Hb1
        isplitl [HyR]; · iexact HyR
        iexact HG1
    isplitl [Hb2 Hb3]
    · unfold Wts
      isplitl [Hb2]; · iexact Hb2
      iexact Hb3
    isplitl [H40 H41 H50 H51]
    · unfold HalfY
      isplitl [H40 H50]
      · isplitl [H40]; · iexact H40
        iexact H50
      · isplitl [H41]; · iexact H41
        iexact H51
    isplitl [H60 H61]
    · unfold HalfO
      isplitl [H60]; · iexact H60
      iexact H61
    isplitl [Ho0 Ho1 Ho2 Ho3]
    · unfold OutFree
      isplitl [Ho0]
      · iexists m (oLoc d); iapply (pts_blk d i 0 _).2 $$ Ho0
      isplitl [Ho1]
      · iexists m (oLoc d); iapply (pts_blk d i 1 _).2 $$ Ho1
      isplitl [Ho2]
      · iexists m (oLoc d); iapply (pts_blk d i 2 _).2 $$ Ho2
      · iexists m (oLoc d); iapply (pts_blk d i 3 _).2 $$ Ho3
    isplitl [HsO]; · iexact HsO
    iexact HO
  unfold IdleB Idle Wts HalfY HalfO OutDone
  iintro ⟨⟨⟨Hb0, HyL, HG0⟩, Hb1, HyR, HG1⟩, ⟨Hb2, Hb3⟩, ⟨⟨H40, H50⟩, H41, H51⟩, ⟨H60, H61⟩, ⟨Ho0, Ho1, Ho2, Ho3⟩, HsO, HO⟩
  iapply HQ
  isplitl [HyL HyR Hs0 Rs0 Hs1 Rs1 Hp0 Rp0 Hp1 Rp1]
  · isplitl [HyL HyR]
    · iapply (table_split m d q i).2
      isplitl [HyL]; · iexact HyL
      iexact HyR
    isplitl [Hs0 Rs0]
    · iapply (pointsTo_split_subset (q := q) (f := m (s0Loc d)) (S := Finset.univ) (Finset.subset_univ (mineI i prog.s0H).view.set)).2
      isplitl [Hs0]; · iexact Hs0
      iexact Rs0
    isplitl [Hs1 Rs1]
    · iapply (pointsTo_split_subset (q := q) (f := m (s1Loc d)) (S := Finset.univ) (Finset.subset_univ (mineI i prog.s1H).view.set)).2
      isplitl [Hs1]; · iexact Hs1
      iexact Rs1
    isplitl [Hp0 Rp0]
    · iapply (pointsTo_split_subset (q := q) (f := m (p0Loc d)) (S := Finset.univ) (Finset.subset_univ (mineF i prog.p0H).view.set)).2
      isplitl [Hp0]; · iexact Hp0
      iexact Rp0
    · iapply (pointsTo_split_subset (q := q) (f := m (p1Loc d)) (S := Finset.univ) (Finset.subset_univ (mineF i prog.p1H).view.set)).2
      isplitl [Hp1]; · iexact Hp1
      iexact Rp1
  isplitl [Ho0 Ho1 Ho2 Ho3]
  · isplitl [Ho0]; · iapply (pts_blk d i 0 _).1 $$ Ho0
    isplitl [Ho1]; · iapply (pts_blk d i 1 _).1 $$ Ho1
    isplitl [Ho2]; · iapply (pts_blk d i 2 _).1 $$ Ho2
    iapply (pts_blk d i 3 _).1 $$ Ho3
  isplitl [Hb0 Hb1 Hb2 Hb3 H40 H41 H50 H51 H60 H61]
  · isplitl [Hb0]; · iexists _; iexact Hb0
    isplitl [Hb1]; · iexists _; iexact Hb1
    isplitl [Hb2]; · iexists _; iexact Hb2
    isplitl [Hb3]; · iexists _; iexact Hb3
    isplitl [H40 H41]
    · iapply (halves4 (F := F) d i).2
      isplitl [H40]; · iexact H40
      iexact H41
    isplitl [H50 H51]
    · iapply (halves5 (F := F) d i).2
      isplitl [H50]; · iexact H50
      iexact H51
    · iapply (halves6 (F := F) d i).2
      isplitl [H60]; · iexact H60
      iexact H61
  isplitl [HsI HG0 HG1 HsO]
  · isplitl [HsI]; · iexact HsI
    isplitl [HG0]; · iexact HG0
    isplitl [HG1]; · iexact HG1
    iexact HsO
  iexact HO

end

end Cert.Proof.Combine

end
-- ==== Proof.Launch.lean ====
/-
  The launch: the arguments' shares and the result's rows dealt to two cores of sixteen tiles and collected, and the run of
  the whole program: it ends with the result holding every row's weighted sum, the arguments unchanged, and every
  semaphore back at zero.
-/
module

public import proofs.«01_k».proof.Proof.Tile

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## Shares and rows of cores and tiles -/

/-- The grid point of a core's tile. -/
def gp (c : Fin (grid0.bound 0)) (s : Fin (grid0.bound 1)) : grid0.Coords :=
  fun | 0 => c | 1 => s | ⟨_ + 2, h⟩ => absurd h (Nat.not_lt.2 (Nat.le_add_left _ _))

/-- A core's share of the arguments. -/
abbrev cq (c : Fin 2) : PosShare TreeShare := pieceOf fullShare 2 (by decide) c
/-- A tile's share of the arguments. -/
abbrev tq (c : Fin 2) (s : Fin 16) : PosShare TreeShare := pieceOf (cq c) 16 (by decide) s

/-- The result rows of a core's tiles. -/
def coreS (c : Fin 2) : Finset S2048x1024.Idx := Finset.univ.biUnion fun s : Fin 16 => tileS (gp c s)

theorem mem_tile {c : Fin 2} {s : Fin 16} {x : S2048x1024.Idx} :
    x ∈ tileS (gp c s) ↔ 128 * s.val + 64 * c.val ≤ (x 0).val ∧ (x 0).val < 128 * s.val + 64 * c.val + 64 := by
  simp only [tileS, Finset.mem_filter, Finset.mem_univ, true_and]; rfl

theorem tiles_disjoint (c : Fin 2) : ∀ a ∈ (Finset.univ : Finset (Fin 16)), ∀ b ∈ (Finset.univ : Finset (Fin 16)), a ≠ b →
    Disjoint (tileS (gp c a)) (tileS (gp c b)) := by
  intro a _ b _ hab
  rw [Finset.disjoint_left]
  intro x ha hb
  rw [mem_tile] at ha hb
  exact hab (Fin.ext (by omega))

theorem cores_disjoint : ∀ a ∈ (Finset.univ : Finset (Fin 2)), ∀ b ∈ (Finset.univ : Finset (Fin 2)), a ≠ b → Disjoint (coreS a) (coreS b) := by
  intro a _ b _ hab
  rw [Finset.disjoint_left]
  intro x ha hb
  obtain ⟨s, -, ha⟩ := Finset.mem_biUnion.1 ha
  obtain ⟨t, -, hb⟩ := Finset.mem_biUnion.1 hb
  rw [mem_tile] at ha hb
  have := a.isLt
  have := b.isLt
  exact hab (Fin.ext (by omega))

theorem cores_cover : (Finset.univ : Finset (Fin 2)).biUnion coreS = Finset.univ := by
  ext x
  have hx : (x 0).val < 2048 := (x 0).isLt
  simp only [Finset.mem_univ, iff_true, Finset.mem_biUnion, true_and, coreS, mem_tile]
  exact ⟨⟨(x 0).val / 64 % 2, by omega⟩, ⟨(x 0).val / 128, by omega⟩, by simp only; omega, by simp only; omega⟩

/-- The arguments at a share are the arguments at its pieces. -/
theorem Args_pieces (d : Dev nD) (o : ℕ) (ho : 0 < o) (q : PosShare TreeShare) :
    (Args m d q : sProp 𝕄) = bigSep Finset.univ fun j : Fin o => Args m d (pieceOf q o ho j) := by
  unfold Args
  rw [bigSep_sep', bigSep_sep', bigSep_sep', bigSep_sep', ← pointsTo_piecesOf _ _ ho q, ← pointsTo_piecesOf _ _ ho q, ← pointsTo_piecesOf _ _ ho q,
    ← pointsTo_piecesOf _ _ ho q, ← pointsTo_piecesOf _ _ ho q]

theorem out_cores (d : Dev nD) (f : Buf (Elt F) (oLoc d)) :
    (oLoc d ↦{fullShare} f : sProp 𝕄) = bigSep Finset.univ fun c : Fin 2 => oLoc d ↦[coreS c]{fullShare} f := by
  rw [← pointsTo_biUnion Finset.univ (ℓ := oLoc d) coreS cores_disjoint, cores_cover]
theorem out_tiles (d : Dev nD) (c : Fin 2) (f : Buf (Elt F) (oLoc d)) :
    (oLoc d ↦[coreS c]{fullShare} f : sProp 𝕄) = bigSep Finset.univ fun s : Fin 16 => oLoc d ↦[tileS (gp c s)]{fullShare} f :=
  pointsTo_biUnion Finset.univ (ℓ := oLoc d) (fun s : Fin 16 => tileS (gp c s)) (tiles_disjoint c)

/-! ## What the handshakes carry -/

/-- A core's part: its share of the arguments and its result rows, at `f`. -/
def corePart (d : Dev nD) (c : Fin 2) (f : Buf (Elt F) (oLoc d)) : sProp 𝕄 := iprop(Args m d (cq c) ∗ (oLoc d ↦[coreS c]{fullShare} f))
/-- A tile's part: its share of the arguments and its result rows, at `f`. -/
def tilePart (d : Dev nD) (c : Fin 2) (s : Fin 16) (f : Buf (Elt F) (oLoc d)) : sProp 𝕄 :=
  iprop(Args m d (tq c s) ∗ (oLoc d ↦[tileS (gp c s)]{fullShare} f))

instance corePart_storable (d : Dev nD) (c : Fin 2) (f : Buf (Elt F) (oLoc d)) : BI.Storable (upEmb : UEmb _ 𝕄) (corePart m d c f) := by
  unfold corePart Args; infer_instance
instance tilePart_storable (d : Dev nD) (c : Fin 2) (s : Fin 16) (f : Buf (Elt F) (oLoc d)) : BI.Storable (upEmb : UEmb _ 𝕄) (tilePart m d c s f) := by
  unfold tilePart Args; infer_instance

/-- Each core is given its part, deals it to its tiles, and gives it back with the result in its rows. -/
def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (OUT m d)
  go := fun q d c i => match q with | 0 => tilePart m d (Fin.cast nCore_zero c) (Fin.cast nSub_zero i) (m (oLoc d))
  td := fun q d c i => match q with | 0 => tilePart m d (Fin.cast nCore_zero c) (Fin.cast nSub_zero i) (OUT m d)
  x := fun _ _ => iprop(emp)

instance P_storable : (P (F := F) m).IsStorable where
  st q d c := match q with | 0 => corePart_storable m d (Fin.cast nCore_zero c) (m (oLoc d))
  dn q d c := match q with | 0 => corePart_storable m d (Fin.cast nCore_zero c) (OUT m d)
  go q d c i := match q with | 0 => tilePart_storable m d (Fin.cast nCore_zero c) (Fin.cast nSub_zero i) (m (oLoc d))
  td q d c i := match q with | 0 => tilePart_storable m d (Fin.cast nCore_zero c) (Fin.cast nSub_zero i) (OUT m d)

/-! ## The tile's obligation -/

theorem tile_body (hpre : SlotsOK m) (d : Dev nD) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ tilePart m d c s (m (oLoc d))
        ∗ scopedBufs (thr d (gp c s)) ∗ scopedSems0 (thr d (gp c s)) ∗ owes (thr d (gp c s)) O W)
      ⊢ wpT d (gp c s) (tileProg (gp c s)) fun _ => iprop(tilePart m d c s (OUT m d) ∗ scopedBufs (thr d (gp c s)) ∗ scopedSems0 (thr d (gp c s))
          ∗ ∃ W', ⌜∀ p ∈ W', p ∈ W ∨ p.2 = none ∨ p.2 = some (0 : Fin 1)⌝ ∗ owes (thr d (gp c s)) O W') := by
  rw [show (scopedBufs (thr d (gp c s)) : sProp 𝕄) = ownBufs (thr d (gp c s)) from (K (F := F)).scopedBufs_V facts d _ _,
    show (scopedSems0 (thr d (gp c s)) : sProp 𝕄) = ownSems0 (thr d (gp c s)) from SparseCore.Cfg.scopedSems0_V (Val := Elt F) d _ _, ownSems_eq, ownBufs_eq]
  unfold tilePart
  iintro ⟨#Hlv, -, ⟨HA, Ho⟩, ⟨HB, HBr⟩, ⟨HS, HSr⟩, HO⟩
  ihave Hmw := (show levAts (K (F := F)).L (K (F := F)).lev ⊢ Transfers.MayWaits (thr d (gp c s)) (none : HIx 1) O from
    (K (F := F)).mayWaits_none (thr := thr d (gp c s)) hO) $$ Hlv
  ihave HO := (OW_intro (F := F) (gp c s) d O W W fun _ h => .inl h) $$ HO
  iapply (wp_tile m d hpre (tq c s) (gp c s) O W _) $$ [Hmw HA Ho HB HS HO]
  · isplitl [Hmw]; · iexact Hmw
    isplitl [HA]; · iexact HA
    isplitl [Ho]; · iexact Ho
    isplitl [HB]; · unfold Bufs; iexact HB
    isplitl [HS]; · unfold Sems; iexact HS
    iexact HO
  unfold Bufs Sems OW
  iintro ⟨HA, Ho, HB, HS, %W', %hW', HO⟩
  isplitl [HA Ho]
  · isplitl [HA]; · iexact HA
    iexact Ho
  isplitl [HB HBr]
  · isplitl [HB]; · iexact HB
    iexact HBr
  isplitl [HS HSr]
  · isplitl [HS]; · iexact HS
    iexact HSr
  iexists W'
  isplitr
  · ipureintro; exact fun p hp => (hW' p hp).imp_right Or.inl
  · iexact HO

theorem defs₀_vector (c : Fin τ.nSC) (s : Fin τ.nSub) :
    defs₀ (F := F) (.scVector c s) 0 () = SparseCore.onTile hcore0 hsub0 (fun c s => cc0__combine_body (gp c s)
      (Memref.whole main_arg0_scv) (Memref.isWhole_whole _) (Memref.whole main_arg1_scv) (Memref.isWhole_whole _)
      (Memref.whole main_arg2_scv) (Memref.isWhole_whole _) (Memref.whole main_arg3_scv) (Memref.isWhole_whole _)
      (Memref.whole main_arg4_scv) (Memref.isWhole_whole _) (Memref.whole main_v0_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scratch9 cc0_scratch10) ⟨⟩ c s := rfl

set_option maxRecDepth 16384 in
theorem tileObl (hpre : SlotsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_body m hpre d ⟨_, hci.1⟩ ⟨_, hci.2⟩ O W hO

/-! ## Dealing and collecting -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's part is its tiles'. -/
theorem corePart_tiles (d : Dev nD) (c : Fin 2) (f : Buf (Elt F) (oLoc d)) :
    (bigSep Finset.univ fun s : Fin 16 => tilePart m d c s f) = (corePart m d c f : sProp 𝕄) := by
  unfold tilePart corePart
  rw [bigSep_sep', ← Args_pieces, ← out_tiles]
/-- The whole is the cores'. -/
theorem whole_cores (d : Dev nD) (f : Buf (Elt F) (oLoc d)) :
    (bigSep Finset.univ fun c : Fin 2 => corePart m d c f) = (iprop(Args m d fullShare ∗ (oLoc d ↦{fullShare} f)) : sProp 𝕄) := by
  unfold corePart
  rw [bigSep_sep', ← Args_pieces, ← out_cores]

theorem vecSplit : (K (F := F)).VecSplit' (P m) 0 := by
  intro d c
  show corePart m d (Fin.cast nCore_zero c) (m (oLoc d)) ⊢ |={Set.univ}=> iprop(
      (bigSep Finset.univ fun i : Fin ((K (F := F)).nSub 0) => tilePart m d (Fin.cast nCore_zero c) (Fin.cast nSub_zero i) (m (oLoc d)))
      ∗ ((bigSep Finset.univ fun i : Fin ((K (F := F)).nSub 0) => tilePart m d (Fin.cast nCore_zero c) (Fin.cast nSub_zero i) (OUT m d))
          -∗ corePart m d (Fin.cast nCore_zero c) (OUT m d)))
  rw [bigSep_tiles (F := F) (fun i => tilePart m d (Fin.cast nCore_zero c) i (m (oLoc d))),
    bigSep_tiles (F := F) (fun i => tilePart m d (Fin.cast nCore_zero c) i (OUT m d)), corePart_tiles, corePart_tiles]
  iintro H; imodintro
  isplitl [H]; · iexact H
  iintro H; iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) :
    (unscopedBufs d (fun b => m ((d.tc : Thread nD τ).loc b)) : sProp 𝕄) = iprop(Args m d fullShare ∗ (oLoc d ↦{fullShare} m (oLoc d))) := by
  have e : (unscopedBufs d (fun b => m ((d.tc : Thread nD τ).loc b)) : sProp 𝕄)
      = iprop((yLoc d ↦{fullShare} m (yLoc d)) ∗ (s0Loc d ↦{fullShare} m (s0Loc d)) ∗ (s1Loc d ↦{fullShare} m (s1Loc d))
        ∗ (p0Loc d ↦{fullShare} m (p0Loc d)) ∗ (p1Loc d ↦{fullShare} m (p1Loc d)) ∗ (oLoc d ↦{fullShare} m (oLoc d))) := by
    unfold unscopedBufs
    rw [show (Finset.univ.filter fun b : Ref sig .tc => ¬ b.isScoped) = {main_arg0, main_arg1, main_arg2, main_arg3, main_arg4, main_v0} by decide,
      SparseCore.bigSep_insert' (by decide), SparseCore.bigSep_insert' (by decide), SparseCore.bigSep_insert' (by decide), SparseCore.bigSep_insert' (by decide),
      SparseCore.bigSep_insert' (by decide), bigSep_singleton]
  rw [e]
  unfold Args
  refine BI.Entails.antisymm (show (_ : sProp 𝕄) ⊢ _ from ?_) (show (_ : sProp 𝕄) ⊢ _ from ?_)
  · iintro ⟨H0, H1, H2, H3, H4, H5⟩
    isplitr [H5]
    · isplitl [H0]; · iexact H0
      isplitl [H1]; · iexact H1
      isplitl [H2]; · iexact H2
      isplitl [H3]; · iexact H3
      iexact H4
    iexact H5
  · iintro ⟨⟨H0, H1, H2, H3, H4⟩, H5⟩
    isplitl [H0]; · iexact H0
    isplitl [H1]; · iexact H1
    isplitl [H2]; · iexact H2
    isplitl [H3]; · iexact H3
    isplitl [H4]; · iexact H4
    iexact H5

theorem st0_eq (d : Dev nD) : (bigSep Finset.univ fun c : Fin ((K (F := F)).nCore 0) => (P m).st 0 d c)
    = iprop(Args m d fullShare ∗ (oLoc d ↦{fullShare} m (oLoc d))) :=
  (bigSep_cores (F := F) fun c => corePart m d c (m (oLoc d))).trans (whole_cores m d _)
theorem dn0_eq (d : Dev nD) : (bigSep Finset.univ fun c : Fin ((K (F := F)).nCore 0) => (P m).dn 0 d c)
    = iprop(Args m d fullShare ∗ (oLoc d ↦{fullShare} OUT m d)) :=
  (bigSep_cores (F := F) fun c => corePart m d c (OUT m d)).trans (whole_cores m d _)

abbrev FIN (d : Dev nD) : sProp 𝕄 := iprop(Args m d fullShare ∗ (oLoc d ↦{fullShare} OUT m d))

/-- The host program: the one launch. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, HA, Hts, -⟩, -⟩
  iapply ((K (F := F)).wp_run (D (F := F)) 𝒱 (EH := EH) (P := P m) κ d 0) $$ [Hst HA Hb Hts]
  isplitr; · iexact Hctx
  isplitl [Hst]; · iexact Hst
  isplitl [HA]
  · rw [st0_eq]; iexact HA
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What is read off the final memory of a device. -/
def fq (d : Dev nD) (s' : Phys nD τ sig (Elt F)) : Prop :=
  s'.mem.mem (yLoc d) = m (yLoc d) ∧ s'.mem.mem (s0Loc d) = m (s0Loc d) ∧ s'.mem.mem (s1Loc d) = m (s1Loc d)
    ∧ s'.mem.mem (p0Loc d) = m (p0Loc d) ∧ s'.mem.mem (p1Loc d) = m (p1Loc d) ∧ s'.mem.mem (oLoc d) = OUT m d

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  unfold FIN Args
  iintro ⟨⟨⟨H0, H1, H2, H3, H4⟩, H5⟩, HSI⟩
  ihave H := (agree (F := F) _ _ s') $$ [HSI H0]
  · isplitl [HSI] <;> iassumption
  icases H with ⟨%h0, HSI⟩
  ihave H := (agree (F := F) _ _ s') $$ [HSI H1]
  · isplitl [HSI] <;> iassumption
  icases H with ⟨%h1, HSI⟩
  ihave H := (agree (F := F) _ _ s') $$ [HSI H2]
  · isplitl [HSI] <;> iassumption
  icases H with ⟨%h2, HSI⟩
  ihave H := (agree (F := F) _ _ s') $$ [HSI H3]
  · isplitl [HSI] <;> iassumption
  icases H with ⟨%h3, HSI⟩
  ihave H := (agree (F := F) _ _ s') $$ [HSI H4]
  · isplitl [HSI] <;> iassumption
  icases H with ⟨%h4, HSI⟩
  ihave H := (agree (F := F) _ _ s') $$ [HSI H5]
  · isplitl [HSI] <;> iassumption
  icases H with ⟨%h5, -⟩
  ipureintro
  exact ⟨h0, h1, h2, h3, h4, h5⟩

/-- The final states: on every device the arguments unchanged and the result as computed, every semaphore at zero. -/
def QC : PUnit × MemSt nD τ sig (Elt F) → Prop := fun r =>
  (∀ c : Dev nD, r.2.mem (yLoc c) = m (yLoc c) ∧ r.2.mem (s0Loc c) = m (s0Loc c) ∧ r.2.mem (s1Loc c) = m (s1Loc c)
    ∧ r.2.mem (p0Loc c) = m (p0Loc c) ∧ r.2.mem (p1Loc c) = m (p1Loc c) ∧ r.2.mem (oLoc c) = OUT m c) ∧ r.2.sem = fun _ => 0

/-- The program's run, over any float values: from any memory whose slots name rows of the table. -/
theorem run_main [∀ e, Nonempty (Elt F e)] (hpre : SlotsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine

end
-- ==== Proof.Reference.lean ====
/-
  The reference: with every slot in range, its result at row r and column c is p0[r] * y[s0[r], c] + p1[r] * y[s1[r], c];
  and the precondition read as a bound on the slots.
-/
module

public import proofs.«01_k».proof.Proof.Tile
public import proofs.«01_k».proof.Proof.Gen.ReferenceIdeal.Run
public import proofs.«01_k».proof.Proof.Gen.Pre_slots_in_range
public import Idealize.ShloMosaic.Lib.Routing.Ops

@[expose] public section

noncomputable section

namespace Cert.Proof.Combine

open Idealize.ShloMosaic Idealize.ShloMosaic.ValueIdx Idealize.ShloMosaic.Routing

variable {F : FTy → Type} [FloatOps F]

/-! ## The precondition -/

theorem andi_bits (p q : Bool) : IntOp.andi (BitVec.ofBool p) (BitVec.ofBool q) = BitVec.ofBool (p && q) := by
  cases p <;> cases q <;> decide
theorem bit_eq_one (p : Bool) : (BitVec.ofBool p = 1#1) ↔ p = true := by cases p <;> decide

/-- The precondition's test of two words bounds both: a word non-negative when read signed is its own value. -/
theorem words_bounded (u v : BitVec 32)
    (e : IntOp.andi (IntOp.andi (IntOp.andi (IntOp.cmpi .sge u 0#32) (IntOp.cmpi .slt u 7680#32)) (IntOp.cmpi .sge v 0#32))
      (IntOp.cmpi .slt v 7680#32) = 1#1) : u.toNat < 7680 ∧ v.toNat < 7680 := by
  simp only [IntOp.cmpi, andi_bits, bit_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, all ones over the five arrays, bounds both slots of every row. -/
theorem slots_bounded [Cert.Pre_slots_in_range.Facts] (y : FVec F Cert.Pre_slots_in_range.S7680x1024 .f32)
    (s0 s1 : IVec Cert.Pre_slots_in_range.S2048 32) (p0 p1 : FVec F Cert.Pre_slots_in_range.S2048 .f32)
    (h : Cert.Pre_slots_in_range.fn (F := F) y s0 s1 p0 p1 = fun _ => 1#1) (j : Cert.Pre_slots_in_range.S2048.Idx) :
    (s0 j).toNat < 7680 ∧ (s1 j).toNat < 7680 := by
  have e := congrFun h j
  simp only [Cert.Pre_slots_in_range.fn, andi, cmpi, broadcastInDim, constantI] at e
  exact words_bounded _ _ e

/-! ## The reference's value -/

open Cert.ReferenceIdeal Cert.ReferenceIdeal.Gen

/-- A slot in range is not negative when read signed, so the wrap of negative indices leaves it. -/
theorem wrap_eq (s w z : IVec S2048 32) (j : S2048.Idx) (hz : z j = 0#32) (hv : (s j).toNat < 7680) :
    select (cmpi .slt s z) w s j = s j := by
  have e : IntOp.cmpi .slt (s j) 0#32 = 0#1 := by
    simp only [IntOp.cmpi, BitVec.slt_eq_decide, BitVec.toInt_eq_toNat_cond, BitVec.toNat_ofNat, Nat.reducePow, Nat.reduceMod]
    rw [decide_eq_false (by omega)]
    rfl
  simp only [select, cmpi, hz, e]
  rfl

/-- A column broadcast of a list reads the list at the row. -/
theorem column_apply {α : Type} (p : S2048.Idx → α) (x : S2048x1.Idx) :
    broadcastInDim S2048x1 ![0] bcast_S2048_S2048x1_0 p x = p (ix1 (x 0)) := by
  unfold broadcastInDim
  refine congrArg p (funext fun a => ?_)
  fin_cases a
  rfl

/-- A column broadcast along rows reads the column at the row. -/
theorem row_apply {α : Type} (p : S2048x1.Idx → α) (x : S2048x1024.Idx) :
    broadcastInDim S2048x1024 ![0, 1] bcast_S2048x1_S2048x1024_0_1 p x = p (ix2 (x 0) (0 : Fin 1)) := by
  unfold broadcastInDim
  refine congrArg p (funext fun a => ?_)
  fin_cases a <;> rfl

/-- The rows the reference takes from the table by a list of slots in range: row `r` is the table's row `s r`. -/
theorem take_apply (y : FVec F S7680x1024 .f32) (s : IVec S2048 32) (hs : ∀ j, (s j).toNat < 7680) (x : S2048x1024.Idx) :
    Host.gather gather_S7680x1024_S2048x1_S2048x1024_1_0_n_n_0_1_11024 y
        (broadcastInDim S2048x1 ![0] bcast_S2048_S2048x1_0
          (select (cmpi .slt s (broadcastInDim S2048 ![] bcast_S_S2048 (constantI S_ 32 0#32)))
            (addi s (broadcastInDim S2048 ![] bcast_S_S2048 (constantI S_ 32 7680#32))) s)) x
      = y (rowOf (s (ix1 (x 0))) (x 1)) := by
  have hx : x = ix2 (x 0) (x 1) := by
    funext a; fin_cases a <;> rfl
  have hb := hs (ix1 (x 0))
  rw [hx]
  refine (gather_row gather_S7680x1024_S2048x1_S2048x1024_1_0_n_n_0_1_11024 rfl rfl rfl rfl rfl y _ (x 0) (x 1)
    ⟨(s (ix1 (x 0))).toNat, hb⟩ ?_ (by decide)).trans ?_
  · rw [column_apply, wrap_eq _ _ _ _ rfl hb]
    exact BitVec.eq_of_toNat_eq (by simp)
  · refine congrArg y ?_
    unfold rowOf
    refine congrArg (fun k => ix2 k (x 1)) (Fin.ext ?_)
    exact (Nat.mod_eq_of_lt hb).symm

/-- The reference's result from its arguments, every slot in range: row `r` is `p0[r] * y[s0[r]] + p1[r] * y[s1[r]]`. -/
theorem reference_apply (y : FVec F S7680x1024 .f32) (s0 s1 : IVec S2048 32) (p0 p1 : FVec F S2048 .f32)
    (hs : ∀ j, (s0 j).toNat < 7680 ∧ (s1 j).toNat < 7680) (x : S2048x1024.Idx) :
    addf (mulf (broadcastInDim S2048x1024 ![0, 1] bcast_S2048x1_S2048x1024_0_1 (broadcastInDim S2048x1 ![0] bcast_S2048_S2048x1_0 p0))
          (Host.gather gather_S7680x1024_S2048x1_S2048x1024_1_0_n_n_0_1_11024 y
            (broadcastInDim S2048x1 ![0] bcast_S2048_S2048x1_0
              (select (cmpi .slt s0 (broadcastInDim S2048 ![] bcast_S_S2048 (constantI S_ 32 0#32)))
                (addi s0 (broadcastInDim S2048 ![] bcast_S_S2048 (constantI S_ 32 7680#32))) s0))))
        (mulf (broadcastInDim S2048x1024 ![0, 1] bcast_S2048x1_S2048x1024_0_1 (broadcastInDim S2048x1 ![0] bcast_S2048_S2048x1_0 p1))
          (Host.gather gather_S7680x1024_S2048x1_S2048x1024_1_0_n_n_0_1_11024 y
            (broadcastInDim S2048x1 ![0] bcast_S2048_S2048x1_0
              (select (cmpi .slt s1 (broadcastInDim S2048 ![] bcast_S_S2048 (constantI S_ 32 0#32)))
                (addi s1 (broadcastInDim S2048 ![] bcast_S_S2048 (constantI S_ 32 7680#32))) s1)))) x
      = mix (p0 (ix1 (x 0))) (p1 (ix1 (x 0))) (y (rowOf (s0 (ix1 (x 0))) (x 1))) (y (rowOf (s1 (ix1 (x 0))) (x 1))) := by
  have hp (p : FVec F S2048 .f32) : broadcastInDim S2048x1024 ![0, 1] bcast_S2048x1_S2048x1024_0_1
      (broadcastInDim S2048x1 ![0] bcast_S2048_S2048x1_0 p) x = p (ix1 (x 0)) := by
    rw [row_apply, column_apply]
  simp only [addf, mulf, mix, take_apply y s0 (fun j => (hs j).1) x, take_apply y s1 (fun j => (hs j).2) x, hp]

end Cert.Proof.Combine

end
-- ==== Proof.DBody.lean ====
/-
  The dispatch kernel's body, restated as a short program: the printed text spells out every expert's step of every chunk,
  every scatter and every wait; here each is written once. `body_eq` says the two are one program.
-/
module

public import proofs.«01_k».proof.Proof.Gen.DispatchIdeal

@[expose] public section

noncomputable section

namespace Cert.Proof.Dispatch

open Cert.DispatchIdeal Cert.DispatchIdeal.Gen
open Idealize.ShloMosaic Idealize.SL.Sem

variable {F : FTy → Type} [FloatOps F]

/-- The tile's programs: those of one vector subcore of the launch grid. -/
abbrev TP (F : FTy → Type) [FloatOps F] (i : grid0.Coords) (α : Type) :=
  Prog (TpuEff nD τ sig (Elt F) Λ₀ (.scVector ((i 0).castLE hcore0) ((i 1).castLE hsub0))) α

/-! ## One chunk's slots -/

/-- The lanes' numbers. -/
abbrev lanes : IVec S16 32 := iota .scVector S16 32 [0] Gen.iota_S16_d0_w32_scVector
/-- The last lane of a running sum: the sum. -/
abbrev total (v : IVec S16 32) : BitVec 32 := extractAt ![15] (scan .sum v) Gen.inpos_S16_p15

/-- Expert `e`'s step on the slots: the lanes that chose `e` get the start of `e`'s run plus their rank in the chunk. -/
def slotStep (c : IVec S16 32) (e : BitVec 32) (run slot : IVec S16 32) : IVec S16 32 :=
  select (cmpi .eq c (broadcast S16 e))
    (subi (addi (broadcast S16 (total (select (cmpi .eq lanes (broadcast S16 e)) run (broadcast S16 0#32))))
      (scan .sum (extui 32 (cmpi .eq c (broadcast S16 e)) Gen.natLt_1_32))) (broadcast S16 1#32)) slot

/-- Expert `e`'s step on the run starts: past the lanes that chose `e`. -/
def runStep (c : IVec S16 32) (e : BitVec 32) (run : IVec S16 32) : IVec S16 32 :=
  select (cmpi .eq lanes (broadcast S16 e))
    (addi run (broadcast S16 (total (extui 32 (cmpi .eq c (broadcast S16 e)) Gen.natLt_1_32)))) run

/-- The run starts after the first `n` experts' steps. -/
def runAfter (c run : IVec S16 32) : ℕ → IVec S16 32
  | 0 => run
  | n + 1 => runStep c (BitVec.ofNat 32 n) (runAfter c run n)
/-- The slots after the first `n` experts' steps. -/
def slotAfter (c run : IVec S16 32) : ℕ → IVec S16 32
  | 0 => broadcast S16 0#32
  | n + 1 => slotStep c (BitVec.ofNat 32 n) (runAfter c run n) (slotAfter c run n)

/-! ## The windows -/

theorem col_inb (k : ℕ) (hk : k < 8) : ∀ a, (![0, 128 * k] : Fin 2 → ℕ) a + S7680x128.size a ≤ S7680x1024.size a := by
  intro a; fin_cases a <;> simp <;> omega
theorem xcol_inb (k : ℕ) (hk : k < 8) : ∀ a, (![0, 128 * k] : Fin 2 → ℕ) a + S64x128.size a ≤ S64x1024.size a := by
  intro a; fin_cases a <;> simp <;> omega
theorem list_inb (ci : ℕ) (h : ci < 4) : ∀ a, (![16 * ci] : Fin 1 → ℕ) a + S16.size a ≤ S64.size a := by
  intro a; fin_cases a; simp; omega
theorem sem_inb (k : ℕ) (h : k < 8) : ∀ a, (![k] : Fin 1 → ℕ) a + S1.size a ≤ S8.size a := by
  intro a; fin_cases a; simp; omega

/-- Columns `[128k, 128k + 128)` of the tile's rows: a scatter's source. -/
abbrev srcM (xV : Memref sig .scVector .vmem S64x1024 .f32) (k : ℕ) (hk : k < 8) : Memref sig .scVector .vmem S64x128 .f32 :=
  xV.slice (Rect.unit (s := S64x1024) ![0, 128 * k] S64x128.size (xcol_inb k hk)) (fun _ => rfl)
/-- Columns `[128k, 128k + 128)` of the sorted rows: a scatter's target. -/
abbrev dstM (gH : Memref sig .scVector .hbm S7680x1024 .f32) (k : ℕ) (hk : k < 8) : Memref sig .scVector .hbm S7680x128 .f32 :=
  gH.slice (Rect.unit (s := S7680x1024) ![0, 128 * k] S7680x128.size (col_inb k hk)) (fun _ => rfl)
/-- Cell `k` of an array of eight. -/
abbrev semK (sem : DmaSems sig S8) (k : ℕ) (hk : k < 8) : DmaSem sig :=
  ((sem.slice (Rect.unit (s := S8) ![k] S1.size (sem_inb k hk))).squeeze S_ Gen.squeezes_S1_S_).sem

section Prog

variable (i : grid0.Coords) (xH : Memref sig .scVector .hbm S2048x1024 .f32) (e0H e1H : Memref sig .scVector .hbm S2048 .i32)
  (rH : Memref sig .scVector .hbm S32x16 .i32) (gH : Memref sig .scVector .hbm S7680x1024 .f32) (s0H s1H : Memref sig .scVector .hbm S2048 .i32)
  (e0V : Memref sig .scVector .vmem S64 .i32) (he0V : e0V.IsWhole) (e1V : Memref sig .scVector .vmem S64 .i32) (he1V : e1V.IsWhole)
  (s0V : Memref sig .scVector .vmem S64 .i32) (hs0V : s0V.IsWhole) (s1V : Memref sig .scVector .vmem S64 .i32) (hs1V : s1V.IsWhole)
  (rV : Memref sig .scVector .vmem S16 .i32) (hrV : rV.IsWhole) (xV : Memref sig .scVector .vmem S64x1024 .f32) (hxV : xV.IsWhole)
  (semX : DmaSems sig S_) (semG0 semG1 : DmaSems sig S8) (sem0 sem1 sem2 sem3 sem4 : DmaSems sig S_)

/-- The tile's 64 rows. -/
abbrev mineX : Memref sig .scVector .hbm S64x1024 .f32 :=
  xH.slice (Rect.unit (s := S2048x1024) (k0_off1 i) S64x1024.size (Gen.k0_off1_inb i)) (fun _ => rfl)
/-- The tile's 64 words of a list. -/
abbrev mineL (lH : Memref sig .scVector .hbm S2048 .i32) : Memref sig .scVector .hbm S64 .i32 :=
  lH.slice (Rect.unit (s := S2048) (k0_off2 i) S64.size (Gen.k0_off2_inb i)) (fun _ => rfl)
/-- The tile's row of the run starts. -/
abbrev mineR : Memref sig .scVector .hbm S16 .i32 :=
  (rH.slice (Rect.unit (s := S32x16) (k0_off3 i) S1x16.size (Gen.k0_off3_inb i)) (fun _ => rfl)).squeeze S16 Gen.squeezes_S1x16_S16

/-- A list fetched. -/
def fetchL (lH : Memref sig .scVector .hbm S2048 .i32) (lV : Memref sig .scVector .vmem S64 .i32) (hV : lV.IsWhole) (sem : DmaSems sig S_)
    (K : TP F i PUnit) : TP F i PUnit := do
  Prog.lift (.enqueueDma (mineL i lH) (.here lV) (.dma sem.sem) (View.wordExact_bits rfl) hV.wordExact ⟨Or.inl rfl, trivial⟩)
  Prog.lift (.waitDma2 sem.sem (mineL i lH) lV (View.wordExact_bits rfl) hV.wordExact)
  K
/-- The run starts fetched. -/
def fetchR (sem : DmaSems sig S_) (K : TP F i PUnit) : TP F i PUnit := do
  Prog.lift (.enqueueDma (mineR i rH) (.here rV) (.dma sem.sem) ((View.wordExact_bits rfl).reshape _ _) hrV.wordExact ⟨Or.inl rfl, trivial⟩)
  Prog.lift (.waitDma2 sem.sem (mineR i rH) rV ((View.wordExact_bits rfl).reshape _ _) hrV.wordExact)
  K
/-- A list of slots copied out. -/
def sendL (lV : Memref sig .scVector .vmem S64 .i32) (hV : lV.IsWhole) (lH : Memref sig .scVector .hbm S2048 .i32) (sem : DmaSems sig S_)
    (K : TP F i PUnit) : TP F i PUnit := do
  Prog.lift (.enqueueDma lV (.here (mineL i lH)) (.dma sem.sem) hV.wordExact (View.wordExact_bits rfl) ⟨Or.inl rfl, trivial⟩)
  Prog.lift (.waitDma2 sem.sem lV (mineL i lH) hV.wordExact (View.wordExact_bits rfl))
  K

/-- One list's chunk: its sixteen choices loaded, their slots stored. -/
def chunkOne (eV sV : Memref sig .scVector .vmem S64 .i32) (ci : ℕ) (hci : ci < 4) (run : IVec S16 32) (K : IVec S16 32 → TP F i PUnit) : TP F i PUnit := do
  let c : Vec F S16 .i32 ← Prog.lift (.load eV (Rect.unit (s := S64) ![16 * ci] S16.size (list_inb ci hci)).toLoadRect (View.loadsAt_vmem Gen.h_S16))
  let _ : Vec F S16 .i32 ← Prog.lift (.load sV (Rect.unit (s := S64) ![16 * ci] S16.size (list_inb ci hci)).toLoadRect (View.loadsAt_vmem Gen.h_S16))
  Prog.lift (.store sV (Rect.unit (s := S64) ![16 * ci] S16.size (list_inb ci hci)) (slotAfter c run 8 : Vec F S16 .i32) Finset.univ (View.stores_vmem_bits_univ Gen.h_S16 rfl) (.inl rfl))
  K (runAfter c run 8)

/-- The last `n` chunks, first choices before second ones. -/
def chunkRun (K : TP F i PUnit) : (n : ℕ) → n ≤ 4 → IVec S16 32 → TP F i PUnit
  | 0, _, _ => K
  | n + 1, h, run => chunkOne i e0V s0V (4 - (n + 1)) (by omega) run fun run => chunkOne i e1V s1V (4 - (n + 1)) (by omega) run (chunkRun K n (by omega))

/-- The last `n` scatters of a list started. -/
def issueRun (sV : Memref sig .scVector .vmem S64 .i32) (sem : DmaSems sig S8) (K : TP F i PUnit) : (n : ℕ) → n ≤ 8 → TP F i PUnit
  | 0, _ => K
  | n + 1, h => SparseCore.enqueueIndirectScatter rfl (srcM xV (8 - (n + 1)) (by omega)) (dstM gH (8 - (n + 1)) (by omega)) Gen.gathers_S7680x128_S64x128 sV rfl
      (semK sem (8 - (n + 1)) (by omega)) rfl (Or.inl rfl) >>= fun _ => issueRun sV sem K n (by omega)
/-- The last `n` scatters of a list waited for. -/
def waitRun (sem : DmaSems sig S8) (K : TP F i PUnit) : (n : ℕ) → n ≤ 8 → TP F i PUnit
  | 0, _ => K
  | n + 1, h => SparseCore.waitIndirectScatter (semK sem (8 - (n + 1)) (by omega)) (srcM xV (8 - (n + 1)) (by omega)) (dstM gH (8 - (n + 1)) (by omega))
      (View.wordExact_bits rfl) (View.wordExact_bits rfl) >>= fun _ => waitRun sem K n (by omega)

/-- The tile's body from the tile's rows' arrival on. -/
def afterRows : TP F i PUnit :=
  issueRun i gH xV s0V semG0 (issueRun i gH xV s1V semG1
    (sendL i s0V hs0V s0H sem3 (sendL i s1V hs1V s1H sem4 (waitRun i gH xV semG0 (waitRun i gH xV semG1 (pure ⟨⟩) 8 le_rfl) 8 le_rfl)))
    8 le_rfl) 8 le_rfl

/-- The tile's body. -/
def body : TP F i PUnit := do
  Prog.lift (.enqueueDma (mineX i xH) (.here xV) (.dma semX.sem) (View.wordExact_bits rfl) hxV.wordExact ⟨Or.inl rfl, trivial⟩)
  fetchL i e0H e0V he0V sem0 (fetchL i e1H e1V he1V sem1 (fetchR i rH rV hrV sem2 (do
    let run : Vec F S16 .i32 ← Prog.lift (.load rV (Rect.unit (s := S16) ![0] S16.size Gen.inb_S16_S16_0).toLoadRect (View.loadsAt_vmem Gen.h_S16))
    chunkRun i e0V e1V s0V s1V (do
      Prog.lift (.waitDma2 semX.sem (mineX i xH) xV (View.wordExact_bits rfl) hxV.wordExact)
      afterRows i gH s0H s1H s0V hs0V s1V hs1V xV semG0 semG1 sem3 sem4) 4 le_rfl run)))

end Prog

end Cert.Proof.Dispatch

end
-- ==== Proof.DSetup.lean ====
/-
  The dispatch launch as the SparseCore launch theorem sees it, and the steps its tiles take: copies, loads, waits.
-/
module

public import proofs.«01_k».proof.Proof.DBody
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The program as the launch theorem sees it -/

/-- The labels of the whole program: the tile body's beside none of a pipelined call's. -/
abbrev ΛP : Labels := Pipeline.Sig Λ₀ (Fin 0) fun p => (pcfgs (F := F) p).Adm
/-- The launch: one call on two cores of sixteen tiles. -/
abbrev K : SparseCore.Cfg τ sig (ΛP (F := F)) 1 := sc (F := F)
theorem nSub_zero : (K (F := F)).nSub 0 = 16 := rfl
theorem nCore_zero : (K (F := F)).nCore 0 = 2 := rfl
/-- The program's bodies under those labels. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake cells are distinct and outlive every task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The tile at grid point `i` of device `d`. -/
abbrev thr (d : Dev nD) (i : grid0.Coords) : Thread nD τ := V d ((i 0).castLE hcore0) ((i 1).castLE hsub0)

/-- The weakest precondition of a tile's program. -/
abbrev wpT (d : Dev nD) (i : grid0.Coords) {α : Type} (p : TP F i α) (Q : α → sProp 𝕄) : sProp 𝕄 :=
  wp frame (wpE (defs₀ (F := F)) 𝒱₀ (thr d i) none) Set.univ p Q

/-! ## Copies -/

section Copy

variable (i : grid0.Coords) (d : Dev nD)

/-- The waits recorded so far: the task's own beside those it started with. -/
def OW (O : CellTallies nD τ sig (HIx 1)) (W : Waits sig (HIx 1)) : sProp 𝕄 :=
  iprop(∃ W', ⌜∀ p ∈ W', p ∈ W ∨ p.2 = none⌝ ∗ owes (thr d i) O W')

theorem OW_intro (O : CellTallies nD τ sig (HIx 1)) (W W' : Waits sig (HIx 1))
    (h : ∀ p ∈ W', p ∈ W ∨ p.2 = none) : (owes (thr d i) O W' : sProp 𝕄) ⊢ OW (F := F) i d O W := by
  unfold OW
  iintro HO
  iexists W'
  isplitr
  swap; · iexact HO
  ipureintro
  exact h

theorem OW_insert (O : CellTallies nD τ sig (HIx 1)) (W W' : Waits sig (HIx 1)) (sm : SemLoc sig)
    (h : ∀ p ∈ W', p ∈ W ∨ p.2 = none) :
    (owes (thr d i) O (insert (sm, (none : HIx 1)) W') : sProp 𝕄) ⊢ OW (F := F) i d O W :=
  OW_intro i d O W _ fun p hp => by
    rcases Finset.mem_insert.mp hp with hp | hp
    · exact .inr (hp ▸ rfl)
    · exact h p hp

variable {sp sp' : Space} {s : Shape} {e : EltTy} (src : Memref sig .scVector sp s e) (dst : Memref sig .scVector sp' s e) (sem : DmaSem sig)

/-- A wait for a flight, its credit named by the destination. -/
theorem wp_arrive {s' : Shape} (src : Memref sig .scVector sp s' e) (dst : Memref sig .scVector sp' s e) (sem : DmaSem sig) (O : CellTallies nD τ sig (HIx 1)) (W : Waits sig (HIx 1)) (D : sProp 𝕄)
    {hw : src.view.WordExact} {hw' : dst.view.WordExact} (K : TP F i PUnit) (Q : PUnit → sProp 𝕄) :
    iprop(Transfers.MayWaits (thr d i) (none : HIx 1) O
        ∗ Transfers.Flight (countersEmb (nD := nD)) (thr d i) (.dma sem) none dst.view.dmaCredit D
        ∗ OW (F := F) i d O W)
      ⊢ iprop((iprop(D ∗ semVal (thr d i, SemLoc.dma sem) 0 ∗ OW (F := F) i d O W) -∗ wpT d i K Q)
        -∗ wpT d i (Prog.lift (.waitDma2 sem src dst hw hw') >>= fun _ => K) Q) := by
  conv => lhs; unfold OW
  iintro ⟨Hmw, Hfl, %W', %hW', HO⟩ Hk
  iapply (Transfers.wp_waitLocalO countersEmb 𝒱₀ (thr d i) none (none : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  iapply (OW_insert i d O W W' _ hW') $$ HO

/-- What a copy delivers: the destination written, the source's share back. -/
abbrev Copied (q : PosShare TreeShare) (fs : Buf (Elt F) (src.view.loc (thr d i))) (fd : Buf (Elt F) (dst.view.loc (thr d i))) : sProp 𝕄 :=
  iprop((dst.view.loc (thr d i) ↦[dst.view.set]{fullShare} dst.view.write (Elt F) fd (src.view.read (Elt F) fs) Finset.univ)
    ∗ (src.view.loc (thr d i) ↦[src.view.set]{q} fs))

/-- A copy started. -/
theorem wp_depart (q : PosShare TreeShare) (fs : Buf (Elt F) (src.view.loc (thr d i))) (fd : Buf (Elt F) (dst.view.loc (thr d i)))
    (hN0 : 0 < dst.view.dmaCredit)
    {hw : src.view.WordExact} {hw' : dst.view.WordExact} {ht : DmaTarget.Typed sp (.dma sem) (DmaTarget.here (nD := nD) (τ := τ) (p := (thr d i).2) dst)}
    (K : TP F i PUnit) (Q : PUnit → sProp 𝕄) :
    iprop((src.view.loc (thr d i) ↦[src.view.set]{q} fs) ∗ (dst.view.loc (thr d i) ↦[dst.view.set]{fullShare} fd) ∗ semVal (thr d i, SemLoc.dma sem) 0)
      ⊢ iprop((Transfers.Flight (countersEmb (nD := nD)) (thr d i) (.dma sem) none dst.view.dmaCredit (Copied i d src dst q fs fd) -∗ wpT d i K Q)
        -∗ wpT d i ((Prog.lift (.enqueueDma src (.here dst) (.dma sem) hw hw' ht) : TP F i PUnit) >>= fun _ => K) Q) := by
  iintro H HK
  iapply (Transfers.wp_dmaLocal countersEmb 𝒱₀ (thr d i) none (none : HIx 1) dst.view.dmaCredit
    (View.amount_dma _ _) hN0 (Finset.Subset.refl _)) $$ H
  iexact HK

/-- A copy started and waited for. -/
theorem wp_copy (q : PosShare TreeShare) (fs : Buf (Elt F) (src.view.loc (thr d i))) (fd : Buf (Elt F) (dst.view.loc (thr d i)))
    (hN0 : 0 < dst.view.dmaCredit) (O : CellTallies nD τ sig (HIx 1)) (W : Waits sig (HIx 1))
    {hw : src.view.WordExact} {hw' : dst.view.WordExact} {ht : DmaTarget.Typed sp (.dma sem) (DmaTarget.here (nD := nD) (τ := τ) (p := (thr d i).2) dst)}
    {hv : src.view.WordExact} {hv' : dst.view.WordExact}
    (K : TP F i PUnit) (Q : PUnit → sProp 𝕄) :
    iprop(Transfers.MayWaits (thr d i) (none : HIx 1) O
        ∗ (src.view.loc (thr d i) ↦[src.view.set]{q} fs) ∗ (dst.view.loc (thr d i) ↦[dst.view.set]{fullShare} fd) ∗ semVal (thr d i, SemLoc.dma sem) 0
        ∗ OW (F := F) i d O W)
      ⊢ iprop((iprop(Copied i d src dst q fs fd ∗ semVal (thr d i, SemLoc.dma sem) 0 ∗ OW (F := F) i d O W) -∗ wpT d i K Q)
        -∗ wpT d i ((Prog.lift (.enqueueDma src (.here dst) (.dma sem) hw hw' ht) : TP F i PUnit) >>= fun _ =>
            Prog.lift (.waitDma2 sem src dst hv hv') >>= fun _ => K) Q) := by
  iintro ⟨Hmw, Hs, Hd, Hv, HO⟩ Hk
  iapply (wp_depart i d src dst sem q fs fd hN0) $$ [Hs Hd Hv]
  · isplitl [Hs]; · iexact Hs
    isplitl [Hd]; · iexact Hd
    iexact Hv
  iintro Hfl
  iapply (wp_arrive i d src dst sem O W) $$ [Hmw Hfl HO]
  · isplitl [Hmw]; · iexact Hmw
    isplitl [Hfl]; · iexact Hfl
    iexact HO
  iexact Hk

end Copy

end Cert.Proof.Dispatch

end
-- ==== Proof.DScatter.lean ====
/-
  A list's eight column scatters, started together and waited for together: each takes 128 columns of the tile's 64 rows to
  the rows the list's slots name; after the eight waits the named rows hold the tile's rows.
-/
module

public import proofs.«01_k».proof.Proof.DSetup

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The rows a list names -/

/-- Columns `[128k, 128k + 128)` of the sorted rows. -/
abbrev colR (k : ℕ) (hk : k < 8) : Rect S7680x1024 := Rect.unit (s := S7680x1024) ![0, 128 * k] S7680x128.size (col_inb k hk)
/-- Columns `[128k, 128k + 128)` of the tile's rows. -/
abbrev xcolR (k : ℕ) (hk : k < 8) : Rect S64x1024 := Rect.unit (s := S64x1024) ![0, 128 * k] S64x128.size (xcol_inb k hk)

section Sets

variable (s : S64.Idx → BitVec 32)

/-- Window `k` of the rows a list names. -/
def hitW (k : ℕ) : Finset S7680x1024.Idx :=
  Finset.univ.filter fun x => (∃ j, (s j).toNat = (x 0).val) ∧ 128 * k ≤ (x 1).val ∧ (x 1).val < 128 * (k + 1)
/-- The last `n` windows of the rows a list names. -/
def hitFrom (n : ℕ) : Finset S7680x1024.Idx :=
  Finset.univ.filter fun x => (∃ j, (s j).toNat = (x 0).val) ∧ 128 * (8 - n) ≤ (x 1).val

theorem mem_hitW {k : ℕ} {x : S7680x1024.Idx} :
    x ∈ hitW s k ↔ (∃ j, (s j).toNat = (x 0).val) ∧ 128 * k ≤ (x 1).val ∧ (x 1).val < 128 * (k + 1) := by simp [hitW]
theorem mem_hitFrom {n : ℕ} {x : S7680x1024.Idx} : x ∈ hitFrom s n ↔ (∃ j, (s j).toNat = (x 0).val) ∧ 128 * (8 - n) ≤ (x 1).val := by simp [hitFrom]

theorem hitFrom_succ (n : ℕ) (hn : n + 1 ≤ 8) : hitFrom s (n + 1) = hitW s (8 - (n + 1)) ∪ hitFrom s n := by
  ext x
  rw [Finset.mem_union, mem_hitW, mem_hitFrom, mem_hitFrom]
  constructor
  · rintro ⟨h, h1⟩
    by_cases h2 : (x 1).val < 128 * (8 - (n + 1) + 1)
    · exact .inl ⟨h, h1, h2⟩
    · exact .inr ⟨h, by omega⟩
  · rintro (⟨h, h1, -⟩ | ⟨h, h1⟩)
    · exact ⟨h, h1⟩
    · exact ⟨h, by omega⟩
theorem hitFrom_disjoint (n : ℕ) (hn : n + 1 ≤ 8) : Disjoint (hitW s (8 - (n + 1))) (hitFrom s n) := by
  rw [Finset.disjoint_left]
  intro x
  rw [mem_hitW, mem_hitFrom]
  rintro ⟨-, h1, h2⟩ ⟨-, h3⟩
  omega
theorem hitFrom_zero : hitFrom s 0 = ∅ := by
  ext x
  have h2 : (x 1).val < 1024 := (x 1).isLt
  rw [mem_hitFrom]
  simp
  intro _ _; omega

end Sets

/-! ## What is left of a share, scatter by scatter -/

/-- What is left of share `p` with `n` scatters still to be started. -/
def lsh (p : PosShare TreeShare) (n : ℕ) : PosShare TreeShare := (fun q : PosShare TreeShare => q.right)^[8 - n] p

theorem lsh_eight (p : PosShare TreeShare) : lsh p 8 = p := rfl
theorem lsh_succ (p : PosShare TreeShare) (n : ℕ) (hn : n + 1 ≤ 8) : lsh p n = (lsh p (n + 1)).right := by
  unfold lsh; rw [show 8 - n = (8 - (n + 1)) + 1 by omega, Function.iterate_succ_apply']

/-! ## A list's scatters -/

section

variable (i : grid0.Coords) (d : Dev nD) (gH : Memref sig .scVector .hbm S7680x1024 .f32) (sV : Memref sig .scVector .vmem S64 .i32)
  (xV : Memref sig .scVector .vmem S64x1024 .f32) (sem : DmaSems sig S8) (ps px : PosShare TreeShare)
  (fS : Buf (Elt F) (sV.view.loc (thr d i))) (fX : Buf (Elt F) (xV.view.loc (thr d i))) (G : Buf (Elt F) (gH.view.loc (thr d i)))

/-- The list's slots name distinct rows. -/
structure ListOK : Prop where
  lt : ∀ j, (sV.view.read (Elt F) fS j).toNat < 7680
  inj : Function.Injective fun j => (sV.view.read (Elt F) fS j).toNat

/-- The wanted rows: at the row a slot names, the tile's row. -/
def Wanted : Prop := ∀ (x : S7680x1024.Idx) (j : S64.Idx), (sV.view.read (Elt F) fS j).toNat = (x 0).val →
  gH.view.read (Elt F) G x = xV.view.read (Elt F) fX (ix2 (j 0) (x 1))

/-- The slots as rows. -/
abbrev rowsOf (h : ListOK (F := F) i d sV fS) : Fin (S64x128.size Gen.gathers_S7680x128_S64x128.axis') → Fin (S7680x128.size Gen.gathers_S7680x128_S64x128.axis) :=
  SparseCore.rows (sV.view.read (Elt F) fS) rfl h.lt

theorem mem_row {k : ℕ} {hk : k < 8} {r : Fin (S7680x128.size Gen.gathers_S7680x128_S64x128.axis)} {y : gH.view.ty.Idx} :
    y ∈ ((dstM gH k hk).view.slice (S7680x128.rowRect Gen.gathers_S7680x128_S64x128.axis r)).set
      ↔ ∃ x : S7680x1024.Idx, gH.view.emb x = y ∧ (x 0).val = r.val ∧ 128 * k ≤ (x 1).val ∧ (x 1).val < 128 * (k + 1) := by
  constructor
  · intro h
    obtain ⟨z, -, rfl⟩ := Finset.mem_map.1 h
    let w : S7680x128.Idx := (S7680x128.rowRect Gen.gathers_S7680x128_S64x128.axis r).emb z
    have h0 : (z 0).val < 1 := (z 0).isLt
    have h1 : (z 1).val < 128 := (z 1).isLt
    refine ⟨(colR k hk).emb w, rfl, ?_, ?_, ?_⟩
    · show 0 + 1 * (r.val + 1 * (z 0).val) = r.val; omega
    · show 128 * k ≤ 128 * k + 1 * (0 + 1 * (z 1).val); omega
    · show 128 * k + 1 * (0 + 1 * (z 1).val) < 128 * (k + 1); omega
  · rintro ⟨x, rfl, h0, h1, h2⟩
    refine Finset.mem_map.2 ⟨fun a => match a with | 0 => ⟨0, Nat.one_pos⟩ | 1 => ⟨(x 1).val - 128 * k, by show _ < 128; omega⟩, Finset.mem_univ _, ?_⟩
    show gH.view.emb ((colR k hk).emb ((S7680x128.rowRect Gen.gathers_S7680x128_S64x128.axis r).emb _)) = gH.view.emb x
    refine congrArg _ (funext fun a => Fin.ext ?_)
    fin_cases a
    · show 0 + 1 * (r.val + 1 * 0) = (x 0).val; omega
    · show 128 * k + 1 * (0 + 1 * ((x 1).val - 128 * k)) = (x 1).val; omega

/-- The list's entry `j` as the stream counts it. -/
abbrev entry (j : S64.Idx) : Fin (S64x128.size Gen.gathers_S7680x128_S64x128.axis') := ⟨(j 0).val, (j 0).isLt⟩

theorem rows_entry (h : ListOK (F := F) i d sV fS) (j : S64.Idx) : (rowsOf i d sV fS h (entry j)).val = (sV.view.read (Elt F) fS j).toNat := by
  show (sV.view.read (Elt F) fS _).toNat = _
  refine congrArg (fun j => (sV.view.read (Elt F) fS j).toNat) (funext fun a => Fin.ext ?_)
  fin_cases a
  have hm := Shape.rowMajor_val_one (d := ![64]) (S64.rowMajor.symm (Fin.cast (by rfl : (64 : ℕ) = S64.numel) (j 0)))
  rw [Equiv.apply_symm_apply] at hm
  exact hm.symm

/-- The named rows' windows are the scatter's target. -/
theorem named_set (h : ListOK (F := F) i d sV fS) (k : ℕ) (hk : k < 8) :
    (SparseCore.namedRows (thr d i) (dstM gH k hk).view Gen.gathers_S7680x128_S64x128.axis (rowsOf i d sV fS h) : Finset gH.view.ty.Idx)
      = gH.view.setOn (hitW (sV.view.read (Elt F) fS) k) := by
  ext y
  rw [SparseCore.namedRows_eq, Finset.mem_biUnion]
  constructor
  · rintro ⟨r, -, hr⟩
    obtain ⟨x, rfl, h0, h1, h2⟩ := (mem_row gH).1 hr
    exact Finset.mem_map.2 ⟨x, (mem_hitW _).2 ⟨⟨ix1 ⟨r.val, r.isLt⟩, by rw [h0, ← rows_entry i d sV fS h]⟩, h1, h2⟩, rfl⟩
  · intro hy
    obtain ⟨x, hx, rfl⟩ := Finset.mem_map.1 hy
    obtain ⟨⟨j, hj⟩, h1, h2⟩ := (mem_hitW _).1 hx
    exact ⟨entry j, Finset.mem_univ _, (mem_row gH).2 ⟨x, rfl, by rw [rows_entry, hj], h1, h2⟩⟩

/-- An index read at an equal shape has the same coordinates. -/
theorem idx_val {s s' : Shape} (h : s = s') (z : s'.Idx) (a : Fin s.rank) :
    ((Shape.idxEquiv h).symm z a).val = (z (Fin.cast (congrArg Shape.rank h) a)).val := by subst h; rfl

/-- The scatter writes the wanted rows. -/
theorem scatter_eq (h : ListOK (F := F) i d sV fS) (hG : Wanted i d gH sV xV fS fX G) (k : ℕ) (hk : k < 8)
    (fd : Buf (Elt F) (gH.view.loc (thr d i))) (y : gH.view.ty.Idx) (hy : y ∈ gH.view.setOn (hitW (sV.view.read (Elt F) fS) k)) :
    SparseCore.scatterBuf (thr d i) (dstM gH k hk).view Gen.gathers_S7680x128_S64x128.axis (rowsOf i d sV fS h)
      (SparseCore.scatterRowPayload (thr d i) (srcM xV k hk) Gen.gathers_S7680x128_S64x128 fX) fd y = G y := by
  obtain ⟨x, hx, rfl⟩ := Finset.mem_map.1 hy
  obtain ⟨⟨j, hj⟩, h1, h2⟩ := (mem_hitW _).1 hx
  have hm := (mem_row gH (hk := hk) (r := rowsOf i d sV fS h (entry j)) (y := gH.view.emb x)).2 ⟨x, rfl, by rw [rows_entry, hj], h1, h2⟩
  rw [SparseCore.scatterBuf_of_mem (thr d i) (dstM gH k hk).view _ _ (SparseCore.rows_injective h.inj) _ fd hm]
  obtain ⟨z, -, hz⟩ := Finset.mem_map.1 hm
  have hz1 : 128 * k + 1 * (0 + 1 * (z 1).val) = (x 1).val := by
    have e := gH.view.emb.injective (show gH.view.emb ((colR k hk).emb ((S7680x128.rowRect Gen.gathers_S7680x128_S64x128.axis _).emb z)) = gH.view.emb x from hz)
    exact congrArg (fun w : S7680x1024.Idx => (w 1).val) e
  have h0 : (z 0).val < 1 := (z 0).isLt
  refine (congrArg _ hz.symm).trans ((View.write_emb_of_mem _ _ (Finset.mem_univ z)).trans ?_)
  have e := hG x j hj
  rw [View.read_apply] at e
  have e' : G (gH.view.emb x) = _root_.cast (congrArg (Elt F) gH.view.elt_eq.symm) (xV.view.read (Elt F) fX (ix2 (j 0) (x 1))) := by
    rw [← e, cast_cast, cast_eq]
  refine Eq.trans ?_ e'.symm
  refine congrArg (_root_.cast _) ?_
  show xV.view.read (Elt F) fX ((xcolR k hk).emb ((S64x128.rowRect Gen.gathers_S7680x128_S64x128.axis' (entry j)).emb _)) = _
  refine congrArg _ (funext fun a => Fin.ext ?_)
  fin_cases a
  · show 0 + 1 * ((j 0).val + 1 * (((Shape.idxEquiv Gen.gathers_S7680x128_S64x128.rowShape_eq).symm z) ⟨0, Nat.zero_lt_succ _⟩).val) = (j 0).val
    have e0 := (idx_val Gen.gathers_S7680x128_S64x128.rowShape_eq z ⟨0, Nat.zero_lt_succ _⟩).trans (show _ = 0 from Nat.lt_one_iff.1 h0)
    exact (congrArg (fun t => 0 + 1 * ((j 0).val + 1 * t)) e0).trans (by simp)
  · show 128 * k + 1 * (0 + 1 * (((Shape.idxEquiv Gen.gathers_S7680x128_S64x128.rowShape_eq).symm z) ⟨1, Nat.one_lt_two⟩).val) = (x 1).val
    exact (congrArg (fun t => 128 * k + 1 * (0 + 1 * t)) (idx_val Gen.gathers_S7680x128_S64x128.rowShape_eq z ⟨1, Nat.one_lt_two⟩)).trans hz1

/-- The last `n` cells of a list's eight, at zero. -/
def semsFrom : (n : ℕ) → n ≤ 8 → sProp 𝕄
  | 0, _ => iprop(emp)
  | n + 1, h => iprop(semVal (thr d i, SemLoc.dma (semK sem (8 - (n + 1)) (by omega))) 0 ∗ semsFrom n (by omega))

theorem semsFrom_succ (n : ℕ) (h : n + 1 ≤ 8) : (semsFrom (F := F) i d sem (n + 1) h : sProp 𝕄)
    = iprop(semVal (thr d i, SemLoc.dma (semK sem (8 - (n + 1)) (by omega))) 0 ∗ semsFrom i d sem n (by omega)) := rfl

/-- What the last `n` scatters need beside their targets. -/
def Idle (n : ℕ) (h : n ≤ 8) : sProp 𝕄 :=
  iprop((sV.view.loc (thr d i) ↦[sV.view.set]{lsh ps n} fS) ∗ (xV.view.loc (thr d i) ↦[xV.view.set]{lsh px n} fX) ∗ semsFrom (F := F) i d sem n h)

/-- What a scatter delivers: its window of the named rows as wanted, and its shares of the tile's rows and of the list back. -/
def Scattered (k n : ℕ) (hk : k < 8) : sProp 𝕄 :=
  iprop((gH.view.loc (thr d i) ↦[gH.view.setOn (hitW (sV.view.read (Elt F) fS) k)]{fullShare} G)
    ∗ (xV.view.loc (thr d i) ↦[(srcM xV k hk).view.set]{(lsh px n).left} fX)
    ∗ (sV.view.loc (thr d i) ↦[sV.view.set]{(lsh ps n).left} fS))

/-- The tile's rows outside window `k`. -/
abbrev xRest (k : ℕ) (hk : k < 8) : Finset xV.view.ty.Idx := xV.view.set \ ((srcM xV k hk).view.set : Finset xV.view.ty.Idx)

/-- The last `n` scatters in flight. -/
def Fly : (n : ℕ) → n ≤ 8 → sProp 𝕄
  | 0, h => Idle i d sV xV sem ps px fS fX 0 h
  | n + 1, h => iprop(Transfers.Flight (countersEmb (nD := nD)) (thr d i) (.dma (semK sem (8 - (n + 1)) (by omega))) none
        (srcM xV (8 - (n + 1)) (by omega)).view.dmaCredit
        (Scattered i d gH sV xV ps px fS fX G (8 - (n + 1)) (n + 1) (by omega))
      ∗ (xV.view.loc (thr d i) ↦[xRest xV (8 - (n + 1)) (by omega)]{(lsh px (n + 1)).left} fX)
      ∗ Fly n (by omega))

theorem Fly_succ (n : ℕ) (h : n + 1 ≤ 8) :
    (Fly i d gH sV xV sem ps px fS fX G (n + 1) h : sProp 𝕄)
      = iprop(Transfers.Flight (countersEmb (nD := nD)) (thr d i) (.dma (semK sem (8 - (n + 1)) (by omega))) none
        (srcM xV (8 - (n + 1)) (by omega)).view.dmaCredit
        (Scattered i d gH sV xV ps px fS fX G (8 - (n + 1)) (n + 1) (by omega))
      ∗ (xV.view.loc (thr d i) ↦[xRest xV (8 - (n + 1)) (by omega)]{(lsh px (n + 1)).left} fX)
      ∗ Fly i d gH sV xV sem ps px fS fX G n (by omega)) := rfl

/-- A window's scatter credits its source's bytes in all. -/
def Credits : Prop := ∀ k hk (r : Fin (S64x128.size Gen.gathers_S7680x128_S64x128.axis') → Fin (S7680x128.size Gen.gathers_S7680x128_S64x128.axis)),
  ∑ j, ((dstM gH k hk).slice (S7680x128.rowRect Gen.gathers_S7680x128_S64x128.axis (r j))
    (S7680x128.stride_rowRect Gen.gathers_S7680x128_S64x128.axis _)).view.dmaCredit = (srcM xV k hk).view.dmaCredit

/-- The named rows owned are the scatter's target owned. -/
theorem pts_named (h : ListOK (F := F) i d sV fS) (k : ℕ) (hk : k < 8) (f : Buf (Elt F) (gH.view.loc (thr d i))) :
    (gH.view.loc (thr d i) ↦[gH.view.setOn (hitW (sV.view.read (Elt F) fS) k)]{fullShare} f : sProp 𝕄)
      = ((dstM gH k hk).view.loc (thr d i) ↦[SparseCore.namedRows (thr d i) (dstM gH k hk).view Gen.gathers_S7680x128_S64x128.axis (rowsOf i d sV fS h)]{fullShare} f) :=
  congrArg (fun S : Finset gH.view.ty.Idx => (gH.view.loc (thr d i) ↦[S]{fullShare} f : sProp 𝕄)) (named_set i d gH sV fS h k hk).symm

theorem scattered_of (h : ListOK (F := F) i d sV fS) (hG : Wanted i d gH sV xV fS fX G) (k n : ℕ) (hk : k < 8) (f : Buf (Elt F) (gH.view.loc (thr d i))) :
    iprop(((dstM gH k hk).view.loc (thr d i) ↦[SparseCore.namedRows (thr d i) (dstM gH k hk).view Gen.gathers_S7680x128_S64x128.axis (rowsOf i d sV fS h)]{fullShare}
          (SparseCore.scatterBuf (thr d i) (dstM gH k hk).view Gen.gathers_S7680x128_S64x128.axis (rowsOf i d sV fS h)
            (SparseCore.scatterRowPayload (thr d i) (srcM xV k hk) Gen.gathers_S7680x128_S64x128 fX) f))
        ∗ ((srcM xV k hk).view.loc (thr d i) ↦[(srcM xV k hk).view.set]{(lsh px n).left} fX)
        ∗ (sV.view.loc (thr d i) ↦[sV.view.set]{(lsh ps n).left} fS))
      ⊢ Scattered i d gH sV xV ps px fS fX G k n hk := by
  unfold Scattered
  have e : (gH.view.loc (thr d i) ↦[gH.view.setOn (hitW (sV.view.read (Elt F) fS) k)]{fullShare}
        (SparseCore.scatterBuf (thr d i) (dstM gH k hk).view Gen.gathers_S7680x128_S64x128.axis (rowsOf i d sV fS h)
          (SparseCore.scatterRowPayload (thr d i) (srcM xV k hk) Gen.gathers_S7680x128_S64x128 fX) f) : sProp 𝕄)
      = (gH.view.loc (thr d i) ↦[gH.view.setOn (hitW (sV.view.read (Elt F) fS) k)]{fullShare} G) :=
    pointsTo_congr fun y hy => scatter_eq i d gH sV xV fS fX G h hG k hk f y hy
  rw [← pts_named, e]

/-- One scatter started. -/
theorem wp_scatter (h : ListOK (F := F) i d sV fS) (hG : Wanted i d gH sV xV fS fX G) (hN : Credits gH xV) (k n : ℕ) (hk : k < 8)
    (K : TP F i PUnit) (Q : PUnit → sProp 𝕄) (f : Buf (Elt F) (gH.view.loc (thr d i))) :
    iprop((xV.view.loc (thr d i) ↦[(srcM xV k hk).view.set]{(lsh px n).left} fX)
        ∗ (gH.view.loc (thr d i) ↦[gH.view.setOn (hitW (sV.view.read (Elt F) fS) k)]{fullShare} f)
        ∗ (sV.view.loc (thr d i) ↦[sV.view.set]{(lsh ps n).left} fS)
        ∗ semVal (thr d i, SemLoc.dma (semK sem k hk)) 0)
      ⊢ iprop((Transfers.Flight (countersEmb (nD := nD)) (thr d i) (.dma (semK sem k hk)) none (srcM xV k hk).view.dmaCredit
            (Scattered i d gH sV xV ps px fS fX G k n hk) -∗ wpT d i K Q)
        -∗ wpT d i (SparseCore.enqueueIndirectScatter rfl (srcM xV k hk) (dstM gH k hk) Gen.gathers_S7680x128_S64x128
            sV rfl (semK sem k hk) rfl (Or.inl rfl) >>= fun _ => K) Q) := by
  rw [pts_named i d gH sV fS h k hk]
  refine BIBase.Entails.trans (SparseCore.wp_indirectScatterLocal countersEmb 𝒱₀ (thr d i) none (src := srcM xV k hk) (dst := dstM gH k hk) (offs := sV)
    (hg := Gen.gathers_S7680x128_S64x128) (sem := semK sem k hk) (hn := rfl) (hp := rfl) (he := rfl) (hsp := Or.inl rfl) (k := fun _ => K) (hr := by decide) (defs := defs₀ (F := F)) (Q := Q) (q := (lsh px n).left)
    (qo := (lsh ps n).left) (fs := fX) (fd := f) (fo := fS) (none : HIx 1) (srcM xV k hk).view.dmaCredit (by decide) h.lt (SparseCore.rows_injective h.inj) (hN k hk _)) ?_
  iintro H HK
  iapply H
  iintro Hfl
  iapply HK
  iapply (Transfers.Flight_mono countersEmb (thr d i) (scattered_of i d gH sV xV ps px fS fX G h hG k n hk f)) $$ Hfl

/-- One scatter waited for. -/
theorem wp_swait (k : ℕ) (hk : k < 8) (O : CellTallies nD τ sig (HIx 1)) (W : Waits sig (HIx 1)) (D : sProp 𝕄)
    (K : TP F i PUnit) (Q : PUnit → sProp 𝕄) :
    iprop(Transfers.MayWaits (thr d i) (none : HIx 1) O
        ∗ Transfers.Flight (countersEmb (nD := nD)) (thr d i) (.dma (semK sem k hk)) none (srcM xV k hk).view.dmaCredit D
        ∗ OW (F := F) i d O W)
      ⊢ iprop((iprop(D ∗ semVal (thr d i, SemLoc.dma (semK sem k hk)) 0 ∗ OW (F := F) i d O W) -∗ wpT d i K Q)
        -∗ wpT d i (SparseCore.waitIndirectScatter (semK sem k hk) (srcM xV k hk) (dstM gH k hk)
            (View.wordExact_bits rfl) (View.wordExact_bits rfl) >>= fun _ => K) Q) :=
  wp_arrive i d (dstM gH k hk) (srcM xV k hk) (semK sem k hk) O W D K Q

theorem pts_hits_succ (s : S64.Idx → BitVec 32) (n : ℕ) (hn : n + 1 ≤ 8) (f : Buf (Elt F) (gH.view.loc (thr d i))) :
    (gH.view.loc (thr d i) ↦[gH.view.setOn (hitFrom s (n + 1))]{fullShare} f : sProp 𝕄)
      = (gH.view.loc (thr d i) ↦[gH.view.setOn (hitW s (8 - (n + 1))) ∪ gH.view.setOn (hitFrom s n)]{fullShare} f) :=
  congrArg (fun S : Finset gH.view.ty.Idx => (gH.view.loc (thr d i) ↦[S]{fullShare} f : sProp 𝕄))
    ((congrArg gH.view.setOn (hitFrom_succ s n hn)).trans (Finset.map_union _ _))
theorem hits_disj (s : S64.Idx → BitVec 32) (n : ℕ) (hn : n + 1 ≤ 8) :
    Disjoint (gH.view.setOn (hitW s (8 - (n + 1)))) (gH.view.setOn (hitFrom s n)) :=
  (Finset.disjoint_map gH.view.emb).2 (hitFrom_disjoint s n hn)

theorem src_subset (k : ℕ) (hk : k < 8) : ((srcM xV k hk).view.set : Finset xV.view.ty.Idx) ⊆ xV.view.set :=
  View.set_slice_subset _ _

/-- The last `n` scatters started. -/
theorem wp_issueRun (h : ListOK (F := F) i d sV fS) (hG : Wanted i d gH sV xV fS fX G) (hN : Credits gH xV)
    (k : TP F i PUnit) (Q : PUnit → sProp 𝕄) (f : Buf (Elt F) (gH.view.loc (thr d i))) :
    ∀ (n : ℕ) (hn : n ≤ 8),
    iprop(Idle i d sV xV sem ps px fS fX n hn ∗ (gH.view.loc (thr d i) ↦[gH.view.setOn (hitFrom (sV.view.read (Elt F) fS) n)]{fullShare} f))
      ⊢ iprop((Fly i d gH sV xV sem ps px fS fX G n hn -∗ wpT d i k Q)
        -∗ wpT d i (issueRun i gH xV sV sem k n hn) Q)
  | 0, hn => by
    unfold issueRun Fly
    iintro ⟨H, -⟩ Hk
    iapply Hk; iexact H
  | n + 1, hn => by
    unfold issueRun
    iintro ⟨HI, Hd⟩ Hk
    unfold Idle
    rw [semsFrom_succ]
    icases HI with ⟨Hl, Hx, Hsem, Hsems⟩
    ihave Hd' := (Entails.of_eq (pts_hits_succ i d gH _ n hn f)) $$ Hd
    ihave Hd2 := (pointsTo_union (ℓ := gH.view.loc (thr d i)) (hits_disj gH (sV.view.read (Elt F) fS) n hn)).1 $$ Hd'
    icases Hd2 with ⟨Hw, Hd⟩
    ihave Hl2 := (pointsTo_share (PosShare.mem_left_op_right (lsh ps (n + 1)))).1 $$ Hl
    icases Hl2 with ⟨Hll, Hl⟩
    ihave Hx2 := (pointsTo_share (PosShare.mem_left_op_right (lsh px (n + 1)))).1 $$ Hx
    icases Hx2 with ⟨Hxl, Hx⟩
    ihave Hx3 := (pointsTo_split_subset (src_subset xV (8 - (n + 1)) (by omega))).1 $$ Hxl
    icases Hx3 with ⟨Hxl, Hxr⟩
    iapply (wp_scatter i d gH sV xV sem ps px fS fX G h hG hN (8 - (n + 1)) (n + 1) _ _ Q f) $$ [Hw Hxl Hll Hsem]
    · isplitl [Hxl]; · iexact Hxl
      isplitl [Hw]; · iexact Hw
      isplitl [Hll]; · iexact Hll
      iexact Hsem
    iintro Hfl
    iapply (wp_issueRun h hG hN k Q f n _) $$ [Hl Hx Hsems Hd]
    · unfold Idle
      isplitr [Hd]
      · isplitl [Hl]; · rw [lsh_succ ps n hn]; iexact Hl
        isplitl [Hx]; · rw [lsh_succ px n hn]; iexact Hx
        iexact Hsems
      · iexact Hd
    iintro Hn
    iapply Hk
    rw [Fly_succ]
    isplitl [Hfl]; · iexact Hfl
    isplitl [Hxr]; · iexact Hxr
    iexact Hn

/-- The last `n` scatters waited for. -/
theorem wp_waitRun (O : CellTallies nD τ sig (HIx 1)) (W : Waits sig (HIx 1))
    (k : TP F i PUnit) (Q : PUnit → sProp 𝕄) :
    ∀ (n : ℕ) (hn : n ≤ 8),
    iprop(Transfers.MayWaits (thr d i) (none : HIx 1) O ∗ Fly i d gH sV xV sem ps px fS fX G n hn
        ∗ (gH.view.loc (thr d i) ↦[gH.view.setOn (hitFrom (sV.view.read (Elt F) fS) 0)]{fullShare} G) ∗ OW (F := F) i d O W)
      ⊢ iprop((iprop(Idle i d sV xV sem ps px fS fX n hn
          ∗ (gH.view.loc (thr d i) ↦[gH.view.setOn (hitFrom (sV.view.read (Elt F) fS) n)]{fullShare} G)
          ∗ OW (F := F) i d O W) -∗ wpT d i k Q)
        -∗ wpT d i (waitRun i gH xV sem k n hn) Q)
  | 0, hn => by
    unfold waitRun Fly
    iintro ⟨-, HI, Hd, HO⟩ Hk
    iapply Hk
    isplitl [HI]; · iexact HI
    isplitl [Hd]; · iexact Hd
    iexact HO
  | n + 1, hn => by
    unfold waitRun
    rw [Fly_succ]
    iintro ⟨#Hmw, ⟨Hfl, Hxr, Hn⟩, Hz, HO⟩ Hk
    iapply (wp_swait i d gH xV sem (8 - (n + 1)) _ O W _ _ Q) $$ [Hfl HO]
    · isplitr; · iexact Hmw
      isplitl [Hfl]; · iexact Hfl
      iexact HO
    iintro ⟨HD, Hsem, HO⟩
    iapply (wp_waitRun O W k Q n _) $$ [Hn Hz HO]
    · isplitr; · iexact Hmw
      isplitl [Hn]; · iexact Hn
      isplitl [Hz]; · iexact Hz
      iexact HO
    iintro ⟨HI, Hd, HO⟩
    iapply Hk
    unfold Scattered Idle
    icases HD with ⟨Hw, Hxl, Hll⟩
    icases HI with ⟨Hl, Hx, Hsems⟩
    isplitl [Hl Hx Hsem Hsems Hxl Hxr Hll]
    · rw [semsFrom_succ]
      isplitl [Hl Hll]
      · iapply (pointsTo_share (PosShare.mem_left_op_right (lsh ps (n + 1)))).2
        isplitl [Hll]; · iexact Hll
        rw [← lsh_succ ps n hn]; iexact Hl
      isplitl [Hx Hxl Hxr]
      · iapply (pointsTo_share (PosShare.mem_left_op_right (lsh px (n + 1)))).2
        isplitl [Hxl Hxr]
        · iapply (pointsTo_split_subset (src_subset xV (8 - (n + 1)) (by omega))).2
          isplitl [Hxl]; · iexact Hxl
          iexact Hxr
        · rw [← lsh_succ px n hn]; iexact Hx
      isplitl [Hsem]; · iexact Hsem
      iexact Hsems
    isplitl [Hw Hd]
    · iapply (Entails.of_eq (pts_hits_succ i d gH (sV.view.read (Elt F) fS) n hn G).symm)
      iapply (pointsTo_union (ℓ := gH.view.loc (thr d i)) (hits_disj gH (sV.view.read (Elt F) fS) n hn)).2
      isplitl [Hw]; · iexact Hw
      iexact Hd
    iexact HO

end

end Cert.Proof.Dispatch

end
-- ==== Proof.DChunk.lean ====
/-
  A tile's four chunks: each list's sixteen choices loaded, their slots stored. What the tile computes is stated here as a
  function of its choices and of its run starts.
-/
module

public import proofs.«01_k».proof.Proof.DSetup

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

/-! ## What a tile computes -/

section Values

variable (A0 A1 : S64.Idx → BitVec 32) (run : IVec S16 32)

/-- Chunk `n` of a list. -/
def chunk (A : S64.Idx → BitVec 32) (n : ℕ) : IVec S16 32 :=
  fun l => A (ix1 (⟨(16 * n + (l 0).val) % 64, Nat.mod_lt _ (by decide)⟩ : Fin 64))

/-- The run starts before chunk `n`. -/
def runs : ℕ → IVec S16 32
  | 0 => run
  | n + 1 => runAfter (chunk A1 n) (runAfter (chunk A0 n) (runs n) 8) 8

/-- A word's lane in its chunk. -/
def laneOf (j : S64.Idx) : S16.Idx := ix1 (⟨(j 0).val % 16, Nat.mod_lt _ (by decide)⟩ : Fin 16)

/-- The first choices' slots. -/
def slot0 (j : S64.Idx) : BitVec 32 := slotAfter (chunk A0 ((j 0).val / 16)) (runs A0 A1 run ((j 0).val / 16)) 8 (laneOf j)
/-- The second choices' slots. -/
def slot1 (j : S64.Idx) : BitVec 32 :=
  slotAfter (chunk A1 ((j 0).val / 16)) (runAfter (chunk A0 ((j 0).val / 16)) (runs A0 A1 run ((j 0).val / 16)) 8) 8 (laneOf j)

end Values

variable {F : FTy → Type} [FloatOps F]

local notation "𝕄" => MT nD τ sig (HIx 1) (Elt F) ℕ UU ℕ

/-- Chunk `ci`'s sixteen words of a list. -/
abbrev listR (ci : ℕ) (hci : ci < 4) : Rect S64 := Rect.unit (s := S64) ![16 * ci] S16.size (list_inb ci hci)

theorem mem_listR {ci : ℕ} {hci : ci < 4} {j : S64.Idx} : j ∈ (listR ci hci).set ↔ 16 * ci ≤ (j 0).val ∧ (j 0).val < 16 * ci + 16 := by
  rw [Rect.mem_set_unit]
  constructor
  · intro h
    have h0 := h 0
    simp at h0
    omega
  · rintro ⟨h0, h1⟩ a
    fin_cases a; simp; omega

theorem listR_emb (ci : ℕ) (hci : ci < 4) (z : S16.Idx) : (((listR ci hci).emb z) 0).val = 16 * ci + (z 0).val := by
  show 16 * ci + 1 * (z 0).val = _; omega

section

variable (i : grid0.Coords) (d : Dev nD) (eV sV : Memref sig .scVector .vmem S64 .i32)

/-- A chunk's words, loaded. -/
theorem chunk_read (f : eV.view.ty.Contents (Elt F)) (A : S64.Idx → BitVec 32) (hA : ∀ j, eV.view.read (Elt F) f j = A j) (ci : ℕ) (hci : ci < 4) :
    ((eV.access (listR ci hci)).read (Elt F) f : IVec S16 32) = chunk A ci := by
  funext l
  have hl : (l 0).val < 16 := (l 0).isLt
  refine (hA ((listR ci hci).emb l)).trans ?_
  unfold chunk
  refine congrArg A (funext fun a => Fin.ext ?_)
  fin_cases a
  refine (listR_emb ci hci l).trans ?_
  show _ = (16 * ci + (l 0).val) % 64
  omega

/-- After a chunk's store, what was right before it is right, and the chunk with it. -/
theorem chunk_next (f : sV.view.ty.Contents (Elt F)) (G : S64.Idx → BitVec 32) (ci : ℕ) (hci : ci < 4) (w : S16.Idx → BitVec 32)
    (hf : ∀ j, (j 0).val < 16 * ci → sV.view.read (Elt F) f j = G j) (hw : ∀ j, (j 0).val / 16 = ci → w (laneOf j) = G j) :
    ∀ j, (j 0).val < 16 * (ci + 1) → sV.view.read (Elt F) ((sV.access (listR ci hci)).write (Elt F) f w Finset.univ) j = G j := by
  intro j hj
  by_cases hm : j ∈ (listR ci hci).set
  · obtain ⟨h1, h2⟩ := mem_listR.1 hm
    rw [← Rect.map_emb_univ] at hm
    obtain ⟨z, -, rfl⟩ := Finset.mem_map.1 hm
    rw [View.read_slice_write_emb (v := sV.view) (r := listR ci hci) f _ (Finset.mem_univ z)]
    rw [listR_emb] at h1 h2
    have hz : (z 0).val < 16 := (z 0).isLt
    rw [← hw _ (by rw [listR_emb]; omega)]
    refine congrArg w (funext fun a => Fin.ext ?_)
    fin_cases a
    show (z 0).val = (((listR ci hci).emb z) 0).val % 16
    rw [listR_emb]; omega
  · rw [View.read_slice_write_of_not_mem (v := sV.view) (r := listR ci hci) f _ Finset.univ (by rw [Rect.map_emb_univ]; exact hm)]
    refine hf j ?_
    by_contra hn
    exact hm (mem_listR.2 ⟨by omega, by omega⟩)

/-- One list's chunk. -/
theorem wp_chunkOne (ci : ℕ) (hci : ci < 4) (run : IVec S16 32) (fe : Buf (Elt F) (eV.view.loc (thr d i))) (f : Buf (Elt F) (sV.view.loc (thr d i)))
    (A : S64.Idx → BitVec 32) (hA : ∀ j, eV.view.read (Elt F) fe j = A j) (K : IVec S16 32 → TP F i PUnit) (Q : PUnit → sProp 𝕄) :
    iprop((eV.view.loc (thr d i) ↦[eV.view.set]{fullShare} fe) ∗ (sV.view.loc (thr d i) ↦[sV.view.set]{fullShare} f))
      ⊢ iprop((iprop((eV.view.loc (thr d i) ↦[eV.view.set]{fullShare} fe) ∗ (sV.view.loc (thr d i) ↦[sV.view.set]{fullShare}
            ((sV.access (listR ci hci)).write (Elt F) f (slotAfter (chunk A ci) run 8) Finset.univ))) -∗ wpT d i (K (runAfter (chunk A ci) run 8)) Q)
        -∗ wpT d i (chunkOne i eV sV ci hci run K) Q) := by
  have hs : ∀ m : Memref sig .scVector .vmem S64 .i32, (m.access (listR ci hci)).set ⊆ m.view.set := fun m => View.set_slice_subset _ _
  rw [← chunk_read eV fe A hA ci hci]
  iintro ⟨He, Hs⟩ Hk
  unfold chunkOne
  iapply (wp_load_rect 𝒱₀ (thr d i) none Set.univ (m := eV) (r := listR ci hci) (hs eV)) $$ He
  iintro He
  iapply (wp_load_rect 𝒱₀ (thr d i) none Set.univ (m := sV) (r := listR ci hci) (hs sV)) $$ Hs
  iintro Hs
  iapply (wp_store 𝒱₀ (thr d i) none Set.univ (m := sV) (r := listR ci hci) (Mk := Finset.univ) (hs sV)) $$ Hs
  iintro Hs
  iapply Hk
  isplitl [He]; · iexact He
  iexact Hs

end

section

variable (i : grid0.Coords) (d : Dev nD) (e0V e1V s0V s1V : Memref sig .scVector .vmem S64 .i32)
  (fe0 : Buf (Elt F) (e0V.view.loc (thr d i))) (fe1 : Buf (Elt F) (e1V.view.loc (thr d i)))
  (A0 A1 : S64.Idx → BitVec 32) (run : IVec S16 32)
  (h0 : ∀ j, e0V.view.read (Elt F) fe0 j = A0 j) (h1 : ∀ j, e1V.view.read (Elt F) fe1 j = A1 j)

/-- A list of slots at contents that read as wanted. -/
def Slots (sV : Memref sig .scVector .vmem S64 .i32) (G : S64.Idx → BitVec 32) : sProp 𝕄 :=
  iprop(∃ f : Buf (Elt F) (sV.view.loc (thr d i)), ⌜∀ j, sV.view.read (Elt F) f j = G j⌝ ∗ (sV.view.loc (thr d i) ↦[sV.view.set]{fullShare} f))

include h0 h1 in
/-- The last `n` chunks. -/
theorem wp_chunkRun (K : TP F i PUnit) (Q : PUnit → sProp 𝕄) :
    ∀ (n : ℕ) (hn : n ≤ 4) (f0 : Buf (Elt F) (s0V.view.loc (thr d i))) (f1 : Buf (Elt F) (s1V.view.loc (thr d i)))
      (_ : ∀ j, (j 0).val < 16 * (4 - n) → s0V.view.read (Elt F) f0 j = slot0 A0 A1 run j)
      (_ : ∀ j, (j 0).val < 16 * (4 - n) → s1V.view.read (Elt F) f1 j = slot1 A0 A1 run j),
    iprop((e0V.view.loc (thr d i) ↦[e0V.view.set]{fullShare} fe0) ∗ (e1V.view.loc (thr d i) ↦[e1V.view.set]{fullShare} fe1)
        ∗ (s0V.view.loc (thr d i) ↦[s0V.view.set]{fullShare} f0) ∗ (s1V.view.loc (thr d i) ↦[s1V.view.set]{fullShare} f1))
      ⊢ iprop((iprop((e0V.view.loc (thr d i) ↦[e0V.view.set]{fullShare} fe0) ∗ (e1V.view.loc (thr d i) ↦[e1V.view.set]{fullShare} fe1)
          ∗ Slots (F := F) i d s0V (slot0 A0 A1 run) ∗ Slots (F := F) i d s1V (slot1 A0 A1 run)) -∗ wpT d i K Q)
        -∗ wpT d i (chunkRun i e0V e1V s0V s1V K n hn (runs A0 A1 run (4 - n))) Q)
  | 0, hn, f0, f1, g0, g1 => by
    unfold chunkRun Slots
    iintro ⟨H0, H1, H2, H3⟩ Hk
    iapply Hk
    isplitl [H0]; · iexact H0
    isplitl [H1]; · iexact H1
    isplitl [H2]
    · iexists f0
      isplitr
      · ipureintro; exact fun j => g0 j (j 0).isLt
      · iexact H2
    · iexists f1
      isplitr
      · ipureintro; exact fun j => g1 j (j 0).isLt
      · iexact H3
  | n + 1, hn, f0, f1, g0, g1 => by
    unfold chunkRun
    iintro ⟨H0, H1, H2, H3⟩ Hk
    iapply (wp_chunkOne i d e0V s0V (4 - (n + 1)) _ (runs A0 A1 run (4 - (n + 1))) fe0 f0 A0 h0 _ Q) $$ [H0 H2]
    · isplitl [H0]; · iexact H0
      iexact H2
    iintro ⟨H0, H2⟩
    iapply (wp_chunkOne i d e1V s1V (4 - (n + 1)) _ _ fe1 f1 A1 h1 _ Q) $$ [H1 H3]
    · isplitl [H1]; · iexact H1
      iexact H3
    iintro ⟨H1, H3⟩
    have e : runAfter (chunk A1 (4 - (n + 1))) (runAfter (chunk A0 (4 - (n + 1))) (runs A0 A1 run (4 - (n + 1))) 8) 8 = runs A0 A1 run (4 - n) := by
      rw [show 4 - n = 4 - (n + 1) + 1 by omega]; rfl
    rw [e]
    have es : 4 - (n + 1) + 1 = 4 - n := by omega
    have n0 := chunk_next s0V f0 (slot0 A0 A1 run) (4 - (n + 1)) (by omega) _ g0 fun j hj => by unfold slot0; rw [hj]
    have n1 := chunk_next s1V f1 (slot1 A0 A1 run) (4 - (n + 1)) (by omega) _ g1 fun j hj => by unfold slot1; rw [hj]
    rw [es] at n0 n1
    iapply (wp_chunkRun K Q n _ _ _ n0 n1) $$ [H0 H1 H2 H3]
    · isplitl [H0]; · iexact H0
      isplitl [H1]; · iexact H1
      isplitl [H2]; · iexact H2
      iexact H3
    iexact Hk

end

end Cert.Proof.Dispatch

end
-- ==== Proof.DTile.lean ====
/-
  A tile's whole body: its rows, its choices and its run starts fetched, its slots computed, its rows scattered to the rows
  its slots name, its slots copied out.
-/
module

public import proofs.«01_k».proof.Proof.DScatter
public import proofs.«01_k».proof.Proof.DChunk

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- A tile's arrays, buffers and semaphores. -/
structure Mem where
  xH : Memref sig .scVector .hbm S2048x1024 .f32
  e0H : Memref sig .scVector .hbm S2048 .i32
  e1H : Memref sig .scVector .hbm S2048 .i32
  rH : Memref sig .scVector .hbm S32x16 .i32
  gH : Memref sig .scVector .hbm S7680x1024 .f32
  s0H : Memref sig .scVector .hbm S2048 .i32
  s1H : Memref sig .scVector .hbm S2048 .i32
  e0V : Memref sig .scVector .vmem S64 .i32
  e1V : Memref sig .scVector .vmem S64 .i32
  s0V : Memref sig .scVector .vmem S64 .i32
  s1V : Memref sig .scVector .vmem S64 .i32
  rV : Memref sig .scVector .vmem S16 .i32
  xV : Memref sig .scVector .vmem S64x1024 .f32
  he0 : e0V.IsWhole
  he1 : e1V.IsWhole
  hs0 : s0V.IsWhole
  hs1 : s1V.IsWhole
  hr : rV.IsWhole
  hx : xV.IsWhole
  semX : DmaSems sig S_
  semG0 : DmaSems sig S8
  semG1 : DmaSems sig S8
  sem0 : DmaSems sig S_
  sem1 : DmaSems sig S_
  sem2 : DmaSems sig S_
  sem3 : DmaSems sig S_
  sem4 : DmaSems sig S_
  credits : Credits gH xV

section

variable (i : grid0.Coords) (d : Dev nD) (M : Mem) (q : PosShare TreeShare)
  (fx : Buf (Elt F) (M.xH.view.loc (thr d i))) (fe0 : Buf (Elt F) (M.e0H.view.loc (thr d i))) (fe1 : Buf (Elt F) (M.e1H.view.loc (thr d i)))
  (fr : Buf (Elt F) (M.rH.view.loc (thr d i)))

/-- The tile's first choices, second choices, run starts and slots. -/
abbrev c0 : S64.Idx → BitVec 32 := (mineL i M.e0H).view.read (Elt F) fe0
abbrev c1 : S64.Idx → BitVec 32 := (mineL i M.e1H).view.read (Elt F) fe1
abbrev r0 : IVec S16 32 := (mineR i M.rH).view.read (Elt F) fr
abbrev sl0 : S64.Idx → BitVec 32 := slot0 (c0 i d M fe0) (c1 i d M fe1) (r0 i d M fr)
abbrev sl1 : S64.Idx → BitVec 32 := slot1 (c0 i d M fe0) (c1 i d M fe1) (r0 i d M fr)

/-- Slots name distinct rows, which hold the tile's rows. -/
structure Right (s : S64.Idx → BitVec 32) (G : Buf (Elt F) (M.gH.view.loc (thr d i))) : Prop where
  lt : ∀ j, (s j).toNat < 7680
  inj : Function.Injective fun j => (s j).toNat
  val : ∀ (x : S7680x1024.Idx) (j : S64.Idx), (s j).toNat = (x 0).val → M.gH.view.read (Elt F) G x = (mineX i M.xH).view.read (Elt F) fx (ix2 (j 0) (x 1))

/-- What a tile reads. -/
def Given : sProp 𝕄 :=
  iprop(((mineX i M.xH).view.loc (thr d i) ↦[(mineX i M.xH).view.set]{q} fx)
    ∗ ((mineL i M.e0H).view.loc (thr d i) ↦[(mineL i M.e0H).view.set]{q} fe0)
    ∗ ((mineL i M.e1H).view.loc (thr d i) ↦[(mineL i M.e1H).view.set]{q} fe1)
    ∗ ((mineR i M.rH).view.loc (thr d i) ↦[(mineR i M.rH).view.set]{q} fr))

/-- A buffer at any contents. -/
abbrev anyV {s : Shape} {e : EltTy} (b : Memref sig .scVector .vmem s e) : sProp 𝕄 :=
  iprop(∃ f : Buf (Elt F) (b.view.loc (thr d i)), b.view.loc (thr d i) ↦[b.view.set]{fullShare} f)

def BufsV : sProp 𝕄 :=
  iprop(anyV (F := F) i d M.e0V ∗ anyV (F := F) i d M.e1V ∗ anyV (F := F) i d M.s0V ∗ anyV (F := F) i d M.s1V ∗ anyV (F := F) i d M.rV ∗ anyV (F := F) i d M.xV)
def SemsV : sProp 𝕄 :=
  iprop(semVal (thr d i, SemLoc.dma M.semX.sem) 0 ∗ semsFrom (F := F) i d M.semG0 8 le_rfl ∗ semsFrom (F := F) i d M.semG1 8 le_rfl
    ∗ semVal (thr d i, SemLoc.dma M.sem0.sem) 0 ∗ semVal (thr d i, SemLoc.dma M.sem1.sem) 0 ∗ semVal (thr d i, SemLoc.dma M.sem2.sem) 0
    ∗ semVal (thr d i, SemLoc.dma M.sem3.sem) 0 ∗ semVal (thr d i, SemLoc.dma M.sem4.sem) 0)

/-- The tile's part of a list of slots, at contents that read as wanted. -/
def SlotsH (sH : Memref sig .scVector .hbm S2048 .i32) (s : S64.Idx → BitVec 32) : sProp 𝕄 :=
  iprop(∃ f : Buf (Elt F) ((mineL i sH).view.loc (thr d i)), ⌜∀ j, (mineL i sH).view.read (Elt F) f j = s j⌝
    ∗ ((mineL i sH).view.loc (thr d i) ↦[(mineL i sH).view.set]{fullShare} f))
abbrev anyH (sH : Memref sig .scVector .hbm S2048 .i32) : sProp 𝕄 :=
  iprop(∃ f : Buf (Elt F) ((mineL i sH).view.loc (thr d i)), (mineL i sH).view.loc (thr d i) ↦[(mineL i sH).view.set]{fullShare} f)

/-- The rows the tile's slots name. -/
def Hits (s : S64.Idx → BitVec 32) (G : Buf (Elt F) (M.gH.view.loc (thr d i))) : sProp 𝕄 :=
  iprop(M.gH.view.loc (thr d i) ↦[M.gH.view.setOn (hitFrom s 8)]{fullShare} G)

/-- What scatters need of their list's and rows' shares. -/
theorem right_list {s : S64.Idx → BitVec 32} {G : Buf (Elt F) (M.gH.view.loc (thr d i))} (h : Right i d M fx s G)
    (sV : Memref sig .scVector .vmem S64 .i32) (f : Buf (Elt F) (sV.view.loc (thr d i))) (hf : ∀ j, sV.view.read (Elt F) f j = s j) : ListOK (F := F) i d sV f where
  lt := fun j => (congrArg BitVec.toNat (hf j)).trans_lt (h.lt j)
  inj := by rw [show (fun j => (sV.view.read (Elt F) f j).toNat) = fun j => (s j).toNat from funext fun j => congrArg BitVec.toNat (hf j)]; exact h.inj

theorem right_wanted {s : S64.Idx → BitVec 32} {G : Buf (Elt F) (M.gH.view.loc (thr d i))} (h : Right i d M fx s G)
    (sV : Memref sig .scVector .vmem S64 .i32) (f : Buf (Elt F) (sV.view.loc (thr d i))) (hf : ∀ j, sV.view.read (Elt F) f j = s j)
    (fX : Buf (Elt F) (M.xV.view.loc (thr d i))) (hX : ∀ j, M.xV.view.read (Elt F) fX j = (mineX i M.xH).view.read (Elt F) fx j) :
    Wanted i d M.gH sV M.xV f fX G := fun x j hj => (h.val x j ((congrArg BitVec.toNat (hf j)).symm.trans hj)).trans (hX _).symm

/-- The scatters and the copies out of the slots. -/
theorem wp_afterRows (s t : S64.Idx → BitVec 32) (G : Buf (Elt F) (M.gH.view.loc (thr d i))) (hs : Right i d M fx s G) (ht : Right i d M fx t G)
    (g : Buf (Elt F) (M.gH.view.loc (thr d i))) (fX : Buf (Elt F) (M.xV.view.loc (thr d i)))
    (hX : ∀ j, M.xV.view.read (Elt F) fX j = (mineX i M.xH).view.read (Elt F) fx j)
    (hN0 : 0 < (mineL i M.s0H).view.dmaCredit) (hN1 : 0 < (mineL i M.s1H).view.dmaCredit)
    (O : CellTallies nD τ sig (HIx 1)) (W : Waits sig (HIx 1)) (Q : PUnit → sProp 𝕄) :
    iprop(Transfers.MayWaits (thr d i) (none : HIx 1) O
        ∗ (M.xV.view.loc (thr d i) ↦[M.xV.view.set]{fullShare} fX)
        ∗ (Slots (F := F) i d M.s0V s ∗ Slots (F := F) i d M.s1V t)
        ∗ (Hits i d M s g ∗ Hits i d M t g) ∗ (anyH (F := F) i d M.s0H ∗ anyH (F := F) i d M.s1H)
        ∗ (semsFrom (F := F) i d M.semG0 8 le_rfl ∗ semsFrom (F := F) i d M.semG1 8 le_rfl
          ∗ semVal (thr d i, SemLoc.dma M.sem3.sem) 0 ∗ semVal (thr d i, SemLoc.dma M.sem4.sem) 0)
        ∗ OW (F := F) i d O W)
      ⊢ iprop((iprop((M.xV.view.loc (thr d i) ↦[M.xV.view.set]{fullShare} fX)
          ∗ (Slots (F := F) i d M.s0V s ∗ Slots (F := F) i d M.s1V t)
          ∗ (Hits i d M s G ∗ Hits i d M t G) ∗ (SlotsH (F := F) i d M.s0H s ∗ SlotsH (F := F) i d M.s1H t)
          ∗ (semsFrom (F := F) i d M.semG0 8 le_rfl ∗ semsFrom (F := F) i d M.semG1 8 le_rfl
            ∗ semVal (thr d i, SemLoc.dma M.sem3.sem) 0 ∗ semVal (thr d i, SemLoc.dma M.sem4.sem) 0)
          ∗ OW (F := F) i d O W) -∗ Q ⟨⟩)
        -∗ wpT d i (afterRows i M.gH M.s0H M.s1H M.s0V M.hs0 M.s1V M.hs1 M.xV M.semG0 M.semG1 M.sem3 M.sem4) Q) := by
  unfold Slots
  iintro ⟨#Hmw, HX, ⟨⟨%f0, %hf0, HS0⟩, %f1, %hf1, HS1⟩, ⟨Hg0, Hg1⟩, ⟨⟨%o0, Ho0⟩, %o1, Ho1⟩, ⟨HG0, HG1, Hv3, Hv4⟩, HO⟩ HQ
  have l0 := right_list i d M fx hs M.s0V f0 hf0
  have l1 := right_list i d M fx ht M.s1V f1 hf1
  have w0 := right_wanted i d M fx hs M.s0V f0 hf0 fX hX
  have w1 := right_wanted i d M fx ht M.s1V f1 hf1 fX hX
  have e0 : M.s0V.view.read (Elt F) f0 = s := funext hf0
  have e1 : M.s1V.view.read (Elt F) f1 = t := funext hf1
  ihave HX := (pointsTo_share (PosShare.mem_left_op_right fullShare)).1 $$ HX
  icases HX with ⟨HXl, HXr⟩
  ihave HS0 := (pointsTo_share (PosShare.mem_left_op_right fullShare)).1 $$ HS0
  icases HS0 with ⟨HS0l, HS0r⟩
  ihave HS1 := (pointsTo_share (PosShare.mem_left_op_right fullShare)).1 $$ HS1
  icases HS1 with ⟨HS1l, HS1r⟩
  unfold afterRows Hits
  iapply (wp_issueRun i d M.gH M.s0V M.xV M.semG0 fullShare.left fullShare.left f0 fX G l0 w0 M.credits _ Q g 8 le_rfl) $$ [HXl HS0l HG0 Hg0]
  · unfold Idle
    rw [lsh_eight, e0]
    isplitr [Hg0]
    · isplitl [HS0l]; · iexact HS0l
      isplitl [HXl]; · iexact HXl
      iexact HG0
    iexact Hg0
  iintro Hf0
  iapply (wp_issueRun i d M.gH M.s1V M.xV M.semG1 fullShare.left fullShare.right f1 fX G l1 w1 M.credits _ Q g 8 le_rfl) $$ [HXr HS1l HG1 Hg1]
  · unfold Idle
    rw [lsh_eight, lsh_eight, e1]
    isplitr [Hg1]
    · isplitl [HS1l]; · iexact HS1l
      isplitl [HXr]; · iexact HXr
      iexact HG1
    iexact Hg1
  iintro Hf1
  unfold sendL
  iapply (wp_copy i d M.s0V (mineL i M.s0H) M.sem3.sem fullShare.right f0 o0 hN0 O W _ Q) $$ [HS0r Ho0 Hv3 HO]
  · isplitr; · iexact Hmw
    isplitl [HS0r]; · iexact HS0r
    isplitl [Ho0]; · iexact Ho0
    isplitl [Hv3]; · iexact Hv3
    iexact HO
  iintro ⟨⟨Ho0, HS0r⟩, Hv3, HO⟩
  iapply (wp_copy i d M.s1V (mineL i M.s1H) M.sem4.sem fullShare.right f1 o1 hN1 O W _ Q) $$ [HS1r Ho1 Hv4 HO]
  · isplitr; · iexact Hmw
    isplitl [HS1r]; · iexact HS1r
    isplitl [Ho1]; · iexact Ho1
    isplitl [Hv4]; · iexact Hv4
    iexact HO
  iintro ⟨⟨Ho1, HS1r⟩, Hv4, HO⟩
  have z : ∀ s : S64.Idx → BitVec 32, (iprop(emp) : sProp 𝕄) ⊢ (M.gH.view.loc (thr d i) ↦[M.gH.view.setOn (hitFrom s 0)]{fullShare} G) := fun s => by
    rw [show (M.gH.view.setOn (hitFrom s 0) : Finset (Idx (M.gH.view.loc (thr d i)))) = ∅ from congrArg M.gH.view.setOn (hitFrom_zero s), pointsTo_empty]
  iapply (wp_waitRun i d M.gH M.s0V M.xV M.semG0 fullShare.left fullShare.left f0 fX G O W _ Q 8 le_rfl) $$ [Hf0 HO]
  · isplitr; · iexact Hmw
    isplitl [Hf0]; · iexact Hf0
    isplitr
    · iapply (z _); iempintro
    iexact HO
  iintro ⟨HI0, Hg0, HO⟩
  iapply (wp_waitRun i d M.gH M.s1V M.xV M.semG1 fullShare.left fullShare.right f1 fX G O W _ Q 8 le_rfl) $$ [Hf1 HO]
  · isplitr; · iexact Hmw
    isplitl [Hf1]; · iexact Hf1
    isplitr
    · iapply (z _); iempintro
    iexact HO
  iintro ⟨HI1, Hg1, HO⟩
  unfold wpT; rw [wp_pure]; imodintro
  iapply HQ
  unfold Idle
  rw [lsh_eight, lsh_eight, e0, e1]
  icases HI0 with ⟨HS0l, HXl, HG0⟩
  icases HI1 with ⟨HS1l, HXr, HG1⟩
  isplitl [HXl HXr]
  · iapply (pointsTo_share (PosShare.mem_left_op_right fullShare)).2
    isplitl [HXl]; · iexact HXl
    iexact HXr
  isplitl [HS0l HS0r HS1l HS1r]
  · isplitl [HS0l HS0r]
    · iexists f0
      isplitr
      · ipureintro; exact hf0
      iapply (pointsTo_share (PosShare.mem_left_op_right fullShare)).2
      isplitl [HS0l]; · iexact HS0l
      iexact HS0r
    · iexists f1
      isplitr
      · ipureintro; exact hf1
      iapply (pointsTo_share (PosShare.mem_left_op_right fullShare)).2
      isplitl [HS1l]; · iexact HS1l
      iexact HS1r
  isplitl [Hg0 Hg1]
  · isplitl [Hg0]; · iexact Hg0
    iexact Hg1
  isplitl [Ho0 Ho1]
  · unfold SlotsH
    isplitl [Ho0]
    · iexists _
      isplitr
      swap; · iexact Ho0
      ipureintro; intro j; exact congrFun (View.read_write_univ _ _) j
    · iexists _
      isplitr
      swap; · iexact Ho1
      ipureintro; intro j; exact congrFun (View.read_write_univ _ _) j
  isplitl [HG0 HG1 Hv3 Hv4]
  · isplitl [HG0]; · iexact HG0
    isplitl [HG1]; · iexact HG1
    isplitl [Hv3]; · iexact Hv3
    iexact Hv4
  iexact HO

/-- Every copy moves something. -/
structure Moves : Prop where
  x : 0 < M.xV.view.dmaCredit
  e0 : 0 < M.e0V.view.dmaCredit
  e1 : 0 < M.e1V.view.dmaCredit
  r : 0 < M.rV.view.dmaCredit
  s0 : 0 < (mineL i M.s0H).view.dmaCredit
  s1 : 0 < (mineL i M.s1H).view.dmaCredit

/-- A tile's body. -/
theorem wp_body (hm : Moves i M) (G : Buf (Elt F) (M.gH.view.loc (thr d i)))
    (hs : Right i d M fx (sl0 i d M fe0 fe1 fr) G) (ht : Right i d M fx (sl1 i d M fe0 fe1 fr) G)
    (g : Buf (Elt F) (M.gH.view.loc (thr d i))) (O : CellTallies nD τ sig (HIx 1)) (W : Waits sig (HIx 1)) (Q : PUnit → sProp 𝕄) :
    iprop(Transfers.MayWaits (thr d i) (none : HIx 1) O ∗ Given i d M q fx fe0 fe1 fr
        ∗ (Hits i d M (sl0 i d M fe0 fe1 fr) g ∗ Hits i d M (sl1 i d M fe0 fe1 fr) g)
        ∗ (anyH (F := F) i d M.s0H ∗ anyH (F := F) i d M.s1H) ∗ BufsV (F := F) i d M ∗ SemsV (F := F) i d M ∗ OW (F := F) i d O W)
      ⊢ iprop((iprop(Given i d M q fx fe0 fe1 fr
          ∗ (Hits i d M (sl0 i d M fe0 fe1 fr) G ∗ Hits i d M (sl1 i d M fe0 fe1 fr) G)
          ∗ (SlotsH (F := F) i d M.s0H (sl0 i d M fe0 fe1 fr) ∗ SlotsH (F := F) i d M.s1H (sl1 i d M fe0 fe1 fr))
          ∗ BufsV (F := F) i d M ∗ SemsV (F := F) i d M ∗ OW (F := F) i d O W) -∗ Q ⟨⟩)
        -∗ wpT d i (body i M.xH M.e0H M.e1H M.rH M.gH M.s0H M.s1H M.e0V M.he0 M.e1V M.he1 M.s0V M.hs0 M.s1V M.hs1 M.rV M.hr M.xV M.hx
          M.semX M.semG0 M.semG1 M.sem0 M.sem1 M.sem2 M.sem3 M.sem4) Q) := by
  unfold Given BufsV SemsV
  iintro ⟨#Hmw, ⟨Hx, He0, He1, Hr⟩, Hg, Ho, ⟨⟨%b0, Hb0⟩, ⟨%b1, Hb1⟩, ⟨%b2, Hb2⟩, ⟨%b3, Hb3⟩, ⟨%b4, Hb4⟩, ⟨%b5, Hb5⟩⟩,
    ⟨Hvx, HG0, HG1, Hv0, Hv1, Hv2, Hv3, Hv4⟩, HO⟩ HQ
  unfold body
  iapply (wp_depart i d (mineX i M.xH) M.xV M.semX.sem q fx b5 hm.x _ Q) $$ [Hx Hb5 Hvx]
  · isplitl [Hx]; · iexact Hx
    isplitl [Hb5]; · iexact Hb5
    iexact Hvx
  iintro Hflx
  unfold fetchL fetchR
  iapply (wp_copy i d (mineL i M.e0H) M.e0V M.sem0.sem q fe0 b0 hm.e0 O W _ Q) $$ [He0 Hb0 Hv0 HO]
  · isplitr; · iexact Hmw
    isplitl [He0]; · iexact He0
    isplitl [Hb0]; · iexact Hb0
    isplitl [Hv0]; · iexact Hv0
    iexact HO
  iintro ⟨⟨Hb0, He0⟩, Hv0, HO⟩
  iapply (wp_copy i d (mineL i M.e1H) M.e1V M.sem1.sem q fe1 b1 hm.e1 O W _ Q) $$ [He1 Hb1 Hv1 HO]
  · isplitr; · iexact Hmw
    isplitl [He1]; · iexact He1
    isplitl [Hb1]; · iexact Hb1
    isplitl [Hv1]; · iexact Hv1
    iexact HO
  iintro ⟨⟨Hb1, He1⟩, Hv1, HO⟩
  iapply (wp_copy i d (mineR i M.rH) M.rV M.sem2.sem q fr b4 hm.r O W _ Q) $$ [Hr Hb4 Hv2 HO]
  · isplitr; · iexact Hmw
    isplitl [Hr]; · iexact Hr
    isplitl [Hb4]; · iexact Hb4
    isplitl [Hv2]; · iexact Hv2
    iexact HO
  iintro ⟨⟨Hb4, Hr⟩, Hv2, HO⟩
  iapply (wp_load_rect 𝒱₀ (thr d i) none Set.univ (m := M.rV) (r := Rect.unit (s := S16) ![0] S16.size Gen.inb_S16_S16_0)
    (View.set_slice_subset _ _)) $$ Hb4
  iintro Hb4
  have er : ((M.rV.access (Rect.unit (s := S16) ![0] S16.size Gen.inb_S16_S16_0)).read (Elt F)
      (M.rV.view.write (Elt F) b4 ((mineR i M.rH).view.read (Elt F) fr) Finset.univ) : IVec S16 32) = runs (c0 i d M fe0) (c1 i d M fe1) (r0 i d M fr) (4 - 4) := by
    funext l
    refine (congrFun (View.read_write_univ (v := M.rV.view) b4 _) ((Rect.unit (s := S16) ![0] S16.size Gen.inb_S16_S16_0).emb l)).trans ?_
    show (mineR i M.rH).view.read (Elt F) fr _ = (mineR i M.rH).view.read (Elt F) fr l
    refine congrArg _ (funext fun a => Fin.ext ?_)
    fin_cases a
    show 0 + 1 * (l 0).val = (l 0).val
    omega
  rw [er]
  iapply (wp_chunkRun i d M.e0V M.e1V M.s0V M.s1V _ _ (c0 i d M fe0) (c1 i d M fe1) (r0 i d M fr)
    (fun j => congrFun (View.read_write_univ (v := M.e0V.view) b0 _) j) (fun j => congrFun (View.read_write_univ (v := M.e1V.view) b1 _) j)
    _ Q 4 le_rfl b2 b3 (fun j h => absurd h (Nat.not_lt_zero _)) (fun j h => absurd h (Nat.not_lt_zero _))) $$ [Hb0 Hb1 Hb2 Hb3]
  · isplitl [Hb0]; · iexact Hb0
    isplitl [Hb1]; · iexact Hb1
    isplitl [Hb2]; · iexact Hb2
    iexact Hb3
  iintro ⟨Hb0, Hb1, Hb2, Hb3⟩
  iapply (wp_arrive i d (mineX i M.xH) M.xV M.semX.sem O W _ _ Q) $$ [Hflx HO]
  · isplitr; · iexact Hmw
    isplitl [Hflx]; · iexact Hflx
    iexact HO
  iintro ⟨⟨Hb5, Hx⟩, Hvx, HO⟩
  iapply (wp_afterRows i d M fx _ _ G hs ht g _ (fun j => congrFun (View.read_write_univ (v := M.xV.view) b5 _) j) hm.s0 hm.s1 O W Q)
    $$ [Hb5 Hb2 Hb3 Hg Ho HG0 HG1 Hv3 Hv4 HO]
  · isplitr; · iexact Hmw
    isplitl [Hb5]; · iexact Hb5
    isplitl [Hb2 Hb3]
    · isplitl [Hb2]; · iexact Hb2
      iexact Hb3
    isplitl [Hg]; · iexact Hg
    isplitl [Ho]; · iexact Ho
    isplitl [HG0 HG1 Hv3 Hv4]
    · isplitl [HG0]; · iexact HG0
      isplitl [HG1]; · iexact HG1
      isplitl [Hv3]; · iexact Hv3
      iexact Hv4
    iexact HO
  unfold Slots
  iintro ⟨Hb5, ⟨⟨%f2, -, Hb2⟩, %f3, -, Hb3⟩, Hg, Ho, ⟨HG0, HG1, Hv3, Hv4⟩, HO⟩
  iapply HQ
  isplitl [Hx He0 He1 Hr]
  · isplitl [Hx]; · iexact Hx
    isplitl [He0]; · iexact He0
    isplitl [He1]; · iexact He1
    iexact Hr
  isplitl [Hg]; · iexact Hg
  isplitl [Ho]; · iexact Ho
  isplitl [Hb0 Hb1 Hb2 Hb3 Hb4 Hb5]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    iexists _; iexact Hb5
  isplitl [Hvx HG0 HG1 Hv0 Hv1 Hv2 Hv3 Hv4]
  · isplitl [Hvx]; · iexact Hvx
    isplitl [HG0]; · iexact HG0
    isplitl [HG1]; · iexact HG1
    isplitl [Hv0]; · iexact Hv0
    isplitl [Hv1]; · iexact Hv1
    isplitl [Hv2]; · iexact Hv2
    isplitl [Hv3]; · iexact Hv3
    iexact Hv4
  iexact HO

end

end Cert.Proof.Dispatch

end
-- ==== Proof.DParts.lean ====
/-
  A tile's own semaphores and buffers, and the arrays, buffers and semaphores of this program.
-/
module

public import proofs.«01_k».proof.Proof.DTile

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The tile's semaphores -/

/-- The kinds of a tile's transfer cells: the fetch of rows, eight for each list's scatters, one for each copy of a list. -/
abbrev CellIx : Type := Fin 1 ⊕ Fin 8 ⊕ Fin 8 ⊕ Fin 5

def cell : CellIx → DmaSem sig
  | .inl _ => cc0_scratch6.sem
  | .inr (.inl k) => semK cc0_scratch7 k.val k.isLt
  | .inr (.inr (.inl k)) => semK cc0_scratch8 k.val k.isLt
  | .inr (.inr (.inr k)) => (![cc0_scoped0.sem, cc0_scoped1.sem, cc0_scoped2.sem, cc0_scoped3.sem, cc0_scoped4.sem] : Fin 5 → DmaSem sig) k

theorem cell_inj : Function.Injective cell := by decide

/-- A list's eight cells as one family. -/
theorem semsFrom_eight (i : grid0.Coords) (d : Dev nD) (sem : DmaSems sig S8) :
    (bigSep Finset.univ fun k : Fin 8 => semVal (thr d i, SemLoc.dma (semK sem k.val k.isLt)) 0 : sProp 𝕄) = semsFrom (F := F) i d sem 8 le_rfl := by
  rw [Idealize.ShloMosaic.bigSep_univ_succ, Idealize.ShloMosaic.bigSep_univ_succ, Idealize.ShloMosaic.bigSep_univ_succ, Idealize.ShloMosaic.bigSep_univ_succ,
    Idealize.ShloMosaic.bigSep_univ_succ, Idealize.ShloMosaic.bigSep_univ_succ, Idealize.ShloMosaic.bigSep_univ_succ, Idealize.ShloMosaic.bigSep_univ_succ]
  rfl

/-- The cells as cells of the machine. -/
def cellE (i : grid0.Coords) (d : Dev nD) : CellIx ↪ GSem nD τ sig :=
  ⟨fun k => (thr d i, .dma (cell k)), fun _ _ h => cell_inj (SemLoc.dma.inj (Prod.mk.inj h).2)⟩

/-- The tile's own semaphores beside those its body uses. -/
def restSems (i : grid0.Coords) (d : Dev nD) : sProp 𝕄 :=
  bigSep (ownCells (thr d i) \ Finset.univ.map (cellE i d)) fun g => semVal g 0

/-- Every copy's credit is its source's. -/
theorem credits : Credits (Memref.whole main_v0_0_scv) (Memref.whole cc0_scratch5) := by
  intro k hk r
  exact SparseCore.sum_scatterCredit_eq_srcCredit (V (nD := nD) (τ := τ) 0 0 0) (srcM (Memref.whole cc0_scratch5) k hk) (dstM (Memref.whole main_v0_0_scv) k hk) _ rfl r (fun _ => rfl) (fun _ => rfl)

/-- The arrays, buffers and semaphores of this program. -/
@[reducible] def prog : Mem where
  xH := Memref.whole main_arg0_scv
  e0H := Memref.whole main_arg1_scv
  e1H := Memref.whole main_arg2_scv
  rH := Memref.whole main_arg3_scv
  gH := Memref.whole main_v0_0_scv
  s0H := Memref.whole main_v0_1_scv
  s1H := Memref.whole main_v0_2_scv
  e0V := Memref.whole cc0_scratch0
  e1V := Memref.whole cc0_scratch1
  s0V := Memref.whole cc0_scratch2
  s1V := Memref.whole cc0_scratch3
  rV := Memref.whole cc0_scratch4
  xV := Memref.whole cc0_scratch5
  he0 := Memref.isWhole_whole _
  he1 := Memref.isWhole_whole _
  hs0 := Memref.isWhole_whole _
  hs1 := Memref.isWhole_whole _
  hr := Memref.isWhole_whole _
  hx := Memref.isWhole_whole _
  semX := cc0_scratch6
  semG0 := cc0_scratch7
  semG1 := cc0_scratch8
  sem0 := cc0_scoped0
  sem1 := cc0_scoped1
  sem2 := cc0_scoped2
  sem3 := cc0_scoped3
  sem4 := cc0_scoped4
  credits := credits

theorem moves (i : grid0.Coords) : Moves i prog where
  x := by decide
  e0 := by decide
  e1 := by decide
  r := by decide
  s0 := (by decide : 0 < sig.dmaCredit .scVector (Kind.scVector.table .hbm) main_v0_1_scv.idx S64 .i32)
  s1 := (by decide : 0 < sig.dmaCredit .scVector (Kind.scVector.table .hbm) main_v0_2_scv.idx S64 .i32)

theorem ownSems_eq (i : grid0.Coords) (d : Dev nD) : (ownSems0 (thr d i) : sProp 𝕄) = iprop(SemsV (F := F) i d prog ∗ restSems i d) := by
  unfold SparseCore.Cfg.ownSems0 restSems SemsV
  have hsub : Finset.univ.map (cellE i d) ⊆ ownCells (thr d i) := by
    intro g hg
    obtain ⟨k, -, rfl⟩ := Finset.mem_map.1 hg
    refine mem_ownCells.2 ⟨rfl, ?_⟩
    show (SemLoc.dma (cell k) : SemLoc sig).isScoped .scVector = true
    exact (by decide : ∀ k, (SemLoc.dma (cell k) : SemLoc sig).isScoped .scVector = true) k
  rw [BI.bigSep_sdiff_split hsub, BI.bigSep_map, BI.bigSep_univ_sum, BI.bigSep_univ_sum, BI.bigSep_univ_sum, ← semsFrom_eight, ← semsFrom_eight,
    BI.bigSep_univ_of_subsingleton (0 : Fin 1), Idealize.ShloMosaic.bigSep_univ_succ (m := 4), Idealize.ShloMosaic.bigSep_univ_succ (m := 3),
    Idealize.ShloMosaic.bigSep_univ_succ (m := 2), Idealize.ShloMosaic.bigSep_univ_succ (m := 1), BI.bigSep_univ_of_subsingleton (0 : Fin 1)]
  rfl

/-! ## The tile's buffers -/

/-- The tile's buffers: two lists of choices, two of slots, the run starts, the rows. -/
def buf : Fin 6 → Ref sig .scVector := ![cc0_scratch0, cc0_scratch1, cc0_scratch2, cc0_scratch3, cc0_scratch4, cc0_scratch5]

theorem buf_inj : Function.Injective buf := by decide

def bufE (i : grid0.Coords) (d : Dev nD) : Fin 6 ↪ DevRef τ sig :=
  ⟨fun k => (thr d i).2.devRef (buf k), fun _ _ h => buf_inj (Proc.devRef_injective _ h)⟩

/-- The tile's own buffers beside those its body uses. -/
def restBufs (i : grid0.Coords) (d : Dev nD) : sProp 𝕄 :=
  bigSep (ownRefs (thr d i).2 \ Finset.univ.map (bufE i d)) fun b => iprop(∃ f, ((d, b) : Loc nD τ sig) ↦{fullShare} f)

/-- A tile's buffer at any contents. -/
abbrev anyBuf (i : grid0.Coords) (d : Dev nD) (r : Ref sig .scVector) : sProp 𝕄 := iprop(∃ f, (thr d i).loc r ↦{fullShare} f)

/-- A whole buffer's part is the buffer. -/
theorem anyV_whole (i : grid0.Coords) (d : Dev nD) {s : Shape} {e : EltTy} (b : Memref sig .scVector .vmem s e) (hb : b.view.set = Finset.univ) :
    (anyV (F := F) i d b : sProp 𝕄) = iprop(∃ f : Buf (Elt F) (b.view.loc (thr d i)), b.view.loc (thr d i) ↦{fullShare} f) := by
  unfold anyV
  rw [hb]

theorem bufsV_eq (i : grid0.Coords) (d : Dev nD) : (BufsV (F := F) i d prog : sProp 𝕄)
    = iprop(anyBuf i d cc0_scratch0 ∗ anyBuf i d cc0_scratch1 ∗ anyBuf i d cc0_scratch2 ∗ anyBuf i d cc0_scratch3 ∗ anyBuf i d cc0_scratch4
          ∗ anyBuf i d cc0_scratch5) := by
  unfold BufsV
  rw [anyV_whole i d prog.e0V (View.set_whole _), anyV_whole i d prog.e1V (View.set_whole _), anyV_whole i d prog.s0V (View.set_whole _),
    anyV_whole i d prog.s1V (View.set_whole _), anyV_whole i d prog.rV (View.set_whole _), anyV_whole i d prog.xV (View.set_whole _)]

theorem ownBufs_eq (i : grid0.Coords) (d : Dev nD) : (ownBufs (thr d i) : sProp 𝕄) = iprop(BufsV (F := F) i d prog ∗ restBufs i d) := by
  rw [bufsV_eq]
  unfold SparseCore.Cfg.ownBufs restBufs
  have hsub : Finset.univ.map (bufE i d) ⊆ ownRefs (thr d i).2 := by
    intro g hg
    obtain ⟨k, -, rfl⟩ := Finset.mem_map.1 hg
    refine SparseCore.Cfg.mem_ownRefs_of_owner ?_
    fin_cases k <;> rfl
  rw [BI.bigSep_sdiff_split hsub, BI.bigSep_map, Idealize.ShloMosaic.bigSep_univ_succ, Idealize.ShloMosaic.bigSep_univ_succ, Idealize.ShloMosaic.bigSep_univ_succ,
    Idealize.ShloMosaic.bigSep_univ_succ, Idealize.ShloMosaic.bigSep_univ_succ, BI.bigSep_univ_of_subsingleton (0 : Fin 1)]
  rfl

end Cert.Proof.Dispatch

end
-- ==== Proof.DTask.lean ====
/-
  One tile of the dispatch launch: from its share of the arguments and the rows its slots name to the same with those rows
  holding its rows of the table and its slots written out.
-/
module

public import proofs.«01_k».proof.Proof.DParts

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The arguments and the results -/

abbrev xLoc (d : Dev nD) : Loc nD τ sig := (SparseCore.T d).loc main_arg0
abbrev e0Loc (d : Dev nD) : Loc nD τ sig := (SparseCore.T d).loc main_arg1
abbrev e1Loc (d : Dev nD) : Loc nD τ sig := (SparseCore.T d).loc main_arg2
abbrev rLoc (d : Dev nD) : Loc nD τ sig := (SparseCore.T d).loc main_arg3
abbrev gLoc (d : Dev nD) : Loc nD τ sig := (SparseCore.T d).loc main_v0_0
abbrev s0Loc (d : Dev nD) : Loc nD τ sig := (SparseCore.T d).loc main_v0_1
abbrev s1Loc (d : Dev nD) : Loc nD τ sig := (SparseCore.T d).loc main_v0_2

/-- The grid point of a core's tile. -/
def gp (c : Fin (grid0.bound 0)) (s : Fin (grid0.bound 1)) : grid0.Coords :=
  fun | 0 => c | 1 => s | ⟨_ + 2, h⟩ => absurd h (Nat.not_lt.2 (Nat.le_add_left _ _))

theorem i0_lt (i : grid0.Coords) : (i 0).val < 2 := (i 0).isLt
theorem i1_lt (i : grid0.Coords) : (i 1).val < 16 := (i 1).isLt

theorem grid_ext {i i' : grid0.Coords} (h0 : (i 0).val = (i' 0).val) (h1 : (i 1).val = (i' 1).val) : i = i' := by
  funext a
  fin_cases a
  · exact Fin.ext h0
  · exact Fin.ext h1

/-- The row of the whole that is a tile's row `j`. -/
def tok (i : grid0.Coords) (j : S64.Idx) : Fin 2048 :=
  ⟨128 * (i 1).val + 64 * (i 0).val + (j 0).val, by have := i0_lt i; have := i1_lt i; have : (j 0).val < 64 := (j 0).isLt; omega⟩
/-- The tile of a row, and its place there. -/
def tileAt (t : Fin 2048) : grid0.Coords := gp ⟨t.val / 64 % 2, by show _ < 2; omega⟩ ⟨t.val / 128, by have := t.isLt; show _ < 16; omega⟩
def wordAt (t : Fin 2048) : S64.Idx := ix1 (⟨t.val % 64, Nat.mod_lt _ (by decide)⟩ : Fin 64)

theorem tileAt_tok (i : grid0.Coords) (j : S64.Idx) : tileAt (tok i j) = i := by
  have := i0_lt i
  have := i1_lt i
  have : (j 0).val < 64 := (j 0).isLt
  refine grid_ext ?_ ?_
  · show (128 * (i 1).val + 64 * (i 0).val + (j 0).val) / 64 % 2 = _; omega
  · show (128 * (i 1).val + 64 * (i 0).val + (j 0).val) / 128 = _; omega
theorem wordAt_tok (i : grid0.Coords) (j : S64.Idx) : wordAt (tok i j) = j := by
  have : (j 0).val < 64 := (j 0).isLt
  funext a
  fin_cases a
  refine Fin.ext ?_
  show (128 * (i 1).val + 64 * (i 0).val + (j 0).val) % 64 = (j 0).val
  omega
theorem tok_at (t : Fin 2048) : tok (tileAt t) (wordAt t) = t := by
  refine Fin.ext ?_
  show 128 * (t.val / 128) + 64 * (t.val / 64 % 2) + t.val % 64 = t.val
  omega

section

variable (m : (ℓ : Loc nD τ sig) → Buf (Elt F) ℓ) (d : Dev nD)

/-- A tile's slots: of its first choices, of its second ones. -/
def sT (l : Bool) (i : grid0.Coords) : S64.Idx → BitVec 32 :=
  match l with
  | false => sl0 i d prog (m (e0Loc d)) (m (e1Loc d)) (m (rLoc d))
  | true => sl1 i d prog (m (e0Loc d)) (m (e1Loc d)) (m (rLoc d))

/-- All slots name rows of the sorted array, each another one. -/
structure SlotsOK : Prop where
  lt : ∀ d l i j, (sT m d l i j).toNat < 7680
  inj : ∀ d l i j l' i' j', (sT m d l i j).toNat = (sT m d l' i' j').toNat → l = l' ∧ i = i' ∧ j = j'

/-- The sorted array: at a row a slot names, that choice's row of the table; elsewhere what was there. -/
def XG : Buf (Elt F) (gLoc d) :=
  open Classical in
  fun x : S7680x1024.Idx =>
    if h : ∃ p : Bool × grid0.Coords × S64.Idx, (sT m d p.1 p.2.1 p.2.2).toNat = (x 0).val then
      m (xLoc d) (ix2 (tok h.choose.2.1 h.choose.2.2) (x 1) : S2048x1024.Idx)
    else m (gLoc d) x
/-- The lists of slots. -/
def S0 : Buf (Elt F) (s0Loc d) := fun x : S2048.Idx => sT m d false (tileAt (x 0)) (wordAt (x 0))
def S1 : Buf (Elt F) (s1Loc d) := fun x : S2048.Idx => sT m d true (tileAt (x 0)) (wordAt (x 0))

variable {m} (ok : SlotsOK m) {l : Bool} {i : grid0.Coords}

include ok in
theorem XG_hit (x : S7680x1024.Idx) (j : S64.Idx) (h : (sT m d l i j).toNat = (x 0).val) : XG m d x = m (xLoc d) (ix2 (tok i j) (x 1) : S2048x1024.Idx) := by
  have hx : ∃ p : Bool × grid0.Coords × S64.Idx, (sT m d p.1 p.2.1 p.2.2).toNat = (x 0).val := ⟨(l, i, j), h⟩
  obtain ⟨-, h2, h3⟩ := ok.inj d _ _ _ _ _ _ (hx.choose_spec.trans h.symm)
  unfold XG
  rw [dif_pos hx, h2, h3]
theorem XG_miss (x : S7680x1024.Idx) (h : ∀ l i j, (sT m d l i j).toNat ≠ (x 0).val) : XG m d x = m (gLoc d) x := by
  unfold XG
  rw [dif_neg]
  rintro ⟨p, hp⟩
  exact h _ _ _ hp

theorem mineX_emb (i : grid0.Coords) (z : S64x1024.Idx) :
    (Rect.unit (s := S2048x1024) (k0_off1 i) S64x1024.size (Gen.k0_off1_inb i)).emb z = (ix2 (tok i (ix1 (z 0))) (z 1) : S2048x1024.Idx) := by
  have e := Gen.k0_off1_eq i
  funext a
  refine Fin.ext ?_
  rw [Rect.emb_apply]
  fin_cases a
  · show (k0_off1 i) 0 + 1 * (z 0).val = 128 * (i 1).val + 64 * (i 0).val + (z 0).val
    rw [e, Nat.one_mul]; rfl
  · show (k0_off1 i) 1 + 1 * (z 1).val = (z 1).val
    rw [e, Nat.one_mul]; exact Nat.zero_add _
theorem mineL_emb (i : grid0.Coords) (j : S64.Idx) :
    (Rect.unit (s := S2048) (k0_off2 i) S64.size (Gen.k0_off2_inb i)).emb j = (ix1 (tok i j) : S2048.Idx) := by
  have e := Gen.k0_off2_eq i
  funext a
  refine Fin.ext ?_
  rw [Rect.emb_apply]
  fin_cases a
  show (k0_off2 i) 0 + 1 * (j 0).val = 128 * (i 1).val + 64 * (i 0).val + (j 0).val
  rw [e, Nat.one_mul]; rfl

include ok in
theorem right (l : Bool) (i : grid0.Coords) : Right i d prog (m (xLoc d)) (sT m d l i) (XG m d) where
  lt := ok.lt d l i
  inj := fun a b h => (ok.inj d l i a l i b h).2.2
  val := fun x j h => by
    refine (XG_hit d ok x j h).trans ?_
    refine congrArg (m (xLoc d)) (Eq.symm ((mineX_emb i (ix2 (j 0) (x 1))).trans ?_))
    refine congrArg (fun t : Fin 2048 => (ix2 t (x 1) : S2048x1024.Idx)) (congrArg (tok i) ?_)
    funext a; fin_cases a; rfl

/-! ## A tile's rows and words -/

variable (m) in
/-- The rows of the sorted array that a tile's slots name. -/
def hitT (i : grid0.Coords) : Finset S7680x1024.Idx := hitFrom (sT m d false i) 8 ∪ hitFrom (sT m d true i) 8

theorem mem_hitT {x : S7680x1024.Idx} : x ∈ hitT m d i ↔ ∃ l j, (sT m d l i j).toNat = (x 0).val := by
  unfold hitT
  rw [Finset.mem_union, mem_hitFrom, mem_hitFrom]
  constructor
  · rintro (⟨⟨j, h⟩, -⟩ | ⟨⟨j, h⟩, -⟩)
    · exact ⟨false, j, h⟩
    · exact ⟨true, j, h⟩
  · rintro ⟨l, j, h⟩
    cases l
    · exact .inl ⟨⟨j, h⟩, by omega⟩
    · exact .inr ⟨⟨j, h⟩, by omega⟩

include ok in
theorem hits_disjoint (i : grid0.Coords) : Disjoint (hitFrom (sT m d false i) 8) (hitFrom (sT m d true i) 8) := by
  rw [Finset.disjoint_left]
  intro x
  rw [mem_hitFrom, mem_hitFrom]
  rintro ⟨⟨j, h⟩, -⟩ ⟨⟨j', h'⟩, -⟩
  exact Bool.noConfusion (ok.inj d _ _ _ _ _ _ (h.trans h'.symm)).1

/-- The words of a list that are a tile's. -/
def tileL (i : grid0.Coords) : Finset S2048.Idx :=
  Finset.univ.filter fun x => 128 * (i 1).val + 64 * (i 0).val ≤ (x 0).val ∧ (x 0).val < 128 * (i 1).val + 64 * (i 0).val + 64

theorem mem_tileL {x : S2048.Idx} : x ∈ tileL i ↔ ∃ j, (ix1 (tok i j) : S2048.Idx) = x := by
  simp only [tileL, Finset.mem_filter, Finset.mem_univ, true_and]
  constructor
  · rintro ⟨h1, h2⟩
    refine ⟨ix1 (⟨(x 0).val - (128 * (i 1).val + 64 * (i 0).val), by omega⟩ : Fin 64), ?_⟩
    funext a
    fin_cases a
    refine Fin.ext ?_
    show 128 * (i 1).val + 64 * (i 0).val + ((x 0).val - (128 * (i 1).val + 64 * (i 0).val)) = (x 0).val
    omega
  · rintro ⟨j, rfl⟩
    have : (j 0).val < 64 := (j 0).isLt
    show 128 * (i 1).val + 64 * (i 0).val ≤ 128 * (i 1).val + 64 * (i 0).val + (j 0).val ∧ _ + (j 0).val < _
    omega

theorem rect_set (i : grid0.Coords) : (Rect.unit (s := S2048) (k0_off2 i) S64.size (Gen.k0_off2_inb i)).set = tileL i := by
  ext x
  rw [mem_tileL, ← Rect.map_emb_univ, Finset.mem_map]
  constructor
  · rintro ⟨z, -, rfl⟩; exact ⟨z, (mineL_emb i z).symm⟩
  · rintro ⟨j, rfl⟩; exact ⟨j, Finset.mem_univ _, mineL_emb i j⟩

variable (i)

theorem pts_s0 (f : Buf (Elt F) (s0Loc d)) : (s0Loc d ↦[tileL i]{fullShare} f : sProp 𝕄)
    = ((mineL i prog.s0H).view.loc (thr d i) ↦[(mineL i prog.s0H).view.set]{fullShare} f) := by
  have e : ((mineL i prog.s0H).view.set : Finset (Idx (s0Loc d))) = tileL i := (View.set_slice_whole _ _).trans (rect_set i)
  exact congrArg (fun S : Finset (Idx (s0Loc d)) => (s0Loc d ↦[S]{fullShare} f : sProp 𝕄)) e.symm
theorem pts_s1 (f : Buf (Elt F) (s1Loc d)) : (s1Loc d ↦[tileL i]{fullShare} f : sProp 𝕄)
    = ((mineL i prog.s1H).view.loc (thr d i) ↦[(mineL i prog.s1H).view.set]{fullShare} f) := by
  have e : ((mineL i prog.s1H).view.set : Finset (Idx (s1Loc d))) = tileL i := (View.set_slice_whole _ _).trans (rect_set i)
  exact congrArg (fun S : Finset (Idx (s1Loc d)) => (s1Loc d ↦[S]{fullShare} f : sProp 𝕄)) e.symm

/-- A tile's slots, copied out, are the lists' words. -/
theorem slots_s0 : SlotsH (F := F) i d prog.s0H (sT m d false i) ⊢ (s0Loc d ↦[tileL i]{fullShare} S0 m d : sProp 𝕄) := by
  unfold SlotsH
  iintro ⟨%f, %hf, H⟩
  ihave H := (Entails.of_eq (pts_s0 d i f).symm) $$ H
  iapply (Entails.of_eq (pointsTo_congr (ℓ := s0Loc d) (I := tileL i) (f := f) (g := S0 m d) ?_)) $$ H
  intro x hx
  obtain ⟨j, rfl⟩ := mem_tileL.1 hx
  refine (congrArg f (mineL_emb i j)).symm.trans ((hf j).trans ?_)
  show _ = sT m d false (tileAt (tok i j)) (wordAt (tok i j))
  rw [tileAt_tok, wordAt_tok]
theorem slots_s1 : SlotsH (F := F) i d prog.s1H (sT m d true i) ⊢ (s1Loc d ↦[tileL i]{fullShare} S1 m d : sProp 𝕄) := by
  unfold SlotsH
  iintro ⟨%f, %hf, H⟩
  ihave H := (Entails.of_eq (pts_s1 d i f).symm) $$ H
  iapply (Entails.of_eq (pointsTo_congr (ℓ := s1Loc d) (I := tileL i) (f := f) (g := S1 m d) ?_)) $$ H
  intro x hx
  obtain ⟨j, rfl⟩ := mem_tileL.1 hx
  refine (congrArg f (mineL_emb i j)).symm.trans ((hf j).trans ?_)
  show _ = sT m d true (tileAt (tok i j)) (wordAt (tok i j))
  rw [tileAt_tok, wordAt_tok]

include ok in
/-- The rows a tile's slots name are its lists'. -/
theorem pts_hits (f : Buf (Elt F) (gLoc d)) : (gLoc d ↦[hitT m d i]{fullShare} f : sProp 𝕄)
    ⊣⊢ iprop(Hits i d prog (sT m d false i) f ∗ Hits i d prog (sT m d true i) f) := by
  have e : ∀ s : S64.Idx → BitVec 32, (Hits i d prog s f : sProp 𝕄) = (gLoc d ↦[hitFrom s 8]{fullShare} f) := fun s =>
    congrArg (fun S : Finset (Idx (gLoc d)) => (gLoc d ↦[S]{fullShare} f : sProp 𝕄)) (Finset.map_refl (s := hitFrom s 8))
  rw [e, e]
  exact pointsTo_union (ℓ := gLoc d) (hits_disjoint d ok i)

/-! ## The tile -/

variable (m) (q : PosShare TreeShare)

/-- The four arguments at share `q`. -/
def Args : sProp 𝕄 :=
  iprop((xLoc d ↦{q} m (xLoc d)) ∗ (e0Loc d ↦{q} m (e0Loc d)) ∗ (e1Loc d ↦{q} m (e1Loc d)) ∗ (rLoc d ↦{q} m (rLoc d)))

/-- What a tile reads of the arguments, and the rest of them. -/
theorem args_given : (Args m d q : sProp 𝕄) ⊣⊢ iprop(Given i d prog q (m (xLoc d)) (m (e0Loc d)) (m (e1Loc d)) (m (rLoc d))
    ∗ ((xLoc d ↦[Finset.univ \ (mineX i prog.xH).view.set]{q} m (xLoc d)) ∗ (e0Loc d ↦[Finset.univ \ (mineL i prog.e0H).view.set]{q} m (e0Loc d))
      ∗ (e1Loc d ↦[Finset.univ \ (mineL i prog.e1H).view.set]{q} m (e1Loc d)) ∗ (rLoc d ↦[Finset.univ \ (mineR i prog.rH).view.set]{q} m (rLoc d)))) := by
  unfold Args Given
  constructor
  · iintro ⟨Hx, H0, H1, Hr⟩
    ihave Hx := (pointsTo_split_subset (q := q) (f := m (xLoc d)) (S := Finset.univ) (Finset.subset_univ (mineX i prog.xH).view.set)).1 $$ Hx
    ihave H0 := (pointsTo_split_subset (q := q) (f := m (e0Loc d)) (S := Finset.univ) (Finset.subset_univ (mineL i prog.e0H).view.set)).1 $$ H0
    ihave H1 := (pointsTo_split_subset (q := q) (f := m (e1Loc d)) (S := Finset.univ) (Finset.subset_univ (mineL i prog.e1H).view.set)).1 $$ H1
    ihave Hr := (pointsTo_split_subset (q := q) (f := m (rLoc d)) (S := Finset.univ) (Finset.subset_univ (mineR i prog.rH).view.set)).1 $$ Hr
    icases Hx with ⟨Hx, Rx⟩
    icases H0 with ⟨H0, R0⟩
    icases H1 with ⟨H1, R1⟩
    icases Hr with ⟨Hr, Rr⟩
    isplitl [Hx H0 H1 Hr]
    · isplitl [Hx]; · iexact Hx
      isplitl [H0]; · iexact H0
      isplitl [H1]; · iexact H1
      iexact Hr
    · isplitl [Rx]; · iexact Rx
      isplitl [R0]; · iexact R0
      isplitl [R1]; · iexact R1
      iexact Rr
  · iintro ⟨⟨Hx, H0, H1, Hr⟩, Rx, R0, R1, Rr⟩
    isplitl [Hx Rx]
    · iapply (pointsTo_split_subset (q := q) (f := m (xLoc d)) (S := Finset.univ) (Finset.subset_univ (mineX i prog.xH).view.set)).2
      isplitl [Hx]; · iexact Hx
      iexact Rx
    isplitl [H0 R0]
    · iapply (pointsTo_split_subset (q := q) (f := m (e0Loc d)) (S := Finset.univ) (Finset.subset_univ (mineL i prog.e0H).view.set)).2
      isplitl [H0]; · iexact H0
      iexact R0
    isplitl [H1 R1]
    · iapply (pointsTo_split_subset (q := q) (f := m (e1Loc d)) (S := Finset.univ) (Finset.subset_univ (mineL i prog.e1H).view.set)).2
      isplitl [H1]; · iexact H1
      iexact R1
    · iapply (pointsTo_split_subset (q := q) (f := m (rLoc d)) (S := Finset.univ) (Finset.subset_univ (mineR i prog.rH).view.set)).2
      isplitl [Hr]; · iexact Hr
      iexact Rr

/-- The program's body. -/
abbrev tileProg : TP F i PUnit :=
  body i prog.xH prog.e0H prog.e1H prog.rH prog.gH prog.s0H prog.s1H prog.e0V prog.he0 prog.e1V prog.he1 prog.s0V prog.hs0 prog.s1V prog.hs1
    prog.rV prog.hr prog.xV prog.hx prog.semX prog.semG0 prog.semG1 prog.sem0 prog.sem1 prog.sem2 prog.sem3 prog.sem4

include ok in
/-- The tile's run: the rows its slots name come to hold its rows, its words of the lists its slots. -/
theorem wp_tile (O : CellTallies nD τ sig (HIx 1)) (W : Waits sig (HIx 1)) (Q : PUnit → sProp 𝕄) :
    iprop(Transfers.MayWaits (thr d i) (none : HIx 1) O ∗ Args m d q
        ∗ ((gLoc d ↦[hitT m d i]{fullShare} m (gLoc d)) ∗ (s0Loc d ↦[tileL i]{fullShare} m (s0Loc d)) ∗ (s1Loc d ↦[tileL i]{fullShare} m (s1Loc d)))
        ∗ BufsV (F := F) i d prog ∗ SemsV (F := F) i d prog ∗ OW (F := F) i d O W)
      ⊢ iprop((iprop(Args m d q
          ∗ ((gLoc d ↦[hitT m d i]{fullShare} XG m d) ∗ (s0Loc d ↦[tileL i]{fullShare} S0 m d) ∗ (s1Loc d ↦[tileL i]{fullShare} S1 m d))
          ∗ BufsV (F := F) i d prog ∗ SemsV (F := F) i d prog ∗ OW (F := F) i d O W) -∗ Q ⟨⟩)
        -∗ wpT d i (tileProg i) Q) := by
  iintro ⟨#Hmw, HA, ⟨Hg, H0, H1⟩, HB, HS, HO⟩ HQ
  ihave HA := (args_given m d i q).1 $$ HA
  icases HA with ⟨HA, HR⟩
  ihave Hg := (pts_hits d ok i (m (gLoc d))).1 $$ Hg
  ihave H0 := (Entails.of_eq (pts_s0 d i _)) $$ H0
  ihave H1 := (Entails.of_eq (pts_s1 d i _)) $$ H1
  iapply (wp_body i d prog q (m (xLoc d)) (m (e0Loc d)) (m (e1Loc d)) (m (rLoc d)) (moves i) (XG m d) (right d ok false i) (right d ok true i) (m (gLoc d)) O W Q)
    $$ [HA Hg H0 H1 HB HS HO]
  · isplitr; · iexact Hmw
    isplitl [HA]; · iexact HA
    isplitl [Hg]; · iexact Hg
    isplitl [H0 H1]
    · isplitl [H0]; · iexists _; iexact H0
      iexists _; iexact H1
    isplitl [HB]; · iexact HB
    isplitl [HS]; · iexact HS
    iexact HO
  iintro ⟨HA, Hg, ⟨H0, H1⟩, HB, HS, HO⟩
  iapply HQ
  isplitl [HA HR]
  · iapply (args_given m d i q).2
    isplitl [HA]; · iexact HA
    iexact HR
  isplitl [Hg H0 H1]
  · isplitl [Hg]; · iapply (show iprop(Hits i d prog (sl0 i d prog (m (e0Loc d)) (m (e1Loc d)) (m (rLoc d))) (XG m d) ∗ Hits i d prog (sl1 i d prog (m (e0Loc d)) (m (e1Loc d)) (m (rLoc d))) (XG m d)) ⊢ (_ : sProp 𝕄) from
      (pts_hits d ok i (XG m d)).2) $$ Hg
    isplitl [H0]; · iapply (show SlotsH (F := F) i d prog.s0H (sl0 i d prog (m (e0Loc d)) (m (e1Loc d)) (m (rLoc d))) ⊢ (_ : sProp 𝕄) from slots_s0 (m := m) d i) $$ H0
    iapply (show SlotsH (F := F) i d prog.s1H (sl1 i d prog (m (e0Loc d)) (m (e1Loc d)) (m (rLoc d))) ⊢ (_ : sProp 𝕄) from slots_s1 (m := m) d i) $$ H1
  isplitl [HB]; · iexact HB
  isplitl [HS]; · iexact HS
  iexact HO

end

end Cert.Proof.Dispatch

end
-- ==== Proof.DWhole.lean ====
/-
  The printed dispatch body is the short one.
-/
module

public import proofs.«01_k».proof.Proof.DBody

@[expose] public section

set_option maxHeartbeats 4000000
set_option maxRecDepth 100000

noncomputable section

namespace Cert.Proof.Dispatch

open Cert.DispatchIdeal Cert.DispatchIdeal.Gen
open Idealize.ShloMosaic Idealize.SL.Sem

variable {F : FTy → Type} [FloatOps F]

/-- The printed body is the short one. -/
theorem body_eq (i : grid0.Coords) (xH : Memref sig .scVector .hbm S2048x1024 .f32) (hx : xH.IsWhole) (e0H : Memref sig .scVector .hbm S2048 .i32) (h0 : e0H.IsWhole) (e1H : Memref sig .scVector .hbm S2048 .i32) (h1 : e1H.IsWhole) (rH : Memref sig .scVector .hbm S32x16 .i32) (hr : rH.IsWhole) (gH : Memref sig .scVector .hbm S7680x1024 .f32) (hg : gH.IsWhole) (s0H : Memref sig .scVector .hbm S2048 .i32) (hs0 : s0H.IsWhole) (s1H : Memref sig .scVector .hbm S2048 .i32) (hs1 : s1H.IsWhole) (e0V : Memref sig .scVector .vmem S64 .i32) (he0V : e0V.IsWhole) (e1V : Memref sig .scVector .vmem S64 .i32) (he1V : e1V.IsWhole) (s0V : Memref sig .scVector .vmem S64 .i32) (hs0V : s0V.IsWhole) (s1V : Memref sig .scVector .vmem S64 .i32) (hs1V : s1V.IsWhole) (rV : Memref sig .scVector .vmem S16 .i32) (hrV : rV.IsWhole) (xV : Memref sig .scVector .vmem S64x1024 .f32) (hxV : xV.IsWhole) (semX : DmaSems sig S_) (semG0 : DmaSems sig S8) (semG1 : DmaSems sig S8) (sem0 : DmaSems sig S_) (sem1 : DmaSems sig S_) (sem2 : DmaSems sig S_) (sem3 : DmaSems sig S_) (sem4 : DmaSems sig S_) :
    cc0__dispatch_body (F := F) i xH hx e0H h0 e1H h1 rH hr gH hg s0H hs0 s1H hs1 e0V he0V e1V he1V s0V hs0V s1V hs1V rV hrV xV hxV semX semG0 semG1 sem0 sem1 sem2 sem3 sem4
      = body i xH e0H e1H rH gH s0H s1H e0V he0V e1V he1V s0V hs0V s1V hs1V rV hrV xV hxV semX semG0 semG1 sem0 sem1 sem2 sem3 sem4 := by
  rfl

end Cert.Proof.Dispatch

end
-- ==== Proof.DLaunch.lean ====
/-
  The dispatch launch: the arguments' shares, the named rows and the lists dealt to two cores of sixteen tiles and collected,
  and the run of the whole program: it ends with the named rows holding the table's rows, the lists holding the slots, the
  other rows and the arguments unchanged, and every semaphore back at zero.
-/
module

public import proofs.«01_k».proof.Proof.DTask
public import proofs.«01_k».proof.Proof.DWhole

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## Sets dealt to cores and tiles -/

/-- A core's share of the arguments. -/
abbrev cq (c : Fin 2) : PosShare TreeShare := pieceOf fullShare 2 (by decide) c
/-- A tile's share of the arguments. -/
abbrev tq (c : Fin 2) (s : Fin 16) : PosShare TreeShare := pieceOf (cq c) 16 (by decide) s

section Deal

variable {α : Type} [DecidableEq α] (T : grid0.Coords → Finset α)

/-- No two tiles share an element. -/
def Apart : Prop := ∀ i i' x, x ∈ T i → x ∈ T i' → i = i'
/-- A core's elements: its tiles'. -/
def coreOf (c : Fin 2) : Finset α := Finset.univ.biUnion fun s : Fin 16 => T (gp c s)
/-- All tiles' elements. -/
def allOf : Finset α := (Finset.univ : Finset (Fin 2)).biUnion (coreOf T)

variable {T}

theorem mem_allOf {x : α} : x ∈ allOf T ↔ ∃ i, x ∈ T i := by
  simp only [allOf, coreOf, Finset.mem_biUnion, Finset.mem_univ, true_and]
  constructor
  · rintro ⟨c, s, h⟩; exact ⟨_, h⟩
  · rintro ⟨i, h⟩
    refine ⟨⟨(i 0).val, i0_lt i⟩, ⟨(i 1).val, i1_lt i⟩, ?_⟩
    rw [show gp (⟨(i 0).val, i0_lt i⟩ : Fin 2) (⟨(i 1).val, i1_lt i⟩ : Fin 16) = i from grid_ext rfl rfl]
    exact h

theorem tiles_disjoint (h : Apart T) (c : Fin 2) : ∀ a ∈ (Finset.univ : Finset (Fin 16)), ∀ b ∈ (Finset.univ : Finset (Fin 16)), a ≠ b →
    Disjoint (T (gp c a)) (T (gp c b)) := by
  intro a _ b _ hab
  rw [Finset.disjoint_left]
  intro x ha hb
  exact hab (congrFun (h _ _ x ha hb) 1)
theorem cores_disjoint (h : Apart T) : ∀ a ∈ (Finset.univ : Finset (Fin 2)), ∀ b ∈ (Finset.univ : Finset (Fin 2)), a ≠ b → Disjoint (coreOf T a) (coreOf T b) := by
  intro a _ b _ hab
  rw [Finset.disjoint_left]
  intro x ha hb
  obtain ⟨s, -, ha⟩ := Finset.mem_biUnion.1 ha
  obtain ⟨t, -, hb⟩ := Finset.mem_biUnion.1 hb
  exact hab (congrFun (h _ _ x ha hb) 0)

end Deal

theorem deal_cores (ℓ : Loc nD τ sig) [DecidableEq (Idx ℓ)] (T : grid0.Coords → Finset (Idx ℓ)) (h : Apart T) (f : Buf (Elt F) ℓ) :
    (ℓ ↦[allOf T]{fullShare} f : sProp 𝕄) = bigSep Finset.univ fun c : Fin 2 => ℓ ↦[coreOf T c]{fullShare} f := by
  rw [← pointsTo_biUnion Finset.univ (ℓ := ℓ) (coreOf T) (cores_disjoint h)]
  unfold allOf; congr!
theorem deal_tiles (ℓ : Loc nD τ sig) [DecidableEq (Idx ℓ)] (T : grid0.Coords → Finset (Idx ℓ)) (h : Apart T) (c : Fin 2) (f : Buf (Elt F) ℓ) :
    (ℓ ↦[coreOf T c]{fullShare} f : sProp 𝕄) = bigSep Finset.univ fun s : Fin 16 => ℓ ↦[T (gp c s)]{fullShare} f := by
  rw [← pointsTo_biUnion Finset.univ (ℓ := ℓ) (fun s : Fin 16 => T (gp c s)) (tiles_disjoint h c)]
  unfold coreOf; congr!

theorem tileL_apart : Apart tileL := by
  intro i i' x h h'
  obtain ⟨j, rfl⟩ := mem_tileL.1 h
  obtain ⟨j', e⟩ := mem_tileL.1 h'
  have e : tok i' j' = tok i j := congrFun e 0
  rw [← tileAt_tok i j, ← e, tileAt_tok]
theorem tileL_all : allOf tileL = Finset.univ := by
  ext x
  simp only [mem_allOf, Finset.mem_univ, iff_true]
  refine ⟨tileAt (x 0), mem_tileL.2 ⟨wordAt (x 0), ?_⟩⟩
  funext a; fin_cases a; exact tok_at (x 0)

theorem hitT_apart (ok : SlotsOK m) (d : Dev nD) : Apart (hitT m d) := by
  intro i i' x h h'
  obtain ⟨l, j, e⟩ := (mem_hitT d).1 h
  obtain ⟨l', j', e'⟩ := (mem_hitT d).1 h'
  exact (ok.inj d _ _ _ _ _ _ (e.trans e'.symm)).2.1

/-- All rows the slots name. -/
abbrev hitA (d : Dev nD) : Finset S7680x1024.Idx := allOf (hitT m d)

/-- The arguments at a share are the arguments at its pieces. -/
theorem Args_pieces (d : Dev nD) (o : ℕ) (ho : 0 < o) (q : PosShare TreeShare) :
    (Args m d q : sProp 𝕄) = bigSep Finset.univ fun j : Fin o => Args m d (pieceOf q o ho j) := by
  unfold Args
  rw [bigSep_sep', bigSep_sep', bigSep_sep', ← pointsTo_piecesOf _ _ ho q, ← pointsTo_piecesOf _ _ ho q, ← pointsTo_piecesOf _ _ ho q,
    ← pointsTo_piecesOf _ _ ho q]

/-! ## What the handshakes carry -/

/-- What the three results hold. -/
structure Res (F : FTy → Type) (d : Dev nD) where
  g : Buf (Elt F) (gLoc d)
  a : Buf (Elt F) (s0Loc d)
  b : Buf (Elt F) (s1Loc d)

/-- The results before and after the launch. -/
abbrev before (d : Dev nD) : Res F d := ⟨m (gLoc d), m (s0Loc d), m (s1Loc d)⟩
abbrev after (d : Dev nD) : Res F d := ⟨XG m d, S0 m d, S1 m d⟩

/-- A core's part: its share of the arguments, its named rows and its words of the lists. -/
def corePart (d : Dev nD) (c : Fin 2) (r : Res F d) : sProp 𝕄 :=
  iprop(Args m d (cq c) ∗ (gLoc d ↦[coreOf (hitT m d) c]{fullShare} r.g) ∗ (s0Loc d ↦[coreOf tileL c]{fullShare} r.a) ∗ (s1Loc d ↦[coreOf tileL c]{fullShare} r.b))
/-- A tile's part: its share of the arguments, its named rows and its words of the lists. -/
def tilePart (d : Dev nD) (c : Fin 2) (s : Fin 16) (r : Res F d) : sProp 𝕄 :=
  iprop(Args m d (tq c s) ∗ (gLoc d ↦[hitT m d (gp c s)]{fullShare} r.g) ∗ (s0Loc d ↦[tileL (gp c s)]{fullShare} r.a) ∗ (s1Loc d ↦[tileL (gp c s)]{fullShare} r.b))

instance corePart_storable (d : Dev nD) (c : Fin 2) (r : Res F d) : BI.Storable (upEmb : UEmb _ 𝕄) (corePart m d c r) := by
  unfold corePart Args; infer_instance
instance tilePart_storable (d : Dev nD) (c : Fin 2) (s : Fin 16) (r : Res F d) : BI.Storable (upEmb : UEmb _ 𝕄) (tilePart m d c s r) := by
  unfold tilePart Args; infer_instance

/-- Each core is given its part, deals it to its tiles, and gives it back with the results in it. -/
def P : (K (F := F)).Pay (nD := nD) (Val := Elt F) (Name := ℕ) (U := UU) where
  st := fun q d c => match q with | 0 => corePart m d (Fin.cast nCore_zero c) (before m d)
  dn := fun q d c => match q with | 0 => corePart m d (Fin.cast nCore_zero c) (after m d)
  go := fun q d c i => match q with | 0 => tilePart m d (Fin.cast nCore_zero c) (Fin.cast nSub_zero i) (before m d)
  td := fun q d c i => match q with | 0 => tilePart m d (Fin.cast nCore_zero c) (Fin.cast nSub_zero i) (after m d)
  x := fun _ _ => iprop(emp)

instance P_storable : (P (F := F) m).IsStorable where
  st q d c := match q with | 0 => corePart_storable m d (Fin.cast nCore_zero c) (before m d)
  dn q d c := match q with | 0 => corePart_storable m d (Fin.cast nCore_zero c) (after m d)
  go q d c i := match q with | 0 => tilePart_storable m d (Fin.cast nCore_zero c) (Fin.cast nSub_zero i) (before m d)
  td q d c i := match q with | 0 => tilePart_storable m d (Fin.cast nCore_zero c) (Fin.cast nSub_zero i) (after m d)

/-! ## The tile's obligation -/

theorem tile_body (ok : SlotsOK m) (d : Dev nD) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ tilePart m d c s (before m d)
        ∗ scopedBufs (thr d (gp c s)) ∗ scopedSems0 (thr d (gp c s)) ∗ owes (thr d (gp c s)) O W)
      ⊢ wpT d (gp c s) (tileProg (gp c s)) fun _ => iprop(tilePart m d c s (after m d) ∗ scopedBufs (thr d (gp c s)) ∗ scopedSems0 (thr d (gp c s))
          ∗ ∃ W', ⌜∀ p ∈ W', p ∈ W ∨ p.2 = none ∨ p.2 = some (0 : Fin 1)⌝ ∗ owes (thr d (gp c s)) O W') := by
  rw [show (scopedBufs (thr d (gp c s)) : sProp 𝕄) = ownBufs (thr d (gp c s)) from (K (F := F)).scopedBufs_V facts d _ _,
    show (scopedSems0 (thr d (gp c s)) : sProp 𝕄) = ownSems0 (thr d (gp c s)) from SparseCore.Cfg.scopedSems0_V (Val := Elt F) d _ _, ownSems_eq, ownBufs_eq]
  unfold tilePart
  iintro ⟨#Hlv, -, ⟨HA, Ho⟩, ⟨HB, HBr⟩, ⟨HS, HSr⟩, HO⟩
  ihave Hmw := (show levAts (K (F := F)).L (K (F := F)).lev ⊢ Transfers.MayWaits (thr d (gp c s)) (none : HIx 1) O from
    (K (F := F)).mayWaits_none (thr := thr d (gp c s)) hO) $$ Hlv
  ihave HO := (OW_intro (F := F) (gp c s) d O W W fun _ h => .inl h) $$ HO
  iapply (wp_tile m d ok (gp c s) (tq c s) O W _) $$ [Hmw HA Ho HB HS HO]
  · isplitl [Hmw]; · iexact Hmw
    isplitl [HA]; · iexact HA
    isplitl [Ho]; · iexact Ho
    isplitl [HB]; · iexact HB
    isplitl [HS]; · iexact HS
    iexact HO
  unfold OW
  iintro ⟨HA, Ho, HB, HS, %W', %hW', HO⟩
  isplitl [HA Ho]
  · isplitl [HA]; · iexact HA
    iexact Ho
  isplitl [HB HBr]
  · isplitl [HB]; · iexact HB
    iexact HBr
  isplitl [HS HSr]
  · isplitl [HS]; · iexact HS
    iexact HSr
  iexists W'
  isplitr
  · ipureintro; exact fun p hp => (hW' p hp).imp_right Or.inl
  · iexact HO

theorem defs₀_vector (c : Fin τ.nSC) (s : Fin τ.nSub) :
    defs₀ (F := F) (.scVector c s) 0 () = SparseCore.onTile hcore0 hsub0 (fun c s => cc0__dispatch_body (gp c s)
      (Memref.whole main_arg0_scv) (Memref.isWhole_whole _) (Memref.whole main_arg1_scv) (Memref.isWhole_whole _)
      (Memref.whole main_arg2_scv) (Memref.isWhole_whole _) (Memref.whole main_arg3_scv) (Memref.isWhole_whole _)
      (Memref.whole main_v0_0_scv) (Memref.isWhole_whole _) (Memref.whole main_v0_1_scv) (Memref.isWhole_whole _)
      (Memref.whole main_v0_2_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scoped0 cc0_scoped1 cc0_scoped2 cc0_scoped3 cc0_scoped4) ⟨⟩ c s := rfl

set_option maxRecDepth 16384 in
theorem tileObl (ok : SlotsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_body m ok d ⟨_, hci.1⟩ ⟨_, hci.2⟩ O W hO

/-! ## Dealing and collecting -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's part is its tiles'. -/
theorem corePart_tiles (ok : SlotsOK m) (d : Dev nD) (c : Fin 2) (r : Res F d) :
    (bigSep Finset.univ fun s : Fin 16 => tilePart m d c s r) = (corePart m d c r : sProp 𝕄) := by
  unfold tilePart corePart
  rw [bigSep_sep', bigSep_sep', bigSep_sep', ← Args_pieces, ← deal_tiles (gLoc d) (hitT m d) (hitT_apart m ok d) c r.g, ← deal_tiles (s0Loc d) tileL tileL_apart c r.a,
    ← deal_tiles (s1Loc d) tileL tileL_apart c r.b]

/-- What the host deals out: the arguments, the named rows, the lists. -/
def whole (d : Dev nD) (r : Res F d) : sProp 𝕄 :=
  iprop(Args m d fullShare ∗ (gLoc d ↦[hitA m d]{fullShare} r.g) ∗ (s0Loc d ↦{fullShare} r.a) ∗ (s1Loc d ↦{fullShare} r.b))

/-- The whole is the cores'. -/
theorem whole_cores (ok : SlotsOK m) (d : Dev nD) (r : Res F d) : (bigSep Finset.univ fun c : Fin 2 => corePart m d c r) = (whole m d r : sProp 𝕄) := by
  unfold corePart whole
  rw [bigSep_sep', bigSep_sep', bigSep_sep', ← Args_pieces, ← deal_cores (gLoc d) (hitT m d) (hitT_apart m ok d) r.g, ← deal_cores (s0Loc d) tileL tileL_apart r.a,
    ← deal_cores (s1Loc d) tileL tileL_apart r.b, tileL_all]

theorem vecSplit (ok : SlotsOK m) : (K (F := F)).VecSplit' (P m) 0 := by
  intro d c
  show corePart m d (Fin.cast nCore_zero c) (before m d) ⊢ |={Set.univ}=> iprop(
      (bigSep Finset.univ fun i : Fin ((K (F := F)).nSub 0) => tilePart m d (Fin.cast nCore_zero c) (Fin.cast nSub_zero i) (before m d))
      ∗ ((bigSep Finset.univ fun i : Fin ((K (F := F)).nSub 0) => tilePart m d (Fin.cast nCore_zero c) (Fin.cast nSub_zero i) (after m d))
          -∗ corePart m d (Fin.cast nCore_zero c) (after m d)))
  rw [bigSep_tiles (F := F) (fun i => tilePart m d (Fin.cast nCore_zero c) i (before m d)),
    bigSep_tiles (F := F) (fun i => tilePart m d (Fin.cast nCore_zero c) i (after m d)), corePart_tiles m ok, corePart_tiles m ok]
  iintro H; imodintro
  isplitl [H]; · iexact H
  iintro H; iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- The rows no slot names stay with the host. -/
abbrev rest (d : Dev nD) (f : Buf (Elt F) (gLoc d)) : sProp 𝕄 := iprop(gLoc d ↦[Finset.univ \ hitA m d]{fullShare} f)

theorem unscopedBufs_eq (d : Dev nD) :
    (unscopedBufs d (fun b => m ((d.tc : Thread nD τ).loc b)) : sProp 𝕄) ⊢ iprop(whole m d (before m d) ∗ rest m d (m (gLoc d))) := by
  have e : (unscopedBufs d (fun b => m ((d.tc : Thread nD τ).loc b)) : sProp 𝕄)
      = iprop((xLoc d ↦{fullShare} m (xLoc d)) ∗ (e0Loc d ↦{fullShare} m (e0Loc d)) ∗ (e1Loc d ↦{fullShare} m (e1Loc d))
        ∗ (rLoc d ↦{fullShare} m (rLoc d)) ∗ (gLoc d ↦{fullShare} m (gLoc d)) ∗ (s0Loc d ↦{fullShare} m (s0Loc d)) ∗ (s1Loc d ↦{fullShare} m (s1Loc d))) := by
    unfold unscopedBufs
    rw [show (Finset.univ.filter fun b : Ref sig .tc => ¬ b.isScoped) = {main_arg0, main_arg1, main_arg2, main_arg3, main_v0_0, main_v0_1, main_v0_2} by decide,
      SparseCore.bigSep_insert' (by decide), SparseCore.bigSep_insert' (by decide), SparseCore.bigSep_insert' (by decide), SparseCore.bigSep_insert' (by decide),
      SparseCore.bigSep_insert' (by decide), SparseCore.bigSep_insert' (by decide), bigSep_singleton]
  rw [e]
  unfold whole Args
  iintro ⟨H0, H1, H2, H3, H4, H5, H6⟩
  ihave H4 := (pointsTo_split_subset (q := fullShare) (f := m (gLoc d)) (S := Finset.univ) (Finset.subset_univ (hitA m d))).1 $$ H4
  icases H4 with ⟨H4, HR⟩
  isplitr [HR]
  · isplitl [H0 H1 H2 H3]
    · isplitl [H0]; · iexact H0
      isplitl [H1]; · iexact H1
      isplitl [H2]; · iexact H2
      iexact H3
    isplitl [H4]; · iexact H4
    isplitl [H5]; · iexact H5
    iexact H6
  iexact HR

theorem st0_eq (ok : SlotsOK m) (d : Dev nD) : (bigSep Finset.univ fun c : Fin ((K (F := F)).nCore 0) => (P m).st 0 d c) = whole m d (before m d) :=
  (bigSep_cores (F := F) fun c => corePart m d c (before m d)).trans (whole_cores m ok d _)
theorem dn0_eq (ok : SlotsOK m) (d : Dev nD) : (bigSep Finset.univ fun c : Fin ((K (F := F)).nCore 0) => (P m).dn 0 d c) = whole m d (after m d) :=
  (bigSep_cores (F := F) fun c => corePart m d c (after m d)).trans (whole_cores m ok d _)

abbrev FIN (d : Dev nD) : sProp 𝕄 :=
  iprop(Args m d fullShare ∗ (gLoc d ↦{fullShare} XG m d) ∗ (s0Loc d ↦{fullShare} S0 m d) ∗ (s1Loc d ↦{fullShare} S1 m d))

/-- The named rows and the rest are the sorted array. -/
theorem joined (d : Dev nD) : iprop(whole m d (after m d) ∗ rest m d (m (gLoc d))) ⊢ (FIN m d : sProp 𝕄) := by
  unfold whole FIN
  iintro ⟨⟨HA, Hg, H0, H1⟩, HR⟩
  isplitl [HA]; · iexact HA
  isplitl [Hg HR]
  · iapply (pointsTo_split_subset (ℓ := gLoc d) (q := fullShare) (f := XG m d) (S := Finset.univ) (Finset.subset_univ (hitA m d))).2
    isplitl [Hg]; · iexact Hg
    iapply (Entails.of_eq (pointsTo_congr (ℓ := gLoc d) (I := Finset.univ \ hitA m d) (f := m (gLoc d)) (g := XG m d) ?_)) $$ HR
    intro x hx
    refine (XG_miss d x fun l i j h => ?_).symm
    exact (Finset.mem_sdiff.1 hx).2 (mem_allOf.2 ⟨i, (mem_hitT d).2 ⟨l, j, h⟩⟩)
  isplitl [H0]; · iexact H0
  iexact H1

/-- The host program: the one launch. -/
theorem hmain (ok : SlotsOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, HA, Hts, -⟩, -⟩
  ihave HA := (unscopedBufs_eq m d) $$ HA
  icases HA with ⟨HA, HR⟩
  iapply ((K (F := F)).wp_run (D (F := F)) 𝒱 (EH := EH) (P := P m) κ d 0) $$ [Hst HA Hb Hts HR]
  isplitr; · iexact Hctx
  isplitl [Hst]; · iexact Hst
  isplitl [HA]
  · rw [st0_eq m ok]; iexact HA
  iintro ⟨Hst, Hdn⟩
  ihave Hdn' := (Entails.of_eq (dn0_eq m ok d)) $$ Hdn
  imodintro
  isplitl [Hst]; · iexact Hst
  isplitl [Hdn' HR]
  · iapply (joined m d)
    isplitl [Hdn']; · iexact Hdn'
    iexact HR
  isplitl [Hb] <;> iassumption

/-- What is read off the final memory of a device. -/
def fq (d : Dev nD) (s' : Phys nD τ sig (Elt F)) : Prop :=
  s'.mem.mem (xLoc d) = m (xLoc d) ∧ s'.mem.mem (e0Loc d) = m (e0Loc d) ∧ s'.mem.mem (e1Loc d) = m (e1Loc d) ∧ s'.mem.mem (rLoc d) = m (rLoc d)
    ∧ s'.mem.mem (gLoc d) = XG m d ∧ s'.mem.mem (s0Loc d) = S0 m d ∧ s'.mem.mem (s1Loc d) = S1 m d

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  unfold FIN Args
  iintro ⟨⟨⟨H0, H1, H2, H3⟩, H4, H5, H6⟩, HSI⟩
  ihave H := (agree (F := F) _ _ s') $$ [HSI H0]
  · isplitl [HSI] <;> iassumption
  icases H with ⟨%h0, HSI⟩
  ihave H := (agree (F := F) _ _ s') $$ [HSI H1]
  · isplitl [HSI] <;> iassumption
  icases H with ⟨%h1, HSI⟩
  ihave H := (agree (F := F) _ _ s') $$ [HSI H2]
  · isplitl [HSI] <;> iassumption
  icases H with ⟨%h2, HSI⟩
  ihave H := (agree (F := F) _ _ s') $$ [HSI H3]
  · isplitl [HSI] <;> iassumption
  icases H with ⟨%h3, HSI⟩
  ihave H := (agree (F := F) _ _ s') $$ [HSI H4]
  · isplitl [HSI] <;> iassumption
  icases H with ⟨%h4, HSI⟩
  ihave H := (agree (F := F) _ _ s') $$ [HSI H5]
  · isplitl [HSI] <;> iassumption
  icases H with ⟨%h5, HSI⟩
  ihave H := (agree (F := F) _ _ s') $$ [HSI H6]
  · isplitl [HSI] <;> iassumption
  icases H with ⟨%h6, -⟩
  ipureintro
  exact ⟨h0, h1, h2, h3, h4, h5, h6⟩

/-- The final states: on every device the arguments unchanged and the results as computed, every semaphore at zero. -/
def QC : PUnit × MemSt nD τ sig (Elt F) → Prop := fun r =>
  (∀ c : Dev nD, r.2.mem (xLoc c) = m (xLoc c) ∧ r.2.mem (e0Loc c) = m (e0Loc c) ∧ r.2.mem (e1Loc c) = m (e1Loc c) ∧ r.2.mem (rLoc c) = m (rLoc c)
    ∧ r.2.mem (gLoc c) = XG m c ∧ r.2.mem (s0Loc c) = S0 m c ∧ r.2.mem (s1Loc c) = S1 m c) ∧ r.2.sem = fun _ => 0

/-- The program's run, over any float values: from any memory whose choices and run starts give slots that name distinct rows. -/
theorem run_main [∀ e, Nonempty (Elt F e)] (ok : SlotsOK m) :
    θ_run (Cert.DispatchIdeal.defs (F := F)) (Cert.DispatchIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m ok)
    (fun q _ => match q with | 0 => SparseCore.Cfg.VecSplit.of_plain (vecSplit m ok))
    m ρ main (fun _ => iprop(emp)) (FIN m) (u₀ (F := F)) (sep_elim_left.trans (hu₀ m)) (hmain m ρ ok) (fq m) (hfin m) (QC m) (fun _ h hz => ⟨h, hz⟩)

end Cert.Proof.Dispatch

end
-- ==== Proof.DRank.lean ====
/-
  The slots a tile computes, in closed form: the start of the choice's run and the number of earlier choices of that run,
  counted over the tile's two lists. A rank is below the tile's count of the run's choices, and no two choices of a run
  have one rank.
-/
module

public import proofs.«01_k».proof.Proof.DChunk
public import Mathlib.Order.Interval.Finset.Nat
public import Mathlib.Data.Nat.Count

@[expose] public section

noncomputable section

namespace Cert.Proof.Dispatch

open Cert.DispatchIdeal Cert.DispatchIdeal.Gen
open Idealize.ShloMosaic
open Idealize.ShloMosaic.ValueIdx

/-! ## Running sums of sixteen lanes -/

/-- Lane `p`. -/
abbrev lane (p : ℕ) (hp : p < 16) : S16.Idx := ix1 (⟨p, hp⟩ : Fin 16)

theorem scan_def (v : IVec S16 32) (n : ℕ) (h : n < 16) : scan .sum v (lane n h)
    = ((List.finRange 16).filter fun k : Fin 16 => decide (0 < k.val ∧ k.val ≤ n)).foldl (fun r (k : Fin 16) => r + v (lane k.val k.isLt)) (v (lane 0 (by decide))) := by
  have e : ∀ k : Fin 16, (Shape.ofLane k : S16.Idx) = lane k.val k.isLt := fun k => funext fun a => by fin_cases a; rfl
  have e' : (fun (r : BitVec 32) (k : Fin 16) => r + v (lane k.val k.isLt)) = fun r k => r + v (Shape.ofLane k) := by
    funext r k; rw [e]
  rw [e', ← e ⟨0, by decide⟩]
  rfl

theorem lanes_zero : ((List.finRange 16).filter fun k : Fin 16 => decide (0 < k.val ∧ k.val ≤ 0)) = [] := by decide

theorem lanes_succ : ∀ n : Fin 15, ((List.finRange 16).filter fun k : Fin 16 => decide (0 < k.val ∧ k.val ≤ n.val + 1))
    = ((List.finRange 16).filter fun k : Fin 16 => decide (0 < k.val ∧ k.val ≤ n.val)) ++ [⟨n.val + 1, by omega⟩] := by decide

theorem scan_zero (v : IVec S16 32) : scan .sum v (lane 0 (by decide)) = v (lane 0 (by decide)) := by
  rw [scan_def, lanes_zero]; rfl

theorem scan_succ (v : IVec S16 32) (n : ℕ) (h : n + 1 < 16) :
    scan .sum v (lane (n + 1) h) = scan .sum v (lane n (by omega)) + v (lane (n + 1) h) := by
  rw [scan_def, scan_def, lanes_succ ⟨n, by omega⟩, List.foldl_append]; rfl

/-- A running sum of a mask counts. -/
theorem scan_count (v : IVec S16 32) (Q : ℕ → Prop) [DecidablePred Q] (hv : ∀ p (hp : p < 16), v (lane p hp) = if Q p then 1#32 else 0#32) :
    ∀ n (h : n < 16), scan .sum v (lane n h) = BitVec.ofNat 32 (Nat.count Q (n + 1))
  | 0, h => by rw [scan_zero, hv, Nat.count_succ, Nat.count_zero]; split <;> rfl
  | n + 1, h => by
    rw [scan_succ, scan_count v Q hv n, hv, Nat.count_succ (p := Q) (n + 1), BitVec.ofNat_add]
    split <;> rfl

/-- A running sum of one lane alone is that lane's word from there on. -/
theorem scan_pick (v : IVec S16 32) (k : ℕ) (x : BitVec 32) (hv : ∀ p (hp : p < 16), v (lane p hp) = if p = k then x else 0#32) :
    ∀ n (h : n < 16), scan .sum v (lane n h) = if k ≤ n then x else 0#32
  | 0, h => by rw [scan_zero, hv]; simp [eq_comm]
  | n + 1, h => by
    rw [scan_succ, scan_pick v k x hv n, hv]
    by_cases h1 : k ≤ n
    · rw [if_pos h1, if_neg (by omega), if_pos (by omega)]; exact BitVec.add_zero x
    · rw [if_neg h1]
      by_cases h2 : n + 1 = k
      · rw [if_pos h2, if_pos (by omega)]; exact BitVec.zero_add x
      · rw [if_neg h2, if_neg (by omega)]; rfl

theorem total_eq (v : IVec S16 32) : total v = scan .sum v (lane 15 (by decide)) := by
  refine congrArg (scan .sum v) (funext fun a => ?_)
  fin_cases a; rfl

theorem cmp_eq (x y : IVec S16 32) (l : S16.Idx) : cmpi .eq x y l = if x l = y l then 1#1 else 0#1 := by
  show BitVec.ofBool (x l == y l) = _
  by_cases h : x l = y l
  · rw [if_pos h, h]; simp
  · rw [if_neg h, beq_false_of_ne h]; rfl

theorem sel_at {p : Prop} [Decidable p] {m : IVec S16 1} {l : S16.Idx} (hm : m l = if p then 1#1 else 0#1) (a b : IVec S16 32) :
    select m a b l = if p then a l else b l := by
  show Scalar.select (m l) (a l) (b l) = _
  rw [hm]
  by_cases h : p
  · rw [if_pos h, if_pos h]; rfl
  · rw [if_neg h, if_neg h]; rfl

theorem mask_at (c : IVec S16 32) (v : BitVec 32) (l : S16.Idx) : cmpi .eq c (broadcast S16 v) l = if c l = v then 1#1 else 0#1 := cmp_eq _ _ _

theorem ofNat_eq {a b : ℕ} (ha : a < 16) (hb : b < 16) : (BitVec.ofNat 32 a = BitVec.ofNat 32 b) ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem lanes_at (p : ℕ) (hp : p < 16) : lanes (lane p hp) = BitVec.ofNat 32 p := by
  show BitVec.ofNat 32 (0 * 16 + p) = _
  rw [Nat.zero_mul, Nat.zero_add]

/-! ## One chunk -/

section Chunk

variable (c run : IVec S16 32)

/-- Lane `p` chose `v`. -/
def Chose (v : BitVec 32) (p : ℕ) : Prop := ∃ hp : p < 16, c (lane p hp) = v
instance (v : BitVec 32) : DecidablePred (Chose c v) := fun p => by unfold Chose; infer_instance

theorem chose_at (v : BitVec 32) (p : ℕ) (hp : p < 16) :
    extui 32 (cmpi .eq c (broadcast S16 v)) Gen.natLt_1_32 (lane p hp) = if Chose c v p then 1#32 else 0#32 := by
  show (cmpi .eq c (broadcast S16 v) (lane p hp)).setWidth 32 = _
  rw [mask_at]
  by_cases h : c (lane p hp) = v
  · rw [if_pos h, if_pos ⟨hp, h⟩]; rfl
  · rw [if_neg h, if_neg fun ⟨_, h'⟩ => h h']; rfl

theorem lane_mask (n k : ℕ) (hn : n < 16) (hk : k < 16) :
    cmpi .eq lanes (broadcast S16 (BitVec.ofNat 32 n)) (lane k hk) = if k = n then 1#1 else 0#1 := by
  rw [mask_at, lanes_at]
  exact if_congr (ofNat_eq hk hn) rfl rfl

theorem runStep_at (n k : ℕ) (hn : n < 16) (hk : k < 16) : runStep c (BitVec.ofNat 32 n) run (lane k hk)
    = if k = n then run (lane k hk) + BitVec.ofNat 32 (Nat.count (Chose c (BitVec.ofNat 32 n)) 16) else run (lane k hk) := by
  unfold runStep
  rw [sel_at (lane_mask n k hn hk), total_eq, scan_count _ _ (fun p hp => chose_at c _ p hp)]
  rfl

theorem runAfter_at : ∀ (n : ℕ) (_ : n ≤ 8) (k : ℕ) (hk : k < 16),
    runAfter c run n (lane k hk) = run (lane k hk) + BitVec.ofNat 32 (if k < n then Nat.count (Chose c (BitVec.ofNat 32 k)) 16 else 0)
  | 0, _, k, hk => by rw [if_neg (Nat.not_lt_zero _)]; exact (BitVec.add_zero _).symm
  | n + 1, hn, k, hk => by
    have ih := runAfter_at n (by omega) k hk
    rw [runAfter, runStep_at _ _ n k (by omega) hk, ih]
    by_cases h : k = n
    · subst h
      rw [if_pos rfl, if_neg (Nat.lt_irrefl _), if_pos (Nat.lt_succ_self _), show BitVec.ofNat 32 0 = 0#32 from rfl, BitVec.add_zero]
    · rw [if_neg h]
      by_cases h2 : k < n
      · rw [if_pos h2, if_pos (by omega)]
      · rw [if_neg h2, if_neg (by omega)]

theorem start_at (n : ℕ) (hn : n < 8) : total (select (cmpi .eq lanes (broadcast S16 (BitVec.ofNat 32 n))) run (broadcast S16 0#32)) = run (lane n (by omega)) := by
  rw [total_eq, scan_pick _ n (run (lane n (by omega))) _ 15 (by decide), if_pos (by omega)]
  intro p hp
  rw [sel_at (lane_mask n p (by omega) hp)]
  by_cases h : p = n
  · subst h; rw [if_pos rfl, if_pos rfl]
  · rw [if_neg h, if_neg h]; rfl

theorem slotStep_at (n p : ℕ) (hn : n < 8) (hp : p < 16) (slot : IVec S16 32) : slotStep c (BitVec.ofNat 32 n) run slot (lane p hp)
    = if c (lane p hp) = BitVec.ofNat 32 n then run (lane n (by omega)) + BitVec.ofNat 32 (Nat.count (Chose c (BitVec.ofNat 32 n)) (p + 1)) - 1#32 else slot (lane p hp) := by
  unfold slotStep
  rw [sel_at (mask_at c _ _), start_at run n hn, ← scan_count _ _ (fun p hp => chose_at c (BitVec.ofNat 32 n) p hp) p hp]
  rfl

/-- A chosen run's lane gets the run's start and its rank in the chunk. -/
theorem slotAfter_at (k p : ℕ) (hk : k < 8) (hp : p < 16) (hc : c (lane p hp) = BitVec.ofNat 32 k) : ∀ n ≤ 8, k < n →
    slotAfter c run n (lane p hp) = run (lane k (by omega)) + BitVec.ofNat 32 (Nat.count (Chose c (BitVec.ofNat 32 k)) p)
  | 0, _, h => absurd h (Nat.not_lt_zero _)
  | n + 1, hn, h => by
    rw [slotAfter, slotStep_at c _ n p (by omega) hp, hc]
    by_cases e : k = n
    · subst e
      rw [if_pos rfl, runAfter_at c run k (by omega) k (by omega), if_neg (Nat.lt_irrefl _),
        Nat.count_succ, if_pos (show Chose c (BitVec.ofNat 32 k) p from ⟨hp, hc⟩), BitVec.ofNat_add]
      rw [show BitVec.ofNat 32 0 = 0#32 from rfl, BitVec.add_zero, ← BitVec.add_assoc, BitVec.add_sub_cancel]
    · rw [if_neg (fun e' => e ((ofNat_eq (by omega) (by omega)).1 e'))]
      exact slotAfter_at k p hk hp hc n (by omega) (by omega)

end Chunk

/-! ## The tile -/

section Tile

variable (A0 A1 : S64.Idx → BitVec 32) (run : IVec S16 32)

/-- Word `p` of a list is `v`. -/
def Names (A : S64.Idx → BitVec 32) (v : BitVec 32) (p : ℕ) : Prop := ∃ hp : p < 64, A (ix1 (⟨p, hp⟩ : Fin 64)) = v
instance (A : S64.Idx → BitVec 32) (v : BitVec 32) : DecidablePred (Names A v) := fun p => by unfold Names; infer_instance

theorem chunk_chose (A : S64.Idx → BitVec 32) (n : ℕ) (hn : n < 4) (v : BitVec 32) (b : ℕ) (hb : b ≤ 16) :
    Nat.count (Names A v) (16 * n + b) = Nat.count (Names A v) (16 * n) + Nat.count (Chose (chunk A n) v) b := by
  rw [Nat.count_add]
  refine congrArg _ ?_
  rw [Nat.count_eq_card_filter_range, Nat.count_eq_card_filter_range]
  refine congrArg Finset.card (Finset.filter_congr fun p hp => ?_)
  have hp : p < b := Finset.mem_range.1 hp
  have e : ∀ h : 16 * n + p < 64, (ix1 (⟨16 * n + p, h⟩ : Fin 64) : S64.Idx) = ix1 (⟨(16 * n + p) % 64, Nat.mod_lt _ (by decide)⟩ : Fin 64) := by
    intro h
    exact congrArg (fun t : Fin 64 => (ix1 t : S64.Idx)) (Fin.ext (Nat.mod_eq_of_lt h).symm)
  constructor
  · rintro ⟨h, e1⟩; exact ⟨by omega, (congrArg A (e h)).symm.trans e1⟩
  · rintro ⟨h, e1⟩; exact ⟨by omega, (congrArg A (e _)).trans e1⟩

theorem runs_at (k : ℕ) (hk : k < 8) : ∀ n ≤ 4, runs A0 A1 run n (lane k (by omega))
    = run (lane k (by omega)) + BitVec.ofNat 32 (Nat.count (Names A0 (BitVec.ofNat 32 k)) (16 * n) + Nat.count (Names A1 (BitVec.ofNat 32 k)) (16 * n))
  | 0, _ => (BitVec.add_zero _).symm
  | n + 1, hn => by
    show runAfter (chunk A1 n) (runAfter (chunk A0 n) (runs A0 A1 run n) 8) 8 _ = _
    rw [runAfter_at _ _ 8 le_rfl, runAfter_at _ _ 8 le_rfl, runs_at k hk n (by omega), if_pos hk, if_pos hk, Nat.mul_succ,
      chunk_chose A0 n (by omega) _ 16 le_rfl, chunk_chose A1 n (by omega) _ 16 le_rfl, BitVec.add_assoc, BitVec.add_assoc, ← BitVec.ofNat_add, ← BitVec.ofNat_add]
    congr 2
    omega

/-- The ranks of a first choice and of a second choice of `v` at word `j`. -/
def rank0 (v : BitVec 32) (j : ℕ) : ℕ := Nat.count (Names A0 v) j + Nat.count (Names A1 v) (16 * (j / 16))
def rank1 (v : BitVec 32) (j : ℕ) : ℕ := Nat.count (Names A0 v) (16 * (j / 16) + 16) + Nat.count (Names A1 v) j

theorem word_chunk (A : S64.Idx → BitVec 32) (j : S64.Idx) : chunk A ((j 0).val / 16) (lane ((j 0).val % 16) (Nat.mod_lt _ (by decide))) = A j := by
  have : (j 0).val < 64 := (j 0).isLt
  refine congrArg A (funext fun a => ?_)
  fin_cases a
  refine Fin.ext ?_
  show (16 * ((j 0).val / 16) + (j 0).val % 16) % 64 = (j 0).val
  omega

theorem slot0_eq (j : S64.Idx) (k : ℕ) (hk : k < 8) (hj : A0 j = BitVec.ofNat 32 k) :
    slot0 A0 A1 run j = run (lane k (by omega)) + BitVec.ofNat 32 (rank0 A0 A1 (A0 j) (j 0).val) := by
  have hj' : (j 0).val < 64 := (j 0).isLt
  unfold slot0 rank0
  refine (slotAfter_at _ _ k _ hk (Nat.mod_lt _ (by decide)) ((word_chunk A0 j).trans hj) 8 le_rfl hk).trans ?_
  rw [runs_at A0 A1 run k hk _ (by omega), hj, BitVec.add_assoc, ← BitVec.ofNat_add]
  have := chunk_chose A0 ((j 0).val / 16) (by omega) (BitVec.ofNat 32 k) ((j 0).val % 16) (by omega)
  rw [show 16 * ((j 0).val / 16) + (j 0).val % 16 = (j 0).val by omega] at this
  congr 2
  omega

theorem slot1_eq (j : S64.Idx) (k : ℕ) (hk : k < 8) (hj : A1 j = BitVec.ofNat 32 k) :
    slot1 A0 A1 run j = run (lane k (by omega)) + BitVec.ofNat 32 (rank1 A0 A1 (A1 j) (j 0).val) := by
  have hj' : (j 0).val < 64 := (j 0).isLt
  unfold slot1 rank1
  refine (slotAfter_at _ _ k _ hk (Nat.mod_lt _ (by decide)) ((word_chunk A1 j).trans hj) 8 le_rfl hk).trans ?_
  rw [runAfter_at _ _ 8 le_rfl, if_pos hk, runs_at A0 A1 run k hk _ (by omega), hj, BitVec.add_assoc, BitVec.add_assoc, ← BitVec.ofNat_add, ← BitVec.ofNat_add]
  have h0 := chunk_chose A0 ((j 0).val / 16) (by omega) (BitVec.ofNat 32 k) 16 le_rfl
  have h1 := chunk_chose A1 ((j 0).val / 16) (by omega) (BitVec.ofNat 32 k) ((j 0).val % 16) (by omega)
  rw [show 16 * ((j 0).val / 16) + (j 0).val % 16 = (j 0).val by omega] at h1
  congr 2
  omega

/-- How many of the tile's choices are `v`. -/
def many (v : BitVec 32) : ℕ := Nat.count (Names A0 v) 64 + Nat.count (Names A1 v) 64

/-- A choice: of which list, at which word. -/
def choice : Bool → S64.Idx → BitVec 32 | false => A0 | true => A1
def rank (l : Bool) (v : BitVec 32) (j : ℕ) : ℕ := match l with | false => rank0 A0 A1 v j | true => rank1 A0 A1 v j

variable {A0 A1}

theorem names_self (A : S64.Idx → BitVec 32) (j : S64.Idx) : Names A (A j) (j 0).val :=
  ⟨(j 0).isLt, congrArg A (funext fun a => by fin_cases a; rfl)⟩

theorem rank_lt (l : Bool) (j : S64.Idx) : rank A0 A1 l (choice A0 A1 l j) (j 0).val < many A0 A1 (choice A0 A1 l j) := by
  have hj : (j 0).val < 64 := (j 0).isLt
  cases l
  · exact Nat.add_lt_add_of_lt_of_le (Nat.count_strict_mono (names_self A0 j) hj) (Nat.count_monotone _ (by omega))
  · exact Nat.add_lt_add_of_le_of_lt (Nat.count_monotone _ (by omega)) (Nat.count_strict_mono (names_self A1 j) hj)

/-- Choices of one run have different ranks. -/
theorem rank_inj (l l' : Bool) (j j' : S64.Idx) (hv : choice A0 A1 l j = choice A0 A1 l' j')
    (h : rank A0 A1 l (choice A0 A1 l j) (j 0).val = rank A0 A1 l' (choice A0 A1 l' j') (j' 0).val) : l = l' ∧ j = j' := by
  have ext : (j 0).val = (j' 0).val → j = j' := fun e => funext fun a => by fin_cases a; exact Fin.ext e
  have s0 : ∀ i i' : S64.Idx, (i 0).val < (i' 0).val → rank0 A0 A1 (A0 i) (i 0).val < rank0 A0 A1 (A0 i) (i' 0).val := fun i i' hi =>
    Nat.add_lt_add_of_lt_of_le (Nat.count_strict_mono (names_self A0 i) hi) (Nat.count_monotone _ (by omega))
  have s1 : ∀ i i' : S64.Idx, (i 0).val < (i' 0).val → rank1 A0 A1 (A1 i) (i 0).val < rank1 A0 A1 (A1 i) (i' 0).val := fun i i' hi =>
    Nat.add_lt_add_of_le_of_lt (Nat.count_monotone _ (by omega)) (Nat.count_strict_mono (names_self A1 i) hi)
  have s2 : ∀ i i' : S64.Idx, A0 i = A1 i' → rank0 A0 A1 (A0 i) (i 0).val ≠ rank1 A0 A1 (A0 i) (i' 0).val := fun i i' hi => by
    have n0 := names_self A0 i
    have n1 := names_self A1 i'
    rw [← hi] at n1
    rcases Nat.lt_or_ge ((i' 0).val / 16) ((i 0).val / 16) with h | h
    · refine (Nat.ne_of_gt ?_)
      exact Nat.add_lt_add_of_le_of_lt (Nat.count_monotone _ (by omega)) (Nat.count_strict_mono n1 (by omega))
    · refine (Nat.ne_of_lt ?_)
      exact Nat.add_lt_add_of_lt_of_le (Nat.count_strict_mono n0 (by omega)) (Nat.count_monotone _ (by omega))
  cases l <;> cases l' <;> simp only [choice, rank] at hv h
  · refine ⟨rfl, ext ?_⟩
    rcases Nat.lt_trichotomy (j 0).val (j' 0).val with g | g | g
    · exact absurd (hv ▸ h) (Nat.ne_of_lt (s0 j j' g))
    · exact g
    · exact absurd (hv.symm ▸ h.symm) (Nat.ne_of_lt (s0 j' j g))
  · exact absurd (hv ▸ h) (s2 j j' hv)
  · exact absurd (hv ▸ h.symm) (s2 j' j hv.symm)
  · refine ⟨rfl, ext ?_⟩
    rcases Nat.lt_trichotomy (j 0).val (j' 0).val with g | g | g
    · exact absurd (hv ▸ h) (Nat.ne_of_lt (s1 j j' g))
    · exact g
    · exact absurd (hv.symm ▸ h.symm) (Nat.ne_of_lt (s1 j' j g))

end Tile

end Cert.Proof.Dispatch

end
-- ==== Proof.DCount.lean ====
/-
  Sums of masks as counts, and a count whose members lie in one window as a count over the window.
-/
module

public import proofs.«01_k».proof.Proof.DRank
public import Idealize.ShloMosaic.Lib.Routing.Words
public import Idealize.ShloMosaic.Lib.ReduceAll

@[expose] public section

namespace Cert.Proof.Dispatch

open Idealize.ShloMosaic Idealize.ShloMosaic.ValueIdx Idealize.ShloMosaic.Routing

/-! ## Bits -/

section Bits
variable {p q : Prop} [Decidable p] [Decidable q]

theorem bit_andi : IntOp.andi (if p then 1#1 else 0#1) (if q then 1#1 else 0#1) = if p ∧ q then 1#1 else 0#1 := by
  by_cases hp : p <;> by_cases hq : q <;> simp only [hp, hq, if_true, if_false, and_self, and_true, and_false] <;> decide

theorem bit_ori : IntOp.ori (if p then 1#1 else 0#1) (if q then 1#1 else 0#1) = if p ∨ q then 1#1 else 0#1 := by
  by_cases hp : p <;> by_cases hq : q <;> simp only [hp, hq, if_true, if_false, or_self, or_true, or_false] <;> decide

theorem bit_select {α : Type} (a b : α) : Scalar.select (if p then 1#1 else 0#1) a b = if p then a else b := by
  by_cases hp : p
  · rw [if_pos hp, if_pos hp]; rfl
  · rw [if_neg hp, if_neg hp]; rfl

theorem bit_one : ((if p then 1#1 else 0#1) = 1#1) ↔ p := by
  by_cases hp : p <;> simp [hp]
end Bits

theorem bit_eq {w : ℕ} (a b : BitVec w) : IntOp.cmpi .eq a b = if a = b then 1#1 else 0#1 := by
  show BitVec.ofBool (a == b) = _
  by_cases h : a = b
  · rw [if_pos h, h]; simp
  · rw [if_neg h, beq_false_of_ne h]; rfl

theorem bit_sle (a b : BitVec 32) : IntOp.cmpi .sle a b = if a.toInt ≤ b.toInt then 1#1 else 0#1 := by
  show BitVec.ofBool (a.sle b) = _
  rw [BitVec.sle_eq_decide]
  by_cases h : a.toInt ≤ b.toInt <;> simp [h]

theorem bit_sge (a b : BitVec 32) : IntOp.cmpi .sge a b = if b.toInt ≤ a.toInt then 1#1 else 0#1 := by
  show BitVec.ofBool (b.sle a) = _
  rw [BitVec.sle_eq_decide]
  by_cases h : b.toInt ≤ a.toInt <;> simp [h]

theorem bit_slt (a b : BitVec 32) : IntOp.cmpi .slt a b = if a.toInt < b.toInt then 1#1 else 0#1 := by
  show BitVec.ofBool (a.slt b) = _
  rw [BitVec.slt_eq_decide]
  by_cases h : a.toInt < b.toInt <;> simp [h]

theorem toInt_small (a : BitVec 32) (h : a.toNat < 2 ^ 31) : a.toInt = a.toNat := by
  rw [BitVec.toInt_eq_toNat_cond, if_pos (by omega)]

theorem toInt_word (n : ℕ) (h : n < 2 ^ 31) : (BitVec.ofNat 32 n).toInt = n := by
  rw [toInt_small _ (by rw [BitVec.toNat_ofNat]; omega), BitVec.toNat_ofNat, Nat.mod_eq_of_lt (by omega)]

theorem word_eq {a b : ℕ} (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

theorem toNat_bounded (u : BitVec 32) (c : ℕ) (hc : c < 2 ^ 31) (h0 : (0 : ℤ) ≤ u.toInt) (h1 : u.toInt ≤ c) : u.toNat ≤ c := by
  rw [BitVec.toInt_eq_toNat_cond] at h0 h1
  have := u.isLt
  split at h0 <;> omega

/-! ## Counts -/

theorem count_congr {P Q : ℕ → Prop} [DecidablePred P] [DecidablePred Q] (n : ℕ) (h : ∀ p < n, P p ↔ Q p) : Nat.count P n = Nat.count Q n := by
  rw [Nat.count_eq_card_filter_range, Nat.count_eq_card_filter_range]
  exact congrArg Finset.card (Finset.filter_congr fun p hp => h p (Finset.mem_range.1 hp))

theorem count_none {P : ℕ → Prop} [DecidablePred P] (n : ℕ) (h : ∀ p < n, ¬ P p) : Nat.count P n = 0 := by
  rw [Nat.count_eq_card_filter_range, Finset.card_eq_zero, Finset.filter_eq_empty_iff]
  exact fun p hp => h p (Finset.mem_range.1 hp)

theorem count_window {P R : ℕ → Prop} [DecidablePred P] [DecidablePred R] (a b N : ℕ) (hN : a + b ≤ N)
    (h : ∀ p < N, P p ↔ a ≤ p ∧ p < a + b ∧ R (p - a)) : Nat.count P N = Nat.count R b := by
  obtain ⟨c, rfl⟩ := Nat.exists_eq_add_of_le hN
  rw [Nat.count_add, Nat.count_add, count_none a, count_none c, Nat.zero_add, Nat.add_zero]
  · refine count_congr b fun k hk => ?_
    rw [h (a + k) (by omega), Nat.add_sub_cancel_left]
    exact ⟨fun x => x.2.2, fun x => ⟨by omega, by omega, x⟩⟩
  · intro k hk x
    have := (h _ (by omega)).1 x
    omega
  · intro k hk x
    have := (h _ (by omega)).1 x
    omega

theorem sum_count (Q : ℕ → Prop) [DecidablePred Q] : ∀ N : ℕ, (∑ q ∈ Finset.range N, if Q q then 1#32 else 0#32) = BitVec.ofNat 32 (Nat.count Q N)
  | 0 => rfl
  | N + 1 => by
    rw [Finset.sum_range_succ, sum_count Q N, Nat.count_succ, BitVec.ofNat_add]
    split <;> rfl

/-- A sum from zero along one axis. -/
theorem reduce_sum_axis {s t u : Shape} {a : Fin s.rank} (x : s.Idx → BitVec 32) (init : u.Idx → BitVec 32) (h' : s.ReducesTo [a] t) (h : s.Reduces [a] t) (hu : 0 < u.numel)
    (hi : ∀ i, init i = 0#32) (j : t.Idx) : Host.reduce IntOp.addi x init h' hu j = ∑ q : Fin (s.size a), x (h.lift j q) := by
  rw [Host.reduce_eq_fold_single IntOp.addi x init h' h hu j, hi]
  rfl

/-- A sum from zero of a mask's ones along one axis counts. -/
theorem reduce_count_axis {s t u : Shape} {a : Fin s.rank} (x : s.Idx → BitVec 32) (init : u.Idx → BitVec 32) (h' : s.ReducesTo [a] t) (h : s.Reduces [a] t) (hu : 0 < u.numel)
    (hi : ∀ i, init i = 0#32) (j : t.Idx) (Q : ℕ → Prop) [DecidablePred Q] (hx : ∀ q : Fin (s.size a), x (h.lift j q) = if Q q.val then 1#32 else 0#32) :
    Host.reduce IntOp.addi x init h' hu j = BitVec.ofNat 32 (Nat.count Q (s.size a)) := by
  rw [reduce_sum_axis x init h' h hu hi j, ← sum_count Q, ← Fin.sum_univ_eq_sum_range (fun q => if Q q then 1#32 else 0#32)]
  exact Finset.sum_congr rfl fun q _ => hx q

/-! ## The lists in groups of sixty-four -/

abbrev S2k : Shape := ⟨1, ![2048]⟩

/-- Word `p` of a list of 2048 is `v`. -/
def Holds (A : S2k.Idx → BitVec 32) (v : BitVec 32) (p : ℕ) : Prop := ∃ hp : p < 2048, A (ix1 (⟨p, hp⟩ : Fin 2048)) = v
instance (A : S2k.Idx → BitVec 32) (v : BitVec 32) : DecidablePred (Holds A v) := fun p => by unfold Holds; infer_instance

/-- Group `w` of a list. -/
def group (A : S2k.Idx → BitVec 32) (w : Fin 32) : Cert.DispatchIdeal.S64.Idx → BitVec 32 :=
  fun j => A (ix1 (⟨64 * w.val + (j 0).val, by have : (j 0).val < 64 := (j 0).isLt; have := w.isLt; omega⟩ : Fin 2048))

/-- Members of group `w` before its word `b` are counted in the group's own list. -/
theorem count_group (A : S2k.Idx → BitVec 32) (v : BitVec 32) (w : Fin 32) (b : ℕ) (hb : b ≤ 64) (P : ℕ → Prop) [DecidablePred P]
    (hP : ∀ p < 2048, P p ↔ (64 * w.val ≤ p ∧ p < 64 * w.val + b) ∧ Holds A v p) : Nat.count P 2048 = Nat.count (Names (group A w) v) b := by
  have hw := w.isLt
  refine count_window (64 * w.val) b 2048 (by omega) fun p hp => (hP p hp).trans ?_
  constructor
  · rintro ⟨⟨h1, h2⟩, h3, e⟩
    refine ⟨h1, h2, by omega, ?_⟩
    rw [← e]
    exact congrArg (fun t : Fin 2048 => A (ix1 t)) (Fin.ext (show 64 * w.val + (p - 64 * w.val) = p by omega))
  · rintro ⟨h1, h2, h3, e⟩
    refine ⟨⟨h1, h2⟩, hp, ?_⟩
    rw [← e]
    exact congrArg (fun t : Fin 2048 => A (ix1 t)) (Fin.ext (show p = 64 * w.val + (p - 64 * w.val) by omega))

end Cert.Proof.Dispatch

end
-- ==== Proof.DPre.lean ====
/-
  What the precondition says in natural numbers: every choice is one of the eight experts, every group's run for an expert
  ends by 7680, and the runs of different groups or experts do not meet.
-/
module

public import proofs.«01_k».proof.Proof.DCount
public import proofs.«01_k».proof.Pre_runs_apart
public import Idealize.ShloMosaic.Lib.WordCmp

@[expose] public section

namespace Cert.Proof.Dispatch

open Idealize.ShloMosaic Idealize.ShloMosaic.ValueIdx Idealize.ShloMosaic.Routing

/-- Group `w`'s choices of expert `e`, both lists. -/
def manyOf (e0 e1 : S2k.Idx → BitVec 32) (w : Fin 32) (e : Fin 8) : ℕ := many (group e0 w) (group e1 w) (BitVec.ofNat 32 e.val)

abbrev S32r : Shape := ⟨2, ![32, 16]⟩

/-- Where group `w`'s run for expert `e` starts. -/
def startOf (run : S32r.Idx → BitVec 32) (w : Fin 32) (e : Fin 8) : BitVec 32 := run (ix2 w (⟨e.val, by omega⟩ : Fin 16))

/-- The lists and the table the dispatch asks for. -/
structure Good (e0 e1 : S2k.Idx → BitVec 32) (run : S32r.Idx → BitVec 32) : Prop where
  lt0 : ∀ t : Fin 2048, (e0 (ix1 t)).toNat < 8
  lt1 : ∀ t : Fin 2048, (e1 (ix1 t)).toNat < 8
  fit : ∀ w e, (startOf run w e).toNat + manyOf e0 e1 w e ≤ 7680
  apart : ∀ w e w' e', ¬ (w = w' ∧ e = e') →
    (startOf run w e).toNat + manyOf e0 e1 w e ≤ (startOf run w' e').toNat ∨ (startOf run w' e').toNat + manyOf e0 e1 w' e' ≤ (startOf run w e).toNat

theorem many_le (A0 A1 : Cert.DispatchIdeal.S64.Idx → BitVec 32) (v : BitVec 32) : many A0 A1 v ≤ 128 := by
  have h0 := Nat.count_le (p := Names A0 v) (n := 64)
  have h1 := Nat.count_le (p := Names A1 v) (n := 64)
  unfold many; omega

section Pre

open Cert.Pre_runs_apart Cert.Pre_runs_apart.Facts
variable {F : FTy → Type} [FloatOps F] [Cert.Pre_runs_apart.Facts]

/-- Where the runs start and where they end, as the precondition reads them. -/
def startT (run : IVec S32x16 32) : IVec S32x8 32 := extractStridedSlice S32x8 ![0, 0] run slices_S32x16_S32x8_0_0

theorem startT_at (run : IVec S32x16 32) (w : Fin 32) (e : Fin 8) : startT run (ix2 w e) = startOf run w e := by
  refine congrArg run (funext fun a => Fin.ext ?_)
  fin_cases a
  · show 0 + w.val = w.val; omega
  · show 0 + e.val = e.val; omega

/-- How many of a list chose each expert in each group, as the precondition counts them. -/
def cnt (A : IVec S2048 32) : IVec S32x8 32 :=
    Host.reduce IntOp.addi
      (fn_where (F := F) (andi
        (broadcastInDim S32x8x2048 ![0, 1, 2] bcast_S32x1x2048_S32x8x2048_0_1_2 (cmpi .eq
          (broadcastInDim S32x1x2048 ![0, 1, 2] bcast_S1x1x2048_S32x1x2048_0_1_2 (broadcastInDim S1x1x2048 ![2] bcast_S2048_S1x1x2048_2
            (Host.divsi (iotaInDim S2048 32 0) (broadcastInDim S2048 ![] bcast_S_S2048 (constantI S_ 32 64#32)))))
          (broadcastInDim S32x1x2048 ![0, 1, 2] bcast_S32x1x1_S32x1x2048_0_1_2 (broadcastInDim S32x1x1 ![0] bcast_S32_S32x1x1_0 (iotaInDim S32 32 0)))))
        (broadcastInDim S32x8x2048 ![0, 1, 2] bcast_S1x8x2048_S32x8x2048_0_1_2 (cmpi .eq
          (broadcastInDim S1x8x2048 ![0, 1, 2] bcast_S1x1x2048_S1x8x2048_0_1_2 (broadcastInDim S1x1x2048 ![2] bcast_S2048_S1x1x2048_2 A))
          (broadcastInDim S1x8x2048 ![0, 1, 2] bcast_S1x8x1_S1x8x2048_0_1_2 (broadcastInDim S1x8x1 ![1] bcast_S8_S1x8x1_1 (iotaInDim S8 32 0))))))
        (constantI S_ 32 1#32) (constantI S_ 32 0#32)) (constantI S_ 32 0#32) reducesTo_S32x8x2048_S32x8_d2 h_S_

theorem cnt_at (A : IVec S2048 32) (w : Fin 32) (e : Fin 8) :
    cnt (F := F) A (ix2 w e) = BitVec.ofNat 32 (Nat.count (Names (group A w) (BitVec.ofNat 32 e.val)) 64) := by
  unfold cnt
  refine (reduce_count_axis _ (constantI S_ 32 0#32) reducesTo_S32x8x2048_S32x8_d2 (show S32x8x2048.Reduces [2] S32x8 by decide) h_S_ (fun _ => rfl) (ix2 w e)
    (fun p => p / 64 = w.val ∧ Holds A (BitVec.ofNat 32 e.val) p) ?_).trans ?_
  rotate_left
  · refine congrArg _ (count_group A _ w 64 le_rfl _ fun p hp => and_congr_left fun _ => ?_)
    omega
  · intro q
    have hl : (show S32x8x2048.Reduces [2] S32x8 by decide).lift (ix2 w e) q = (ix3 w e (⟨q.val, q.isLt⟩ : Fin 2048) : S32x8x2048.Idx) := by
      funext c; apply Fin.ext; fin_cases c <;> rfl
    rw [hl]
    have hq : q.val < 2048 := q.isLt
    have hw := w.isLt
    show Scalar.select (IntOp.andi (IntOp.cmpi .eq (IntOp.divsi .host (BitVec.ofNat 32 q.val) (BitVec.ofNat 32 64)) (BitVec.ofNat 32 w.val))
      (IntOp.cmpi .eq (A _) (BitVec.ofNat 32 e.val))) 1#32 0#32 = _
    rw [divsi_word .host (by omega) (by decide) (by decide), bit_eq, bit_eq, bit_andi, bit_select]
    refine if_congr (and_congr (word_eq (by omega) (by omega)) ?_) rfl rfl
    have hi : ∀ i : S2048.Idx, (i 0).val = q.val → i = ix1 (⟨q.val, hq⟩ : Fin 2048) := fun i h => by
      funext a; fin_cases a; exact Fin.ext h
    exact ⟨fun h => ⟨hq, (congrArg A (hi _ (by rfl)).symm).trans h⟩, fun ⟨_, h⟩ => (congrArg A (hi _ (by rfl))).trans h⟩

def endT (e0 e1 : IVec S2048 32) (run : IVec S32x16 32) : IVec S32x8 32 := addi (addi (startT run) (cnt (F := F) e0)) (cnt (F := F) e1)

/-- A table of the groups' experts, set beside another such table: its word for the first group and expert, and for the second. -/
theorem bc_left {α : Type} (Y : S32x8.Idx → α) (w : Fin 32) (e : Fin 8) (w' : Fin 32) (e' : Fin 8) :
    broadcastInDim S32x8x32x8 ![0, 1, 2, 3] bcast_S32x8x1x1_S32x8x32x8_0_1_2_3 (broadcastInDim S32x8x1x1 ![0, 1] bcast_S32x8_S32x8x1x1_0_1 Y) (ix4 w e w' e') = Y (ix2 w e) :=
  congrArg Y (funext fun a => by fin_cases a <;> rfl)
theorem bc_right {α : Type} (Y : S32x8.Idx → α) (w : Fin 32) (e : Fin 8) (w' : Fin 32) (e' : Fin 8) :
    broadcastInDim S32x8x32x8 ![0, 1, 2, 3] bcast_S1x1x32x8_S32x8x32x8_0_1_2_3 (broadcastInDim S1x1x32x8 ![2, 3] bcast_S32x8_S1x1x32x8_2_3 Y) (ix4 w e w' e') = Y (ix2 w' e') :=
  congrArg Y (funext fun a => by fin_cases a <;> rfl)

/-- The two choose the same group and the same expert. -/
def sameT : IVec S32x8x32x8 1 :=
    andi (broadcastInDim S32x8x32x8 ![0, 1, 2, 3] bcast_S32x1x32x1_S32x8x32x8_0_1_2_3 (cmpi .eq
        (broadcastInDim S32x1x32x1 ![0, 1, 2, 3] bcast_S32x1x1x1_S32x1x32x1_0_1_2_3 (broadcastInDim S32x1x1x1 ![0] bcast_S32_S32x1x1x1_0 (iotaInDim S32 32 0)))
        (broadcastInDim S32x1x32x1 ![0, 1, 2, 3] bcast_S1x1x32x1_S32x1x32x1_0_1_2_3 (broadcastInDim S1x1x32x1 ![2] bcast_S32_S1x1x32x1_2 (iotaInDim S32 32 0)))))
      (broadcastInDim S32x8x32x8 ![0, 1, 2, 3] bcast_S1x8x1x8_S32x8x32x8_0_1_2_3 (cmpi .eq
        (broadcastInDim S1x8x1x8 ![0, 1, 2, 3] bcast_S1x8x1x1_S1x8x1x8_0_1_2_3 (broadcastInDim S1x8x1x1 ![1] bcast_S8_S1x8x1x1_1 (iotaInDim S8 32 0)))
        (broadcastInDim S1x8x1x8 ![0, 1, 2, 3] bcast_S1x1x1x8_S1x8x1x8_0_1_2_3 (broadcastInDim S1x1x1x8 ![3] bcast_S8_S1x1x1x8_3 (iotaInDim S8 32 0)))))

theorem sameT_at (w : Fin 32) (e : Fin 8) (w' : Fin 32) (e' : Fin 8) : sameT (ix4 w e w' e') = if w = w' ∧ e = e' then 1#1 else 0#1 := by
  show IntOp.andi (IntOp.cmpi .eq (BitVec.ofNat 32 w.val) (BitVec.ofNat 32 w'.val)) (IntOp.cmpi .eq (BitVec.ofNat 32 e.val) (BitVec.ofNat 32 e'.val)) = _
  rw [bit_eq, bit_eq, bit_andi]
  refine if_congr (and_congr ((word_eq (by omega) (by omega)).trans Fin.ext_iff.symm) ((word_eq (by omega) (by omega)).trans Fin.ext_iff.symm)) rfl rfl

theorem choice_lt (u : BitVec 32) (e : IntOp.andi (IntOp.cmpi .sge u 0#32) (IntOp.cmpi .slt u 8#32) = 1#1) : u.toNat < 8 := by
  rw [bit_sge, bit_slt, bit_andi, bit_one] at e
  have := toNat_bounded u 7 (by decide) e.1 (by have := e.2; rw [show (8#32).toInt = 8 from by decide] at this; omega)
  omega

theorem run_le (s t : BitVec 32) (n0 n1 : ℕ) (h0 : n0 ≤ 64) (h1 : n1 ≤ 64) (ht : t = s + BitVec.ofNat 32 n0 + BitVec.ofNat 32 n1)
    (e : IntOp.andi (IntOp.andi (IntOp.cmpi .sge s 0#32) (IntOp.cmpi .sle s 7680#32)) (IntOp.cmpi .sle t 7680#32) = 1#1) :
    s.toNat + (n0 + n1) ≤ 7680 ∧ t.toNat = s.toNat + (n0 + n1) := by
  rw [bit_sge, bit_sle, bit_sle, bit_andi, bit_andi, bit_one, show (7680#32).toInt = 7680 from by decide] at e
  have hs := toNat_bounded s 7680 (by decide) e.1.1 e.1.2
  have htn : t.toNat = s.toNat + (n0 + n1) := by
    rw [ht, BitVec.toNat_add, BitVec.toNat_add, BitVec.toNat_ofNat, BitVec.toNat_ofNat]
    omega
  have := toInt_small t (by omega)
  exact ⟨by omega, htn⟩

theorem good_of_pre (x : FVec F S2048x1024 .f32) (e0 e1 : IVec S2048 32) (run : IVec S32x16 32)
    (h : Cert.Pre_runs_apart.fn (F := F) x e0 e1 run = fun _ => 1#1) : Good e0 e1 run := by
  have e := congrFun h ix0
  unfold Cert.Pre_runs_apart.fn fn_part1 fn_part2 fn_part3 fn_part4 at e
  obtain ⟨e, hA⟩ := IntOp.andi_eq_one.1 e
  obtain ⟨e, hF⟩ := IntOp.andi_eq_one.1 e
  obtain ⟨h0, h1⟩ := IntOp.andi_eq_one.1 e
  have h0 := fun t : Fin 2048 => Host.reduce_andi_all _ _ _ _ _ h0 (ix1 t)
  have h1 := fun t : Fin 2048 => Host.reduce_andi_all _ _ _ _ _ h1 (ix1 t)
  have hF : ∀ (w : Fin 32) (e : Fin 8), IntOp.andi (IntOp.andi (IntOp.cmpi .sge (startT run (ix2 w e)) 0#32) (IntOp.cmpi .sle (startT run (ix2 w e)) 7680#32))
      (IntOp.cmpi .sle (endT (F := F) e0 e1 run (ix2 w e)) 7680#32) = 1#1 := fun w e => Host.reduce_andi_all _ _ _ _ _ hF (ix2 w e)
  have hA : ∀ (w : Fin 32) (e : Fin 8) (w' : Fin 32) (e' : Fin 8), ori (ori sameT (cmpi .sle
        (broadcastInDim S32x8x32x8 ![0, 1, 2, 3] bcast_S32x8x1x1_S32x8x32x8_0_1_2_3 (broadcastInDim S32x8x1x1 ![0, 1] bcast_S32x8_S32x8x1x1_0_1 (endT (F := F) e0 e1 run)))
        (broadcastInDim S32x8x32x8 ![0, 1, 2, 3] bcast_S1x1x32x8_S32x8x32x8_0_1_2_3 (broadcastInDim S1x1x32x8 ![2, 3] bcast_S32x8_S1x1x32x8_2_3 (startT run)))))
      (cmpi .sle
        (broadcastInDim S32x8x32x8 ![0, 1, 2, 3] bcast_S1x1x32x8_S32x8x32x8_0_1_2_3 (broadcastInDim S1x1x32x8 ![2, 3] bcast_S32x8_S1x1x32x8_2_3 (endT (F := F) e0 e1 run)))
        (broadcastInDim S32x8x32x8 ![0, 1, 2, 3] bcast_S32x8x1x1_S32x8x32x8_0_1_2_3 (broadcastInDim S32x8x1x1 ![0, 1] bcast_S32x8_S32x8x1x1_0_1 (startT run)))) (ix4 w e w' e') = 1#1 :=
    fun w e w' e' => Host.reduce_andi_all _ _ _ _ _ hA (ix4 w e w' e')
  have end_eq : ∀ (w : Fin 32) (e : Fin 8), endT (F := F) e0 e1 run (ix2 w e) = startT run (ix2 w e)
      + BitVec.ofNat 32 (Nat.count (Names (group e0 w) (BitVec.ofNat 32 e.val)) 64) + BitVec.ofNat 32 (Nat.count (Names (group e1 w) (BitVec.ofNat 32 e.val)) 64) :=
    fun w e => congrArg₂ (· + ·) (congrArg₂ (· + ·) rfl (cnt_at e0 w e)) (cnt_at e1 w e)
  have fit := fun (w : Fin 32) (e : Fin 8) => run_le _ _ _ _ (Nat.count_le _) (Nat.count_le _) (end_eq w e) (hF w e)
  refine ⟨fun t => choice_lt _ (h0 t), fun t => choice_lt _ (h1 t), fun w e => ?_, fun w e w' e' hne => ?_⟩
  · have := (fit w e).1
    rw [startT_at] at this
    exact this
  · have hA := hA w e w' e'
    rw [WordCmp.ori_at, WordCmp.ori_at, WordCmp.cmpi_at, WordCmp.cmpi_at, bc_left, bc_right, bc_left, bc_right, sameT_at, bit_sle, bit_sle, bit_ori, bit_ori, bit_one] at hA
    have f := fit w e
    have f' := fit w' e'
    rw [toInt_small (endT e0 e1 run (ix2 w e)) (by omega), toInt_small (endT e0 e1 run (ix2 w' e')) (by omega),
      toInt_small (startT run (ix2 w e)) (by omega), toInt_small (startT run (ix2 w' e')) (by omega), f.2, f'.2, startT_at, startT_at] at hA
    rcases hA with (hA | hA) | hA
    · exact absurd hA hne
    · exact .inl (by exact_mod_cast hA)
    · exact .inr (by exact_mod_cast hA)

end Pre

end Cert.Proof.Dispatch

end
-- ==== Proof.DSlots.lean ====
/-
  The slots of the whole launch in closed form, and that under the precondition they name distinct rows of the sorted array.
-/
module

public import proofs.«01_k».proof.Proof.DTask
public import proofs.«01_k».proof.Proof.DPre

@[expose] public section

noncomputable section

namespace Cert.Proof.Dispatch

open Cert.DispatchIdeal Cert.DispatchIdeal.Gen
open Idealize.ShloMosaic
open Idealize.ShloMosaic.ValueIdx

variable {F : FTy → Type} [FloatOps F]

/-- The expert a word below eight names. -/
theorem word_small (v : BitVec 32) : v = BitVec.ofNat 32 v.toNat := BitVec.eq_of_toNat_eq (by simp)

/-- The slot of a choice: the start of its group's run for its expert and its rank there. -/
def slotOf (e0 e1 : S2k.Idx → BitVec 32) (run : S32r.Idx → BitVec 32) (l : Bool) (w : Fin 32) (j : S64.Idx) : BitVec 32 :=
  run (ix2 w (⟨(choice (group e0 w) (group e1 w) l j).toNat % 16, Nat.mod_lt _ (by decide)⟩ : Fin 16))
    + BitVec.ofNat 32 (rank (group e0 w) (group e1 w) l (choice (group e0 w) (group e1 w) l j) (j 0).val)

section Good

variable {e0 e1 : S2k.Idx → BitVec 32} {run : S32r.Idx → BitVec 32} (g : Good e0 e1 run)

include g in
theorem choice_small (l : Bool) (w : Fin 32) (j : S64.Idx) : (choice (group e0 w) (group e1 w) l j).toNat < 8 := by
  cases l
  · exact g.lt0 _
  · exact g.lt1 _

/-- The expert of a choice. -/
def expert (l : Bool) (w : Fin 32) (j : S64.Idx) : Fin 8 := ⟨_, choice_small g l w j⟩

theorem slotOf_toNat (l : Bool) (w : Fin 32) (j : S64.Idx) : (slotOf e0 e1 run l w j).toNat = (startOf run w (expert g l w j)).toNat
    + rank (group e0 w) (group e1 w) l (choice (group e0 w) (group e1 w) l j) (j 0).val
    ∧ rank (group e0 w) (group e1 w) l (choice (group e0 w) (group e1 w) l j) (j 0).val < manyOf e0 e1 w (expert g l w j) := by
  have hc := choice_small g l w j
  have hr := rank_lt (A0 := group e0 w) (A1 := group e1 w) l j
  have hm : many (group e0 w) (group e1 w) (choice (group e0 w) (group e1 w) l j) = manyOf e0 e1 w (expert g l w j) :=
    congrArg (many (group e0 w) (group e1 w)) (word_small _)
  have hf := g.fit w (expert g l w j)
  rw [hm] at hr
  have hs : (run (ix2 w (⟨(choice (group e0 w) (group e1 w) l j).toNat % 16, Nat.mod_lt _ (by decide)⟩ : Fin 16))) = startOf run w (expert g l w j) :=
    congrArg (fun k : Fin 16 => run (ix2 w k)) (Fin.ext (Nat.mod_eq_of_lt (by omega)))
  refine ⟨?_, hr⟩
  unfold slotOf
  rw [hs, BitVec.toNat_add, BitVec.toNat_ofNat]
  omega

include g in
theorem slotOf_lt (l : Bool) (w : Fin 32) (j : S64.Idx) : (slotOf e0 e1 run l w j).toNat < 7680 := by
  obtain ⟨h1, h2⟩ := slotOf_toNat g l w j
  have := g.fit w (expert g l w j)
  omega

include g in
theorem slotOf_inj (l l' : Bool) (w w' : Fin 32) (j j' : S64.Idx) (h : (slotOf e0 e1 run l w j).toNat = (slotOf e0 e1 run l' w' j').toNat) :
    l = l' ∧ w = w' ∧ j = j' := by
  obtain ⟨h1, h2⟩ := slotOf_toNat g l w j
  obtain ⟨h1', h2'⟩ := slotOf_toNat g l' w' j'
  rw [h1, h1'] at h
  by_cases he : w = w' ∧ expert g l w j = expert g l' w' j'
  · obtain ⟨rfl, he⟩ := he
    rw [he] at h
    have hv : choice (group e0 w) (group e1 w) l j = choice (group e0 w) (group e1 w) l' j' := BitVec.eq_of_toNat_eq (show (expert g l w j).val = (expert g l' w j').val from congrArg Fin.val he)
    obtain ⟨a, b⟩ := rank_inj l l' j j' hv (Nat.add_left_cancel h)
    exact ⟨a, rfl, b⟩
  · have := g.apart _ _ _ _ he
    omega

end Good

/-! ## The tiles' slots -/

/-- The group of a tile. -/
def gr (i : grid0.Coords) : Fin 32 := ⟨2 * (i 1).val + (i 0).val, by have := i0_lt i; have := i1_lt i; omega⟩

theorem gr_inj {i i' : grid0.Coords} (h : gr i = gr i') : i = i' := by
  have := i0_lt i
  have := i0_lt i'
  have h : 2 * (i 1).val + (i 0).val = 2 * (i' 1).val + (i' 0).val := congrArg Fin.val h
  exact grid_ext (by omega) (by omega)

theorem mineR_emb (i : grid0.Coords) (k : Fin 16) :
    (Rect.unit (s := S32x16) (k0_off3 i) S1x16.size (Gen.k0_off3_inb i)).emb (Shape.reshapeEquiv Gen.squeezes_S1x16_S16.numel_eq (ix1 k)) = (ix2 (gr i) k : S32x16.Idx) := by
  have e := Gen.k0_off3_eq i
  have hr : Shape.reshapeEquiv Gen.squeezes_S1x16_S16.numel_eq (ix1 k : S16.Idx) = (ix2 (0 : Fin 1) k : S1x16.Idx) :=
    Shape.reshapeEquiv_eq_of_rowMajor _ (by
      rw [Shape.rowMajor_val_two, Shape.rowMajor_val_one]
      show 0 * 16 + k.val = k.val
      omega)
  rw [hr]
  funext a
  refine Fin.ext ?_
  rw [Rect.emb_apply]
  fin_cases a
  · show (k0_off3 i) 0 + 1 * 0 = 2 * (i 1).val + (i 0).val
    rw [e]; rfl
  · show (k0_off3 i) 1 + 1 * k.val = k.val
    rw [e, Nat.one_mul]; exact Nat.zero_add _

section Tiles

variable (m : (ℓ : Loc nD τ sig) → Buf (Elt F) ℓ) (d : Dev nD)

theorem group_tok (A : S2048.Idx → BitVec 32) (i : grid0.Coords) (j : S64.Idx) : group A (gr i) j = A (ix1 (tok i j)) :=
  congrArg (fun t : Fin 2048 => A (ix1 t)) (Fin.ext (show 64 * (2 * (i 1).val + (i 0).val) + (j 0).val = 128 * (i 1).val + 64 * (i 0).val + (j 0).val by omega))

theorem c0_eq (i : grid0.Coords) : c0 i d prog (m (e0Loc d)) = group (m (e0Loc d)) (gr i) := funext fun j =>
  (congrArg (m (e0Loc d)) (mineL_emb i j)).trans (group_tok _ i j).symm
theorem c1_eq (i : grid0.Coords) : c1 i d prog (m (e1Loc d)) = group (m (e1Loc d)) (gr i) := funext fun j =>
  (congrArg (m (e1Loc d)) (mineL_emb i j)).trans (group_tok _ i j).symm
theorem r0_at (i : grid0.Coords) (k : ℕ) (hk : k < 16) : r0 i d prog (m (rLoc d)) (lane k hk) = m (rLoc d) (ix2 (gr i) (⟨k, hk⟩ : Fin 16) : S32x16.Idx) :=
  congrArg (m (rLoc d)) (mineR_emb i ⟨k, hk⟩)

variable (g : Good (m (e0Loc d)) (m (e1Loc d)) (m (rLoc d)))

include g in
theorem sT_eq (l : Bool) (i : grid0.Coords) (j : S64.Idx) : sT m d l i j = slotOf (m (e0Loc d)) (m (e1Loc d)) (m (rLoc d)) l (gr i) j := by
  have hc := choice_small g l (gr i) j
  have hm : (choice (group (m (e0Loc d)) (gr i)) (group (m (e1Loc d)) (gr i)) l j).toNat % 16 = (choice (group (m (e0Loc d)) (gr i)) (group (m (e1Loc d)) (gr i)) l j).toNat := Nat.mod_eq_of_lt (by omega)
  unfold slotOf
  cases l
  · show slot0 (c0 i d prog (m (e0Loc d))) (c1 i d prog (m (e1Loc d))) (r0 i d prog (m (rLoc d))) j = _
    rw [c0_eq, c1_eq]
    refine (slot0_eq _ _ _ j _ hc (word_small _)).trans ?_
    rw [r0_at]
    exact congrArg (fun k : Fin 16 => (show S32x16.Idx → BitVec 32 from m (rLoc d)) (ix2 (gr i) k) + _) (Fin.ext hm.symm)
  · show slot1 (c0 i d prog (m (e0Loc d))) (c1 i d prog (m (e1Loc d))) (r0 i d prog (m (rLoc d))) j = _
    rw [c0_eq, c1_eq]
    refine (slot1_eq _ _ _ j _ hc (word_small _)).trans ?_
    rw [r0_at]
    exact congrArg (fun k : Fin 16 => (show S32x16.Idx → BitVec 32 from m (rLoc d)) (ix2 (gr i) k) + _) (Fin.ext hm.symm)

end Tiles

theorem slots_ok (m : (ℓ : Loc nD τ sig) → Buf (Elt F) ℓ) (g : ∀ d, Good (m (e0Loc d)) (m (e1Loc d)) (m (rLoc d))) : SlotsOK m where
  lt d l i j := by rw [sT_eq m d (g d)]; exact slotOf_lt (g d) _ _ _
  inj d l i j l' i' j' h := by
    rw [sT_eq m d (g d), sT_eq m d (g d)] at h
    obtain ⟨a, b, c⟩ := slotOf_inj (g d) _ _ _ _ _ _ h
    exact ⟨a, gr_inj b, c⟩

end Cert.Proof.Dispatch

end
-- ==== Proof.DRef.lean ====
/-
  The reference's slots: its counts over the whole list, read one token at a time, are the ranks of the closed form.
-/
module

public import proofs.«01_k».proof.Proof.DSlots
public import proofs.«01_k».proof.Proof.Gen.DispatchReferenceIdeal.Run
public import Idealize.ShloMosaic.Lib.WordCmp
public import Idealize.ShloMosaic.Lib.Routing.Ops

@[expose] public section

noncomputable section

namespace Cert.Proof.Dispatch.Ref

open Cert.DispatchReferenceIdeal Cert.DispatchReferenceIdeal.Gen
open Idealize.ShloMosaic
open Idealize.ShloMosaic.ValueIdx Idealize.ShloMosaic.Routing
open Cert.Proof.Dispatch

variable {F : FTy → Type} [FloatOps F]

/-! ## The reference's parts -/

/-- The tokens' numbers, their groups, and their sixteens. -/
def num : IVec S2048 32 := iotaInDim S2048 32 0
def seg : IVec S2048 32 := Host.divsi num (broadcastInDim S2048 ![] bcast_S_S2048 (constantI S_ 32 64#32))
def six : IVec S2048 32 := Host.divsi num (broadcastInDim S2048 ![] bcast_S_S2048 (constantI S_ 32 16#32))
/-- A list down the square's rows, and along its columns. -/
def down (X : IVec S2048 32) : IVec S2048x2048 32 :=
  broadcastInDim S2048x2048 ![0, 1] bcast_S2048x1_S2048x2048_0_1 (broadcastInDim S2048x1 ![0] bcast_S2048_S2048x1_0 X)
def along (X : IVec S2048 32) : IVec S2048x2048 32 :=
  broadcastInDim S2048x2048 ![0, 1] bcast_S1x2048_S2048x2048_0_1 (broadcastInDim S1x2048 ![1] bcast_S2048_S1x2048_1 X)
def together : IVec S2048x2048 1 := cmpi .eq (down seg) (along seg)
def earlier : IVec S2048x2048 1 := andi together (cmpi .slt (along num) (down num))
def before : IVec S2048x2048 1 := andi together (cmpi .slt (along six) (down six))
def upto : IVec S2048x2048 1 := andi together (cmpi .sle (along six) (down six))
/-- How many tokens under the mask the list `A` gives a token's own word of `B`. -/
def tally (mask : IVec S2048x2048 1) (A B : IVec S2048 32) : IVec S2048 32 :=
  Host.reduce IntOp.addi (id (select (andi mask (cmpi .eq (along A) (down B)))
    (broadcastInDim S2048x2048 ![] bcast_S_S2048x2048 (constantI S_ 32 1#32)) (broadcastInDim S2048x2048 ![] bcast_S_S2048x2048 (constantI S_ 32 0#32))))
    (constantI S_ 32 0#32) reducesTo_S2048x2048_S2048_d1 h_S_
/-- A list's negative words raised by `n`. -/
def wrapped (X : IVec S2048 32) (n : BitVec 32) : IVec S2048x1 32 :=
  broadcastInDim S2048x1 ![0] bcast_S2048_S2048x1_0 (select (cmpi .slt X (broadcastInDim S2048 ![] bcast_S_S2048 (constantI S_ 32 0#32)))
    (addi X (broadcastInDim S2048 ![] bcast_S_S2048 (constantI S_ 32 n))) X)
/-- The start of a token's own run. -/
def opening (run : IVec S32x16 32) (B : IVec S2048 32) : IVec S2048 32 :=
  Host.reduce IntOp.addi (select (cmpi .eq
      (broadcastInDim S2048x16 ![0, 1] bcast_S1x16_S2048x16_0_1 (broadcastInDim S1x16 ![1] bcast_S16_S1x16_1 (iotaInDim S16 32 0)))
      (broadcastInDim S2048x16 ![0, 1] bcast_S2048x1_S2048x16_0_1 (broadcastInDim S2048x1 ![0] bcast_S2048_S2048x1_0 B)))
    (Host.gather gather_S32x16_S2048x1_S2048x16_1_0_n_n_0_1_116 run (wrapped seg 32#32))
    (broadcastInDim S2048x16 ![] bcast_S_S2048x16 (id (constantI S_ 32 0#32))))
    (constantI S_ 32 0#32) reducesTo_S2048x16_S2048_d1 h_S_
def firsts (e0 e1 : IVec S2048 32) (run : IVec S32x16 32) : IVec S2048 32 := addi (addi (opening run e0) (tally earlier e0 e0)) (tally before e1 e0)
def seconds (e0 e1 : IVec S2048 32) (run : IVec S32x16 32) : IVec S2048 32 := addi (addi (opening run e1) (tally upto e0 e1)) (tally earlier e1 e1)

/-! ## Their words -/

theorem ix1_of {i : S2048.Idx} (t : Fin 2048) (h : (i 0).val = t.val) : i = ix1 t := by
  funext a; fin_cases a; exact Fin.ext h

theorem down_at (X : IVec S2048 32) (t q : Fin 2048) : down X (ix2 t q) = X (ix1 t) := congrArg X (ix1_of t rfl)
theorem along_at (X : IVec S2048 32) (t q : Fin 2048) : along X (ix2 t q) = X (ix1 q) := congrArg X (ix1_of q rfl)

theorem num_at (t : Fin 2048) : num (ix1 t) = BitVec.ofNat 32 t.val := rfl
theorem seg_at (t : Fin 2048) : seg (ix1 t) = BitVec.ofNat 32 (t.val / 64) := by
  have := t.isLt
  show IntOp.divsi .host (BitVec.ofNat 32 t.val) (BitVec.ofNat 32 64) = _
  exact divsi_word .host (by omega) (by decide) (by decide)
theorem six_at (t : Fin 2048) : six (ix1 t) = BitVec.ofNat 32 (t.val / 16) := by
  have := t.isLt
  show IntOp.divsi .host (BitVec.ofNat 32 t.val) (BitVec.ofNat 32 16) = _
  exact divsi_word .host (by omega) (by decide) (by decide)

theorem together_at (t q : Fin 2048) : together (ix2 t q) = if t.val / 64 = q.val / 64 then 1#1 else 0#1 := by
  have := t.isLt
  have := q.isLt
  show IntOp.cmpi .eq (down seg (ix2 t q)) (along seg (ix2 t q)) = _
  rw [down_at, along_at, seg_at, seg_at, bit_eq]
  exact if_congr (word_eq (by omega) (by omega)) rfl rfl

theorem less_at (X : IVec S2048 32) (f : ℕ → ℕ) (hf : ∀ n, f n ≤ n) (hX : ∀ t : Fin 2048, X (ix1 t) = BitVec.ofNat 32 (f t.val)) (t q : Fin 2048) :
    cmpi .slt (along X) (down X) (ix2 t q) = if f q.val < f t.val then 1#1 else 0#1 := by
  have h1 := t.isLt
  have h2 := q.isLt
  have := hf t.val
  have := hf q.val
  show IntOp.cmpi .slt (along X (ix2 t q)) (down X (ix2 t q)) = _
  rw [down_at, along_at, hX, hX, bit_slt, toInt_word _ (by omega), toInt_word _ (by omega)]
  exact if_congr Int.ofNat_lt rfl rfl

theorem most_at (X : IVec S2048 32) (f : ℕ → ℕ) (hf : ∀ n, f n ≤ n) (hX : ∀ t : Fin 2048, X (ix1 t) = BitVec.ofNat 32 (f t.val)) (t q : Fin 2048) :
    cmpi .sle (along X) (down X) (ix2 t q) = if f q.val ≤ f t.val then 1#1 else 0#1 := by
  have h1 := t.isLt
  have h2 := q.isLt
  have := hf t.val
  have := hf q.val
  show IntOp.cmpi .sle (along X (ix2 t q)) (down X (ix2 t q)) = _
  rw [down_at, along_at, hX, hX, bit_sle, toInt_word _ (by omega), toInt_word _ (by omega)]
  exact if_congr Int.ofNat_le rfl rfl

theorem earlier_at (t q : Fin 2048) : earlier (ix2 t q) = if t.val / 64 = q.val / 64 ∧ q.val < t.val then 1#1 else 0#1 := by
  show IntOp.andi (together (ix2 t q)) (cmpi .slt (along num) (down num) (ix2 t q)) = _
  rw [together_at, less_at num (fun n => n) (fun _ => le_rfl) num_at, bit_andi]
theorem before_at (t q : Fin 2048) : before (ix2 t q) = if t.val / 64 = q.val / 64 ∧ q.val / 16 < t.val / 16 then 1#1 else 0#1 := by
  show IntOp.andi (together (ix2 t q)) (cmpi .slt (along six) (down six) (ix2 t q)) = _
  rw [together_at, less_at six (fun n => n / 16) (fun _ => Nat.div_le_self _ _) six_at, bit_andi]
theorem upto_at (t q : Fin 2048) : upto (ix2 t q) = if t.val / 64 = q.val / 64 ∧ q.val / 16 ≤ t.val / 16 then 1#1 else 0#1 := by
  show IntOp.andi (together (ix2 t q)) (cmpi .sle (along six) (down six) (ix2 t q)) = _
  rw [together_at, most_at six (fun n => n / 16) (fun _ => Nat.div_le_self _ _) six_at, bit_andi]

/-! ## The counts -/

/-- A count under a mask that holds of the first `b` words of the token's group. -/
theorem tally_at (mask : IVec S2048x2048 1) (A B : IVec S2048 32) (t : Fin 2048) (w : Fin 32) (b : ℕ) (hb : b ≤ 64) (M : ℕ → Prop) [DecidablePred M]
    (hm : ∀ q : Fin 2048, mask (ix2 t q) = if M q.val then 1#1 else 0#1) (hM : ∀ p < 2048, M p ↔ 64 * w.val ≤ p ∧ p < 64 * w.val + b) :
    tally mask A B (ix1 t) = BitVec.ofNat 32 (Nat.count (Names (group A w) (B (ix1 t))) b) := by
  unfold tally
  refine (reduce_count_axis _ (constantI S_ 32 0#32) reducesTo_S2048x2048_S2048_d1 (show S2048x2048.Reduces [1] S2048 by decide) h_S_ (fun _ => rfl) (ix1 t)
    (fun p => M p ∧ Holds A (B (ix1 t)) p) ?_).trans ?_
  rotate_left
  · exact congrArg _ (count_group A _ w b hb _ fun p hp => and_congr_left fun _ => hM p hp)
  · intro q
    have hl : (show S2048x2048.Reduces [1] S2048 by decide).lift (ix1 t) q = (ix2 t (⟨q.val, q.isLt⟩ : Fin 2048) : S2048x2048.Idx) := by
      funext c; apply Fin.ext; fin_cases c <;> rfl
    rw [hl]
    have hq : q.val < 2048 := q.isLt
    show Scalar.select (IntOp.andi (mask (ix2 t ⟨q.val, hq⟩)) (IntOp.cmpi .eq (along A (ix2 t ⟨q.val, hq⟩)) (down B (ix2 t ⟨q.val, hq⟩)))) 1#32 0#32 = _
    rw [down_at, along_at, hm, bit_eq, bit_andi, bit_select]
    exact if_congr (and_congr Iff.rfl ⟨fun h => ⟨hq, h⟩, fun ⟨_, h⟩ => h⟩) rfl rfl

/-- A list of small words is never raised. -/
theorem wrapped_at (X : IVec S2048 32) (n : BitVec 32) (t : Fin 2048) (h : (X (ix1 t)).toNat < 2 ^ 31) : wrapped X n (ix2 t (0 : Fin 1)) = X (ix1 t) := by
  have e : ∀ i : S2048.Idx, i = ix1 t → Scalar.select (IntOp.cmpi .slt (X i) 0#32) (IntOp.addi (X i) n) (X i) = X (ix1 t) := by
    rintro _ rfl
    rw [bit_slt, bit_select, toInt_small _ h]
    exact if_neg (show ¬ ((X (ix1 t)).toNat : ℤ) < 0 by omega)
  exact e _ (ix1_of t rfl)

/-- The group's row of the table of starts. -/
theorem starts_at (run : IVec S32x16 32) (t : Fin 2048) (c : Fin 16) :
    Host.gather gather_S32x16_S2048x1_S2048x16_1_0_n_n_0_1_116 run (wrapped seg 32#32) (ix2 t c)
      = run (ix2 (⟨t.val / 64, by have := t.isLt; omega⟩ : Fin 32) c) := by
  have ht := t.isLt
  refine gather_row gather_S32x16_S2048x1_S2048x16_1_0_n_n_0_1_116 rfl rfl rfl rfl rfl run _ t c ⟨t.val / 64, by omega⟩ ?_ (by decide)
  have e : (seg (ix1 t)).toNat < 2 ^ 31 := by rw [seg_at, BitVec.toNat_ofNat]; omega
  rw [wrapped_at seg _ t e, seg_at]

theorem opening_at (run : IVec S32x16 32) (B : IVec S2048 32) (t : Fin 2048) (h : (B (ix1 t)).toNat < 16) :
    opening run B (ix1 t) = run (ix2 (⟨t.val / 64, by have := t.isLt; omega⟩ : Fin 32) (⟨(B (ix1 t)).toNat, h⟩ : Fin 16)) := by
  unfold opening
  refine (reduce_sum_axis _ (constantI S_ 32 0#32) reducesTo_S2048x16_S2048_d1 (show S2048x16.Reduces [1] S2048 by decide) h_S_ (fun _ => rfl) (ix1 t)).trans ?_
  have hw : ∀ c : Fin 16, (BitVec.ofNat 32 c.val = B (ix1 t)) ↔ c = ⟨(B (ix1 t)).toNat, h⟩ := fun c => by
    rw [Fin.ext_iff]
    constructor
    · intro e
      have := congrArg BitVec.toNat e
      rw [BitVec.toNat_ofNat] at this
      have hc : c.val < 16 := c.isLt
      exact (Nat.mod_eq_of_lt (show c.val < 2 ^ 32 by omega)).symm.trans this
    · intro e
      exact BitVec.eq_of_toNat_eq (by rw [BitVec.toNat_ofNat, e]; exact Nat.mod_eq_of_lt (B (ix1 t)).isLt)
  refine (Finset.sum_congr rfl fun (c : Fin 16) _ => ?_).trans
    (Finset.sum_ite_eq' Finset.univ (⟨(B (ix1 t)).toNat, h⟩ : Fin 16) (fun c => run (ix2 (⟨t.val / 64, by have := t.isLt; omega⟩ : Fin 32) c)) |>.trans (if_pos (Finset.mem_univ _)))
  have hl : (show S2048x16.Reduces [1] S2048 by decide).lift (ix1 t) c = (ix2 t c : S2048x16.Idx) := by
    funext a; apply Fin.ext; fin_cases a <;> rfl
  rw [hl]
  have e : ∀ i : S2048.Idx, i = ix1 t → Scalar.select (IntOp.cmpi .eq (BitVec.ofNat 32 c.val) (B i))
      (Host.gather gather_S32x16_S2048x1_S2048x16_1_0_n_n_0_1_116 run (wrapped seg 32#32) (ix2 t c)) 0#32
      = if c = ⟨(B (ix1 t)).toNat, h⟩ then run (ix2 (⟨t.val / 64, by have := t.isLt; omega⟩ : Fin 32) c) else 0#32 := by
    rintro _ rfl
    rw [bit_eq, bit_select, starts_at]
    exact if_congr (hw c) rfl rfl
  exact e _ (ix1_of t rfl)

/-! ## The slots -/

/-- A token's group. -/
def grp (t : Fin 2048) : Fin 32 := ⟨t.val / 64, by have := t.isLt; omega⟩

theorem group_at (A : IVec S2048 32) (t : Fin 2048) : group A (grp t) (wordAt t) = A (ix1 t) :=
  congrArg (fun t : Fin 2048 => A (ix1 t)) (Fin.ext (show 64 * (t.val / 64) + t.val % 64 = t.val by omega))

/-- A slot by the expert its choice names. -/
theorem slotOf_of (e0 e1 : IVec S2048 32) (run : IVec S32x16 32) (l : Bool) (w : Fin 32) (j : Cert.DispatchIdeal.S64.Idx) {v : BitVec 32}
    (hc : choice (group e0 w) (group e1 w) l j = v) (hv : v.toNat < 16) :
    slotOf e0 e1 run l w j = run (ix2 w (⟨v.toNat, hv⟩ : Fin 16)) + BitVec.ofNat 32 (rank (group e0 w) (group e1 w) l v (j 0).val) := by
  subst hc
  exact congrArg (fun c : Fin 16 => run (ix2 w c) + BitVec.ofNat 32 (rank (group e0 w) (group e1 w) l (choice (group e0 w) (group e1 w) l j) (j 0).val))
    (Fin.ext (Nat.mod_eq_of_lt hv))

section
variable {e0 e1 : IVec S2048 32} {run : IVec S32x16 32} (g : Good e0 e1 run)
include g

theorem firsts_at (t : Fin 2048) : firsts e0 e1 run (ix1 t) = slotOf e0 e1 run false (grp t) (wordAt t) := by
  have ht := t.isLt
  have hs : (e0 (ix1 t)).toNat < 16 := lt_trans (g.lt0 t) (by decide)
  have h1 : tally earlier e0 e0 (ix1 t) = _ := tally_at earlier e0 e0 t (grp t) (t.val % 64) (by omega) (fun p => t.val / 64 = p / 64 ∧ p < t.val)
    (earlier_at t) (fun p hp => by show _ ↔ 64 * (t.val / 64) ≤ p ∧ p < 64 * (t.val / 64) + t.val % 64; omega)
  have h2 : tally before e1 e0 (ix1 t) = _ := tally_at before e1 e0 t (grp t) (16 * (t.val % 64 / 16)) (by omega) (fun p => t.val / 64 = p / 64 ∧ p / 16 < t.val / 16)
    (before_at t) (fun p hp => by show _ ↔ 64 * (t.val / 64) ≤ p ∧ p < 64 * (t.val / 64) + 16 * (t.val % 64 / 16); omega)
  show (opening run e0 (ix1 t) + tally earlier e0 e0 (ix1 t)) + tally before e1 e0 (ix1 t) = _
  rw [h1, h2, opening_at run e0 t hs, BitVec.add_assoc, ← BitVec.ofNat_add]
  have hc : choice (group e0 (grp t)) (group e1 (grp t)) false (wordAt t) = e0 (ix1 t) := group_at e0 t
  exact (slotOf_of e0 e1 run false (grp t) (wordAt t) hc hs).symm

theorem seconds_at (t : Fin 2048) : seconds e0 e1 run (ix1 t) = slotOf e0 e1 run true (grp t) (wordAt t) := by
  have ht := t.isLt
  have hs : (e1 (ix1 t)).toNat < 16 := lt_trans (g.lt1 t) (by decide)
  have h1 : tally earlier e1 e1 (ix1 t) = _ := tally_at earlier e1 e1 t (grp t) (t.val % 64) (by omega) (fun p => t.val / 64 = p / 64 ∧ p < t.val)
    (earlier_at t) (fun p hp => by show _ ↔ 64 * (t.val / 64) ≤ p ∧ p < 64 * (t.val / 64) + t.val % 64; omega)
  have h2 : tally upto e0 e1 (ix1 t) = _ := tally_at upto e0 e1 t (grp t) (16 * (t.val % 64 / 16) + 16) (by omega) (fun p => t.val / 64 = p / 64 ∧ p / 16 ≤ t.val / 16)
    (upto_at t) (fun p hp => by show _ ↔ 64 * (t.val / 64) ≤ p ∧ p < 64 * (t.val / 64) + (16 * (t.val % 64 / 16) + 16); omega)
  show (opening run e1 (ix1 t) + tally upto e0 e1 (ix1 t)) + tally earlier e1 e1 (ix1 t) = _
  rw [h1, h2, opening_at run e1 t hs, BitVec.add_assoc, ← BitVec.ofNat_add]
  have hc : choice (group e0 (grp t)) (group e1 (grp t)) true (wordAt t) = e1 (ix1 t) := group_at e1 t
  exact (slotOf_of e0 e1 run true (grp t) (wordAt t) hc hs).symm

end

end Cert.Proof.Dispatch.Ref

end

end
-- ==== Proof.DRows.lean ====
/-
  The reference's sorted array, read at the rows the slots name, and the reading of the mask that says which those are.
-/
module

public import proofs.«01_k».proof.Proof.DRef
public import proofs.«01_k».proof.Proof.Gen.On_slots_taken
public import Idealize.ShloMosaic.Lib.Routing.OpsSet
public import Idealize.ShloMosaic.Lib.Routing.OpsPair

@[expose] public section

noncomputable section

namespace Cert.Proof.Dispatch.Ref

open Cert.DispatchReferenceIdeal Cert.DispatchReferenceIdeal.Gen
open Idealize.ShloMosaic
open Idealize.ShloMosaic.ValueIdx Idealize.ShloMosaic.Routing
open Cert.Proof.Dispatch

variable {F : FTy → Type} [FloatOps F]

/-! ## Where a row lands -/

/-- Entry `c'` of row `t` lands on row `r`, entry `c`, exactly when the row's word is `r` and `c'` is `c`. -/
theorem lands_at (idx : IVec S2048x1 32) (t : Fin 2048) (c' : Fin 1024) (r : Fin 7680) (c : Fin 1024) :
    scatter_S7680x1024_S2048x1_S2048x1024_1_0_0_1.resultIdx? (ix2 t c') idx = some (ix2 r c) ↔ (idx (ix2 t (0 : Fin 1))).toInt = (r.val : ℤ) ∧ c' = c := by
  have w0 : scatter_S7680x1024_S2048x1_S2048x1024_1_0_0_1.window (ix2 t c') 0 = 0 := rfl
  have w1 : scatter_S7680x1024_S2048x1_S2048x1024_1_0_0_1.window (ix2 t c') 1 = c'.val := rfl
  have b1 : scatter_S7680x1024_S2048x1_S2048x1024_1_0_0_1.start (ix2 t c') idx 1 = 0 := rfl
  have b0 : scatter_S7680x1024_S2048x1_S2048x1024_1_0_0_1.start (ix2 t c') idx 0 = (idx (ix2 t (0 : Fin 1))).toInt :=
    congrArg (fun i => (idx i).toInt) (by funext a; apply Fin.ext; fin_cases a <;> rfl)
  refine (resultIdx?_ix2 scatter_S7680x1024_S2048x1_S2048x1024_1_0_0_1 (ix2 t c') idx r c).trans ?_
  rw [w0, w1, b0, b1, Fin.ext_iff]
  omega

/-- A table after the rows of `x` are put on it at the slots `s`. -/
def placed (x : FVec F S2048x1024 .f32) (s : IVec S2048 32) (T : FVec F S7680x1024 .f32) : FVec F S7680x1024 .f32 :=
  Host.scatter scatter_S7680x1024_S2048x1_S2048x1024_1_0_0_1 (fun _ b => b) T (wrapped s 7680#32) x

section
variable (x : FVec F S2048x1024 .f32) (s : IVec S2048 32) (hs : ∀ t : Fin 2048, (s (ix1 t)).toNat < 7680) (T : FVec F S7680x1024 .f32)
include hs

theorem lands_slot (k : S2048x1024.Idx) (r : Fin 7680) (c : Fin 1024) :
    scatter_S7680x1024_S2048x1_S2048x1024_1_0_0_1.resultIdx? k (wrapped s 7680#32) = some (ix2 r c) ↔ (s (ix1 (k 0))).toNat = r.val ∧ k 1 = c := by
  have hk : (ix2 (k 0) (k 1) : S2048x1024.Idx) = k := by funext a; fin_cases a <;> rfl
  have hb := hs (k 0)
  have h31 : (s (ix1 (k 0))).toNat < 2 ^ 31 := by omega
  have key := lands_at (wrapped s 7680#32) (k 0) (k 1) r c
  rw [wrapped_at s _ (k 0) h31, toInt_small _ h31] at key
  exact (Eq.to_iff (congrArg (fun i => scatter_S7680x1024_S2048x1_S2048x1024_1_0_0_1.resultIdx? i (wrapped s 7680#32) = some (ix2 r c)) hk.symm)).trans
    (key.trans (and_congr Int.ofNat_inj Iff.rfl))

theorem placed_hit (hinj : ∀ t t' : Fin 2048, (s (ix1 t)).toNat = (s (ix1 t')).toNat → t = t') (t : Fin 2048) (r : Fin 7680) (c : Fin 1024)
    (h : (s (ix1 t)).toNat = r.val) : placed x s T (ix2 r c) = x (ix2 t c) := by
  refine scatter_set_hit _ T (wrapped s 7680#32) x (ix2 r c) _ (fun k hk => ?_) (ix2 t c) ((lands_slot s hs (ix2 t c) r c).2 ⟨h, rfl⟩)
  obtain ⟨h1, h2⟩ := (lands_slot s hs k r c).1 hk
  have h3 : k 0 = t := hinj _ _ (h1.trans h.symm)
  refine congrArg x ?_
  funext a
  fin_cases a
  · exact h3
  · exact h2

theorem placed_miss (r : Fin 7680) (c : Fin 1024) (h : ∀ t : Fin 2048, (s (ix1 t)).toNat ≠ r.val) : placed x s T (ix2 r c) = T (ix2 r c) :=
  scatter_set_miss _ T (wrapped s 7680#32) x (ix2 r c) fun k hk => h (k 0) ((lands_slot s hs k r c).1 hk).1

end

/-- The reference's sorted array. -/
def table (x : FVec F S2048x1024 .f32) (e0 e1 : IVec S2048 32) (run : IVec S32x16 32) : FVec F S7680x1024 .f32 :=
  placed x (seconds e0 e1 run) (placed x (firsts e0 e1 run) (broadcastInDim S7680x1024 ![] bcast_S_S7680x1024 (constant S_ .f32 0x00000000#32)))

theorem grp_inj {t t' : Fin 2048} (h : grp t = grp t') (h' : wordAt t = wordAt t') : t = t' := by
  have h1 : t.val / 64 = t'.val / 64 := congrArg Fin.val h
  have h2 : t.val % 64 = t'.val % 64 := congrArg (fun j : Cert.DispatchIdeal.S64.Idx => (j 0).val) h'
  apply Fin.ext
  omega

section
variable {e0 e1 : IVec S2048 32} {run : IVec S32x16 32} (g : Good e0 e1 run) (x : FVec F S2048x1024 .f32)
include g

/-- A row a choice's slot names holds the choice's token. -/
theorem table_at (l : Bool) (t : Fin 2048) (r : Fin 7680) (c : Fin 1024) (h : (slotOf e0 e1 run l (grp t) (wordAt t)).toNat = r.val) :
    table x e0 e1 run (ix2 r c) = x (ix2 t c) := by
  have b0 : ∀ t : Fin 2048, (firsts e0 e1 run (ix1 t)).toNat < 7680 := fun t => by rw [firsts_at g]; exact slotOf_lt g _ _ _
  have b1 : ∀ t : Fin 2048, (seconds e0 e1 run (ix1 t)).toNat < 7680 := fun t => by rw [seconds_at g]; exact slotOf_lt g _ _ _
  cases l
  · refine (placed_miss x _ b1 _ r c fun t' h' => ?_).trans (placed_hit x _ b0 _ (fun t t' e => ?_) t r c (by rw [firsts_at g]; exact h))
    · rw [seconds_at g] at h'
      have := (slotOf_inj g _ _ _ _ _ _ (h'.trans h.symm)).1
      cases this
    · rw [firsts_at g, firsts_at g] at e
      obtain ⟨-, e1, e2⟩ := slotOf_inj g _ _ _ _ _ _ e
      exact grp_inj e1 e2
  · refine placed_hit x _ b1 _ (fun t t' e => ?_) t r c (by rw [seconds_at g]; exact h)
    rw [seconds_at g, seconds_at g] at e
    obtain ⟨-, e1, e2⟩ := slotOf_inj g _ _ _ _ _ _ e
    exact grp_inj e1 e2

end

/-! ## The mask -/

/-- A disjunction over a set, from zero, that is one has a one. -/
theorem some_one {ι : Type} [DecidableEq ι] (f : ι → BitVec 1) (S : Finset ι) (h : S.fold IntOp.ori 0#1 f = 1#1) : ∃ q, f q = 1#1 := by
  induction S using Finset.induction_on with
  | empty => exact absurd (Finset.fold_empty.symm.trans h) (by decide)
  | insert a S ha ih =>
    rw [Finset.fold_insert ha] at h
    by_cases hf : f a = 1#1
    · exact ⟨a, hf⟩
    · refine ih ?_
      have h0 : f a = 0#1 := by
        generalize f a = b at hf ⊢
        revert hf; revert b; decide
      rw [h0] at h
      generalize S.fold IntOp.ori 0#1 f = b at h ⊢
      revert h; revert b; decide

/-- Whether some token's word is the row's number. -/
def named (s : IVec S2048 32) : IVec Cert.On_slots_taken.S7680 1 :=
  Host.reduce IntOp.ori (cmpi .eq
    (broadcastInDim Cert.On_slots_taken.S7680x2048 ![0, 1] Cert.On_slots_taken.Facts.bcast_S1x2048_S7680x2048_0_1 (broadcastInDim Cert.On_slots_taken.S1x2048 ![1] Cert.On_slots_taken.Facts.bcast_S2048_S1x2048_1 s))
    (broadcastInDim Cert.On_slots_taken.S7680x2048 ![0, 1] Cert.On_slots_taken.Facts.bcast_S7680x1_S7680x2048_0_1
      (broadcastInDim Cert.On_slots_taken.S7680x1 ![0] Cert.On_slots_taken.Facts.bcast_S7680_S7680x1_0 (iotaInDim Cert.On_slots_taken.S7680 32 0))))
    (constantI Cert.On_slots_taken.S_ 1 0#1) Cert.On_slots_taken.Facts.reducesTo_S7680x2048_S7680_d1 Cert.On_slots_taken.Facts.h_S_

theorem named_at (s : IVec S2048 32) (r : Fin 7680) (h : named s (ix1 r) = 1#1) : ∃ t : Fin 2048, (s (ix1 t)).toNat = r.val := by
  unfold named at h
  have hr : Cert.On_slots_taken.S7680x2048.Reduces [1] Cert.On_slots_taken.S7680 := by decide
  have h' := (Host.reduce_eq_fold_single IntOp.ori _ (constantI Cert.On_slots_taken.S_ 1 0#1) Cert.On_slots_taken.Facts.reducesTo_S7680x2048_S7680_d1 hr Cert.On_slots_taken.Facts.h_S_ (ix1 r)).symm.trans h
  obtain ⟨q, hq⟩ := some_one _ _ h'
  have hl : hr.lift (ix1 r) q = (ix2 r (⟨q.val, q.isLt⟩ : Fin 2048) : Cert.On_slots_taken.S7680x2048.Idx) := by
    funext c; apply Fin.ext; fin_cases c <;> rfl
  rw [Function.comp_apply, hl] at hq
  have e : ∀ i : S2048.Idx, i = ix1 (⟨q.val, q.isLt⟩ : Fin 2048) → IntOp.cmpi .eq (s i) (BitVec.ofNat 32 r.val) = 1#1 → (s (ix1 (⟨q.val, q.isLt⟩ : Fin 2048))).toNat = r.val := by
    rintro _ rfl he
    rw [bit_eq, bit_one] at he
    have := r.isLt
    rw [he, BitVec.toNat_ofNat]
    omega
  exact ⟨_, e _ (ix1_of _ rfl) hq⟩

theorem mask_eq (x : FVec F S2048x1024 .f32) (e0 e1 : IVec S2048 32) (run : IVec S32x16 32) (r : Fin 7680) (c : Fin 1024) :
    (Cert.On_slots_taken.fn (F := F) x e0 e1 run).1 (ix2 r c) = IntOp.ori (named (firsts e0 e1 run) (ix1 r)) (named (seconds e0 e1 run) (ix1 r)) := by
  have e : ∀ i : Cert.On_slots_taken.S7680.Idx, i = ix1 r → ori (named (firsts e0 e1 run)) (named (seconds e0 e1 run)) i
      = IntOp.ori (named (firsts e0 e1 run) (ix1 r)) (named (seconds e0 e1 run) (ix1 r)) := by rintro _ rfl; rfl
  exact e _ (by funext a; fin_cases a; rfl)

/-- A row the mask has is named by some choice's slot. -/
theorem mask_at {e0 e1 : IVec S2048 32} {run : IVec S32x16 32} (g : Good e0 e1 run) (x : FVec F S2048x1024 .f32) (r : Fin 7680) (c : Fin 1024)
    (h : (Cert.On_slots_taken.fn (F := F) x e0 e1 run).1 (ix2 r c) = 1#1) :
    ∃ (l : Bool) (t : Fin 2048), (slotOf e0 e1 run l (grp t) (wordAt t)).toNat = r.val := by
  rw [mask_eq] at h
  have hb : ∀ a b : BitVec 1, IntOp.ori a b = 1#1 → a = 1#1 ∨ b = 1#1 := by decide
  rcases hb _ _ h with h | h
  · obtain ⟨t, ht⟩ := named_at _ _ h
    exact ⟨false, t, by rw [← firsts_at g]; exact ht⟩
  · obtain ⟨t, ht⟩ := named_at _ _ h
    exact ⟨true, t, by rw [← seconds_at g]; exact ht⟩

end Cert.Proof.Dispatch.Ref

end

end
-- ==== Proof.DClaims.lean ====
/-
  The dispatch call's claims: it ends with its arguments unchanged, its slots are the reference's, and so are the rows of the
  sorted array that the slots name.
-/
module

public import proofs.«01_k».proof.Defs
public import proofs.«01_k».proof.Proof.Gen.Dispatch
public import proofs.«01_k».proof.Proof.Gen.Dispatch.Skeleton
public import proofs.«01_k».proof.Proof.Gen.Pre_runs_apart
public import proofs.«01_k».proof.Proof.DLaunch
public import proofs.«01_k».proof.Proof.DRows
public import Idealize.ShloMosaic.Adequacy
public import Idealize.ShloMosaic.Init
public import Idealize.ShloMosaic.Lib.Quiescent

@[expose] public section

noncomputable section

namespace Cert.Proof.Dispatch

open Cert.DispatchIdeal Cert.DispatchIdeal.Gen
open Idealize.ShloMosaic Idealize.SL.Sem
open Idealize.ShloMosaic.ValueIdx

variable {F : FTy → Type} [FloatOps F]

theorem gr_tileAt (t : Fin 2048) : gr (tileAt t) = Ref.grp t := by
  have := t.isLt
  exact Fin.ext (show 2 * (t.val / 128) + t.val / 64 % 2 = t.val / 64 by omega)

section
variable (m : (ℓ : Loc nD τ sig) → Buf (Elt F) ℓ) (d : Dev nD) (g : Good (m (e0Loc d)) (m (e1Loc d)) (m (rLoc d)))
include g

theorem sT_at (l : Bool) (t : Fin 2048) :
    sT m d l (tileAt t) (wordAt t) = slotOf (m (e0Loc d)) (m (e1Loc d)) (m (rLoc d)) l (Ref.grp t) (wordAt t) := by
  rw [sT_eq m d g, gr_tileAt]

/-- The kernel's slots are the reference's. -/
theorem firsts_eq : Ref.firsts (m (e0Loc d)) (m (e1Loc d)) (m (rLoc d)) = S0 m d := funext fun (x : S2048.Idx) =>
  (congrArg (Ref.firsts (m (e0Loc d)) (m (e1Loc d)) (m (rLoc d))) (Ref.ix1_of (i := x) (x 0) rfl)).trans ((Ref.firsts_at g (x 0)).trans (sT_at m d g false (x 0)).symm)
theorem seconds_eq : Ref.seconds (m (e0Loc d)) (m (e1Loc d)) (m (rLoc d)) = S1 m d := funext fun (x : S2048.Idx) =>
  (congrArg (Ref.seconds (m (e0Loc d)) (m (e1Loc d)) (m (rLoc d))) (Ref.ix1_of (i := x) (x 0) rfl)).trans ((Ref.seconds_at g (x 0)).trans (sT_at m d g true (x 0)).symm)

/-- Where a slot names the row, the kernel's sorted array is the reference's. -/
theorem rows_eq (ok : SlotsOK m) (x : S7680x1024.Idx)
    (h : (Cert.On_slots_taken.fn (F := F) (m (xLoc d)) (m (e0Loc d)) (m (e1Loc d)) (m (rLoc d))).1 x = 1#1) :
    Ref.table (F := F) (m (xLoc d)) (m (e0Loc d)) (m (e1Loc d)) (m (rLoc d)) x = XG m d x := by
  have hx : x = (ix2 (x 0 : Fin 7680) (x 1 : Fin 1024) : S7680x1024.Idx) := by funext a; fin_cases a <;> rfl
  obtain ⟨l, t, ht⟩ := Ref.mask_at (F := F) g (m (xLoc d)) (x 0) (x 1) ((congrArg _ hx.symm).trans h)
  have hk : XG m d x = m (xLoc d) (ix2 (tok (tileAt t) (wordAt t)) (x 1) : S2048x1024.Idx) :=
    XG_hit (l := l) d ok x (wordAt t) ((congrArg BitVec.toNat (sT_at m d g l t)).trans ht)
  rw [tok_at] at hk
  exact (congrArg (Ref.table (F := F) (m (xLoc d)) (m (e0Loc d)) (m (e1Loc d)) (m (rLoc d))) hx).trans
    ((Ref.table_at g (m (xLoc d)) l t (x 0) (x 1) ht).trans hk.symm)

end

/-! ## The claims -/

theorem good_kernel (m : (ℓ : Loc nD τ sig) → Buf (Elt Bits) ℓ) (h : Cert.Pre_Dispatch m) (d : Dev nD) :
    Good (m (e0Loc d)) (m (e1Loc d)) (m (rLoc d)) := good_of_pre (F := Bits) (m (xLoc d)) _ _ _ (h d)

theorem good_ideal (m : (ℓ : Loc nD τ sig) → Buf (Elt Ideal) ℓ) (h : Cert.Pre_DispatchIdeal m) (d : Dev nD) :
    Good (m (e0Loc d)) (m (e1Loc d)) (m (rLoc d)) := good_of_pre (F := Ideal) (m (xLoc d)) _ _ _ (h d)

/-- The kernel on the machine ends, every argument unchanged and every semaphore at zero. -/
theorem frame_kernel : Cert.quiescent_Dispatch := fun m ρ hpre =>
  (θ_run Cert.DispatchIdeal.defs _ _).mono
    (fun _ h => ⟨fun c => ⟨(h.1 c).1, (h.1 c).2.1, (h.1 c).2.2.1, (h.1 c).2.2.2.1⟩, h.2⟩)
    (run_main (F := Bits) m ρ (slots_ok m (good_kernel m hpre)))

/-- The kernel over the extended reals ends, every argument unchanged and every semaphore at zero. -/
theorem frame_ideal : Cert.quiescent_DispatchIdeal := fun m ρ hpre =>
  (θ_run Cert.DispatchIdeal.defs _ _).mono
    (fun _ h => ⟨fun c => ⟨(h.1 c).1, (h.1 c).2.1, (h.1 c).2.2.1, (h.1 c).2.2.2.1⟩, h.2⟩)
    (run_main (F := Ideal) m ρ (slots_ok m (good_ideal m hpre)))

/-- The reference ends, every argument unchanged; it has no semaphore. -/
theorem frame_reference : Cert.quiescent_DispatchReferenceIdeal := fun m ρ _ =>
  (θ_run Cert.DispatchReferenceIdeal.defs _ _).mono (fun r h => ⟨fun c => (h c).2.2.2, sem_eq_zero_of_no_sems (by decide) r.2⟩)
    (Cert.DispatchReferenceIdeal.Value.run (F := Ideal) m ρ)

/-- The same, from the arguments the kernel's claims are stated for. -/
theorem frame_reference_pre : Cert.quiescent_DispatchReferenceIdeal_pre_runs_apart := fun m ρ _ =>
  frame_reference m ρ trivial

/-- The kernel's slots are the reference's, and its sorted array is the reference's where a slot names the row. -/
theorem equal : Cert.algebraic_DispatchIdeal_DispatchReferenceIdeal_on_slots_taken := by
  intro m g m' g' hpre hm
  have hg := good_ideal m hpre
  have ok := slots_ok m hg
  refine ⟨fun c => XG (F := Ideal) m c, fun c => S0 (F := Ideal) m c, fun c => S1 (F := Ideal) m c, ?_, ?_⟩
  · exact (θ_run Cert.DispatchIdeal.defs _ _).mono
      (fun _ h c => ⟨fun i _ => congrFun (h.1 c).2.2.2.2.1 i, fun i _ => congrFun (h.1 c).2.2.2.2.2.1 i, fun i _ => congrFun (h.1 c).2.2.2.2.2.2 i,
        (h.1 c).1, (h.1 c).2.1, (h.1 c).2.2.1, (h.1 c).2.2.2.1⟩)
      (run_main (F := Ideal) m g ok)
  · refine (θ_run Cert.DispatchReferenceIdeal.defs _ _).mono
      (fun r h c => ⟨fun i hi => (congrFun (h c).1 i).trans ?_, fun i _ => (congrFun (h c).2.1 i).trans ?_, fun i _ => (congrFun (h c).2.2.1 i).trans ?_, (h c).2.2.2⟩)
      (Cert.DispatchReferenceIdeal.Value.run (F := Ideal) m' g')
    · obtain ⟨a0, a1, a2, a3⟩ := hm c
      refine Eq.trans ?_ (rows_eq (F := Ideal) m c (hg c) ok i hi)
      show Ref.table (F := Ideal) (m' ((c.tc : Thread Cert.DispatchReferenceIdeal.nD Cert.DispatchReferenceIdeal.τ).loc Cert.DispatchReferenceIdeal.main_arg0))
        (m' ((c.tc : Thread Cert.DispatchReferenceIdeal.nD Cert.DispatchReferenceIdeal.τ).loc Cert.DispatchReferenceIdeal.main_arg1))
        (m' ((c.tc : Thread Cert.DispatchReferenceIdeal.nD Cert.DispatchReferenceIdeal.τ).loc Cert.DispatchReferenceIdeal.main_arg2))
        (m' ((c.tc : Thread Cert.DispatchReferenceIdeal.nD Cert.DispatchReferenceIdeal.τ).loc Cert.DispatchReferenceIdeal.main_arg3)) i = _
      rw [a0, a1, a2, a3]
    · obtain ⟨a0, a1, a2, a3⟩ := hm c
      refine Eq.trans ?_ (congrFun (firsts_eq (F := Ideal) m c (hg c)) i)
      show Ref.firsts (m' ((c.tc : Thread Cert.DispatchReferenceIdeal.nD Cert.DispatchReferenceIdeal.τ).loc Cert.DispatchReferenceIdeal.main_arg1))
        (m' ((c.tc : Thread Cert.DispatchReferenceIdeal.nD Cert.DispatchReferenceIdeal.τ).loc Cert.DispatchReferenceIdeal.main_arg2))
        (m' ((c.tc : Thread Cert.DispatchReferenceIdeal.nD Cert.DispatchReferenceIdeal.τ).loc Cert.DispatchReferenceIdeal.main_arg3)) i = _
      rw [a1, a2, a3]
    · obtain ⟨a0, a1, a2, a3⟩ := hm c
      refine Eq.trans ?_ (congrFun (seconds_eq (F := Ideal) m c (hg c)) i)
      show Ref.seconds (m' ((c.tc : Thread Cert.DispatchReferenceIdeal.nD Cert.DispatchReferenceIdeal.τ).loc Cert.DispatchReferenceIdeal.main_arg1))
        (m' ((c.tc : Thread Cert.DispatchReferenceIdeal.nD Cert.DispatchReferenceIdeal.τ).loc Cert.DispatchReferenceIdeal.main_arg2))
        (m' ((c.tc : Thread Cert.DispatchReferenceIdeal.nD Cert.DispatchReferenceIdeal.τ).loc Cert.DispatchReferenceIdeal.main_arg3)) i = _
      rw [a1, a2, a3]

end Cert.Proof.Dispatch

end

end
-- ==== Proof.EPay.lean ====
/-
  What one point of the experts call leaves, over the extended reals: for each row, the sum over the hidden features of the
  gelu of the row's product with the first weights, times the second weights.
-/
module

public import proofs.«01_k».proof.Proof.Gen.ExpertsIdeal.Skeleton
public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Proof.Experts

open Cert.ExpertsIdeal Cert.ExpertsIdeal.Gen
open Idealize.ShloMosaic
open Idealize.ShloMosaic.ValueIdx

/-- The tanh form of gelu, its four constants those of the bfloat16 words. -/
def gelu (h : EReal) : EReal :=
  h * (Ideal.ofBits .bf16 0x3F00#16 * (Ideal.ofBits .bf16 0x3F80#16
    + Ideal.tanh (Ideal.ofBits .bf16 0x3F4C#16 * (h + Ideal.ofBits .bf16 0x3D37#16 * (h * h * h)))))

/-- One row through one expert, at output feature `d`. -/
def ffn (x : Fin 1024 → EReal) (w : Fin 1024 → Fin 1024 → EReal) (v : Fin 1024 → Fin 1024 → EReal) (d : Fin 1024) : EReal :=
  ∑ f : Fin 1024, gelu (∑ k : Fin 1024, x k * w f k) * v d f

/-- A weight block without its leading one. -/
theorem slab_at (w : S1x1024x1024.Idx → EReal) (f k : Fin 1024) :
    shapeCast S1024x1024 w shapeCasts_S1x1024x1024_S1024x1024 (ix2 f k) = w (ix3 (0 : Fin 1) f k : S1x1024x1024.Idx) :=
  (shapeCast_dropUnit_apply ![1024, 1024] w shapeCasts_S1x1024x1024_S1024x1024 (ix2 f k)).trans
    (congrArg w (funext fun (a : Fin 3) => by fin_cases a <;> rfl))

/-- A product with a weight block, at a row and a feature. -/
theorem product_at {φ : FTy} (x : FVec Ideal S512x1024 φ) (w : FVec Ideal S1x1024x1024 .f32) (n : Fin 512) (f : Fin 1024) :
    matmul dot_S512x1024_S1024x1024_S512x1024_1_1_0_0_n_n none x (shapeCast S1024x1024 w shapeCasts_S1x1024x1024_S1024x1024 : FVec Ideal S1024x1024 .f32)
        (constant S512x1024 .f32 0x00000000#32) (ix2 n f : S512x1024.Idx)
      = ∑ k : Fin 1024, x (ix2 n k : S512x1024.Idx) * w (ix3 (0 : Fin 1) f k : S1x1024x1024.Idx) := by
  refine (Ideal.matmul_transposedRhs_apply (M := 512) (K := 1024) (N := 1024) none x
    (shapeCast S1024x1024 w shapeCasts_S1x1024x1024_S1024x1024) (constant S512x1024 .f32 0x00000000#32) n f).trans ?_
  refine (congrArg (· + _) (Ideal.ofBits_zero_f32 : _ = (0 : EReal))).trans ((zero_add _).trans ?_)
  exact Finset.sum_congr rfl fun k _ => congrArg (x (ix2 n k : S512x1024.Idx) * ·) (slab_at w f k)

theorem gelu_kernel (h : EReal) :
    Ideal.ofBits .bf16 0x3F00#16 * h * (Ideal.ofBits .bf16 0x3F80#16
      + Ideal.tanh (Ideal.ofBits .bf16 0x3F4C#16 * (h + Ideal.ofBits .bf16 0x3D37#16 * h * h * h))) = gelu h := by
  unfold gelu
  rw [mul_comm _ h, mul_assoc h, mul_assoc _ h h, mul_assoc _ h (h * h), mul_assoc h h h]

/-- What a point leaves. -/
theorem payload_at (x : FVec Ideal S512x1024 .f32) (w v : FVec Ideal S1x1024x1024 .f32) (n : Fin 512) (d : Fin 1024) :
    k0_pay1 (F := Ideal) x w v (ix2 n d : S512x1024.Idx)
      = ffn (fun k => x (ix2 n k : S512x1024.Idx)) (fun f k => w (ix3 (0 : Fin 1) f k : S1x1024x1024.Idx)) (fun d f => v (ix3 (0 : Fin 1) d f : S1x1024x1024.Idx)) d := by
  unfold k0_pay1
  refine (product_at _ v n d).trans (Finset.sum_congr rfl fun f _ => congrArg (· * _) ?_)
  refine Eq.trans ?_ (congrArg gelu (product_at x w n f))
  exact gelu_kernel _

end Cert.Proof.Experts

end

end
-- ==== Proof.EValue.lean ====
/-
  The experts call's table in range, and what one point of the grid leaves.
-/
module

public import proofs.«01_k».proof.Defs
public import proofs.«01_k».proof.Proof.Gen.ExpertsIdeal.Frame
public import proofs.«01_k».proof.Proof.Gen.Pre_experts_named
public import Idealize.ShloMosaic.Lib.Pipeline.Value
public import Idealize.ShloMosaic.Lib.ValueIdx
public import Idealize.ShloMosaic.Lib.WholeRead

@[expose] public section

noncomputable section

namespace Cert.Proof.Experts

open Cert.ExpertsIdeal Cert.ExpertsIdeal.Gen
open Idealize.ShloMosaic Idealize.ShloMosaic.TcCoe Idealize.SL.Sem
open Idealize.ShloMosaic.ValueIdx

variable {F : FTy → Type} [FloatOps F]

/-- The expert of block `b`. -/
def word (t : IVec S48 32) (b : Fin 15) : BitVec 32 := t (ix1 (⟨b.val, by omega⟩ : Fin 48) : S48.Idx)

/-- The precondition bounds the experts of the fifteen blocks. -/
theorem word_lt (t : IVec S48 32) (x : FVec F S7680x1024 .f32) (w v : FVec F S8x1024x1024 .f32)
    (h : Cert.Pre_experts_named.fn (F := F) t x w v = fun _ => 1#1) (b : Fin 15) : (word t b).toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 8#32) = 1#1 → v.toNat < 8 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (ix1 b : Cert.Pre_experts_named.S15.Idx)
  simp only [Cert.Pre_experts_named.fn, andi, cmpi, broadcastInDim, constantI, extractStridedSlice] at e
  have e' := key _ e
  refine lt_of_eq_of_lt (congrArg (fun i => (t i).toNat) ?_) e'
  funext a
  obtain rfl : a = 0 := Subsingleton.elim _ _
  exact Fin.ext (Nat.zero_add _).symm

theorem tbl_word (m : (ℓ : Loc nD τ sig) → Buf (Elt F) ℓ) (i : grid0.Coords) :
    (tbl m).at 0 (Rect.unit (s := S48) ![(Scalar.indexCast (BitVec.ofNat 32 (i 0).val) : Index).toNat] S1.size (Facts₀.k0_off1_inb i)) Facts₀.numel1_S1
      = word (m (((0 : Dev nD) : Thread nD τ).loc main_arg0)) (i 0) := by
  have h : (i 0).val < 15 := (i 0).isLt
  refine congrArg (m (((0 : Dev nD) : Thread nD τ).loc main_arg0)) (funext fun (a : Fin 1) => Fin.ext ?_)
  obtain rfl : a = 0 := Subsingleton.elim _ _
  show (i 0).val % 2 ^ 32 + 1 * 0 = (i 0).val
  omega

/-- The blocks of both weights are inside their arrays. -/
theorem ok_of (m : (ℓ : Loc nD τ sig) → Buf (Elt F) ℓ)
    (h : ∀ b, (word (m (((0 : Dev nD) : Thread nD τ).loc main_arg0)) b).toNat < 8) : Ok m := by
  have key (i : grid0.Coords) (a : Fin 3) : (cc0_transform_1 Facts₀.k0_off1_inb Facts₀.numel1_S1 (tbl m) i a + 1) * S1x1024x1024.size a ≤ S8x1024x1024.size a := by
    have h1 := h (i 0)
    rw [← tbl_word m i] at h1
    fin_cases a
    · exact Nat.mul_le_mul h1 (le_refl 1)
    · exact le_refl 1024
    · exact le_refl 1024
  exact ⟨fun i => ⟨key i, .inl rfl⟩, fun i => ⟨key i, .inl rfl⟩⟩

/-- What the run leaves in the output's staging buffer is its one payload. -/
theorem out_eq (c : Dev nD) (i : grid0.Coords) (arg2 : Memref sig .tc .vmem S512x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S512x1024 .f32) (harg5 : arg5.IsWhole)
    (x0 : Vec F S512x1024 .f32) (x1 : Vec F S1x1024x1024 .f32) (x2 : Vec F S1x1024x1024 .f32) (xt0 : TbBuf0 (F := F) c tbM0_0) :
    out0_A_3 c i arg2 harg2 arg3 harg3 arg4 harg4 arg5 harg5 x0 x1 x2 xt0 = k0_pay1 x0 x1 x2 := by
  unfold out0_A_3 kernelRun0_A
  dsimp only
  have z2 : (![0, 0] : Fin S512x1024.rank → Nat) = fun _ => 0 := funext fun a => by fin_cases a <;> rfl
  have z3 : (![0, 0, 0] : Fin S1x1024x1024.rank → Nat) = fun _ => 0 := funext fun a => by fin_cases a <;> rfl
  have r2 : View.readAt (Elt F) arg2.view (Rect.unit ![0, 0] S512x1024.size inb_S512x1024_S512x1024_0_0).toLoadRect (harg2.unread x0) = x0 :=
    (funext fun x => harg2.readAt_unread x0 _ x).trans (View.ld_unit_zero z2 _ x0)
  have r3 : View.readAt (Elt F) arg3.view (Rect.unit ![0, 0, 0] S1x1024x1024.size inb_S1x1024x1024_S1x1024x1024_0_0_0).toLoadRect (harg3.unread x1) = x1 :=
    (funext fun x => harg3.readAt_unread x1 _ x).trans (View.ld_unit_zero z3 _ x1)
  have r4 : View.readAt (Elt F) arg4.view (Rect.unit ![0, 0, 0] S1x1024x1024.size inb_S1x1024x1024_S1x1024x1024_0_0_0).toLoadRect (harg4.unread x2) = x2 :=
    (funext fun x => harg4.readAt_unread x2 _ x).trans (View.ld_unit_zero z3 _ x2)
  rw [View.read_writes_eq_canon _ _ _ fun y => ⟨_, List.mem_singleton_self _, View.mem_set_unit_zero z2 inb_S512x1024_S512x1024_0_0 y⟩,
    View.canon_unit_zero z2]
  exact congr (congr (congrArg (k0_pay1 (F := F)) r2) r3) r4

section
variable (m : (ℓ : Loc nD τ sig) → Buf (Elt F) ℓ) (hO : Ok m) (c : Dev nD)

theorem point_lt (t : Fin (cfgM m hO).N) : t.val < 15 := lt_of_lt_of_eq t.isLt N_0
omit hO in
/-- A point's one coordinate is its number. -/
theorem coord : ∀ t : Fin grid0.N, ((grid0.coords t) 0).val = t.val := by decide

theorem index_rows (t : Fin (cfgM m hO).N) : cc0_transform_0 (grid0.coords t) = ![t.val, 0] := by
  have h := point_lt m hO t
  have e : ((grid0.coords t) 0).val % 2 ^ 32 = t.val := by rw [coord t]; omega
  exact congrArg (fun n => ![n, 0]) e

theorem index_out (t : Fin (cfgM m hO).N) : cc0_transform_3 (grid0.coords t) = ![t.val, 0] := index_rows m hO t

/-- The expert of point `t`. -/
def expert (t : Fin (cfgM m hO).N) : BitVec 32 := word (m (((0 : Dev nD) : Thread nD τ).loc main_arg0)) ⟨t.val, point_lt m hO t⟩

theorem index_w (t : Fin (cfgM m hO).N) : cc0_transform_1 Facts₀.k0_off1_inb Facts₀.numel1_S1 (tbl m) (grid0.coords t) = ![(expert m hO t).toNat, 0, 0] := by
  have e := tbl_word m (grid0.coords t)
  have e' : ((grid0.coords t) 0 : Fin 15) = ⟨t.val, point_lt m hO t⟩ := Fin.ext (coord t)
  exact congrArg (fun n : BitVec 32 => ![n.toNat, 0, 0]) (e.trans (congrArg _ e'))

/-- The point's rows of the sorted array. -/
theorem rows_block (t : Fin (cfgM m hO).N) (n : Fin 512) (d : Fin 1024) :
    iblk m hO c 0 t (ix2 n d : S512x1024.Idx)
      = m ((c : Thread nD τ).loc main_arg1) (ix2 (⟨t.val * 512 + n.val, by have := point_lt m hO t; omega⟩ : Fin 7680) d : S7680x1024.Idx) := by
  refine congrArg (m ((c : Thread nD τ).loc main_arg1)) (funext fun (a : Fin 2) => Fin.ext ?_)
  refine (Pipeline.Window.rect_emb_val ((cfgM m hO).win 0) t (ix2 n d : S512x1024.Idx) a).trans ?_
  have e : (((cfgM m hO).win 0).index t : Fin 2 → Nat) = ![t.val, 0] := index_rows m hO t
  refine (congrArg (fun f : Fin 2 → Nat => f a * _ + _) e).trans ?_
  fin_cases a
  · rfl
  · exact Nat.zero_add _

/-- The first weights the point's expert names. -/
theorem w1_block (t : Fin (cfgM m hO).N) (h : (expert m hO t).toNat < 8) (f : Fin 1024) (d : Fin 1024) :
    iblk m hO c 1 t (ix3 (0 : Fin 1) f d : S1x1024x1024.Idx)
      = m ((c : Thread nD τ).loc main_arg2) (ix3 (⟨(expert m hO t).toNat, h⟩ : Fin 8) f d : S8x1024x1024.Idx) := by
  refine congrArg (m ((c : Thread nD τ).loc main_arg2)) (funext fun (a : Fin 3) => Fin.ext ?_)
  refine (Pipeline.Window.rect_emb_val ((cfgM m hO).win 1) t (ix3 (0 : Fin 1) f d : S1x1024x1024.Idx) a).trans ?_
  have e : (((cfgM m hO).win 1).index t : Fin 3 → Nat) = ![(expert m hO t).toNat, 0, 0] := index_w m hO t
  refine (congrArg (fun f : Fin 3 → Nat => f a * _ + _) e).trans ?_
  fin_cases a
  · exact Nat.mul_one _
  · exact Nat.zero_add _
  · exact Nat.zero_add _

/-- The second weights the point's expert names. -/
theorem w2_block (t : Fin (cfgM m hO).N) (h : (expert m hO t).toNat < 8) (d : Fin 1024) (f : Fin 1024) :
    iblk m hO c 2 t (ix3 (0 : Fin 1) d f : S1x1024x1024.Idx)
      = m ((c : Thread nD τ).loc main_arg3) (ix3 (⟨(expert m hO t).toNat, h⟩ : Fin 8) d f : S8x1024x1024.Idx) := by
  refine congrArg (m ((c : Thread nD τ).loc main_arg3)) (funext fun (a : Fin 3) => Fin.ext ?_)
  refine (Pipeline.Window.rect_emb_val ((cfgM m hO).win 2) t (ix3 (0 : Fin 1) d f : S1x1024x1024.Idx) a).trans ?_
  have e : (((cfgM m hO).win 2).index t : Fin 3 → Nat) = ![(expert m hO t).toNat, 0, 0] := index_w m hO t
  refine (congrArg (fun f : Fin 3 → Nat => f a * _ + _) e).trans ?_
  fin_cases a
  · exact Nat.mul_one _
  · exact Nat.zero_add _
  · exact Nat.zero_add _

/-- The output's block at point `t`, in the array. -/
theorem out_emb (t : Fin (cfgM m hO).N) (n : Fin 512) (d : Fin 1024) :
    (((cfgM m hO).win 3).blk t).view.emb (ix2 n d : S512x1024.Idx)
      = (ix2 (⟨t.val * 512 + n.val, by have := point_lt m hO t; omega⟩ : Fin 7680) d : S7680x1024.Idx) := by
  refine (funext fun (a : Fin 2) => Fin.ext ?_)
  refine (Pipeline.Window.rect_emb_val ((cfgM m hO).win 3) t (ix2 n d : S512x1024.Idx) a).trans ?_
  have e : (((cfgM m hO).win 3).index t : Fin 2 → Nat) = ![t.val, 0] := index_rows m hO t
  refine (congrArg (fun f : Fin 2 → Nat => f a * _ + _) e).trans ?_
  fin_cases a
  · rfl
  · exact Nat.zero_add _

/-- The blocks of two points are apart. -/
theorem out_apart (t t' : Fin (cfgM m hO).N) (h : t ≠ t') :
    Disjoint (((cfgM m hO).win 3).blk t).view.set (((cfgM m hO).win 3).blk t').view.set := by
  refine Finset.disjoint_left.mpr fun i hi hi' => h (Fin.ext ?_)
  obtain ⟨(y : S512x1024.Idx), hy⟩ := View.exists_emb_of_mem_set _ hi
  obtain ⟨(y' : S512x1024.Idx), hy'⟩ := View.exists_emb_of_mem_set _ hi'
  have e : ∀ y : S512x1024.Idx, y = ix2 (y 0 : Fin 512) (y 1 : Fin 1024) := fun y => funext fun a => by fin_cases a <;> rfl
  have h1 := out_emb m hO t (y 0) (y 1)
  have h2 := out_emb m hO t' (y' 0) (y' 1)
  have h3 := congrFun (h1.symm.trans ((congrArg _ (e y).symm).trans (hy.trans (hy'.symm.trans ((congrArg _ (e y')).trans h2))))) (0 : Fin 2)
  have h4 : t.val * 512 + (y 0).val = t'.val * 512 + (y' 0).val := congrArg Fin.val h3
  have b1 : (y 0).val < 512 := (y 0).isLt
  have b2 : (y' 0).val < 512 := (y' 0).isLt
  omega

/-- The result array at a row: what the row's block leaves. -/
theorem final_at (t : Fin (cfgM m hO).N) (n : Fin 512) (d : Fin 1024) :
    (dats m hO 0 c).arrAt 3 (cfgM m hO).N (ix2 (⟨t.val * 512 + n.val, by have := point_lt m hO t; omega⟩ : Fin 7680) d : S7680x1024.Idx)
      = k0_pay1 (iblk m hO c 0 t) (iblk m hO c 1 t) (iblk m hO c 2 t) (ix2 n d : S512x1024.Idx) := by
  have h := (dats m hO 0 c).arrAt_emb_eq_flushed 3 (fun t t' _ _ ht => out_apart m hO t t' ht) t (flush0_3 (adm m hO) t) (ix2 n d : S512x1024.Idx)
  rw [out_emb] at h
  refine h.trans ?_
  refine Eq.trans (b := (dats m hO 0 c).after 3 t (ix2 n d : S512x1024.Idx)) rfl ?_
  rw [after0_3]
  exact congrFun (out_eq c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)) _

end

end Cert.Proof.Experts

end

end
-- ==== Proof.ERef.lean ====
/-
  The experts call's reference, over the extended reals: every row of block `b` through the expert the table names for `b`.
-/
module

public import proofs.«01_k».proof.Proof.EPay
public import proofs.«01_k».proof.Proof.EValue
public import proofs.«01_k».proof.Proof.Gen.ExpertsReferenceIdeal.Run
public import Idealize.ShloMosaic.Lib.Routing.Ops

@[expose] public section

noncomputable section

namespace Cert.Proof.Experts.Ref

open Cert.ExpertsReferenceIdeal Cert.ExpertsReferenceIdeal.Gen
open Idealize.ShloMosaic
open Idealize.ShloMosaic.ValueIdx

/-- The experts of the fifteen blocks, as a column of start indices. -/
def named (t : IVec S48 32) : IVec S15x1 32 :=
  broadcastInDim S15x1 ![0] bcast_S15_S15x1_0
    (select (cmpi .slt (extractStridedSlice S15 ![0] t slices_S48_S15_0) (broadcastInDim S15 ![] bcast_S_S15 (constantI S_ 32 0#32)))
      (addi (extractStridedSlice S15 ![0] t slices_S48_S15_0) (broadcastInDim S15 ![] bcast_S_S15 (constantI S_ 32 8#32)))
      (extractStridedSlice S15 ![0] t slices_S48_S15_0))

/-- The weights of the fifteen blocks. -/
def slabs (t : IVec S48 32) (w : FVec Ideal S8x1024x1024 .f32) : FVec Ideal S15x1024x1024 .f32 :=
  Host.gather gather_S8x1024x1024_S15x1_S15x1024x1024_12_0_n_n_0_1_110241024 w (named t)

/-- The hidden features before the gelu. -/
def hidden (t : IVec S48 32) (x : FVec Ideal S7680x1024 .f32) (w : FVec Ideal S8x1024x1024 .f32) : FVec Ideal S15x512x1024 .bf16 :=
  truncf .bf16 (Host.dotGeneral dot_S15x512x1024_S15x1024x1024_S15x512x1024_2_2_1_1_0_0 none
    (shapeCast S15x512x1024 x shapeCasts_S7680x1024_S15x512x1024) (slabs t w) : FVec Ideal S15x512x1024 .f32) bitsLt_bf16_f32

/-- The gelu. -/
def active (h : FVec Ideal S15x512x1024 .bf16) : FVec Ideal S15x512x1024 .bf16 :=
  mulf h (mulf (broadcastInDim S15x512x1024 ![] bcast_S_S15x512x1024 (constant S_ .bf16 0x3F00#16))
    (addf (broadcastInDim S15x512x1024 ![] bcast_S_S15x512x1024 (constant S_ .bf16 0x3F80#16))
      (Host.tanh (mulf (broadcastInDim S15x512x1024 ![] bcast_S_S15x512x1024 (constant S_ .bf16 0x3F4C#16))
        (addf h (mulf (broadcastInDim S15x512x1024 ![] bcast_S_S15x512x1024 (constant S_ .bf16 0x3D37#16)) (mulf (mulf h h) h)))))))

/-- The reference's result. -/
def result (t : IVec S48 32) (x : FVec Ideal S7680x1024 .f32) (w v : FVec Ideal S8x1024x1024 .f32) : FVec Ideal S7680x1024 .f32 :=
  shapeCast S7680x1024 (Host.dotGeneral dot_S15x512x1024_S15x1024x1024_S15x512x1024_2_2_1_1_0_0 none
    (active (hidden t x w)) (slabs t v) : FVec Ideal S15x512x1024 .f32) shapeCasts_S15x512x1024_S7680x1024

theorem res_eq (m : (ℓ : Loc nD τ sig) → Buf (Elt Ideal) ℓ) (c : Dev nD) :
    Cert.ExpertsReferenceIdeal.Value.res_out0 m c
      = result (m ((c.tc : Thread nD τ).loc main_arg0)) (m ((c.tc : Thread nD τ).loc main_arg1)) (m ((c.tc : Thread nD τ).loc main_arg2)) (m ((c.tc : Thread nD τ).loc main_arg3)) := rfl

theorem active_at (h : FVec Ideal S15x512x1024 .bf16) (i : S15x512x1024.Idx) : active h i = gelu (h i) := rfl

/-- A word in range is its own index, not wrapped. -/
theorem named_at (t : IVec S48 32) (b : Fin 15) (hb : (word t b).toNat < 8) :
    named t (ix2 b (0 : Fin 1) : S15x1.Idx) = word t b := by
  have e0 : extractStridedSlice S15 ![0] t slices_S48_S15_0 (ix1 b : S15.Idx) = word t b := by
    refine congrArg t (funext fun (a : Fin 1) => ?_)
    obtain rfl : a = 0 := Subsingleton.elim _ _
    exact Fin.ext (Nat.zero_add _)
  have e : IntOp.cmpi .slt (word t b) 0#32 = 0#1 := by
    simp only [IntOp.cmpi, BitVec.slt_eq_decide, BitVec.toInt_eq_toNat_cond, BitVec.toNat_ofNat, Nat.reducePow, Nat.reduceMod]
    rw [decide_eq_false (by omega)]
    rfl
  refine Eq.trans (b := select (cmpi .slt (extractStridedSlice S15 ![0] t slices_S48_S15_0) (broadcastInDim S15 ![] bcast_S_S15 (constantI S_ 32 0#32)))
      (addi (extractStridedSlice S15 ![0] t slices_S48_S15_0) (broadcastInDim S15 ![] bcast_S_S15 (constantI S_ 32 8#32)))
      (extractStridedSlice S15 ![0] t slices_S48_S15_0) (ix1 b : S15.Idx)) ?_ ?_
  · refine congrArg (select _ _ _) (funext fun (a : Fin 1) => ?_)
    obtain rfl : a = 0 := Subsingleton.elim _ _
    rfl
  · show (if IntOp.cmpi .slt (extractStridedSlice S15 ![0] t slices_S48_S15_0 (ix1 b : S15.Idx)) 0#32 = 1#1 then _ else extractStridedSlice S15 ![0] t slices_S48_S15_0 (ix1 b : S15.Idx)) = _
    rw [e0, e, if_neg (by decide)]

theorem slabs_at (t : IVec S48 32) (w : FVec Ideal S8x1024x1024 .f32) (b : Fin 15) (hb : (word t b).toNat < 8) (f k : Fin 1024) :
    slabs t w (ix3 b f k : S15x1024x1024.Idx) = w (ix3 (⟨(word t b).toNat, hb⟩ : Fin 8) f k : S8x1024x1024.Idx) := by
  let D := gather_S8x1024x1024_S15x1_S15x1024x1024_12_0_n_n_0_1_110241024
  let y : S15x1024x1024.Idx := ix3 b f k
  unfold slabs Host.gather
  refine congrArg w (funext fun (a : Fin 3) => Fin.ext ?_)
  have hsi : D.siIdx y ⟨List.idxOf (0 : Fin 3) D.startIndexMap, List.idxOf_lt_length_iff.2 (List.mem_singleton.mpr rfl)⟩ = (ix2 b (0 : Fin 1) : S15x1.Idx) := by
    funext (i : Fin 2); refine Fin.ext ?_
    match i with
    | ⟨0, _⟩ => rfl
    | ⟨1, _⟩ => rfl
  show D.start y (named t) a + D.batchCoord y a + D.offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun i : S15x1.Idx => min (named t i).toInt.toNat (8 - 1)) hsi).trans ?_
    rw [named_at t b hb]
    show min (word t b).toInt.toNat (8 - 1) = (word t b).toNat
    rw [BitVec.toInt_eq_toNat_cond]
    omega
  | ⟨1, _⟩ =>
    have hs : gather_S8x1024x1024_S15x1_S15x1024x1024_12_0_n_n_0_1_110241024.start y (named t) (1 : Fin 3) = 0 := by
      unfold GatherDims.start
      exact dif_neg (by decide)
    have ho : gather_S8x1024x1024_S15x1_S15x1024x1024_12_0_n_n_0_1_110241024.offCoord y (1 : Fin 3) = f.val := by
      unfold GatherDims.offCoord
      exact dif_pos (by decide)
    exact (congrArg₂ (fun p q : ℕ => p + 0 + q) hs ho).trans (Nat.zero_add _)
  | ⟨2, _⟩ =>
    have hs : gather_S8x1024x1024_S15x1_S15x1024x1024_12_0_n_n_0_1_110241024.start y (named t) (2 : Fin 3) = 0 := by
      unfold GatherDims.start
      exact dif_neg (by decide)
    have ho : gather_S8x1024x1024_S15x1_S15x1024x1024_12_0_n_n_0_1_110241024.offCoord y (2 : Fin 3) = k.val := by
      unfold GatherDims.offCoord
      exact dif_pos (by decide)
    exact (congrArg₂ (fun p q : ℕ => p + 0 + q) hs ho).trans (Nat.zero_add _)

/-- A batched product at a block, a row and a feature. -/
theorem product_at {φ ψ : FTy} (l : FVec Ideal S15x512x1024 φ) (r : FVec Ideal S15x1024x1024 ψ) (b : Fin 15) (n : Fin 512) (f : Fin 1024) :
    (Host.dotGeneral dot_S15x512x1024_S15x1024x1024_S15x512x1024_2_2_1_1_0_0 none l r : FVec Ideal S15x512x1024 .f32) (ix3 b n f : S15x512x1024.Idx)
      = ∑ k : Fin 1024, l (ix3 b n k : S15x512x1024.Idx) * r (ix3 b f k : S15x1024x1024.Idx) := by
  let D := dot_S15x512x1024_S15x1024x1024_S15x512x1024_2_2_1_1_0_0
  refine (Ideal.dotGeneral_apply D none _ l r (ix3 b n f : S15x512x1024.Idx)).trans ?_
  rw [← Equiv.sum_comp (contrEquiv1 D 1024 rfl rfl).symm]
  refine Finset.sum_congr rfl fun k _ => ?_
  have hk := contrEquiv1_symm_val D 1024 rfl rfl k
  have el : D.lhsIdx (ix3 b n f : S15x512x1024.Idx) ((contrEquiv1 D 1024 rfl rfl).symm k) = (ix3 b n k : S15x512x1024.Idx) := by
    funext (a : Fin 3); apply Fin.ext
    match a with
    | ⟨0, _⟩ => rfl
    | ⟨1, _⟩ => rfl
    | ⟨2, _⟩ => exact hk
  have er : D.rhsIdx (ix3 b n f : S15x512x1024.Idx) ((contrEquiv1 D 1024 rfl rfl).symm k) = (ix3 b f k : S15x1024x1024.Idx) := by
    funext (a : Fin 3); apply Fin.ext
    match a with
    | ⟨0, _⟩ => rfl
    | ⟨1, _⟩ => rfl
    | ⟨2, _⟩ => exact hk
  rw [el, er]

theorem row_major2 (r : Fin 7680) (d : Fin 1024) : (S7680x1024.rowMajor (ix2 r d)).val = r.val * 1024 + d.val :=
  Shape.rowMajor_val_two (d := ![7680, 1024]) (ix2 r d)

theorem row_major3 (b : Fin 15) (n : Fin 512) (d : Fin 1024) : (S15x512x1024.rowMajor (ix3 b n d)).val = (b.val * 512 + n.val) * 1024 + d.val :=
  Shape.rowMajor_val_three (d := ![15, 512, 1024]) (ix3 b n d)

/-- The reference at a row: the row through its block's expert. -/
theorem result_at (t : IVec S48 32) (x : FVec Ideal S7680x1024 .f32) (w v : FVec Ideal S8x1024x1024 .f32)
    (b : Fin 15) (hb : (word t b).toNat < 8) (n : Fin 512) (d : Fin 1024) :
    result t x w v (ix2 (⟨b.val * 512 + n.val, by omega⟩ : Fin 7680) d : S7680x1024.Idx)
      = ffn (fun k => x (ix2 (⟨b.val * 512 + n.val, by omega⟩ : Fin 7680) k : S7680x1024.Idx))
          (fun f k => w (ix3 (⟨(word t b).toNat, hb⟩ : Fin 8) f k : S8x1024x1024.Idx))
          (fun d f => v (ix3 (⟨(word t b).toNat, hb⟩ : Fin 8) d f : S8x1024x1024.Idx)) d := by
  unfold result
  refine (shapeCast_apply _ shapeCasts_S15x512x1024_S7680x1024 _ (ix3 b n d : S15x512x1024.Idx)
    ((row_major3 b n d).trans (row_major2 (⟨b.val * 512 + n.val, by omega⟩ : Fin 7680) d).symm)).trans ?_
  refine (product_at (active (hidden t x w)) (slabs t v) b n d).trans (Finset.sum_congr rfl fun f _ => ?_)
  rw [slabs_at t v b hb, active_at]
  refine congrArg (fun h => gelu h * _) ?_
  refine (product_at (shapeCast S15x512x1024 x shapeCasts_S7680x1024_S15x512x1024) (slabs t w) b n f).trans (Finset.sum_congr rfl fun k _ => ?_)
  rw [slabs_at t w b hb]
  refine congrArg (· * _) ?_
  exact shapeCast_apply x shapeCasts_S7680x1024_S15x512x1024 _ (ix2 (⟨b.val * 512 + n.val, by omega⟩ : Fin 7680) k : S7680x1024.Idx)
    ((row_major2 (⟨b.val * 512 + n.val, by omega⟩ : Fin 7680) k).trans (row_major3 b n k).symm)

end Cert.Proof.Experts.Ref

end

end
-- ==== Proof.EClaims.lean ====
/-
  The experts call's claims: it ends with its arguments unchanged, and its result is the reference's.
-/
module

public import proofs.«01_k».proof.Defs
public import proofs.«01_k».proof.Proof.Gen.Experts
public import proofs.«01_k».proof.Proof.Gen.Experts.Skeleton
public import proofs.«01_k».proof.Proof.Gen.Experts.Frame
public import proofs.«01_k».proof.Proof.Gen.Pre_experts_named
public import proofs.«01_k».proof.Proof.ERef
public import Idealize.ShloMosaic.Adequacy
public import Idealize.ShloMosaic.Init
public import Idealize.ShloMosaic.Lib.Quiescent

@[expose] public section

noncomputable section

namespace Cert.Proof.Experts

open Cert.ExpertsIdeal Cert.ExpertsIdeal.Gen
open Idealize.ShloMosaic Idealize.ShloMosaic.TcCoe Idealize.SL.Sem
open Idealize.ShloMosaic.ValueIdx

section
variable (m : (ℓ : Loc nD τ sig) → Buf (Elt Ideal) ℓ) (c : Dev nD)

/-- The kernel's result is the reference's of the same arguments. -/
theorem final_eq (h : ∀ b, (word (m (((0 : Dev nD) : Thread nD τ).loc main_arg0)) b).toNat < 8) (x : S7680x1024.Idx) :
    ((dats m (ok_of m h) 0 c).arrAt 3 (cfgM m (ok_of m h)).N : S7680x1024.Idx → EReal) x
      = Ref.result (m ((c : Thread nD τ).loc main_arg0)) (m ((c : Thread nD τ).loc main_arg1)) (m ((c : Thread nD τ).loc main_arg2)) (m ((c : Thread nD τ).loc main_arg3)) x := by
  obtain rfl : c = 0 := Subsingleton.elim _ _
  have h0 : (x 0).val < 7680 := (x 0).isLt
  let t : Fin 15 := ⟨(x 0).val / 512, by omega⟩
  let n : Fin 512 := ⟨(x 0).val % 512, by omega⟩
  have hx : x = (ix2 (⟨t.val * 512 + n.val, by omega⟩ : Fin 7680) (x 1 : Fin 1024) : S7680x1024.Idx) := by
    funext (a : Fin 2)
    match a with
    | ⟨0, _⟩ => exact Fin.ext (show (x 0).val = (x 0).val / 512 * 512 + (x 0).val % 512 by omega)
    | ⟨1, _⟩ => rfl
  rw [hx]
  let p : Fin (cfgM m (ok_of m h)).N := ⟨t.val, t.isLt⟩
  have hw : (expert m (ok_of m h) p).toNat < 8 := h _
  refine (final_at m (ok_of m h) 0 p n (x 1)).trans ?_
  refine (payload_at _ _ _ n (x 1)).trans ?_
  refine Eq.trans ?_ (Ref.result_at (m (((0 : Dev nD) : Thread nD τ).loc main_arg0)) (m (((0 : Dev nD) : Thread nD τ).loc main_arg1))
    (m (((0 : Dev nD) : Thread nD τ).loc main_arg2)) (m (((0 : Dev nD) : Thread nD τ).loc main_arg3)) t (h t) n (x 1)).symm
  have e1 : (fun k : Fin 1024 => iblk m (ok_of m h) 0 0 p (ix2 n k : S512x1024.Idx))
      = fun k => m (((0 : Dev nD) : Thread nD τ).loc main_arg1) (ix2 (⟨t.val * 512 + n.val, by omega⟩ : Fin 7680) k : S7680x1024.Idx) :=
    funext fun k => rows_block m (ok_of m h) 0 p n k
  have e2 : (fun f k : Fin 1024 => iblk m (ok_of m h) 0 1 p (ix3 (0 : Fin 1) f k : S1x1024x1024.Idx))
      = fun f k => m (((0 : Dev nD) : Thread nD τ).loc main_arg2) (ix3 (⟨(expert m (ok_of m h) p).toNat, hw⟩ : Fin 8) f k : S8x1024x1024.Idx) :=
    funext fun f => funext fun k => w1_block m (ok_of m h) 0 p hw f k
  have e3 : (fun d f : Fin 1024 => iblk m (ok_of m h) 0 2 p (ix3 (0 : Fin 1) d f : S1x1024x1024.Idx))
      = fun d f => m (((0 : Dev nD) : Thread nD τ).loc main_arg3) (ix3 (⟨(expert m (ok_of m h) p).toNat, hw⟩ : Fin 8) d f : S8x1024x1024.Idx) :=
    funext fun d => funext fun f => w2_block m (ok_of m h) 0 p hw d f
  exact ((congrArg (fun a => ffn a _ _ (x 1)) e1).trans (congrArg (fun a => ffn _ a _ (x 1)) e2)).trans (congrArg (fun a => ffn _ _ a (x 1)) e3)

end

/-! ## The claims -/

theorem named_kernel (m : (ℓ : Loc nD τ sig) → Buf (Elt Bits) ℓ) (h : Cert.Pre_Experts m) (b : Fin 15) :
    (word (m (((0 : Dev nD) : Thread nD τ).loc main_arg0)) b).toNat < 8 := word_lt (F := Bits) _ _ _ _ (h 0) b

theorem named_ideal (m : (ℓ : Loc nD τ sig) → Buf (Elt Ideal) ℓ) (h : Cert.Pre_ExpertsIdeal m) (b : Fin 15) :
    (word (m (((0 : Dev nD) : Thread nD τ).loc main_arg0)) b).toNat < 8 := word_lt (F := Ideal) _ _ _ _ (h 0) b

/-- The kernel on the machine ends, every argument unchanged and every semaphore at zero. -/
theorem frame_kernel : Cert.quiescent_Experts := fun m ρ hpre =>
  Cert.Experts.Gen.frame (F := Bits) m ρ (ok_of m (named_kernel m hpre))

/-- The kernel over the extended reals ends, every argument unchanged and every semaphore at zero. -/
theorem frame_ideal : Cert.quiescent_ExpertsIdeal := fun m ρ hpre =>
  Cert.ExpertsIdeal.Gen.frame (F := Ideal) m ρ (ok_of m (named_ideal m hpre))

/-- The reference ends, every argument unchanged; it has no semaphore. -/
theorem frame_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- The same, from the arguments the kernel's claims are stated for. -/
theorem frame_reference_pre : Cert.quiescent_ExpertsReferenceIdeal_pre_experts_named := fun m ρ _ =>
  frame_reference m ρ trivial

/-- The kernel's result is the reference's. -/
theorem equal : Cert.algebraic_ExpertsIdeal_ExpertsReferenceIdeal := by
  intro m g m' g' hpre hm
  have h := named_ideal m hpre
  refine ⟨fun c => Ref.result (m ((c : Thread nD τ).loc main_arg0)) (m ((c : Thread nD τ).loc main_arg1)) (m ((c : Thread nD τ).loc main_arg2)) (m ((c : Thread nD τ).loc main_arg3)), ?_, ?_⟩
  · refine (θ_run Cert.ExpertsIdeal.defs _ _).mono (fun r H c => ⟨?_, H.2 c⟩)
      (θ_run_and (run_main (F := Ideal) m g (ok_of m h)) (unchanged (F := Ideal) m g (ok_of m h)))
    exact ((H.1 c).1 3).trans (funext fun x => final_eq m c h x)
  · refine (θ_run Cert.ExpertsReferenceIdeal.defs _ _).mono (fun r H c => ⟨(H c).1.trans ?_, (H c).2⟩)
      (Cert.ExpertsReferenceIdeal.Value.run (F := Ideal) m' g')
    obtain ⟨a0, a1, a2, a3⟩ := hm c
    refine (Ref.res_eq m' c).trans ?_
    rw [a0, a1, a2, a3]

end Cert.Proof.Experts

end

end
-- ==== Proof.lean ====
/-
  The certificate of the combine call: each of its 2048 result rows is the sum of two rows of the table, the ones its two
  slots name, each scaled by its weight, `out[r] = p0[r] * y[s0[r]] + p1[r] * y[s1[r]]`.

  * The kernel's run (Proof/Launch.lean, `run_main`) is proved once, for any float values, over the text of the kernel read
    at the extended reals; the machine kernel is the same text, so its frame is that run at machine floats.
  * The reference is host operations alone; Proof/Reference.lean reads its result at a row and column.
  * Both results are the same expression of the arguments, so the two are equal element by element.

  And of the dispatch call: every token's two slots, and its row copied to both (Proof/DClaims.lean). And of the experts call:
  every row through its block's expert (Proof/EClaims.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_slots_in_range
public import proofs.«01_k».proof.Proof.Gen.Dispatch
public import proofs.«01_k».proof.Proof.Gen.Dispatch.Skeleton
public import proofs.«01_k».proof.Proof.Gen.DispatchIdeal
public import proofs.«01_k».proof.Proof.Gen.DispatchIdeal.Skeleton
public import proofs.«01_k».proof.Proof.Gen.DispatchReferenceIdeal
public import proofs.«01_k».proof.Proof.Gen.DispatchReferenceIdeal.Run
public import proofs.«01_k».proof.Proof.Gen.Pre_runs_apart
public import proofs.«01_k».proof.Proof.Gen.On_slots_taken
public import proofs.«01_k».proof.Proof.Gen.Experts
public import proofs.«01_k».proof.Proof.Gen.Experts.Skeleton
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Pre_experts_named
public import proofs.«01_k».proof.Proof.Launch
public import proofs.«01_k».proof.Proof.Reference
public import proofs.«01_k».proof.Proof.DClaims
public import proofs.«01_k».proof.Proof.EClaims
public import Idealize.ShloMosaic.Adequacy
public import Idealize.ShloMosaic.Init
public import Idealize.ShloMosaic.Lib.Quiescent

@[expose] public section

noncomputable section

namespace Cert.Proof

open Idealize.ShloMosaic Idealize.SL.Sem Cert.Proof.Combine

/-- The precondition of the machine kernel bounds its slots. -/
theorem slots_kernel (m : (ℓ : Loc Cert.KernelIdeal.nD Cert.KernelIdeal.τ Cert.KernelIdeal.sig) → Buf (Elt Bits) ℓ)
    (h : Cert.Pre_Kernel m) : SlotsOK (F := Bits) m :=
  fun d j => slots_bounded _ _ _ _ _ (h d) j

/-- The precondition of the kernel over the extended reals bounds its slots. -/
theorem slots_ideal (m : (ℓ : Loc Cert.KernelIdeal.nD Cert.KernelIdeal.τ Cert.KernelIdeal.sig) → Buf (Elt Ideal) ℓ)
    (h : Cert.Pre_KernelIdeal m) : SlotsOK (F := Ideal) m :=
  fun d j => slots_bounded _ _ _ _ _ (h d) j

/-- The kernel on the machine ends, every argument unchanged and every semaphore at zero. -/
theorem frame_kernel : Cert.quiescent_Kernel := fun m ρ hpre =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Bits) m ρ (slots_kernel m hpre))

/-- The kernel over the extended reals ends, every argument unchanged and every semaphore at zero. -/
theorem frame_ideal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Ideal) m ρ (slots_ideal m hpre))

/-- The reference ends, every argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, from the arguments the kernel's claims are stated for. -/
theorem frame_reference_pre : Cert.quiescent_ReferenceIdeal_pre_slots_in_range := fun m ρ _ =>
  frame_reference m ρ trivial

/-- The kernel's result is the reference's. -/
theorem equal : Cert.algebraic_KernelIdeal_ReferenceIdeal := by
  intro m g m' g' hpre hm
  have hs := slots_ideal m hpre
  refine ⟨fun c => OUT (F := Ideal) m c, ?_, ?_⟩
  · exact (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (run_main (F := Ideal) m g hs)
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := hm c
    rw [e0, e1, e2, e3, e4]
    exact funext fun x => reference_apply (F := Ideal) _ _ _ _ _ (hs c) x

/-- The certificate's claim. -/
theorem claim : Cert.Claim :=
  ⟨Cert.Kernel.Gen.facts, Cert.KernelIdeal.Gen.facts, Cert.ReferenceIdeal.Gen.facts,
    Cert.Dispatch.Gen.facts, Cert.DispatchIdeal.Gen.facts, Cert.DispatchReferenceIdeal.Gen.facts,
    Cert.Experts.Gen.facts, Cert.ExpertsIdeal.Gen.facts, Cert.ExpertsReferenceIdeal.Gen.facts,
    Cert.Pre_slots_in_range.Gen.facts, Cert.Pre_runs_apart.Gen.facts, Cert.Pre_experts_named.Gen.facts, Cert.On_slots_taken.Gen.facts,
    frame_kernel, frame_ideal, frame_reference, frame_reference_pre,
    Dispatch.frame_kernel, Dispatch.frame_ideal, Dispatch.frame_reference, Dispatch.frame_reference_pre,
    Experts.frame_kernel, Experts.frame_ideal, Experts.frame_reference, Experts.frame_reference_pre,
    trivial, equal, trivial, Dispatch.equal, trivial, Experts.equal⟩

end Cert.Proof

end
